-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_ids_sorted_in_range [hPre_ids_sorted_in_range : Cert.Pre_ids_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_in_range [hPre_ids_sorted_in_range : Cert.Pre_ids_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_sorted_in_range [hKernelIdeal : Cert.KernelIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_sorted_in_range [hReferenceIdeal : Cert.ReferenceIdeal.Facts] [hPre_ids_sorted_in_range : Cert.Pre_ids_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_sorted_in_range [hKernelIdeal : Cert.KernelIdeal.Facts] [hReferenceIdeal : Cert.ReferenceIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted_in_range : Cert.Pre_ids_sorted_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted_in_range (hKernelIdeal := hKernelIdeal) (hPre_ids_sorted_in_range := hPre_ids_sorted_in_range)
    ∧ quiescent_ReferenceIdeal (hReferenceIdeal := hReferenceIdeal)
    ∧ quiescent_ReferenceIdeal_pre_ids_sorted_in_range (hReferenceIdeal := hReferenceIdeal) (hPre_ids_sorted_in_range := hPre_ids_sorted_in_range)
    ∧ preserves_Kernel_KernelIdeal
    ∧ algebraic_KernelIdeal_ReferenceIdeal_pre_ids_sorted_in_range (hKernelIdeal := hKernelIdeal) (hReferenceIdeal := hReferenceIdeal) (hPre_ids_sorted_in_range := hPre_ids_sorted_in_range)
-- ==== Pre_ids_in_range.lean ====
abbrev S100000x128 : Shape := ⟨2, ![100000, 128]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 128#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_ids_sorted_in_range.lean ====
abbrev S100000x128 : Shape := ⟨2, ![100000, 128]⟩
abbrev S100000 : Shape := ⟨1, ![100000]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_

variable [Facts]

def fn {F : FTy → Type} [FloatOps F] (main_arg0 : FVec F S100000x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 128#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg1
  let main_v7 : IVec S99999 32 := (extractStridedSlice S99999 ![1] · slices_S100000_S99999_1) main_arg1
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  main_v10
-- ==== Kernel.lean ====
abbrev S100000x128 : Shape := ⟨2, ![100000, 128]⟩
abbrev S100000 : Shape := ⟨1, ![100000]⟩
abbrev S57344 : Shape := ⟨1, ![57344]⟩
abbrev S448x128 : Shape := ⟨2, ![448, 128]⟩
abbrev S448x1 : Shape := ⟨2, ![448, 1]⟩
abbrev S448 : Shape := ⟨1, ![448]⟩
abbrev S128 : Shape := ⟨1, ![128]⟩
abbrev S1x128 : Shape := ⟨2, ![1, 128]⟩
abbrev S448x16x8 : Shape := ⟨3, ![448, 16, 8]⟩
abbrev S16x448x8 : Shape := ⟨3, ![16, 448, 8]⟩
abbrev S12800000 : Shape := ⟨1, ![12800000]⟩
abbrev S524288 : Shape := ⟨1, ![524288]⟩
abbrev S1344 : Shape := ⟨1, ![1344]⟩
abbrev S1792 : Shape := ⟨1, ![1792]⟩
abbrev S28672 : Shape := ⟨1, ![28672]⟩
abbrev S16384 : Shape := ⟨1, ![16384]⟩
abbrev S_ : Shape := ⟨0, ![]⟩
abbrev S16 : Shape := ⟨1, ![16]⟩
abbrev S1 : Shape := ⟨1, ![1]⟩
abbrev S1024x128 : Shape := ⟨2, ![1024, 128]⟩
abbrev S8x128 : Shape := ⟨2, ![8, 128]⟩
abbrev S128x128 : Shape := ⟨2, ![128, 128]⟩
abbrev S32x128x128 : Shape := ⟨3, ![32, 128, 128]⟩
abbrev S1x448x8 : Shape := ⟨3, ![1, 448, 8]⟩
abbrev S32x8x128 : Shape := ⟨3, ![32, 8, 128]⟩
abbrev S1x448x1 : Shape := ⟨3, ![1, 448, 1]⟩

abbrev nBuf : Table → Nat
  | .hbm => 26
  | .local .tc .vmem => 11
  | .local .scVector .vmem => 5
  | _ => 0

abbrev bufTy : (tb : Table) → Fin (nBuf tb) → BufTy
  | .hbm, ⟨0, _⟩ => ⟨S100000x128, .f32⟩
  | .hbm, ⟨1, _⟩ => ⟨S100000, .i32⟩
  | .hbm, ⟨2, _⟩ => ⟨S57344, .i32⟩
  | .hbm, ⟨3, _⟩ => ⟨S448x128, .i32⟩
  | .hbm, ⟨4, _⟩ => ⟨S448x1, .i32⟩
  | .hbm, ⟨5, _⟩ => ⟨S448, .i32⟩
  | .hbm, ⟨6, _⟩ => ⟨S448x1, .i32⟩
  | .hbm, ⟨7, _⟩ => ⟨S448, .i32⟩
  | .hbm, ⟨8, _⟩ => ⟨S448, .i1⟩
  | .hbm, ⟨9, _⟩ => ⟨S448x1, .i32⟩
  | .hbm, ⟨10, _⟩ => ⟨S128, .i32⟩
  | .hbm, ⟨11, _⟩ => ⟨S1x128, .i32⟩
  | .hbm, ⟨12, _⟩ => ⟨S448x128, .i32⟩
  | .hbm, ⟨13, _⟩ => ⟨S448x128, .i32⟩
  | .hbm, ⟨14, _⟩ => ⟨S448x128, .i1⟩
  | .hbm, ⟨15, _⟩ => ⟨S448x1, .i1⟩
  | .hbm, ⟨16, _⟩ => ⟨S448x128, .i1⟩
  | .hbm, ⟨17, _⟩ => ⟨S448x128, .i1⟩
  | .hbm, ⟨18, _⟩ => ⟨S448x128, .i32⟩
  | .hbm, ⟨19, _⟩ => ⟨S448x16x8, .i32⟩
  | .hbm, ⟨20, _⟩ => ⟨S16x448x8, .i32⟩
  | .hbm, ⟨21, _⟩ => ⟨S12800000, .f32⟩
  | .hbm, ⟨22, _⟩ => ⟨S524288, .f32⟩
  | .hbm, ⟨23, _⟩ => ⟨S448x128, .f32⟩
  | .hbm, ⟨24, _⟩ => ⟨S32x128x128, .f32⟩
  | .hbm, ⟨25, _⟩ => ⟨S128x128, .f32⟩
  | .local .tc .vmem, ⟨0, _⟩ => ⟨S1024x128, .f32⟩
  | .local .tc .vmem, ⟨1, _⟩ => ⟨S1024x128, .f32⟩
  | .local .tc .vmem, ⟨2, _⟩ => ⟨S8x128, .f32⟩
  | .local .tc .vmem, ⟨3, _⟩ => ⟨S8x128, .f32⟩
  | .local .tc .vmem, ⟨4, _⟩ => ⟨S1x448x8, .i32⟩
  | .local .tc .vmem, ⟨5, _⟩ => ⟨S1x448x8, .i32⟩
  | .local .tc .vmem, ⟨6, _⟩ => ⟨S448x128, .f32⟩
  | .local .tc .vmem, ⟨7, _⟩ => ⟨S32x8x128, .f32⟩
  | .local .tc .vmem, ⟨8, _⟩ => ⟨S32x8x128, .f32⟩
  | .local .tc .vmem, ⟨9, _⟩ => ⟨S8x128, .f32⟩
  | .local .tc .vmem, ⟨10, _⟩ => ⟨S8x128, .f32⟩
  | .local .scVector .vmem, ⟨0, _⟩ => ⟨S1344, .i32⟩
  | .local .scVector .vmem, ⟨1, _⟩ => ⟨S1792, .i32⟩
  | .local .scVector .vmem, ⟨2, _⟩ => ⟨S28672, .f32⟩
  | .local .scVector .vmem, ⟨3, _⟩ => ⟨S28672, .f32⟩
  | .local .scVector .vmem, ⟨4, _⟩ => ⟨S16384, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v19_scv : Ref sig .scVector := ⟨.hbm, 21, rfl⟩
abbrev main_arg1_scv : Ref sig .scVector := ⟨.hbm, 1, rfl⟩
abbrev main_v20_scv : Ref sig .scVector := ⟨.hbm, 22, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg2_0 : Ref sig .tc := ⟨.vmem, 7, rfl⟩
abbrev cc2_stg2_1 : Ref sig .tc := ⟨.vmem, 8, rfl⟩
abbrev cc2_stg3_0 : Ref sig .tc := ⟨.vmem, 9, rfl⟩
abbrev cc2_stg3_1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c57344_i32 : BitVec 32 := 57344#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41312_i32 : BitVec 32 := 41312#32
  let v2 : BitVec 32 := Scalar.muli v1 c41312_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v38 : BitVec 32 := Scalar.addi c57344_i32 v37
  v38
def k0_off1 (i : grid0.Coords) : Fin 1 → Nat :=
  let c57344_i32 : BitVec 32 := 57344#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41312_i32 : BitVec 32 := 41312#32
  let v2 : BitVec 32 := Scalar.muli v1 c41312_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v38 : BitVec 32 := Scalar.addi c57344_i32 v37
  let v39 : BitVec 32 := v38
  let c0_i32_11 : BitVec 32 := 0#32
  let v41 : BitVec 32 := Scalar.addi v39 c0_i32_11
  let c128_i32 : BitVec 32 := 128#32
  let v42 : BitVec 32 := Scalar.muli v41 c128_i32
  ![v42.toNat]
def k0_off2 (i : grid0.Coords) : Fin 1 → Nat :=
  let c57344_i32 : BitVec 32 := 57344#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41312_i32 : BitVec 32 := 41312#32
  let v2 : BitVec 32 := Scalar.muli v1 c41312_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v38 : BitVec 32 := Scalar.addi c57344_i32 v37
  let v39 : BitVec 32 := v38
  ![v39.toNat]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1792_i32 : BitVec 32 := 1792#32
  let v40 : BitVec 32 := Scalar.muli v1 c1792_i32
  ![v40.toNat]
@[reducible] def k0_t1_loop : Scf.Loop 32 :=
  let c0_i32_13 : BitVec 32 := 0#32
  let c128_i32_14 : BitVec 32 := 128#32
  let v46 : BitVec 32 := Scalar.addi c0_i32_13 c128_i32_14
  let c1_i32_15 : BitVec 32 := 1#32
  ⟨c0_i32_13, v46, c1_i32_15⟩
def k0_off4 (k0_t1 : Fin k0_t1_loop.trips) (c0_i32_28 : BitVec 32) : Fin 1 → Nat :=
  let c0_i32_13 : BitVec 32 := 0#32
  let c1_i32_15 : BitVec 32 := 1#32
  let arg12 : BitVec 32 := Scf.iv c0_i32_13 c1_i32_15 k0_t1
  let c128_i32_27 : BitVec 32 := 128#32
  let v51 : BitVec 32 := Scalar.muli arg12 c128_i32_27
  let v52 : BitVec 32 := Scalar.addi v51 c0_i32_28
  let v53 : Index := Scalar.indexCast v52
  ![v53.toNat]
@[reducible] def k0_t2_loop : Scf.Loop 32 :=
  let c0_i32_18 : BitVec 32 := 0#32
  let c3_i32 : BitVec 32 := 3#32
  let v47 : BitVec 32 := Scalar.addi c0_i32_18 c3_i32
  let c1_i32_19 : BitVec 32 := 1#32
  ⟨c0_i32_18, v47, c1_i32_19⟩
def k0_cond1 (k0_t2 : Fin k0_t2_loop.trips) : BitVec 1 :=
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c1_i32_28 : BitVec 32 := 1#32
  let v52 : BitVec 32 := Scalar.addi v51 c1_i32_28
  let c6_i32 : BitVec 32 := 6#32
  let v53 : BitVec 1 := Scalar.cmpi .slt v52 c6_i32
  let v54 : BitVec 32 := Scalar.extui v53
  let c0_i32_29 : BitVec 32 := 0#32
  let v55 : BitVec 1 := Scalar.cmpi .ne v54 c0_i32_29
  v55

def k0_off5 (i : grid0.Coords) (k0_t2 : Fin k0_t2_loop.trips) : Fin 1 → Nat :=
  let c57344_i32 : BitVec 32 := 57344#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41312_i32 : BitVec 32 := 41312#32
  let v2 : BitVec 32 := Scalar.muli v1 c41312_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v38 : BitVec 32 := Scalar.addi c57344_i32 v37
  let v39 : BitVec 32 := v38
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c1_i32_46 : BitVec 32 := 1#32
  let v73 : BitVec 32 := Scalar.addi v51 c1_i32_46
  let c224_i32_47 : BitVec 32 := 224#32
  let v74 : BitVec 32 := Scalar.muli v73 c224_i32_47
  let v75 : BitVec 32 := Scalar.addi v39 v74
  let c128_i32_48 : BitVec 32 := 128#32
  let v76 : BitVec 32 := Scalar.muli v75 c128_i32_48
  ![v76.toNat]
def k0_off6 (i : grid0.Coords) (k0_t2 : Fin k0_t2_loop.trips) : Fin 1 → Nat :=
  let c57344_i32 : BitVec 32 := 57344#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41312_i32 : BitVec 32 := 41312#32
  let v2 : BitVec 32 := Scalar.muli v1 c41312_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v38 : BitVec 32 := Scalar.addi c57344_i32 v37
  let v39 : BitVec 32 := v38
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c224_i32 : BitVec 32 := 224#32
  let v56 : BitVec 32 := Scalar.muli v51 c224_i32
  let v57 : BitVec 32 := Scalar.addi v39 v56
  let c128_i32_30 : BitVec 32 := 128#32
  let v58 : BitVec 32 := Scalar.muli v57 c128_i32_30
  ![v58.toNat]
@[reducible] def k0_t3_loop : Scf.Loop 32 :=
  let c0_i32_32 : BitVec 32 := 0#32
  let c7_i32 : BitVec 32 := 7#32
  let v61 : BitVec 32 := Scalar.addi c0_i32_32 c7_i32
  let c1_i32_33 : BitVec 32 := 1#32
  ⟨c0_i32_32, v61, c1_i32_33⟩
def k0_off7 (k0_t2 : Fin k0_t2_loop.trips) (k0_t3 : Fin k0_t3_loop.trips) : Fin 1 → Nat :=
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c224_i32_46 : BitVec 32 := 224#32
  let v73 : BitVec 32 := Scalar.muli v51 c224_i32_46
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let v76 : BitVec 32 := Scalar.addi v73 v75
  let v77 : Index := Scalar.indexCast v76
  ![v77.toNat]
def k0_off8 (k0_t2 : Fin k0_t2_loop.trips) (k0_t3 : Fin k0_t3_loop.trips) : Fin 1 → Nat :=
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c224_i32_46 : BitVec 32 := 224#32
  let v73 : BitVec 32 := Scalar.muli v51 c224_i32_46
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let v80 : BitVec 32 := Scalar.addi v73 v75
  let c16_i32_48 : BitVec 32 := 16#32
  let v81 : BitVec 32 := Scalar.addi v80 c16_i32_48
  let v82 : Index := Scalar.indexCast v81
  ![v82.toNat]
def k0_off9 (k0_t3 : Fin k0_t3_loop.trips) (c0_i32_51 : BitVec 32) (c0_i32_53 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let v95 : BitVec 32 := Scalar.addi v75 c0_i32_51
  let c128_i32_52 : BitVec 32 := 128#32
  let v96 : BitVec 32 := Scalar.muli v95 c128_i32_52
  let v97 : BitVec 32 := Scalar.addi v96 c0_i32_53
  let v98 : Index := Scalar.indexCast v97
  ![v98.toNat]
def k0_off10 (v86 : BitVec 32) (c0_i32_126 : BitVec 32) : Fin 1 → Nat :=
  let c128_i32_125 : BitVec 32 := 128#32
  let v318 : BitVec 32 := Scalar.muli v86 c128_i32_125
  let v319 : BitVec 32 := Scalar.addi v318 c0_i32_126
  let v320 : Index := Scalar.indexCast v319
  ![v320.toNat]
def k0_cond2 (v86 : BitVec 32) (v88 : BitVec 32) : BitVec 1 :=
  let v89 : BitVec 1 := Scalar.cmpi .eq v86 v88
  let v90 : BitVec 32 := Scalar.extui v89
  let c0_i32_49 : BitVec 32 := 0#32
  let v91 : BitVec 1 := Scalar.cmpi .ne v90 c0_i32_49
  v91

def k0_chk1 (v86 : BitVec 32) (v88 : BitVec 32) : Prop :=
  (∀ (k0_h2 : k0_cond2 v86 v88 = 1#1), ∀ (r : Fin 8), ∀ a, (k0_off10 v86 (BitVec.ofNat 32 (16 * r.val))) a + S16.size a ≤ S16384.size a)
theorem k0_off10_inb : ∀ (v86 : BitVec 32) (v88 : BitVec 32) (k0_hw1 : k0_chk1 v86 v88), ∀ (k0_h2 : k0_cond2 v86 v88 = 1#1), ∀ (r : Fin 8), ∀ a, (k0_off10 v86 (BitVec.ofNat 32 (16 * r.val))) a + S16.size a ≤ S16384.size a := fun v86 v88 k0_hw1 k0_h2 r => k0_hw1 k0_h2 r

def k0_off11 (k0_t3 : Fin k0_t3_loop.trips) (c0_i32_58 : BitVec 32) (c0_i32_60 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let v116 : BitVec 32 := Scalar.addi v75 c0_i32_58
  let c128_i32_59 : BitVec 32 := 128#32
  let v117 : BitVec 32 := Scalar.muli v116 c128_i32_59
  let v118 : BitVec 32 := Scalar.addi v117 c0_i32_60
  let v119 : Index := Scalar.indexCast v118
  ![v119.toNat]
def k0_off12 (v96 : BitVec 32) (c0_i32_99 : BitVec 32) : Fin 1 → Nat :=
  let c128_i32_98 : BitVec 32 := 128#32
  let v227 : BitVec 32 := Scalar.muli v96 c128_i32_98
  let v228 : BitVec 32 := Scalar.addi v227 c0_i32_99
  let v229 : Index := Scalar.indexCast v228
  ![v229.toNat]
def k0_cond3 (v86 : BitVec 32) (v88 : BitVec 32) : BitVec 1 :=
  let v89 : BitVec 1 := Scalar.cmpi .eq v86 v88
  let v_true : BitVec 1 := 1#1
  let v92 : BitVec 1 := Scalar.xori v89 v_true
  let v93 : BitVec 32 := Scalar.extui v92
  let c0_i32_50 : BitVec 32 := 0#32
  let v94 : BitVec 1 := Scalar.cmpi .ne v93 c0_i32_50
  v94

def k0_cond4 (v96 : BitVec 32) (v98 : BitVec 32) : BitVec 1 :=
  let v99 : BitVec 1 := Scalar.cmpi .eq v96 v98
  let v100 : BitVec 32 := Scalar.extui v99
  let c0_i32_51 : BitVec 32 := 0#32
  let v101 : BitVec 1 := Scalar.cmpi .ne v100 c0_i32_51
  v101

def k0_chk2 (v86 : BitVec 32) (v88 : BitVec 32) (v96 : BitVec 32) (v98 : BitVec 32) : Prop :=
  (∀ (k0_h3 : k0_cond3 v86 v88 = 1#1), ∀ (k0_h4 : k0_cond4 v96 v98 = 1#1), ∀ (r : Fin 8), ∀ a, (k0_off12 v96 (BitVec.ofNat 32 (16 * r.val))) a + S16.size a ≤ S16384.size a)
theorem k0_off12_inb : ∀ (v86 : BitVec 32) (v88 : BitVec 32) (v96 : BitVec 32) (v98 : BitVec 32) (k0_hw2 : k0_chk2 v86 v88 v96 v98), ∀ (k0_h3 : k0_cond3 v86 v88 = 1#1), ∀ (k0_h4 : k0_cond4 v96 v98 = 1#1), ∀ (r : Fin 8), ∀ a, (k0_off12 v96 (BitVec.ofNat 32 (16 * r.val))) a + S16.size a ≤ S16384.size a := fun v86 v88 v96 v98 k0_hw2 k0_h3 k0_h4 r => k0_hw2 k0_h3 k0_h4 r

def k0_off13 (v117 : BitVec 32) (c0_i32_59 : BitVec 32) : Fin 1 → Nat :=
  let c128_i32_58 : BitVec 32 := 128#32
  let v118 : BitVec 32 := Scalar.muli v117 c128_i32_58
  let v119 : BitVec 32 := Scalar.addi v118 c0_i32_59
  let v120 : Index := Scalar.indexCast v119
  ![v120.toNat]
def k0_cond5 (v96 : BitVec 32) (v98 : BitVec 32) : BitVec 1 :=
  let v99 : BitVec 1 := Scalar.cmpi .eq v96 v98
  let true_52 : BitVec 1 := 1#1
  let v102 : BitVec 1 := Scalar.xori v99 true_52
  let v103 : BitVec 32 := Scalar.extui v102
  let c0_i32_53 : BitVec 32 := 0#32
  let v104 : BitVec 1 := Scalar.cmpi .ne v103 c0_i32_53
  v104

def k0_chk3 (v86 : BitVec 32) (v88 : BitVec 32) (v96 : BitVec 32) (v98 : BitVec 32) (v117 : BitVec 32) : Prop :=
  (∀ (k0_h3 : k0_cond3 v86 v88 = 1#1), ∀ (k0_h5 : k0_cond5 v96 v98 = 1#1), ∀ (r : Fin 8), ∀ a, (k0_off13 v117 (BitVec.ofNat 32 (16 * r.val))) a + S16.size a ≤ S16384.size a)
theorem k0_off13_inb : ∀ (v86 : BitVec 32) (v88 : BitVec 32) (v96 : BitVec 32) (v98 : BitVec 32) (v117 : BitVec 32) (k0_hw3 : k0_chk3 v86 v88 v96 v98 v117), ∀ (k0_h3 : k0_cond3 v86 v88 = 1#1), ∀ (k0_h5 : k0_cond5 v96 v98 = 1#1), ∀ (r : Fin 8), ∀ a, (k0_off13 v117 (BitVec.ofNat 32 (16 * r.val))) a + S16.size a ≤ S16384.size a := fun v86 v88 v96 v98 v117 k0_hw3 k0_h3 k0_h5 r => k0_hw3 k0_h3 k0_h5 r

def k0_off14 (k0_t3 : Fin k0_t3_loop.trips) (c0_i32_62 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c0_i32_60 : BitVec 32 := 0#32
  let v123 : BitVec 32 := Scalar.addi v75 c0_i32_60
  let c128_i32_61 : BitVec 32 := 128#32
  let v124 : BitVec 32 := Scalar.muli v123 c128_i32_61
  let v125 : BitVec 32 := Scalar.addi v124 c0_i32_62
  let v126 : Index := Scalar.indexCast v125
  ![v126.toNat]
def k0_off15 (v247 : BitVec 32) (c0_i32_93 : BitVec 32) : Fin 1 → Nat :=
  let c128_i32_92 : BitVec 32 := 128#32
  let v248 : BitVec 32 := Scalar.muli v247 c128_i32_92
  let v249 : BitVec 32 := Scalar.addi v248 c0_i32_93
  let v250 : Index := Scalar.indexCast v249
  ![v250.toNat]

def k0_chk4 (v86 : BitVec 32) (v88 : BitVec 32) (v96 : BitVec 32) (v98 : BitVec 32) (v247 : BitVec 32) : Prop :=
  (∀ (k0_h3 : k0_cond3 v86 v88 = 1#1), ∀ (k0_h5 : k0_cond5 v96 v98 = 1#1), ∀ (r : Fin 8), ∀ a, (k0_off15 v247 (BitVec.ofNat 32 (16 * r.val))) a + S16.size a ≤ S16384.size a)
theorem k0_off15_inb : ∀ (v86 : BitVec 32) (v88 : BitVec 32) (v96 : BitVec 32) (v98 : BitVec 32) (v247 : BitVec 32) (k0_hw4 : k0_chk4 v86 v88 v96 v98 v247), ∀ (k0_h3 : k0_cond3 v86 v88 = 1#1), ∀ (k0_h5 : k0_cond5 v96 v98 = 1#1), ∀ (r : Fin 8), ∀ a, (k0_off15 v247 (BitVec.ofNat 32 (16 * r.val))) a + S16.size a ≤ S16384.size a := fun v86 v88 v96 v98 v247 k0_hw4 k0_h3 k0_h5 r => k0_hw4 k0_h3 k0_h5 r

def k0_off16 (k0_t3 : Fin k0_t3_loop.trips) (c0_i32_96 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c1_i32_94 : BitVec 32 := 1#32
  let v253 : BitVec 32 := Scalar.addi v75 c1_i32_94
  let c128_i32_95 : BitVec 32 := 128#32
  let v254 : BitVec 32 := Scalar.muli v253 c128_i32_95
  let v255 : BitVec 32 := Scalar.addi v254 c0_i32_96
  let v256 : Index := Scalar.indexCast v255
  ![v256.toNat]
def k0_off17 (v377 : BitVec 32) (c0_i32_133 : BitVec 32) : Fin 1 → Nat :=
  let c128_i32_132 : BitVec 32 := 128#32
  let v378 : BitVec 32 := Scalar.muli v377 c128_i32_132
  let v379 : BitVec 32 := Scalar.addi v378 c0_i32_133
  let v380 : Index := Scalar.indexCast v379
  ![v380.toNat]

def k0_chk5 (v86 : BitVec 32) (v88 : BitVec 32) (v96 : BitVec 32) (v98 : BitVec 32) (v377 : BitVec 32) : Prop :=
  (∀ (k0_h3 : k0_cond3 v86 v88 = 1#1), ∀ (k0_h5 : k0_cond5 v96 v98 = 1#1), ∀ (r : Fin 8), ∀ a, (k0_off17 v377 (BitVec.ofNat 32 (16 * r.val))) a + S16.size a ≤ S16384.size a)
theorem k0_off17_inb : ∀ (v86 : BitVec 32) (v88 : BitVec 32) (v96 : BitVec 32) (v98 : BitVec 32) (v377 : BitVec 32) (k0_hw5 : k0_chk5 v86 v88 v96 v98 v377), ∀ (k0_h3 : k0_cond3 v86 v88 = 1#1), ∀ (k0_h5 : k0_cond5 v96 v98 = 1#1), ∀ (r : Fin 8), ∀ a, (k0_off17 v377 (BitVec.ofNat 32 (16 * r.val))) a + S16.size a ≤ S16384.size a := fun v86 v88 v96 v98 v377 k0_hw5 k0_h3 k0_h5 r => k0_hw5 k0_h3 k0_h5 r

def k0_off18 (k0_t3 : Fin k0_t3_loop.trips) (c0_i32_136 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c2_i32_134 : BitVec 32 := 2#32
  let v383 : BitVec 32 := Scalar.addi v75 c2_i32_134
  let c128_i32_135 : BitVec 32 := 128#32
  let v384 : BitVec 32 := Scalar.muli v383 c128_i32_135
  let v385 : BitVec 32 := Scalar.addi v384 c0_i32_136
  let v386 : Index := Scalar.indexCast v385
  ![v386.toNat]
def k0_off19 (v507 : BitVec 32) (c0_i32_173 : BitVec 32) : Fin 1 → Nat :=
  let c128_i32_172 : BitVec 32 := 128#32
  let v508 : BitVec 32 := Scalar.muli v507 c128_i32_172
  let v509 : BitVec 32 := Scalar.addi v508 c0_i32_173
  let v510 : Index := Scalar.indexCast v509
  ![v510.toNat]

def k0_chk6 (v86 : BitVec 32) (v88 : BitVec 32) (v96 : BitVec 32) (v98 : BitVec 32) (v507 : BitVec 32) : Prop :=
  (∀ (k0_h3 : k0_cond3 v86 v88 = 1#1), ∀ (k0_h5 : k0_cond5 v96 v98 = 1#1), ∀ (r : Fin 8), ∀ a, (k0_off19 v507 (BitVec.ofNat 32 (16 * r.val))) a + S16.size a ≤ S16384.size a)
theorem k0_off19_inb : ∀ (v86 : BitVec 32) (v88 : BitVec 32) (v96 : BitVec 32) (v98 : BitVec 32) (v507 : BitVec 32) (k0_hw6 : k0_chk6 v86 v88 v96 v98 v507), ∀ (k0_h3 : k0_cond3 v86 v88 = 1#1), ∀ (k0_h5 : k0_cond5 v96 v98 = 1#1), ∀ (r : Fin 8), ∀ a, (k0_off19 v507 (BitVec.ofNat 32 (16 * r.val))) a + S16.size a ≤ S16384.size a := fun v86 v88 v96 v98 v507 k0_hw6 k0_h3 k0_h5 r => k0_hw6 k0_h3 k0_h5 r

def k0_off20 (k0_t3 : Fin k0_t3_loop.trips) (c0_i32_176 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c3_i32_174 : BitVec 32 := 3#32
  let v513 : BitVec 32 := Scalar.addi v75 c3_i32_174
  let c128_i32_175 : BitVec 32 := 128#32
  let v514 : BitVec 32 := Scalar.muli v513 c128_i32_175
  let v515 : BitVec 32 := Scalar.addi v514 c0_i32_176
  let v516 : Index := Scalar.indexCast v515
  ![v516.toNat]
def k0_off21 (v637 : BitVec 32) (c0_i32_213 : BitVec 32) : Fin 1 → Nat :=
  let c128_i32_212 : BitVec 32 := 128#32
  let v638 : BitVec 32 := Scalar.muli v637 c128_i32_212
  let v639 : BitVec 32 := Scalar.addi v638 c0_i32_213
  let v640 : Index := Scalar.indexCast v639
  ![v640.toNat]

def k0_chk7 (v86 : BitVec 32) (v88 : BitVec 32) (v96 : BitVec 32) (v98 : BitVec 32) (v637 : BitVec 32) : Prop :=
  (∀ (k0_h3 : k0_cond3 v86 v88 = 1#1), ∀ (k0_h5 : k0_cond5 v96 v98 = 1#1), ∀ (r : Fin 8), ∀ a, (k0_off21 v637 (BitVec.ofNat 32 (16 * r.val))) a + S16.size a ≤ S16384.size a)
theorem k0_off21_inb : ∀ (v86 : BitVec 32) (v88 : BitVec 32) (v96 : BitVec 32) (v98 : BitVec 32) (v637 : BitVec 32) (k0_hw7 : k0_chk7 v86 v88 v96 v98 v637), ∀ (k0_h3 : k0_cond3 v86 v88 = 1#1), ∀ (k0_h5 : k0_cond5 v96 v98 = 1#1), ∀ (r : Fin 8), ∀ a, (k0_off21 v637 (BitVec.ofNat 32 (16 * r.val))) a + S16.size a ≤ S16384.size a := fun v86 v88 v96 v98 v637 k0_hw7 k0_h3 k0_h5 r => k0_hw7 k0_h3 k0_h5 r

def k0_off22 (k0_t3 : Fin k0_t3_loop.trips) (c0_i32_215 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c4_i32 : BitVec 32 := 4#32
  let v643 : BitVec 32 := Scalar.addi v75 c4_i32
  let c128_i32_214 : BitVec 32 := 128#32
  let v644 : BitVec 32 := Scalar.muli v643 c128_i32_214
  let v645 : BitVec 32 := Scalar.addi v644 c0_i32_215
  let v646 : Index := Scalar.indexCast v645
  ![v646.toNat]
def k0_off23 (v767 : BitVec 32) (c0_i32_252 : BitVec 32) : Fin 1 → Nat :=
  let c128_i32_251 : BitVec 32 := 128#32
  let v768 : BitVec 32 := Scalar.muli v767 c128_i32_251
  let v769 : BitVec 32 := Scalar.addi v768 c0_i32_252
  let v770 : Index := Scalar.indexCast v769
  ![v770.toNat]

def k0_chk8 (v86 : BitVec 32) (v88 : BitVec 32) (v96 : BitVec 32) (v98 : BitVec 32) (v767 : BitVec 32) : Prop :=
  (∀ (k0_h3 : k0_cond3 v86 v88 = 1#1), ∀ (k0_h5 : k0_cond5 v96 v98 = 1#1), ∀ (r : Fin 8), ∀ a, (k0_off23 v767 (BitVec.ofNat 32 (16 * r.val))) a + S16.size a ≤ S16384.size a)
theorem k0_off23_inb : ∀ (v86 : BitVec 32) (v88 : BitVec 32) (v96 : BitVec 32) (v98 : BitVec 32) (v767 : BitVec 32) (k0_hw8 : k0_chk8 v86 v88 v96 v98 v767), ∀ (k0_h3 : k0_cond3 v86 v88 = 1#1), ∀ (k0_h5 : k0_cond5 v96 v98 = 1#1), ∀ (r : Fin 8), ∀ a, (k0_off23 v767 (BitVec.ofNat 32 (16 * r.val))) a + S16.size a ≤ S16384.size a := fun v86 v88 v96 v98 v767 k0_hw8 k0_h3 k0_h5 r => k0_hw8 k0_h3 k0_h5 r

def k0_off24 (k0_t3 : Fin k0_t3_loop.trips) (c0_i32_254 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c5_i32 : BitVec 32 := 5#32
  let v773 : BitVec 32 := Scalar.addi v75 c5_i32
  let c128_i32_253 : BitVec 32 := 128#32
  let v774 : BitVec 32 := Scalar.muli v773 c128_i32_253
  let v775 : BitVec 32 := Scalar.addi v774 c0_i32_254
  let v776 : Index := Scalar.indexCast v775
  ![v776.toNat]
def k0_off25 (v897 : BitVec 32) (c0_i32_291 : BitVec 32) : Fin 1 → Nat :=
  let c128_i32_290 : BitVec 32 := 128#32
  let v898 : BitVec 32 := Scalar.muli v897 c128_i32_290
  let v899 : BitVec 32 := Scalar.addi v898 c0_i32_291
  let v900 : Index := Scalar.indexCast v899
  ![v900.toNat]

def k0_chk9 (v86 : BitVec 32) (v88 : BitVec 32) (v96 : BitVec 32) (v98 : BitVec 32) (v897 : BitVec 32) : Prop :=
  (∀ (k0_h3 : k0_cond3 v86 v88 = 1#1), ∀ (k0_h5 : k0_cond5 v96 v98 = 1#1), ∀ (r : Fin 8), ∀ a, (k0_off25 v897 (BitVec.ofNat 32 (16 * r.val))) a + S16.size a ≤ S16384.size a)
theorem k0_off25_inb : ∀ (v86 : BitVec 32) (v88 : BitVec 32) (v96 : BitVec 32) (v98 : BitVec 32) (v897 : BitVec 32) (k0_hw9 : k0_chk9 v86 v88 v96 v98 v897), ∀ (k0_h3 : k0_cond3 v86 v88 = 1#1), ∀ (k0_h5 : k0_cond5 v96 v98 = 1#1), ∀ (r : Fin 8), ∀ a, (k0_off25 v897 (BitVec.ofNat 32 (16 * r.val))) a + S16.size a ≤ S16384.size a := fun v86 v88 v96 v98 v897 k0_hw9 k0_h3 k0_h5 r => k0_hw9 k0_h3 k0_h5 r

def k0_off26 (k0_t3 : Fin k0_t3_loop.trips) (c0_i32_294 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c6_i32_292 : BitVec 32 := 6#32
  let v903 : BitVec 32 := Scalar.addi v75 c6_i32_292
  let c128_i32_293 : BitVec 32 := 128#32
  let v904 : BitVec 32 := Scalar.muli v903 c128_i32_293
  let v905 : BitVec 32 := Scalar.addi v904 c0_i32_294
  let v906 : Index := Scalar.indexCast v905
  ![v906.toNat]
def k0_off27 (v1027 : BitVec 32) (c0_i32_331 : BitVec 32) : Fin 1 → Nat :=
  let c128_i32_330 : BitVec 32 := 128#32
  let v1028 : BitVec 32 := Scalar.muli v1027 c128_i32_330
  let v1029 : BitVec 32 := Scalar.addi v1028 c0_i32_331
  let v1030 : Index := Scalar.indexCast v1029
  ![v1030.toNat]

def k0_chk10 (v86 : BitVec 32) (v88 : BitVec 32) (v96 : BitVec 32) (v98 : BitVec 32) (v1027 : BitVec 32) : Prop :=
  (∀ (k0_h3 : k0_cond3 v86 v88 = 1#1), ∀ (k0_h5 : k0_cond5 v96 v98 = 1#1), ∀ (r : Fin 8), ∀ a, (k0_off27 v1027 (BitVec.ofNat 32 (16 * r.val))) a + S16.size a ≤ S16384.size a)
theorem k0_off27_inb : ∀ (v86 : BitVec 32) (v88 : BitVec 32) (v96 : BitVec 32) (v98 : BitVec 32) (v1027 : BitVec 32) (k0_hw10 : k0_chk10 v86 v88 v96 v98 v1027), ∀ (k0_h3 : k0_cond3 v86 v88 = 1#1), ∀ (k0_h5 : k0_cond5 v96 v98 = 1#1), ∀ (r : Fin 8), ∀ a, (k0_off27 v1027 (BitVec.ofNat 32 (16 * r.val))) a + S16.size a ≤ S16384.size a := fun v86 v88 v96 v98 v1027 k0_hw10 k0_h3 k0_h5 r => k0_hw10 k0_h3 k0_h5 r

def k0_off28 (k0_t3 : Fin k0_t3_loop.trips) (c0_i32_334 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c7_i32_332 : BitVec 32 := 7#32
  let v1033 : BitVec 32 := Scalar.addi v75 c7_i32_332
  let c128_i32_333 : BitVec 32 := 128#32
  let v1034 : BitVec 32 := Scalar.muli v1033 c128_i32_333
  let v1035 : BitVec 32 := Scalar.addi v1034 c0_i32_334
  let v1036 : Index := Scalar.indexCast v1035
  ![v1036.toNat]
def k0_off29 (v1157 : BitVec 32) (c0_i32_371 : BitVec 32) : Fin 1 → Nat :=
  let c128_i32_370 : BitVec 32 := 128#32
  let v1158 : BitVec 32 := Scalar.muli v1157 c128_i32_370
  let v1159 : BitVec 32 := Scalar.addi v1158 c0_i32_371
  let v1160 : Index := Scalar.indexCast v1159
  ![v1160.toNat]

def k0_chk11 (v86 : BitVec 32) (v88 : BitVec 32) (v96 : BitVec 32) (v98 : BitVec 32) (v1157 : BitVec 32) : Prop :=
  (∀ (k0_h3 : k0_cond3 v86 v88 = 1#1), ∀ (k0_h5 : k0_cond5 v96 v98 = 1#1), ∀ (r : Fin 8), ∀ a, (k0_off29 v1157 (BitVec.ofNat 32 (16 * r.val))) a + S16.size a ≤ S16384.size a)
theorem k0_off29_inb : ∀ (v86 : BitVec 32) (v88 : BitVec 32) (v96 : BitVec 32) (v98 : BitVec 32) (v1157 : BitVec 32) (k0_hw11 : k0_chk11 v86 v88 v96 v98 v1157), ∀ (k0_h3 : k0_cond3 v86 v88 = 1#1), ∀ (k0_h5 : k0_cond5 v96 v98 = 1#1), ∀ (r : Fin 8), ∀ a, (k0_off29 v1157 (BitVec.ofNat 32 (16 * r.val))) a + S16.size a ≤ S16384.size a := fun v86 v88 v96 v98 v1157 k0_hw11 k0_h3 k0_h5 r => k0_hw11 k0_h3 k0_h5 r

def k0_off30 (k0_t3 : Fin k0_t3_loop.trips) (c0_i32_374 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c8_i32_372 : BitVec 32 := 8#32
  let v1163 : BitVec 32 := Scalar.addi v75 c8_i32_372
  let c128_i32_373 : BitVec 32 := 128#32
  let v1164 : BitVec 32 := Scalar.muli v1163 c128_i32_373
  let v1165 : BitVec 32 := Scalar.addi v1164 c0_i32_374
  let v1166 : Index := Scalar.indexCast v1165
  ![v1166.toNat]
def k0_off31 (v1287 : BitVec 32) (c0_i32_411 : BitVec 32) : Fin 1 → Nat :=
  let c128_i32_410 : BitVec 32 := 128#32
  let v1288 : BitVec 32 := Scalar.muli v1287 c128_i32_410
  let v1289 : BitVec 32 := Scalar.addi v1288 c0_i32_411
  let v1290 : Index := Scalar.indexCast v1289
  ![v1290.toNat]

def k0_chk12 (v86 : BitVec 32) (v88 : BitVec 32) (v96 : BitVec 32) (v98 : BitVec 32) (v1287 : BitVec 32) : Prop :=
  (∀ (k0_h3 : k0_cond3 v86 v88 = 1#1), ∀ (k0_h5 : k0_cond5 v96 v98 = 1#1), ∀ (r : Fin 8), ∀ a, (k0_off31 v1287 (BitVec.ofNat 32 (16 * r.val))) a + S16.size a ≤ S16384.size a)
theorem k0_off31_inb : ∀ (v86 : BitVec 32) (v88 : BitVec 32) (v96 : BitVec 32) (v98 : BitVec 32) (v1287 : BitVec 32) (k0_hw12 : k0_chk12 v86 v88 v96 v98 v1287), ∀ (k0_h3 : k0_cond3 v86 v88 = 1#1), ∀ (k0_h5 : k0_cond5 v96 v98 = 1#1), ∀ (r : Fin 8), ∀ a, (k0_off31 v1287 (BitVec.ofNat 32 (16 * r.val))) a + S16.size a ≤ S16384.size a := fun v86 v88 v96 v98 v1287 k0_hw12 k0_h3 k0_h5 r => k0_hw12 k0_h3 k0_h5 r

def k0_off32 (k0_t3 : Fin k0_t3_loop.trips) (c0_i32_413 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c9_i32 : BitVec 32 := 9#32
  let v1293 : BitVec 32 := Scalar.addi v75 c9_i32
  let c128_i32_412 : BitVec 32 := 128#32
  let v1294 : BitVec 32 := Scalar.muli v1293 c128_i32_412
  let v1295 : BitVec 32 := Scalar.addi v1294 c0_i32_413
  let v1296 : Index := Scalar.indexCast v1295
  ![v1296.toNat]
def k0_off33 (v1417 : BitVec 32) (c0_i32_450 : BitVec 32) : Fin 1 → Nat :=
  let c128_i32_449 : BitVec 32 := 128#32
  let v1418 : BitVec 32 := Scalar.muli v1417 c128_i32_449
  let v1419 : BitVec 32 := Scalar.addi v1418 c0_i32_450
  let v1420 : Index := Scalar.indexCast v1419
  ![v1420.toNat]

def k0_chk13 (v86 : BitVec 32) (v88 : BitVec 32) (v96 : BitVec 32) (v98 : BitVec 32) (v1417 : BitVec 32) : Prop :=
  (∀ (k0_h3 : k0_cond3 v86 v88 = 1#1), ∀ (k0_h5 : k0_cond5 v96 v98 = 1#1), ∀ (r : Fin 8), ∀ a, (k0_off33 v1417 (BitVec.ofNat 32 (16 * r.val))) a + S16.size a ≤ S16384.size a)
theorem k0_off33_inb : ∀ (v86 : BitVec 32) (v88 : BitVec 32) (v96 : BitVec 32) (v98 : BitVec 32) (v1417 : BitVec 32) (k0_hw13 : k0_chk13 v86 v88 v96 v98 v1417), ∀ (k0_h3 : k0_cond3 v86 v88 = 1#1), ∀ (k0_h5 : k0_cond5 v96 v98 = 1#1), ∀ (r : Fin 8), ∀ a, (k0_off33 v1417 (BitVec.ofNat 32 (16 * r.val))) a + S16.size a ≤ S16384.size a := fun v86 v88 v96 v98 v1417 k0_hw13 k0_h3 k0_h5 r => k0_hw13 k0_h3 k0_h5 r

def k0_off34 (k0_t3 : Fin k0_t3_loop.trips) (c0_i32_452 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c10_i32 : BitVec 32 := 10#32
  let v1423 : BitVec 32 := Scalar.addi v75 c10_i32
  let c128_i32_451 : BitVec 32 := 128#32
  let v1424 : BitVec 32 := Scalar.muli v1423 c128_i32_451
  let v1425 : BitVec 32 := Scalar.addi v1424 c0_i32_452
  let v1426 : Index := Scalar.indexCast v1425
  ![v1426.toNat]
def k0_off35 (v1547 : BitVec 32) (c0_i32_489 : BitVec 32) : Fin 1 → Nat :=
  let c128_i32_488 : BitVec 32 := 128#32
  let v1548 : BitVec 32 := Scalar.muli v1547 c128_i32_488
  let v1549 : BitVec 32 := Scalar.addi v1548 c0_i32_489
  let v1550 : Index := Scalar.indexCast v1549
  ![v1550.toNat]

def k0_chk14 (v86 : BitVec 32) (v88 : BitVec 32) (v96 : BitVec 32) (v98 : BitVec 32) (v1547 : BitVec 32) : Prop :=
  (∀ (k0_h3 : k0_cond3 v86 v88 = 1#1), ∀ (k0_h5 : k0_cond5 v96 v98 = 1#1), ∀ (r : Fin 8), ∀ a, (k0_off35 v1547 (BitVec.ofNat 32 (16 * r.val))) a + S16.size a ≤ S16384.size a)
theorem k0_off35_inb : ∀ (v86 : BitVec 32) (v88 : BitVec 32) (v96 : BitVec 32) (v98 : BitVec 32) (v1547 : BitVec 32) (k0_hw14 : k0_chk14 v86 v88 v96 v98 v1547), ∀ (k0_h3 : k0_cond3 v86 v88 = 1#1), ∀ (k0_h5 : k0_cond5 v96 v98 = 1#1), ∀ (r : Fin 8), ∀ a, (k0_off35 v1547 (BitVec.ofNat 32 (16 * r.val))) a + S16.size a ≤ S16384.size a := fun v86 v88 v96 v98 v1547 k0_hw14 k0_h3 k0_h5 r => k0_hw14 k0_h3 k0_h5 r

def k0_off36 (k0_t3 : Fin k0_t3_loop.trips) (c0_i32_491 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c11_i32 : BitVec 32 := 11#32
  let v1553 : BitVec 32 := Scalar.addi v75 c11_i32
  let c128_i32_490 : BitVec 32 := 128#32
  let v1554 : BitVec 32 := Scalar.muli v1553 c128_i32_490
  let v1555 : BitVec 32 := Scalar.addi v1554 c0_i32_491
  let v1556 : Index := Scalar.indexCast v1555
  ![v1556.toNat]
def k0_off37 (v1677 : BitVec 32) (c0_i32_528 : BitVec 32) : Fin 1 → Nat :=
  let c128_i32_527 : BitVec 32 := 128#32
  let v1678 : BitVec 32 := Scalar.muli v1677 c128_i32_527
  let v1679 : BitVec 32 := Scalar.addi v1678 c0_i32_528
  let v1680 : Index := Scalar.indexCast v1679
  ![v1680.toNat]

def k0_chk15 (v86 : BitVec 32) (v88 : BitVec 32) (v96 : BitVec 32) (v98 : BitVec 32) (v1677 : BitVec 32) : Prop :=
  (∀ (k0_h3 : k0_cond3 v86 v88 = 1#1), ∀ (k0_h5 : k0_cond5 v96 v98 = 1#1), ∀ (r : Fin 8), ∀ a, (k0_off37 v1677 (BitVec.ofNat 32 (16 * r.val))) a + S16.size a ≤ S16384.size a)
theorem k0_off37_inb : ∀ (v86 : BitVec 32) (v88 : BitVec 32) (v96 : BitVec 32) (v98 : BitVec 32) (v1677 : BitVec 32) (k0_hw15 : k0_chk15 v86 v88 v96 v98 v1677), ∀ (k0_h3 : k0_cond3 v86 v88 = 1#1), ∀ (k0_h5 : k0_cond5 v96 v98 = 1#1), ∀ (r : Fin 8), ∀ a, (k0_off37 v1677 (BitVec.ofNat 32 (16 * r.val))) a + S16.size a ≤ S16384.size a := fun v86 v88 v96 v98 v1677 k0_hw15 k0_h3 k0_h5 r => k0_hw15 k0_h3 k0_h5 r

def k0_off38 (k0_t3 : Fin k0_t3_loop.trips) (c0_i32_530 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c12_i32 : BitVec 32 := 12#32
  let v1683 : BitVec 32 := Scalar.addi v75 c12_i32
  let c128_i32_529 : BitVec 32 := 128#32
  let v1684 : BitVec 32 := Scalar.muli v1683 c128_i32_529
  let v1685 : BitVec 32 := Scalar.addi v1684 c0_i32_530
  let v1686 : Index := Scalar.indexCast v1685
  ![v1686.toNat]
def k0_off39 (v1807 : BitVec 32) (c0_i32_567 : BitVec 32) : Fin 1 → Nat :=
  let c128_i32_566 : BitVec 32 := 128#32
  let v1808 : BitVec 32 := Scalar.muli v1807 c128_i32_566
  let v1809 : BitVec 32 := Scalar.addi v1808 c0_i32_567
  let v1810 : Index := Scalar.indexCast v1809
  ![v1810.toNat]

def k0_chk16 (v86 : BitVec 32) (v88 : BitVec 32) (v96 : BitVec 32) (v98 : BitVec 32) (v1807 : BitVec 32) : Prop :=
  (∀ (k0_h3 : k0_cond3 v86 v88 = 1#1), ∀ (k0_h5 : k0_cond5 v96 v98 = 1#1), ∀ (r : Fin 8), ∀ a, (k0_off39 v1807 (BitVec.ofNat 32 (16 * r.val))) a + S16.size a ≤ S16384.size a)
theorem k0_off39_inb : ∀ (v86 : BitVec 32) (v88 : BitVec 32) (v96 : BitVec 32) (v98 : BitVec 32) (v1807 : BitVec 32) (k0_hw16 : k0_chk16 v86 v88 v96 v98 v1807), ∀ (k0_h3 : k0_cond3 v86 v88 = 1#1), ∀ (k0_h5 : k0_cond5 v96 v98 = 1#1), ∀ (r : Fin 8), ∀ a, (k0_off39 v1807 (BitVec.ofNat 32 (16 * r.val))) a + S16.size a ≤ S16384.size a := fun v86 v88 v96 v98 v1807 k0_hw16 k0_h3 k0_h5 r => k0_hw16 k0_h3 k0_h5 r

def k0_off40 (k0_t3 : Fin k0_t3_loop.trips) (c0_i32_569 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c13_i32 : BitVec 32 := 13#32
  let v1813 : BitVec 32 := Scalar.addi v75 c13_i32
  let c128_i32_568 : BitVec 32 := 128#32
  let v1814 : BitVec 32 := Scalar.muli v1813 c128_i32_568
  let v1815 : BitVec 32 := Scalar.addi v1814 c0_i32_569
  let v1816 : Index := Scalar.indexCast v1815
  ![v1816.toNat]
def k0_off41 (v1937 : BitVec 32) (c0_i32_606 : BitVec 32) : Fin 1 → Nat :=
  let c128_i32_605 : BitVec 32 := 128#32
  let v1938 : BitVec 32 := Scalar.muli v1937 c128_i32_605
  let v1939 : BitVec 32 := Scalar.addi v1938 c0_i32_606
  let v1940 : Index := Scalar.indexCast v1939
  ![v1940.toNat]

def k0_chk17 (v86 : BitVec 32) (v88 : BitVec 32) (v96 : BitVec 32) (v98 : BitVec 32) (v1937 : BitVec 32) : Prop :=
  (∀ (k0_h3 : k0_cond3 v86 v88 = 1#1), ∀ (k0_h5 : k0_cond5 v96 v98 = 1#1), ∀ (r : Fin 8), ∀ a, (k0_off41 v1937 (BitVec.ofNat 32 (16 * r.val))) a + S16.size a ≤ S16384.size a)
theorem k0_off41_inb : ∀ (v86 : BitVec 32) (v88 : BitVec 32) (v96 : BitVec 32) (v98 : BitVec 32) (v1937 : BitVec 32) (k0_hw17 : k0_chk17 v86 v88 v96 v98 v1937), ∀ (k0_h3 : k0_cond3 v86 v88 = 1#1), ∀ (k0_h5 : k0_cond5 v96 v98 = 1#1), ∀ (r : Fin 8), ∀ a, (k0_off41 v1937 (BitVec.ofNat 32 (16 * r.val))) a + S16.size a ≤ S16384.size a := fun v86 v88 v96 v98 v1937 k0_hw17 k0_h3 k0_h5 r => k0_hw17 k0_h3 k0_h5 r

def k0_off42 (k0_t3 : Fin k0_t3_loop.trips) (c0_i32_609 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c14_i32_607 : BitVec 32 := 14#32
  let v1943 : BitVec 32 := Scalar.addi v75 c14_i32_607
  let c128_i32_608 : BitVec 32 := 128#32
  let v1944 : BitVec 32 := Scalar.muli v1943 c128_i32_608
  let v1945 : BitVec 32 := Scalar.addi v1944 c0_i32_609
  let v1946 : Index := Scalar.indexCast v1945
  ![v1946.toNat]
def k0_off43 (v2067 : BitVec 32) (c0_i32_646 : BitVec 32) : Fin 1 → Nat :=
  let c128_i32_645 : BitVec 32 := 128#32
  let v2068 : BitVec 32 := Scalar.muli v2067 c128_i32_645
  let v2069 : BitVec 32 := Scalar.addi v2068 c0_i32_646
  let v2070 : Index := Scalar.indexCast v2069
  ![v2070.toNat]

def k0_chk18 (v86 : BitVec 32) (v88 : BitVec 32) (v96 : BitVec 32) (v98 : BitVec 32) (v2067 : BitVec 32) : Prop :=
  (∀ (k0_h3 : k0_cond3 v86 v88 = 1#1), ∀ (k0_h5 : k0_cond5 v96 v98 = 1#1), ∀ (r : Fin 8), ∀ a, (k0_off43 v2067 (BitVec.ofNat 32 (16 * r.val))) a + S16.size a ≤ S16384.size a)
theorem k0_off43_inb : ∀ (v86 : BitVec 32) (v88 : BitVec 32) (v96 : BitVec 32) (v98 : BitVec 32) (v2067 : BitVec 32) (k0_hw18 : k0_chk18 v86 v88 v96 v98 v2067), ∀ (k0_h3 : k0_cond3 v86 v88 = 1#1), ∀ (k0_h5 : k0_cond5 v96 v98 = 1#1), ∀ (r : Fin 8), ∀ a, (k0_off43 v2067 (BitVec.ofNat 32 (16 * r.val))) a + S16.size a ≤ S16384.size a := fun v86 v88 v96 v98 v2067 k0_hw18 k0_h3 k0_h5 r => k0_hw18 k0_h3 k0_h5 r

def k0_off44 (k0_t3 : Fin k0_t3_loop.trips) (c0_i32_648 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c15_i32 : BitVec 32 := 15#32
  let v2073 : BitVec 32 := Scalar.addi v75 c15_i32
  let c128_i32_647 : BitVec 32 := 128#32
  let v2074 : BitVec 32 := Scalar.muli v2073 c128_i32_647
  let v2075 : BitVec 32 := Scalar.addi v2074 c0_i32_648
  let v2076 : Index := Scalar.indexCast v2075
  ![v2076.toNat]
def k0_off45 (k0_t3 : Fin k0_t3_loop.trips) (c0_i32_58 : BitVec 32) (c0_i32_60 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let v116 : BitVec 32 := Scalar.addi v105 c0_i32_58
  let c128_i32_59 : BitVec 32 := 128#32
  let v117 : BitVec 32 := Scalar.muli v116 c128_i32_59
  let v118 : BitVec 32 := Scalar.addi v117 c0_i32_60
  let v119 : Index := Scalar.indexCast v118
  ![v119.toNat]
def k0_off46 (v107 : BitVec 32) (c0_i32_99 : BitVec 32) : Fin 1 → Nat :=
  let c128_i32_98 : BitVec 32 := 128#32
  let v227 : BitVec 32 := Scalar.muli v107 c128_i32_98
  let v228 : BitVec 32 := Scalar.addi v227 c0_i32_99
  let v229 : Index := Scalar.indexCast v228
  ![v229.toNat]
def k0_cond6 (v107 : BitVec 32) (v109 : BitVec 32) : BitVec 1 :=
  let v110 : BitVec 1 := Scalar.cmpi .eq v107 v109
  let v111 : BitVec 32 := Scalar.extui v110
  let c0_i32_55 : BitVec 32 := 0#32
  let v112 : BitVec 1 := Scalar.cmpi .ne v111 c0_i32_55
  v112

def k0_chk19 (v86 : BitVec 32) (v88 : BitVec 32) (v107 : BitVec 32) (v109 : BitVec 32) : Prop :=
  (∀ (k0_h3 : k0_cond3 v86 v88 = 1#1), ∀ (k0_h6 : k0_cond6 v107 v109 = 1#1), ∀ (r : Fin 8), ∀ a, (k0_off46 v107 (BitVec.ofNat 32 (16 * r.val))) a + S16.size a ≤ S16384.size a)
theorem k0_off46_inb : ∀ (v86 : BitVec 32) (v88 : BitVec 32) (v107 : BitVec 32) (v109 : BitVec 32) (k0_hw19 : k0_chk19 v86 v88 v107 v109), ∀ (k0_h3 : k0_cond3 v86 v88 = 1#1), ∀ (k0_h6 : k0_cond6 v107 v109 = 1#1), ∀ (r : Fin 8), ∀ a, (k0_off46 v107 (BitVec.ofNat 32 (16 * r.val))) a + S16.size a ≤ S16384.size a := fun v86 v88 v107 v109 k0_hw19 k0_h3 k0_h6 r => k0_hw19 k0_h3 k0_h6 r

def k0_off47 (v117 : BitVec 32) (c0_i32_59 : BitVec 32) : Fin 1 → Nat :=
  let c128_i32_58 : BitVec 32 := 128#32
  let v118 : BitVec 32 := Scalar.muli v117 c128_i32_58
  let v119 : BitVec 32 := Scalar.addi v118 c0_i32_59
  let v120 : Index := Scalar.indexCast v119
  ![v120.toNat]
def k0_cond7 (v107 : BitVec 32) (v109 : BitVec 32) : BitVec 1 :=
  let v110 : BitVec 1 := Scalar.cmpi .eq v107 v109
  let true_56 : BitVec 1 := 1#1
  let v113 : BitVec 1 := Scalar.xori v110 true_56
  let v114 : BitVec 32 := Scalar.extui v113
  let c0_i32_57 : BitVec 32 := 0#32
  let v115 : BitVec 1 := Scalar.cmpi .ne v114 c0_i32_57
  v115

def k0_chk20 (v86 : BitVec 32) (v88 : BitVec 32) (v107 : BitVec 32) (v109 : BitVec 32) (v117 : BitVec 32) : Prop :=
  (∀ (k0_h3 : k0_cond3 v86 v88 = 1#1), ∀ (k0_h7 : k0_cond7 v107 v109 = 1#1), ∀ (r : Fin 8), ∀ a, (k0_off47 v117 (BitVec.ofNat 32 (16 * r.val))) a + S16.size a ≤ S16384.size a)
theorem k0_off47_inb : ∀ (v86 : BitVec 32) (v88 : BitVec 32) (v107 : BitVec 32) (v109 : BitVec 32) (v117 : BitVec 32) (k0_hw20 : k0_chk20 v86 v88 v107 v109 v117), ∀ (k0_h3 : k0_cond3 v86 v88 = 1#1), ∀ (k0_h7 : k0_cond7 v107 v109 = 1#1), ∀ (r : Fin 8), ∀ a, (k0_off47 v117 (BitVec.ofNat 32 (16 * r.val))) a + S16.size a ≤ S16384.size a := fun v86 v88 v107 v109 v117 k0_hw20 k0_h3 k0_h7 r => k0_hw20 k0_h3 k0_h7 r

def k0_off48 (k0_t3 : Fin k0_t3_loop.trips) (c0_i32_62 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c0_i32_60 : BitVec 32 := 0#32
  let v123 : BitVec 32 := Scalar.addi v105 c0_i32_60
  let c128_i32_61 : BitVec 32 := 128#32
  let v124 : BitVec 32 := Scalar.muli v123 c128_i32_61
  let v125 : BitVec 32 := Scalar.addi v124 c0_i32_62
  let v126 : Index := Scalar.indexCast v125
  ![v126.toNat]
def k0_off49 (v247 : BitVec 32) (c0_i32_93 : BitVec 32) : Fin 1 → Nat :=
  let c128_i32_92 : BitVec 32 := 128#32
  let v248 : BitVec 32 := Scalar.muli v247 c128_i32_92
  let v249 : BitVec 32 := Scalar.addi v248 c0_i32_93
  let v250 : Index := Scalar.indexCast v249
  ![v250.toNat]

def k0_chk21 (v86 : BitVec 32) (v88 : BitVec 32) (v107 : BitVec 32) (v109 : BitVec 32) (v247 : BitVec 32) : Prop :=
  (∀ (k0_h3 : k0_cond3 v86 v88 = 1#1), ∀ (k0_h7 : k0_cond7 v107 v109 = 1#1), ∀ (r : Fin 8), ∀ a, (k0_off49 v247 (BitVec.ofNat 32 (16 * r.val))) a + S16.size a ≤ S16384.size a)
theorem k0_off49_inb : ∀ (v86 : BitVec 32) (v88 : BitVec 32) (v107 : BitVec 32) (v109 : BitVec 32) (v247 : BitVec 32) (k0_hw21 : k0_chk21 v86 v88 v107 v109 v247), ∀ (k0_h3 : k0_cond3 v86 v88 = 1#1), ∀ (k0_h7 : k0_cond7 v107 v109 = 1#1), ∀ (r : Fin 8), ∀ a, (k0_off49 v247 (BitVec.ofNat 32 (16 * r.val))) a + S16.size a ≤ S16384.size a := fun v86 v88 v107 v109 v247 k0_hw21 k0_h3 k0_h7 r => k0_hw21 k0_h3 k0_h7 r

def k0_off50 (k0_t3 : Fin k0_t3_loop.trips) (c0_i32_96 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c1_i32_94 : BitVec 32 := 1#32
  let v253 : BitVec 32 := Scalar.addi v105 c1_i32_94
  let c128_i32_95 : BitVec 32 := 128#32
  let v254 : BitVec 32 := Scalar.muli v253 c128_i32_95
  let v255 : BitVec 32 := Scalar.addi v254 c0_i32_96
  let v256 : Index := Scalar.indexCast v255
  ![v256.toNat]
def k0_off51 (v377 : BitVec 32) (c0_i32_133 : BitVec 32) : Fin 1 → Nat :=
  let c128_i32_132 : BitVec 32 := 128#32
  let v378 : BitVec 32 := Scalar.muli v377 c128_i32_132
  let v379 : BitVec 32 := Scalar.addi v378 c0_i32_133
  let v380 : Index := Scalar.indexCast v379
  ![v380.toNat]

def k0_chk22 (v86 : BitVec 32) (v88 : BitVec 32) (v107 : BitVec 32) (v109 : BitVec 32) (v377 : BitVec 32) : Prop :=
  (∀ (k0_h3 : k0_cond3 v86 v88 = 1#1), ∀ (k0_h7 : k0_cond7 v107 v109 = 1#1), ∀ (r : Fin 8), ∀ a, (k0_off51 v377 (BitVec.ofNat 32 (16 * r.val))) a + S16.size a ≤ S16384.size a)
theorem k0_off51_inb : ∀ (v86 : BitVec 32) (v88 : BitVec 32) (v107 : BitVec 32) (v109 : BitVec 32) (v377 : BitVec 32) (k0_hw22 : k0_chk22 v86 v88 v107 v109 v377), ∀ (k0_h3 : k0_cond3 v86 v88 = 1#1), ∀ (k0_h7 : k0_cond7 v107 v109 = 1#1), ∀ (r : Fin 8), ∀ a, (k0_off51 v377 (BitVec.ofNat 32 (16 * r.val))) a + S16.size a ≤ S16384.size a := fun v86 v88 v107 v109 v377 k0_hw22 k0_h3 k0_h7 r => k0_hw22 k0_h3 k0_h7 r

def k0_off52 (k0_t3 : Fin k0_t3_loop.trips) (c0_i32_136 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c2_i32_134 : BitVec 32 := 2#32
  let v383 : BitVec 32 := Scalar.addi v105 c2_i32_134
  let c128_i32_135 : BitVec 32 := 128#32
  let v384 : BitVec 32 := Scalar.muli v383 c128_i32_135
  let v385 : BitVec 32 := Scalar.addi v384 c0_i32_136
  let v386 : Index := Scalar.indexCast v385
  ![v386.toNat]
def k0_off53 (v507 : BitVec 32) (c0_i32_173 : BitVec 32) : Fin 1 → Nat :=
  let c128_i32_172 : BitVec 32 := 128#32
  let v508 : BitVec 32 := Scalar.muli v507 c128_i32_172
  let v509 : BitVec 32 := Scalar.addi v508 c0_i32_173
  let v510 : Index := Scalar.indexCast v509
  ![v510.toNat]

def k0_chk23 (v86 : BitVec 32) (v88 : BitVec 32) (v107 : BitVec 32) (v109 : BitVec 32) (v507 : BitVec 32) : Prop :=
  (∀ (k0_h3 : k0_cond3 v86 v88 = 1#1), ∀ (k0_h7 : k0_cond7 v107 v109 = 1#1), ∀ (r : Fin 8), ∀ a, (k0_off53 v507 (BitVec.ofNat 32 (16 * r.val))) a + S16.size a ≤ S16384.size a)
theorem k0_off53_inb : ∀ (v86 : BitVec 32) (v88 : BitVec 32) (v107 : BitVec 32) (v109 : BitVec 32) (v507 : BitVec 32) (k0_hw23 : k0_chk23 v86 v88 v107 v109 v507), ∀ (k0_h3 : k0_cond3 v86 v88 = 1#1), ∀ (k0_h7 : k0_cond7 v107 v109 = 1#1), ∀ (r : Fin 8), ∀ a, (k0_off53 v507 (BitVec.ofNat 32 (16 * r.val))) a + S16.size a ≤ S16384.size a := fun v86 v88 v107 v109 v507 k0_hw23 k0_h3 k0_h7 r => k0_hw23 k0_h3 k0_h7 r

def k0_off54 (k0_t3 : Fin k0_t3_loop.trips) (c0_i32_176 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c3_i32_174 : BitVec 32 := 3#32
  let v513 : BitVec 32 := Scalar.addi v105 c3_i32_174
  let c128_i32_175 : BitVec 32 := 128#32
  let v514 : BitVec 32 := Scalar.muli v513 c128_i32_175
  let v515 : BitVec 32 := Scalar.addi v514 c0_i32_176
  let v516 : Index := Scalar.indexCast v515
  ![v516.toNat]
def k0_off55 (v637 : BitVec 32) (c0_i32_213 : BitVec 32) : Fin 1 → Nat :=
  let c128_i32_212 : BitVec 32 := 128#32
  let v638 : BitVec 32 := Scalar.muli v637 c128_i32_212
  let v639 : BitVec 32 := Scalar.addi v638 c0_i32_213
  let v640 : Index := Scalar.indexCast v639
  ![v640.toNat]

def k0_chk24 (v86 : BitVec 32) (v88 : BitVec 32) (v107 : BitVec 32) (v109 : BitVec 32) (v637 : BitVec 32) : Prop :=
  (∀ (k0_h3 : k0_cond3 v86 v88 = 1#1), ∀ (k0_h7 : k0_cond7 v107 v109 = 1#1), ∀ (r : Fin 8), ∀ a, (k0_off55 v637 (BitVec.ofNat 32 (16 * r.val))) a + S16.size a ≤ S16384.size a)
theorem k0_off55_inb : ∀ (v86 : BitVec 32) (v88 : BitVec 32) (v107 : BitVec 32) (v109 : BitVec 32) (v637 : BitVec 32) (k0_hw24 : k0_chk24 v86 v88 v107 v109 v637), ∀ (k0_h3 : k0_cond3 v86 v88 = 1#1), ∀ (k0_h7 : k0_cond7 v107 v109 = 1#1), ∀ (r : Fin 8), ∀ a, (k0_off55 v637 (BitVec.ofNat 32 (16 * r.val))) a + S16.size a ≤ S16384.size a := fun v86 v88 v107 v109 v637 k0_hw24 k0_h3 k0_h7 r => k0_hw24 k0_h3 k0_h7 r

def k0_off56 (k0_t3 : Fin k0_t3_loop.trips) (c0_i32_215 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c4_i32 : BitVec 32 := 4#32
  let v643 : BitVec 32 := Scalar.addi v105 c4_i32
  let c128_i32_214 : BitVec 32 := 128#32
  let v644 : BitVec 32 := Scalar.muli v643 c128_i32_214
  let v645 : BitVec 32 := Scalar.addi v644 c0_i32_215
  let v646 : Index := Scalar.indexCast v645
  ![v646.toNat]
def k0_off57 (v767 : BitVec 32) (c0_i32_252 : BitVec 32) : Fin 1 → Nat :=
  let c128_i32_251 : BitVec 32 := 128#32
  let v768 : BitVec 32 := Scalar.muli v767 c128_i32_251
  let v769 : BitVec 32 := Scalar.addi v768 c0_i32_252
  let v770 : Index := Scalar.indexCast v769
  ![v770.toNat]

def k0_chk25 (v86 : BitVec 32) (v88 : BitVec 32) (v107 : BitVec 32) (v109 : BitVec 32) (v767 : BitVec 32) : Prop :=
  (∀ (k0_h3 : k0_cond3 v86 v88 = 1#1), ∀ (k0_h7 : k0_cond7 v107 v109 = 1#1), ∀ (r : Fin 8), ∀ a, (k0_off57 v767 (BitVec.ofNat 32 (16 * r.val))) a + S16.size a ≤ S16384.size a)
theorem k0_off57_inb : ∀ (v86 : BitVec 32) (v88 : BitVec 32) (v107 : BitVec 32) (v109 : BitVec 32) (v767 : BitVec 32) (k0_hw25 : k0_chk25 v86 v88 v107 v109 v767), ∀ (k0_h3 : k0_cond3 v86 v88 = 1#1), ∀ (k0_h7 : k0_cond7 v107 v109 = 1#1), ∀ (r : Fin 8), ∀ a, (k0_off57 v767 (BitVec.ofNat 32 (16 * r.val))) a + S16.size a ≤ S16384.size a := fun v86 v88 v107 v109 v767 k0_hw25 k0_h3 k0_h7 r => k0_hw25 k0_h3 k0_h7 r

def k0_off58 (k0_t3 : Fin k0_t3_loop.trips) (c0_i32_254 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c5_i32 : BitVec 32 := 5#32
  let v773 : BitVec 32 := Scalar.addi v105 c5_i32
  let c128_i32_253 : BitVec 32 := 128#32
  let v774 : BitVec 32 := Scalar.muli v773 c128_i32_253
  let v775 : BitVec 32 := Scalar.addi v774 c0_i32_254
  let v776 : Index := Scalar.indexCast v775
  ![v776.toNat]
def k0_off59 (v897 : BitVec 32) (c0_i32_291 : BitVec 32) : Fin 1 → Nat :=
  let c128_i32_290 : BitVec 32 := 128#32
  let v898 : BitVec 32 := Scalar.muli v897 c128_i32_290
  let v899 : BitVec 32 := Scalar.addi v898 c0_i32_291
  let v900 : Index := Scalar.indexCast v899
  ![v900.toNat]

def k0_chk26 (v86 : BitVec 32) (v88 : BitVec 32) (v107 : BitVec 32) (v109 : BitVec 32) (v897 : BitVec 32) : Prop :=
  (∀ (k0_h3 : k0_cond3 v86 v88 = 1#1), ∀ (k0_h7 : k0_cond7 v107 v109 = 1#1), ∀ (r : Fin 8), ∀ a, (k0_off59 v897 (BitVec.ofNat 32 (16 * r.val))) a + S16.size a ≤ S16384.size a)
theorem k0_off59_inb : ∀ (v86 : BitVec 32) (v88 : BitVec 32) (v107 : BitVec 32) (v109 : BitVec 32) (v897 : BitVec 32) (k0_hw26 : k0_chk26 v86 v88 v107 v109 v897), ∀ (k0_h3 : k0_cond3 v86 v88 = 1#1), ∀ (k0_h7 : k0_cond7 v107 v109 = 1#1), ∀ (r : Fin 8), ∀ a, (k0_off59 v897 (BitVec.ofNat 32 (16 * r.val))) a + S16.size a ≤ S16384.size a := fun v86 v88 v107 v109 v897 k0_hw26 k0_h3 k0_h7 r => k0_hw26 k0_h3 k0_h7 r

def k0_off60 (k0_t3 : Fin k0_t3_loop.trips) (c0_i32_294 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c6_i32_292 : BitVec 32 := 6#32
  let v903 : BitVec 32 := Scalar.addi v105 c6_i32_292
  let c128_i32_293 : BitVec 32 := 128#32
  let v904 : BitVec 32 := Scalar.muli v903 c128_i32_293
  let v905 : BitVec 32 := Scalar.addi v904 c0_i32_294
  let v906 : Index := Scalar.indexCast v905
  ![v906.toNat]
def k0_off61 (v1027 : BitVec 32) (c0_i32_331 : BitVec 32) : Fin 1 → Nat :=
  let c128_i32_330 : BitVec 32 := 128#32
  let v1028 : BitVec 32 := Scalar.muli v1027 c128_i32_330
  let v1029 : BitVec 32 := Scalar.addi v1028 c0_i32_331
  let v1030 : Index := Scalar.indexCast v1029
  ![v1030.toNat]

def k0_chk27 (v86 : BitVec 32) (v88 : BitVec 32) (v107 : BitVec 32) (v109 : BitVec 32) (v1027 : BitVec 32) : Prop :=
  (∀ (k0_h3 : k0_cond3 v86 v88 = 1#1), ∀ (k0_h7 : k0_cond7 v107 v109 = 1#1), ∀ (r : Fin 8), ∀ a, (k0_off61 v1027 (BitVec.ofNat 32 (16 * r.val))) a + S16.size a ≤ S16384.size a)
theorem k0_off61_inb : ∀ (v86 : BitVec 32) (v88 : BitVec 32) (v107 : BitVec 32) (v109 : BitVec 32) (v1027 : BitVec 32) (k0_hw27 : k0_chk27 v86 v88 v107 v109 v1027), ∀ (k0_h3 : k0_cond3 v86 v88 = 1#1), ∀ (k0_h7 : k0_cond7 v107 v109 = 1#1), ∀ (r : Fin 8), ∀ a, (k0_off61 v1027 (BitVec.ofNat 32 (16 * r.val))) a + S16.size a ≤ S16384.size a := fun v86 v88 v107 v109 v1027 k0_hw27 k0_h3 k0_h7 r => k0_hw27 k0_h3 k0_h7 r

def k0_off62 (k0_t3 : Fin k0_t3_loop.trips) (c0_i32_334 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c7_i32_332 : BitVec 32 := 7#32
  let v1033 : BitVec 32 := Scalar.addi v105 c7_i32_332
  let c128_i32_333 : BitVec 32 := 128#32
  let v1034 : BitVec 32 := Scalar.muli v1033 c128_i32_333
  let v1035 : BitVec 32 := Scalar.addi v1034 c0_i32_334
  let v1036 : Index := Scalar.indexCast v1035
  ![v1036.toNat]
def k0_off63 (v1157 : BitVec 32) (c0_i32_371 : BitVec 32) : Fin 1 → Nat :=
  let c128_i32_370 : BitVec 32 := 128#32
  let v1158 : BitVec 32 := Scalar.muli v1157 c128_i32_370
  let v1159 : BitVec 32 := Scalar.addi v1158 c0_i32_371
  let v1160 : Index := Scalar.indexCast v1159
  ![v1160.toNat]

def k0_chk28 (v86 : BitVec 32) (v88 : BitVec 32) (v107 : BitVec 32) (v109 : BitVec 32) (v1157 : BitVec 32) : Prop :=
  (∀ (k0_h3 : k0_cond3 v86 v88 = 1#1), ∀ (k0_h7 : k0_cond7 v107 v109 = 1#1), ∀ (r : Fin 8), ∀ a, (k0_off63 v1157 (BitVec.ofNat 32 (16 * r.val))) a + S16.size a ≤ S16384.size a)
theorem k0_off63_inb : ∀ (v86 : BitVec 32) (v88 : BitVec 32) (v107 : BitVec 32) (v109 : BitVec 32) (v1157 : BitVec 32) (k0_hw28 : k0_chk28 v86 v88 v107 v109 v1157), ∀ (k0_h3 : k0_cond3 v86 v88 = 1#1), ∀ (k0_h7 : k0_cond7 v107 v109 = 1#1), ∀ (r : Fin 8), ∀ a, (k0_off63 v1157 (BitVec.ofNat 32 (16 * r.val))) a + S16.size a ≤ S16384.size a := fun v86 v88 v107 v109 v1157 k0_hw28 k0_h3 k0_h7 r => k0_hw28 k0_h3 k0_h7 r

def k0_off64 (k0_t3 : Fin k0_t3_loop.trips) (c0_i32_374 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c8_i32_372 : BitVec 32 := 8#32
  let v1163 : BitVec 32 := Scalar.addi v105 c8_i32_372
  let c128_i32_373 : BitVec 32 := 128#32
  let v1164 : BitVec 32 := Scalar.muli v1163 c128_i32_373
  let v1165 : BitVec 32 := Scalar.addi v1164 c0_i32_374
  let v1166 : Index := Scalar.indexCast v1165
  ![v1166.toNat]
def k0_off65 (v1287 : BitVec 32) (c0_i32_411 : BitVec 32) : Fin 1 → Nat :=
  let c128_i32_410 : BitVec 32 := 128#32
  let v1288 : BitVec 32 := Scalar.muli v1287 c128_i32_410
  let v1289 : BitVec 32 := Scalar.addi v1288 c0_i32_411
  let v1290 : Index := Scalar.indexCast v1289
  ![v1290.toNat]

def k0_chk29 (v86 : BitVec 32) (v88 : BitVec 32) (v107 : BitVec 32) (v109 : BitVec 32) (v1287 : BitVec 32) : Prop :=
  (∀ (k0_h3 : k0_cond3 v86 v88 = 1#1), ∀ (k0_h7 : k0_cond7 v107 v109 = 1#1), ∀ (r : Fin 8), ∀ a, (k0_off65 v1287 (BitVec.ofNat 32 (16 * r.val))) a + S16.size a ≤ S16384.size a)
theorem k0_off65_inb : ∀ (v86 : BitVec 32) (v88 : BitVec 32) (v107 : BitVec 32) (v109 : BitVec 32) (v1287 : BitVec 32) (k0_hw29 : k0_chk29 v86 v88 v107 v109 v1287), ∀ (k0_h3 : k0_cond3 v86 v88 = 1#1), ∀ (k0_h7 : k0_cond7 v107 v109 = 1#1), ∀ (r : Fin 8), ∀ a, (k0_off65 v1287 (BitVec.ofNat 32 (16 * r.val))) a + S16.size a ≤ S16384.size a := fun v86 v88 v107 v109 v1287 k0_hw29 k0_h3 k0_h7 r => k0_hw29 k0_h3 k0_h7 r

def k0_off66 (k0_t3 : Fin k0_t3_loop.trips) (c0_i32_413 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c9_i32 : BitVec 32 := 9#32
  let v1293 : BitVec 32 := Scalar.addi v105 c9_i32
  let c128_i32_412 : BitVec 32 := 128#32
  let v1294 : BitVec 32 := Scalar.muli v1293 c128_i32_412
  let v1295 : BitVec 32 := Scalar.addi v1294 c0_i32_413
  let v1296 : Index := Scalar.indexCast v1295
  ![v1296.toNat]
def k0_off67 (v1417 : BitVec 32) (c0_i32_450 : BitVec 32) : Fin 1 → Nat :=
  let c128_i32_449 : BitVec 32 := 128#32
  let v1418 : BitVec 32 := Scalar.muli v1417 c128_i32_449
  let v1419 : BitVec 32 := Scalar.addi v1418 c0_i32_450
  let v1420 : Index := Scalar.indexCast v1419
  ![v1420.toNat]

def k0_chk30 (v86 : BitVec 32) (v88 : BitVec 32) (v107 : BitVec 32) (v109 : BitVec 32) (v1417 : BitVec 32) : Prop :=
  (∀ (k0_h3 : k0_cond3 v86 v88 = 1#1), ∀ (k0_h7 : k0_cond7 v107 v109 = 1#1), ∀ (r : Fin 8), ∀ a, (k0_off67 v1417 (BitVec.ofNat 32 (16 * r.val))) a + S16.size a ≤ S16384.size a)
theorem k0_off67_inb : ∀ (v86 : BitVec 32) (v88 : BitVec 32) (v107 : BitVec 32) (v109 : BitVec 32) (v1417 : BitVec 32) (k0_hw30 : k0_chk30 v86 v88 v107 v109 v1417), ∀ (k0_h3 : k0_cond3 v86 v88 = 1#1), ∀ (k0_h7 : k0_cond7 v107 v109 = 1#1), ∀ (r : Fin 8), ∀ a, (k0_off67 v1417 (BitVec.ofNat 32 (16 * r.val))) a + S16.size a ≤ S16384.size a := fun v86 v88 v107 v109 v1417 k0_hw30 k0_h3 k0_h7 r => k0_hw30 k0_h3 k0_h7 r

def k0_off68 (k0_t3 : Fin k0_t3_loop.trips) (c0_i32_452 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c10_i32 : BitVec 32 := 10#32
  let v1423 : BitVec 32 := Scalar.addi v105 c10_i32
  let c128_i32_451 : BitVec 32 := 128#32
  let v1424 : BitVec 32 := Scalar.muli v1423 c128_i32_451
  let v1425 : BitVec 32 := Scalar.addi v1424 c0_i32_452
  let v1426 : Index := Scalar.indexCast v1425
  ![v1426.toNat]
def k0_off69 (v1547 : BitVec 32) (c0_i32_489 : BitVec 32) : Fin 1 → Nat :=
  let c128_i32_488 : BitVec 32 := 128#32
  let v1548 : BitVec 32 := Scalar.muli v1547 c128_i32_488
  let v1549 : BitVec 32 := Scalar.addi v1548 c0_i32_489
  let v1550 : Index := Scalar.indexCast v1549
  ![v1550.toNat]

def k0_chk31 (v86 : BitVec 32) (v88 : BitVec 32) (v107 : BitVec 32) (v109 : BitVec 32) (v1547 : BitVec 32) : Prop :=
  (∀ (k0_h3 : k0_cond3 v86 v88 = 1#1), ∀ (k0_h7 : k0_cond7 v107 v109 = 1#1), ∀ (r : Fin 8), ∀ a, (k0_off69 v1547 (BitVec.ofNat 32 (16 * r.val))) a + S16.size a ≤ S16384.size a)
theorem k0_off69_inb : ∀ (v86 : BitVec 32) (v88 : BitVec 32) (v107 : BitVec 32) (v109 : BitVec 32) (v1547 : BitVec 32) (k0_hw31 : k0_chk31 v86 v88 v107 v109 v1547), ∀ (k0_h3 : k0_cond3 v86 v88 = 1#1), ∀ (k0_h7 : k0_cond7 v107 v109 = 1#1), ∀ (r : Fin 8), ∀ a, (k0_off69 v1547 (BitVec.ofNat 32 (16 * r.val))) a + S16.size a ≤ S16384.size a := fun v86 v88 v107 v109 v1547 k0_hw31 k0_h3 k0_h7 r => k0_hw31 k0_h3 k0_h7 r

def k0_off70 (k0_t3 : Fin k0_t3_loop.trips) (c0_i32_491 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c11_i32 : BitVec 32 := 11#32
  let v1553 : BitVec 32 := Scalar.addi v105 c11_i32
  let c128_i32_490 : BitVec 32 := 128#32
  let v1554 : BitVec 32 := Scalar.muli v1553 c128_i32_490
  let v1555 : BitVec 32 := Scalar.addi v1554 c0_i32_491
  let v1556 : Index := Scalar.indexCast v1555
  ![v1556.toNat]
def k0_off71 (v1677 : BitVec 32) (c0_i32_528 : BitVec 32) : Fin 1 → Nat :=
  let c128_i32_527 : BitVec 32 := 128#32
  let v1678 : BitVec 32 := Scalar.muli v1677 c128_i32_527
  let v1679 : BitVec 32 := Scalar.addi v1678 c0_i32_528
  let v1680 : Index := Scalar.indexCast v1679
  ![v1680.toNat]

def k0_chk32 (v86 : BitVec 32) (v88 : BitVec 32) (v107 : BitVec 32) (v109 : BitVec 32) (v1677 : BitVec 32) : Prop :=
  (∀ (k0_h3 : k0_cond3 v86 v88 = 1#1), ∀ (k0_h7 : k0_cond7 v107 v109 = 1#1), ∀ (r : Fin 8), ∀ a, (k0_off71 v1677 (BitVec.ofNat 32 (16 * r.val))) a + S16.size a ≤ S16384.size a)
theorem k0_off71_inb : ∀ (v86 : BitVec 32) (v88 : BitVec 32) (v107 : BitVec 32) (v109 : BitVec 32) (v1677 : BitVec 32) (k0_hw32 : k0_chk32 v86 v88 v107 v109 v1677), ∀ (k0_h3 : k0_cond3 v86 v88 = 1#1), ∀ (k0_h7 : k0_cond7 v107 v109 = 1#1), ∀ (r : Fin 8), ∀ a, (k0_off71 v1677 (BitVec.ofNat 32 (16 * r.val))) a + S16.size a ≤ S16384.size a := fun v86 v88 v107 v109 v1677 k0_hw32 k0_h3 k0_h7 r => k0_hw32 k0_h3 k0_h7 r

def k0_off72 (k0_t3 : Fin k0_t3_loop.trips) (c0_i32_530 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c12_i32 : BitVec 32 := 12#32
  let v1683 : BitVec 32 := Scalar.addi v105 c12_i32
  let c128_i32_529 : BitVec 32 := 128#32
  let v1684 : BitVec 32 := Scalar.muli v1683 c128_i32_529
  let v1685 : BitVec 32 := Scalar.addi v1684 c0_i32_530
  let v1686 : Index := Scalar.indexCast v1685
  ![v1686.toNat]
def k0_off73 (v1807 : BitVec 32) (c0_i32_567 : BitVec 32) : Fin 1 → Nat :=
  let c128_i32_566 : BitVec 32 := 128#32
  let v1808 : BitVec 32 := Scalar.muli v1807 c128_i32_566
  let v1809 : BitVec 32 := Scalar.addi v1808 c0_i32_567
  let v1810 : Index := Scalar.indexCast v1809
  ![v1810.toNat]

def k0_chk33 (v86 : BitVec 32) (v88 : BitVec 32) (v107 : BitVec 32) (v109 : BitVec 32) (v1807 : BitVec 32) : Prop :=
  (∀ (k0_h3 : k0_cond3 v86 v88 = 1#1), ∀ (k0_h7 : k0_cond7 v107 v109 = 1#1), ∀ (r : Fin 8), ∀ a, (k0_off73 v1807 (BitVec.ofNat 32 (16 * r.val))) a + S16.size a ≤ S16384.size a)
theorem k0_off73_inb : ∀ (v86 : BitVec 32) (v88 : BitVec 32) (v107 : BitVec 32) (v109 : BitVec 32) (v1807 : BitVec 32) (k0_hw33 : k0_chk33 v86 v88 v107 v109 v1807), ∀ (k0_h3 : k0_cond3 v86 v88 = 1#1), ∀ (k0_h7 : k0_cond7 v107 v109 = 1#1), ∀ (r : Fin 8), ∀ a, (k0_off73 v1807 (BitVec.ofNat 32 (16 * r.val))) a + S16.size a ≤ S16384.size a := fun v86 v88 v107 v109 v1807 k0_hw33 k0_h3 k0_h7 r => k0_hw33 k0_h3 k0_h7 r

def k0_off74 (k0_t3 : Fin k0_t3_loop.trips) (c0_i32_569 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c13_i32 : BitVec 32 := 13#32
  let v1813 : BitVec 32 := Scalar.addi v105 c13_i32
  let c128_i32_568 : BitVec 32 := 128#32
  let v1814 : BitVec 32 := Scalar.muli v1813 c128_i32_568
  let v1815 : BitVec 32 := Scalar.addi v1814 c0_i32_569
  let v1816 : Index := Scalar.indexCast v1815
  ![v1816.toNat]
def k0_off75 (v1937 : BitVec 32) (c0_i32_606 : BitVec 32) : Fin 1 → Nat :=
  let c128_i32_605 : BitVec 32 := 128#32
  let v1938 : BitVec 32 := Scalar.muli v1937 c128_i32_605
  let v1939 : BitVec 32 := Scalar.addi v1938 c0_i32_606
  let v1940 : Index := Scalar.indexCast v1939
  ![v1940.toNat]

def k0_chk34 (v86 : BitVec 32) (v88 : BitVec 32) (v107 : BitVec 32) (v109 : BitVec 32) (v1937 : BitVec 32) : Prop :=
  (∀ (k0_h3 : k0_cond3 v86 v88 = 1#1), ∀ (k0_h7 : k0_cond7 v107 v109 = 1#1), ∀ (r : Fin 8), ∀ a, (k0_off75 v1937 (BitVec.ofNat 32 (16 * r.val))) a + S16.size a ≤ S16384.size a)
theorem k0_off75_inb : ∀ (v86 : BitVec 32) (v88 : BitVec 32) (v107 : BitVec 32) (v109 : BitVec 32) (v1937 : BitVec 32) (k0_hw34 : k0_chk34 v86 v88 v107 v109 v1937), ∀ (k0_h3 : k0_cond3 v86 v88 = 1#1), ∀ (k0_h7 : k0_cond7 v107 v109 = 1#1), ∀ (r : Fin 8), ∀ a, (k0_off75 v1937 (BitVec.ofNat 32 (16 * r.val))) a + S16.size a ≤ S16384.size a := fun v86 v88 v107 v109 v1937 k0_hw34 k0_h3 k0_h7 r => k0_hw34 k0_h3 k0_h7 r

def k0_off76 (k0_t3 : Fin k0_t3_loop.trips) (c0_i32_609 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c14_i32_607 : BitVec 32 := 14#32
  let v1943 : BitVec 32 := Scalar.addi v105 c14_i32_607
  let c128_i32_608 : BitVec 32 := 128#32
  let v1944 : BitVec 32 := Scalar.muli v1943 c128_i32_608
  let v1945 : BitVec 32 := Scalar.addi v1944 c0_i32_609
  let v1946 : Index := Scalar.indexCast v1945
  ![v1946.toNat]
def k0_off77 (v2067 : BitVec 32) (c0_i32_646 : BitVec 32) : Fin 1 → Nat :=
  let c128_i32_645 : BitVec 32 := 128#32
  let v2068 : BitVec 32 := Scalar.muli v2067 c128_i32_645
  let v2069 : BitVec 32 := Scalar.addi v2068 c0_i32_646
  let v2070 : Index := Scalar.indexCast v2069
  ![v2070.toNat]

def k0_chk35 (v86 : BitVec 32) (v88 : BitVec 32) (v107 : BitVec 32) (v109 : BitVec 32) (v2067 : BitVec 32) : Prop :=
  (∀ (k0_h3 : k0_cond3 v86 v88 = 1#1), ∀ (k0_h7 : k0_cond7 v107 v109 = 1#1), ∀ (r : Fin 8), ∀ a, (k0_off77 v2067 (BitVec.ofNat 32 (16 * r.val))) a + S16.size a ≤ S16384.size a)
theorem k0_off77_inb : ∀ (v86 : BitVec 32) (v88 : BitVec 32) (v107 : BitVec 32) (v109 : BitVec 32) (v2067 : BitVec 32) (k0_hw35 : k0_chk35 v86 v88 v107 v109 v2067), ∀ (k0_h3 : k0_cond3 v86 v88 = 1#1), ∀ (k0_h7 : k0_cond7 v107 v109 = 1#1), ∀ (r : Fin 8), ∀ a, (k0_off77 v2067 (BitVec.ofNat 32 (16 * r.val))) a + S16.size a ≤ S16384.size a := fun v86 v88 v107 v109 v2067 k0_hw35 k0_h3 k0_h7 r => k0_hw35 k0_h3 k0_h7 r

def k0_off78 (k0_t3 : Fin k0_t3_loop.trips) (c0_i32_648 : BitVec 32) : Fin 1 → Nat :=
  let c0_i32_32 : BitVec 32 := 0#32
  let c1_i32_33 : BitVec 32 := 1#32
  let arg13 : BitVec 32 := Scf.iv c0_i32_32 c1_i32_33 k0_t3
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c15_i32 : BitVec 32 := 15#32
  let v2073 : BitVec 32 := Scalar.addi v105 c15_i32
  let c128_i32_647 : BitVec 32 := 128#32
  let v2074 : BitVec 32 := Scalar.muli v2073 c128_i32_647
  let v2075 : BitVec 32 := Scalar.addi v2074 c0_i32_648
  let v2076 : Index := Scalar.indexCast v2075
  ![v2076.toNat]
def k0_cond8 (k0_t2 : Fin k0_t2_loop.trips) : BitVec 1 :=
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c1_i32_35 : BitVec 32 := 1#32
  let v62 : BitVec 32 := Scalar.addi v51 c1_i32_35
  let c1_i32_36 : BitVec 32 := 1#32
  let v63 : BitVec 32 := Scalar.addi v62 c1_i32_36
  let c6_i32_37 : BitVec 32 := 6#32
  let v64 : BitVec 1 := Scalar.cmpi .slt v63 c6_i32_37
  let v65 : BitVec 32 := Scalar.extui v64
  let c0_i32_38 : BitVec 32 := 0#32
  let v66 : BitVec 1 := Scalar.cmpi .ne v65 c0_i32_38
  v66

def k0_off79 (i : grid0.Coords) (k0_t2 : Fin k0_t2_loop.trips) : Fin 1 → Nat :=
  let c57344_i32 : BitVec 32 := 57344#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41312_i32 : BitVec 32 := 41312#32
  let v2 : BitVec 32 := Scalar.muli v1 c41312_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v38 : BitVec 32 := Scalar.addi c57344_i32 v37
  let v39 : BitVec 32 := v38
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c1_i32_35 : BitVec 32 := 1#32
  let v62 : BitVec 32 := Scalar.addi v51 c1_i32_35
  let c1_i32_46 : BitVec 32 := 1#32
  let v73 : BitVec 32 := Scalar.addi v62 c1_i32_46
  let c224_i32_47 : BitVec 32 := 224#32
  let v74 : BitVec 32 := Scalar.muli v73 c224_i32_47
  let v75 : BitVec 32 := Scalar.addi v39 v74
  let c128_i32_48 : BitVec 32 := 128#32
  let v76 : BitVec 32 := Scalar.muli v75 c128_i32_48
  ![v76.toNat]
def k0_off80 (i : grid0.Coords) (k0_t2 : Fin k0_t2_loop.trips) : Fin 1 → Nat :=
  let c57344_i32 : BitVec 32 := 57344#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c41312_i32 : BitVec 32 := 41312#32
  let v2 : BitVec 32 := Scalar.muli v1 c41312_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c31_i32 : BitVec 32 := 31#32
  let c0_i32_1 : BitVec 32 := 0#32
  let v9 : BitVec 1 := Scalar.cmpi .sgt c31_i32 c0_i32_1
  let v10 : BitVec 32 := Scalar.extui v9
  let c0_i32_2 : BitVec 32 := 0#32
  let v11 : BitVec 1 := Scalar.cmpi .slt c31_i32 c0_i32_2
  let v12 : BitVec 32 := Scalar.extui v11
  let v13 : BitVec 32 := Scalar.subi v10 v12
  let v14 : BitVec 1 := Scalar.cmpi .ne v8 v13
  let v15 : BitVec 32 := Scalar.remsi v2 c31_i32
  let c0_i32_3 : BitVec 32 := 0#32
  let v16 : BitVec 1 := Scalar.cmpi .ne v15 c0_i32_3
  let v17 : BitVec 1 := Scalar.andi v14 v16
  let v3 : BitVec 32 := Scalar.divsi v2 c31_i32
  let c1_i32 : BitVec 32 := 1#32
  let v18 : BitVec 32 := Scalar.subi v3 c1_i32
  let v19 : BitVec 32 := Scalar.select v17 v18 v3
  let c0_i32_4 : BitVec 32 := 0#32
  let v21 : BitVec 1 := Scalar.cmpi .sgt v19 c0_i32_4
  let v22 : BitVec 32 := Scalar.extui v21
  let c0_i32_5 : BitVec 32 := 0#32
  let v23 : BitVec 1 := Scalar.cmpi .slt v19 c0_i32_5
  let v24 : BitVec 32 := Scalar.extui v23
  let v25 : BitVec 32 := Scalar.subi v22 v24
  let c8_i32 : BitVec 32 := 8#32
  let c0_i32_6 : BitVec 32 := 0#32
  let v26 : BitVec 1 := Scalar.cmpi .sgt c8_i32 c0_i32_6
  let v27 : BitVec 32 := Scalar.extui v26
  let c0_i32_7 : BitVec 32 := 0#32
  let v28 : BitVec 1 := Scalar.cmpi .slt c8_i32 c0_i32_7
  let v29 : BitVec 32 := Scalar.extui v28
  let v30 : BitVec 32 := Scalar.subi v27 v29
  let v31 : BitVec 1 := Scalar.cmpi .ne v25 v30
  let v32 : BitVec 32 := Scalar.remsi v19 c8_i32
  let c0_i32_8 : BitVec 32 := 0#32
  let v33 : BitVec 1 := Scalar.cmpi .ne v32 c0_i32_8
  let v34 : BitVec 1 := Scalar.andi v31 v33
  let v20 : BitVec 32 := Scalar.divsi v19 c8_i32
  let c1_i32_9 : BitVec 32 := 1#32
  let v35 : BitVec 32 := Scalar.subi v20 c1_i32_9
  let v36 : BitVec 32 := Scalar.select v34 v35 v20
  let c8_i32_10 : BitVec 32 := 8#32
  let v37 : BitVec 32 := Scalar.muli v36 c8_i32_10
  let v38 : BitVec 32 := Scalar.addi c57344_i32 v37
  let v39 : BitVec 32 := v38
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c1_i32_35 : BitVec 32 := 1#32
  let v62 : BitVec 32 := Scalar.addi v51 c1_i32_35
  let c224_i32_39 : BitVec 32 := 224#32
  let v67 : BitVec 32 := Scalar.muli v62 c224_i32_39
  let v68 : BitVec 32 := Scalar.addi v39 v67
  let c128_i32_40 : BitVec 32 := 128#32
  let v69 : BitVec 32 := Scalar.muli v68 c128_i32_40
  ![v69.toNat]
@[reducible] def k0_t4_loop : Scf.Loop 32 :=
  let c0_i32_42 : BitVec 32 := 0#32
  let c7_i32_43 : BitVec 32 := 7#32
  let v72 : BitVec 32 := Scalar.addi c0_i32_42 c7_i32_43
  let c1_i32_44 : BitVec 32 := 1#32
  ⟨c0_i32_42, v72, c1_i32_44⟩
def k0_off81 (k0_t2 : Fin k0_t2_loop.trips) (k0_t4 : Fin k0_t4_loop.trips) : Fin 1 → Nat :=
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c1_i32_35 : BitVec 32 := 1#32
  let v62 : BitVec 32 := Scalar.addi v51 c1_i32_35
  let c224_i32_46 : BitVec 32 := 224#32
  let v73 : BitVec 32 := Scalar.muli v62 c224_i32_46
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let v76 : BitVec 32 := Scalar.addi v73 v75
  let v77 : Index := Scalar.indexCast v76
  ![v77.toNat]
def k0_off82 (k0_t2 : Fin k0_t2_loop.trips) (k0_t4 : Fin k0_t4_loop.trips) : Fin 1 → Nat :=
  let c2_i32_27 : BitVec 32 := 2#32
  let c0_i32_18 : BitVec 32 := 0#32
  let c1_i32_19 : BitVec 32 := 1#32
  let arg12 : BitVec 32 := Scf.iv c0_i32_18 c1_i32_19 k0_t2
  let v51 : BitVec 32 := Scalar.muli c2_i32_27 arg12
  let c1_i32_35 : BitVec 32 := 1#32
  let v62 : BitVec 32 := Scalar.addi v51 c1_i32_35
  let c224_i32_46 : BitVec 32 := 224#32
  let v73 : BitVec 32 := Scalar.muli v62 c224_i32_46
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let v80 : BitVec 32 := Scalar.addi v73 v75
  let c16_i32_48 : BitVec 32 := 16#32
  let v81 : BitVec 32 := Scalar.addi v80 c16_i32_48
  let v82 : Index := Scalar.indexCast v81
  ![v82.toNat]
def k0_off83 (k0_t4 : Fin k0_t4_loop.trips) (c0_i32_51 : BitVec 32) (c0_i32_53 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let v95 : BitVec 32 := Scalar.addi v75 c0_i32_51
  let c128_i32_52 : BitVec 32 := 128#32
  let v96 : BitVec 32 := Scalar.muli v95 c128_i32_52
  let v97 : BitVec 32 := Scalar.addi v96 c0_i32_53
  let v98 : Index := Scalar.indexCast v97
  ![v98.toNat]
def k0_off84 (v86 : BitVec 32) (c0_i32_126 : BitVec 32) : Fin 1 → Nat :=
  let c128_i32_125 : BitVec 32 := 128#32
  let v318 : BitVec 32 := Scalar.muli v86 c128_i32_125
  let v319 : BitVec 32 := Scalar.addi v318 c0_i32_126
  let v320 : Index := Scalar.indexCast v319
  ![v320.toNat]
def k0_cond9 (v86 : BitVec 32) (v88 : BitVec 32) : BitVec 1 :=
  let v89 : BitVec 1 := Scalar.cmpi .eq v86 v88
  let v90 : BitVec 32 := Scalar.extui v89
  let c0_i32_49 : BitVec 32 := 0#32
  let v91 : BitVec 1 := Scalar.cmpi .ne v90 c0_i32_49
  v91

def k0_chk36 (v86 : BitVec 32) (v88 : BitVec 32) : Prop :=
  (∀ (k0_h9 : k0_cond9 v86 v88 = 1#1), ∀ (r : Fin 8), ∀ a, (k0_off84 v86 (BitVec.ofNat 32 (16 * r.val))) a + S16.size a ≤ S16384.size a)
theorem k0_off84_inb : ∀ (v86 : BitVec 32) (v88 : BitVec 32) (k0_hw36 : k0_chk36 v86 v88), ∀ (k0_h9 : k0_cond9 v86 v88 = 1#1), ∀ (r : Fin 8), ∀ a, (k0_off84 v86 (BitVec.ofNat 32 (16 * r.val))) a + S16.size a ≤ S16384.size a := fun v86 v88 k0_hw36 k0_h9 r => k0_hw36 k0_h9 r

def k0_off85 (k0_t4 : Fin k0_t4_loop.trips) (c0_i32_58 : BitVec 32) (c0_i32_60 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let v116 : BitVec 32 := Scalar.addi v75 c0_i32_58
  let c128_i32_59 : BitVec 32 := 128#32
  let v117 : BitVec 32 := Scalar.muli v116 c128_i32_59
  let v118 : BitVec 32 := Scalar.addi v117 c0_i32_60
  let v119 : Index := Scalar.indexCast v118
  ![v119.toNat]
def k0_off86 (v96 : BitVec 32) (c0_i32_99 : BitVec 32) : Fin 1 → Nat :=
  let c128_i32_98 : BitVec 32 := 128#32
  let v227 : BitVec 32 := Scalar.muli v96 c128_i32_98
  let v228 : BitVec 32 := Scalar.addi v227 c0_i32_99
  let v229 : Index := Scalar.indexCast v228
  ![v229.toNat]
def k0_cond10 (v86 : BitVec 32) (v88 : BitVec 32) : BitVec 1 :=
  let v89 : BitVec 1 := Scalar.cmpi .eq v86 v88
  let v_true : BitVec 1 := 1#1
  let v92 : BitVec 1 := Scalar.xori v89 v_true
  let v93 : BitVec 32 := Scalar.extui v92
  let c0_i32_50 : BitVec 32 := 0#32
  let v94 : BitVec 1 := Scalar.cmpi .ne v93 c0_i32_50
  v94

def k0_cond11 (v96 : BitVec 32) (v98 : BitVec 32) : BitVec 1 :=
  let v99 : BitVec 1 := Scalar.cmpi .eq v96 v98
  let v100 : BitVec 32 := Scalar.extui v99
  let c0_i32_51 : BitVec 32 := 0#32
  let v101 : BitVec 1 := Scalar.cmpi .ne v100 c0_i32_51
  v101

def k0_chk37 (v86 : BitVec 32) (v88 : BitVec 32) (v96 : BitVec 32) (v98 : BitVec 32) : Prop :=
  (∀ (k0_h10 : k0_cond10 v86 v88 = 1#1), ∀ (k0_h11 : k0_cond11 v96 v98 = 1#1), ∀ (r : Fin 8), ∀ a, (k0_off86 v96 (BitVec.ofNat 32 (16 * r.val))) a + S16.size a ≤ S16384.size a)
theorem k0_off86_inb : ∀ (v86 : BitVec 32) (v88 : BitVec 32) (v96 : BitVec 32) (v98 : BitVec 32) (k0_hw37 : k0_chk37 v86 v88 v96 v98), ∀ (k0_h10 : k0_cond10 v86 v88 = 1#1), ∀ (k0_h11 : k0_cond11 v96 v98 = 1#1), ∀ (r : Fin 8), ∀ a, (k0_off86 v96 (BitVec.ofNat 32 (16 * r.val))) a + S16.size a ≤ S16384.size a := fun v86 v88 v96 v98 k0_hw37 k0_h10 k0_h11 r => k0_hw37 k0_h10 k0_h11 r

def k0_off87 (v117 : BitVec 32) (c0_i32_59 : BitVec 32) : Fin 1 → Nat :=
  let c128_i32_58 : BitVec 32 := 128#32
  let v118 : BitVec 32 := Scalar.muli v117 c128_i32_58
  let v119 : BitVec 32 := Scalar.addi v118 c0_i32_59
  let v120 : Index := Scalar.indexCast v119
  ![v120.toNat]
def k0_cond12 (v96 : BitVec 32) (v98 : BitVec 32) : BitVec 1 :=
  let v99 : BitVec 1 := Scalar.cmpi .eq v96 v98
  let true_52 : BitVec 1 := 1#1
  let v102 : BitVec 1 := Scalar.xori v99 true_52
  let v103 : BitVec 32 := Scalar.extui v102
  let c0_i32_53 : BitVec 32 := 0#32
  let v104 : BitVec 1 := Scalar.cmpi .ne v103 c0_i32_53
  v104

def k0_chk38 (v86 : BitVec 32) (v88 : BitVec 32) (v96 : BitVec 32) (v98 : BitVec 32) (v117 : BitVec 32) : Prop :=
  (∀ (k0_h10 : k0_cond10 v86 v88 = 1#1), ∀ (k0_h12 : k0_cond12 v96 v98 = 1#1), ∀ (r : Fin 8), ∀ a, (k0_off87 v117 (BitVec.ofNat 32 (16 * r.val))) a + S16.size a ≤ S16384.size a)
theorem k0_off87_inb : ∀ (v86 : BitVec 32) (v88 : BitVec 32) (v96 : BitVec 32) (v98 : BitVec 32) (v117 : BitVec 32) (k0_hw38 : k0_chk38 v86 v88 v96 v98 v117), ∀ (k0_h10 : k0_cond10 v86 v88 = 1#1), ∀ (k0_h12 : k0_cond12 v96 v98 = 1#1), ∀ (r : Fin 8), ∀ a, (k0_off87 v117 (BitVec.ofNat 32 (16 * r.val))) a + S16.size a ≤ S16384.size a := fun v86 v88 v96 v98 v117 k0_hw38 k0_h10 k0_h12 r => k0_hw38 k0_h10 k0_h12 r

def k0_off88 (k0_t4 : Fin k0_t4_loop.trips) (c0_i32_62 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c0_i32_60 : BitVec 32 := 0#32
  let v123 : BitVec 32 := Scalar.addi v75 c0_i32_60
  let c128_i32_61 : BitVec 32 := 128#32
  let v124 : BitVec 32 := Scalar.muli v123 c128_i32_61
  let v125 : BitVec 32 := Scalar.addi v124 c0_i32_62
  let v126 : Index := Scalar.indexCast v125
  ![v126.toNat]
def k0_off89 (v247 : BitVec 32) (c0_i32_93 : BitVec 32) : Fin 1 → Nat :=
  let c128_i32_92 : BitVec 32 := 128#32
  let v248 : BitVec 32 := Scalar.muli v247 c128_i32_92
  let v249 : BitVec 32 := Scalar.addi v248 c0_i32_93
  let v250 : Index := Scalar.indexCast v249
  ![v250.toNat]

def k0_chk39 (v86 : BitVec 32) (v88 : BitVec 32) (v96 : BitVec 32) (v98 : BitVec 32) (v247 : BitVec 32) : Prop :=
  (∀ (k0_h10 : k0_cond10 v86 v88 = 1#1), ∀ (k0_h12 : k0_cond12 v96 v98 = 1#1), ∀ (r : Fin 8), ∀ a, (k0_off89 v247 (BitVec.ofNat 32 (16 * r.val))) a + S16.size a ≤ S16384.size a)
theorem k0_off89_inb : ∀ (v86 : BitVec 32) (v88 : BitVec 32) (v96 : BitVec 32) (v98 : BitVec 32) (v247 : BitVec 32) (k0_hw39 : k0_chk39 v86 v88 v96 v98 v247), ∀ (k0_h10 : k0_cond10 v86 v88 = 1#1), ∀ (k0_h12 : k0_cond12 v96 v98 = 1#1), ∀ (r : Fin 8), ∀ a, (k0_off89 v247 (BitVec.ofNat 32 (16 * r.val))) a + S16.size a ≤ S16384.size a := fun v86 v88 v96 v98 v247 k0_hw39 k0_h10 k0_h12 r => k0_hw39 k0_h10 k0_h12 r

def k0_off90 (k0_t4 : Fin k0_t4_loop.trips) (c0_i32_96 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c1_i32_94 : BitVec 32 := 1#32
  let v253 : BitVec 32 := Scalar.addi v75 c1_i32_94
  let c128_i32_95 : BitVec 32 := 128#32
  let v254 : BitVec 32 := Scalar.muli v253 c128_i32_95
  let v255 : BitVec 32 := Scalar.addi v254 c0_i32_96
  let v256 : Index := Scalar.indexCast v255
  ![v256.toNat]
def k0_off91 (v377 : BitVec 32) (c0_i32_133 : BitVec 32) : Fin 1 → Nat :=
  let c128_i32_132 : BitVec 32 := 128#32
  let v378 : BitVec 32 := Scalar.muli v377 c128_i32_132
  let v379 : BitVec 32 := Scalar.addi v378 c0_i32_133
  let v380 : Index := Scalar.indexCast v379
  ![v380.toNat]

def k0_chk40 (v86 : BitVec 32) (v88 : BitVec 32) (v96 : BitVec 32) (v98 : BitVec 32) (v377 : BitVec 32) : Prop :=
  (∀ (k0_h10 : k0_cond10 v86 v88 = 1#1), ∀ (k0_h12 : k0_cond12 v96 v98 = 1#1), ∀ (r : Fin 8), ∀ a, (k0_off91 v377 (BitVec.ofNat 32 (16 * r.val))) a + S16.size a ≤ S16384.size a)
theorem k0_off91_inb : ∀ (v86 : BitVec 32) (v88 : BitVec 32) (v96 : BitVec 32) (v98 : BitVec 32) (v377 : BitVec 32) (k0_hw40 : k0_chk40 v86 v88 v96 v98 v377), ∀ (k0_h10 : k0_cond10 v86 v88 = 1#1), ∀ (k0_h12 : k0_cond12 v96 v98 = 1#1), ∀ (r : Fin 8), ∀ a, (k0_off91 v377 (BitVec.ofNat 32 (16 * r.val))) a + S16.size a ≤ S16384.size a := fun v86 v88 v96 v98 v377 k0_hw40 k0_h10 k0_h12 r => k0_hw40 k0_h10 k0_h12 r

def k0_off92 (k0_t4 : Fin k0_t4_loop.trips) (c0_i32_136 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c2_i32_134 : BitVec 32 := 2#32
  let v383 : BitVec 32 := Scalar.addi v75 c2_i32_134
  let c128_i32_135 : BitVec 32 := 128#32
  let v384 : BitVec 32 := Scalar.muli v383 c128_i32_135
  let v385 : BitVec 32 := Scalar.addi v384 c0_i32_136
  let v386 : Index := Scalar.indexCast v385
  ![v386.toNat]
def k0_off93 (v507 : BitVec 32) (c0_i32_173 : BitVec 32) : Fin 1 → Nat :=
  let c128_i32_172 : BitVec 32 := 128#32
  let v508 : BitVec 32 := Scalar.muli v507 c128_i32_172
  let v509 : BitVec 32 := Scalar.addi v508 c0_i32_173
  let v510 : Index := Scalar.indexCast v509
  ![v510.toNat]

def k0_chk41 (v86 : BitVec 32) (v88 : BitVec 32) (v96 : BitVec 32) (v98 : BitVec 32) (v507 : BitVec 32) : Prop :=
  (∀ (k0_h10 : k0_cond10 v86 v88 = 1#1), ∀ (k0_h12 : k0_cond12 v96 v98 = 1#1), ∀ (r : Fin 8), ∀ a, (k0_off93 v507 (BitVec.ofNat 32 (16 * r.val))) a + S16.size a ≤ S16384.size a)
theorem k0_off93_inb : ∀ (v86 : BitVec 32) (v88 : BitVec 32) (v96 : BitVec 32) (v98 : BitVec 32) (v507 : BitVec 32) (k0_hw41 : k0_chk41 v86 v88 v96 v98 v507), ∀ (k0_h10 : k0_cond10 v86 v88 = 1#1), ∀ (k0_h12 : k0_cond12 v96 v98 = 1#1), ∀ (r : Fin 8), ∀ a, (k0_off93 v507 (BitVec.ofNat 32 (16 * r.val))) a + S16.size a ≤ S16384.size a := fun v86 v88 v96 v98 v507 k0_hw41 k0_h10 k0_h12 r => k0_hw41 k0_h10 k0_h12 r

def k0_off94 (k0_t4 : Fin k0_t4_loop.trips) (c0_i32_176 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c3_i32_174 : BitVec 32 := 3#32
  let v513 : BitVec 32 := Scalar.addi v75 c3_i32_174
  let c128_i32_175 : BitVec 32 := 128#32
  let v514 : BitVec 32 := Scalar.muli v513 c128_i32_175
  let v515 : BitVec 32 := Scalar.addi v514 c0_i32_176
  let v516 : Index := Scalar.indexCast v515
  ![v516.toNat]
def k0_off95 (v637 : BitVec 32) (c0_i32_213 : BitVec 32) : Fin 1 → Nat :=
  let c128_i32_212 : BitVec 32 := 128#32
  let v638 : BitVec 32 := Scalar.muli v637 c128_i32_212
  let v639 : BitVec 32 := Scalar.addi v638 c0_i32_213
  let v640 : Index := Scalar.indexCast v639
  ![v640.toNat]

def k0_chk42 (v86 : BitVec 32) (v88 : BitVec 32) (v96 : BitVec 32) (v98 : BitVec 32) (v637 : BitVec 32) : Prop :=
  (∀ (k0_h10 : k0_cond10 v86 v88 = 1#1), ∀ (k0_h12 : k0_cond12 v96 v98 = 1#1), ∀ (r : Fin 8), ∀ a, (k0_off95 v637 (BitVec.ofNat 32 (16 * r.val))) a + S16.size a ≤ S16384.size a)
theorem k0_off95_inb : ∀ (v86 : BitVec 32) (v88 : BitVec 32) (v96 : BitVec 32) (v98 : BitVec 32) (v637 : BitVec 32) (k0_hw42 : k0_chk42 v86 v88 v96 v98 v637), ∀ (k0_h10 : k0_cond10 v86 v88 = 1#1), ∀ (k0_h12 : k0_cond12 v96 v98 = 1#1), ∀ (r : Fin 8), ∀ a, (k0_off95 v637 (BitVec.ofNat 32 (16 * r.val))) a + S16.size a ≤ S16384.size a := fun v86 v88 v96 v98 v637 k0_hw42 k0_h10 k0_h12 r => k0_hw42 k0_h10 k0_h12 r

def k0_off96 (k0_t4 : Fin k0_t4_loop.trips) (c0_i32_215 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c4_i32 : BitVec 32 := 4#32
  let v643 : BitVec 32 := Scalar.addi v75 c4_i32
  let c128_i32_214 : BitVec 32 := 128#32
  let v644 : BitVec 32 := Scalar.muli v643 c128_i32_214
  let v645 : BitVec 32 := Scalar.addi v644 c0_i32_215
  let v646 : Index := Scalar.indexCast v645
  ![v646.toNat]
def k0_off97 (v767 : BitVec 32) (c0_i32_252 : BitVec 32) : Fin 1 → Nat :=
  let c128_i32_251 : BitVec 32 := 128#32
  let v768 : BitVec 32 := Scalar.muli v767 c128_i32_251
  let v769 : BitVec 32 := Scalar.addi v768 c0_i32_252
  let v770 : Index := Scalar.indexCast v769
  ![v770.toNat]

def k0_chk43 (v86 : BitVec 32) (v88 : BitVec 32) (v96 : BitVec 32) (v98 : BitVec 32) (v767 : BitVec 32) : Prop :=
  (∀ (k0_h10 : k0_cond10 v86 v88 = 1#1), ∀ (k0_h12 : k0_cond12 v96 v98 = 1#1), ∀ (r : Fin 8), ∀ a, (k0_off97 v767 (BitVec.ofNat 32 (16 * r.val))) a + S16.size a ≤ S16384.size a)
theorem k0_off97_inb : ∀ (v86 : BitVec 32) (v88 : BitVec 32) (v96 : BitVec 32) (v98 : BitVec 32) (v767 : BitVec 32) (k0_hw43 : k0_chk43 v86 v88 v96 v98 v767), ∀ (k0_h10 : k0_cond10 v86 v88 = 1#1), ∀ (k0_h12 : k0_cond12 v96 v98 = 1#1), ∀ (r : Fin 8), ∀ a, (k0_off97 v767 (BitVec.ofNat 32 (16 * r.val))) a + S16.size a ≤ S16384.size a := fun v86 v88 v96 v98 v767 k0_hw43 k0_h10 k0_h12 r => k0_hw43 k0_h10 k0_h12 r

def k0_off98 (k0_t4 : Fin k0_t4_loop.trips) (c0_i32_254 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c5_i32 : BitVec 32 := 5#32
  let v773 : BitVec 32 := Scalar.addi v75 c5_i32
  let c128_i32_253 : BitVec 32 := 128#32
  let v774 : BitVec 32 := Scalar.muli v773 c128_i32_253
  let v775 : BitVec 32 := Scalar.addi v774 c0_i32_254
  let v776 : Index := Scalar.indexCast v775
  ![v776.toNat]
def k0_off99 (v897 : BitVec 32) (c0_i32_291 : BitVec 32) : Fin 1 → Nat :=
  let c128_i32_290 : BitVec 32 := 128#32
  let v898 : BitVec 32 := Scalar.muli v897 c128_i32_290
  let v899 : BitVec 32 := Scalar.addi v898 c0_i32_291
  let v900 : Index := Scalar.indexCast v899
  ![v900.toNat]

def k0_chk44 (v86 : BitVec 32) (v88 : BitVec 32) (v96 : BitVec 32) (v98 : BitVec 32) (v897 : BitVec 32) : Prop :=
  (∀ (k0_h10 : k0_cond10 v86 v88 = 1#1), ∀ (k0_h12 : k0_cond12 v96 v98 = 1#1), ∀ (r : Fin 8), ∀ a, (k0_off99 v897 (BitVec.ofNat 32 (16 * r.val))) a + S16.size a ≤ S16384.size a)
theorem k0_off99_inb : ∀ (v86 : BitVec 32) (v88 : BitVec 32) (v96 : BitVec 32) (v98 : BitVec 32) (v897 : BitVec 32) (k0_hw44 : k0_chk44 v86 v88 v96 v98 v897), ∀ (k0_h10 : k0_cond10 v86 v88 = 1#1), ∀ (k0_h12 : k0_cond12 v96 v98 = 1#1), ∀ (r : Fin 8), ∀ a, (k0_off99 v897 (BitVec.ofNat 32 (16 * r.val))) a + S16.size a ≤ S16384.size a := fun v86 v88 v96 v98 v897 k0_hw44 k0_h10 k0_h12 r => k0_hw44 k0_h10 k0_h12 r

def k0_off100 (k0_t4 : Fin k0_t4_loop.trips) (c0_i32_294 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c6_i32_292 : BitVec 32 := 6#32
  let v903 : BitVec 32 := Scalar.addi v75 c6_i32_292
  let c128_i32_293 : BitVec 32 := 128#32
  let v904 : BitVec 32 := Scalar.muli v903 c128_i32_293
  let v905 : BitVec 32 := Scalar.addi v904 c0_i32_294
  let v906 : Index := Scalar.indexCast v905
  ![v906.toNat]
def k0_off101 (v1027 : BitVec 32) (c0_i32_331 : BitVec 32) : Fin 1 → Nat :=
  let c128_i32_330 : BitVec 32 := 128#32
  let v1028 : BitVec 32 := Scalar.muli v1027 c128_i32_330
  let v1029 : BitVec 32 := Scalar.addi v1028 c0_i32_331
  let v1030 : Index := Scalar.indexCast v1029
  ![v1030.toNat]

def k0_chk45 (v86 : BitVec 32) (v88 : BitVec 32) (v96 : BitVec 32) (v98 : BitVec 32) (v1027 : BitVec 32) : Prop :=
  (∀ (k0_h10 : k0_cond10 v86 v88 = 1#1), ∀ (k0_h12 : k0_cond12 v96 v98 = 1#1), ∀ (r : Fin 8), ∀ a, (k0_off101 v1027 (BitVec.ofNat 32 (16 * r.val))) a + S16.size a ≤ S16384.size a)
theorem k0_off101_inb : ∀ (v86 : BitVec 32) (v88 : BitVec 32) (v96 : BitVec 32) (v98 : BitVec 32) (v1027 : BitVec 32) (k0_hw45 : k0_chk45 v86 v88 v96 v98 v1027), ∀ (k0_h10 : k0_cond10 v86 v88 = 1#1), ∀ (k0_h12 : k0_cond12 v96 v98 = 1#1), ∀ (r : Fin 8), ∀ a, (k0_off101 v1027 (BitVec.ofNat 32 (16 * r.val))) a + S16.size a ≤ S16384.size a := fun v86 v88 v96 v98 v1027 k0_hw45 k0_h10 k0_h12 r => k0_hw45 k0_h10 k0_h12 r

def k0_off102 (k0_t4 : Fin k0_t4_loop.trips) (c0_i32_334 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c7_i32_332 : BitVec 32 := 7#32
  let v1033 : BitVec 32 := Scalar.addi v75 c7_i32_332
  let c128_i32_333 : BitVec 32 := 128#32
  let v1034 : BitVec 32 := Scalar.muli v1033 c128_i32_333
  let v1035 : BitVec 32 := Scalar.addi v1034 c0_i32_334
  let v1036 : Index := Scalar.indexCast v1035
  ![v1036.toNat]
def k0_off103 (v1157 : BitVec 32) (c0_i32_371 : BitVec 32) : Fin 1 → Nat :=
  let c128_i32_370 : BitVec 32 := 128#32
  let v1158 : BitVec 32 := Scalar.muli v1157 c128_i32_370
  let v1159 : BitVec 32 := Scalar.addi v1158 c0_i32_371
  let v1160 : Index := Scalar.indexCast v1159
  ![v1160.toNat]

def k0_chk46 (v86 : BitVec 32) (v88 : BitVec 32) (v96 : BitVec 32) (v98 : BitVec 32) (v1157 : BitVec 32) : Prop :=
  (∀ (k0_h10 : k0_cond10 v86 v88 = 1#1), ∀ (k0_h12 : k0_cond12 v96 v98 = 1#1), ∀ (r : Fin 8), ∀ a, (k0_off103 v1157 (BitVec.ofNat 32 (16 * r.val))) a + S16.size a ≤ S16384.size a)
theorem k0_off103_inb : ∀ (v86 : BitVec 32) (v88 : BitVec 32) (v96 : BitVec 32) (v98 : BitVec 32) (v1157 : BitVec 32) (k0_hw46 : k0_chk46 v86 v88 v96 v98 v1157), ∀ (k0_h10 : k0_cond10 v86 v88 = 1#1), ∀ (k0_h12 : k0_cond12 v96 v98 = 1#1), ∀ (r : Fin 8), ∀ a, (k0_off103 v1157 (BitVec.ofNat 32 (16 * r.val))) a + S16.size a ≤ S16384.size a := fun v86 v88 v96 v98 v1157 k0_hw46 k0_h10 k0_h12 r => k0_hw46 k0_h10 k0_h12 r

def k0_off104 (k0_t4 : Fin k0_t4_loop.trips) (c0_i32_374 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c8_i32_372 : BitVec 32 := 8#32
  let v1163 : BitVec 32 := Scalar.addi v75 c8_i32_372
  let c128_i32_373 : BitVec 32 := 128#32
  let v1164 : BitVec 32 := Scalar.muli v1163 c128_i32_373
  let v1165 : BitVec 32 := Scalar.addi v1164 c0_i32_374
  let v1166 : Index := Scalar.indexCast v1165
  ![v1166.toNat]
def k0_off105 (v1287 : BitVec 32) (c0_i32_411 : BitVec 32) : Fin 1 → Nat :=
  let c128_i32_410 : BitVec 32 := 128#32
  let v1288 : BitVec 32 := Scalar.muli v1287 c128_i32_410
  let v1289 : BitVec 32 := Scalar.addi v1288 c0_i32_411
  let v1290 : Index := Scalar.indexCast v1289
  ![v1290.toNat]

def k0_chk47 (v86 : BitVec 32) (v88 : BitVec 32) (v96 : BitVec 32) (v98 : BitVec 32) (v1287 : BitVec 32) : Prop :=
  (∀ (k0_h10 : k0_cond10 v86 v88 = 1#1), ∀ (k0_h12 : k0_cond12 v96 v98 = 1#1), ∀ (r : Fin 8), ∀ a, (k0_off105 v1287 (BitVec.ofNat 32 (16 * r.val))) a + S16.size a ≤ S16384.size a)
theorem k0_off105_inb : ∀ (v86 : BitVec 32) (v88 : BitVec 32) (v96 : BitVec 32) (v98 : BitVec 32) (v1287 : BitVec 32) (k0_hw47 : k0_chk47 v86 v88 v96 v98 v1287), ∀ (k0_h10 : k0_cond10 v86 v88 = 1#1), ∀ (k0_h12 : k0_cond12 v96 v98 = 1#1), ∀ (r : Fin 8), ∀ a, (k0_off105 v1287 (BitVec.ofNat 32 (16 * r.val))) a + S16.size a ≤ S16384.size a := fun v86 v88 v96 v98 v1287 k0_hw47 k0_h10 k0_h12 r => k0_hw47 k0_h10 k0_h12 r

def k0_off106 (k0_t4 : Fin k0_t4_loop.trips) (c0_i32_413 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c9_i32 : BitVec 32 := 9#32
  let v1293 : BitVec 32 := Scalar.addi v75 c9_i32
  let c128_i32_412 : BitVec 32 := 128#32
  let v1294 : BitVec 32 := Scalar.muli v1293 c128_i32_412
  let v1295 : BitVec 32 := Scalar.addi v1294 c0_i32_413
  let v1296 : Index := Scalar.indexCast v1295
  ![v1296.toNat]
def k0_off107 (v1417 : BitVec 32) (c0_i32_450 : BitVec 32) : Fin 1 → Nat :=
  let c128_i32_449 : BitVec 32 := 128#32
  let v1418 : BitVec 32 := Scalar.muli v1417 c128_i32_449
  let v1419 : BitVec 32 := Scalar.addi v1418 c0_i32_450
  let v1420 : Index := Scalar.indexCast v1419
  ![v1420.toNat]

def k0_chk48 (v86 : BitVec 32) (v88 : BitVec 32) (v96 : BitVec 32) (v98 : BitVec 32) (v1417 : BitVec 32) : Prop :=
  (∀ (k0_h10 : k0_cond10 v86 v88 = 1#1), ∀ (k0_h12 : k0_cond12 v96 v98 = 1#1), ∀ (r : Fin 8), ∀ a, (k0_off107 v1417 (BitVec.ofNat 32 (16 * r.val))) a + S16.size a ≤ S16384.size a)
theorem k0_off107_inb : ∀ (v86 : BitVec 32) (v88 : BitVec 32) (v96 : BitVec 32) (v98 : BitVec 32) (v1417 : BitVec 32) (k0_hw48 : k0_chk48 v86 v88 v96 v98 v1417), ∀ (k0_h10 : k0_cond10 v86 v88 = 1#1), ∀ (k0_h12 : k0_cond12 v96 v98 = 1#1), ∀ (r : Fin 8), ∀ a, (k0_off107 v1417 (BitVec.ofNat 32 (16 * r.val))) a + S16.size a ≤ S16384.size a := fun v86 v88 v96 v98 v1417 k0_hw48 k0_h10 k0_h12 r => k0_hw48 k0_h10 k0_h12 r

def k0_off108 (k0_t4 : Fin k0_t4_loop.trips) (c0_i32_452 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c10_i32 : BitVec 32 := 10#32
  let v1423 : BitVec 32 := Scalar.addi v75 c10_i32
  let c128_i32_451 : BitVec 32 := 128#32
  let v1424 : BitVec 32 := Scalar.muli v1423 c128_i32_451
  let v1425 : BitVec 32 := Scalar.addi v1424 c0_i32_452
  let v1426 : Index := Scalar.indexCast v1425
  ![v1426.toNat]
def k0_off109 (v1547 : BitVec 32) (c0_i32_489 : BitVec 32) : Fin 1 → Nat :=
  let c128_i32_488 : BitVec 32 := 128#32
  let v1548 : BitVec 32 := Scalar.muli v1547 c128_i32_488
  let v1549 : BitVec 32 := Scalar.addi v1548 c0_i32_489
  let v1550 : Index := Scalar.indexCast v1549
  ![v1550.toNat]

def k0_chk49 (v86 : BitVec 32) (v88 : BitVec 32) (v96 : BitVec 32) (v98 : BitVec 32) (v1547 : BitVec 32) : Prop :=
  (∀ (k0_h10 : k0_cond10 v86 v88 = 1#1), ∀ (k0_h12 : k0_cond12 v96 v98 = 1#1), ∀ (r : Fin 8), ∀ a, (k0_off109 v1547 (BitVec.ofNat 32 (16 * r.val))) a + S16.size a ≤ S16384.size a)
theorem k0_off109_inb : ∀ (v86 : BitVec 32) (v88 : BitVec 32) (v96 : BitVec 32) (v98 : BitVec 32) (v1547 : BitVec 32) (k0_hw49 : k0_chk49 v86 v88 v96 v98 v1547), ∀ (k0_h10 : k0_cond10 v86 v88 = 1#1), ∀ (k0_h12 : k0_cond12 v96 v98 = 1#1), ∀ (r : Fin 8), ∀ a, (k0_off109 v1547 (BitVec.ofNat 32 (16 * r.val))) a + S16.size a ≤ S16384.size a := fun v86 v88 v96 v98 v1547 k0_hw49 k0_h10 k0_h12 r => k0_hw49 k0_h10 k0_h12 r

def k0_off110 (k0_t4 : Fin k0_t4_loop.trips) (c0_i32_491 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c11_i32 : BitVec 32 := 11#32
  let v1553 : BitVec 32 := Scalar.addi v75 c11_i32
  let c128_i32_490 : BitVec 32 := 128#32
  let v1554 : BitVec 32 := Scalar.muli v1553 c128_i32_490
  let v1555 : BitVec 32 := Scalar.addi v1554 c0_i32_491
  let v1556 : Index := Scalar.indexCast v1555
  ![v1556.toNat]
def k0_off111 (v1677 : BitVec 32) (c0_i32_528 : BitVec 32) : Fin 1 → Nat :=
  let c128_i32_527 : BitVec 32 := 128#32
  let v1678 : BitVec 32 := Scalar.muli v1677 c128_i32_527
  let v1679 : BitVec 32 := Scalar.addi v1678 c0_i32_528
  let v1680 : Index := Scalar.indexCast v1679
  ![v1680.toNat]

def k0_chk50 (v86 : BitVec 32) (v88 : BitVec 32) (v96 : BitVec 32) (v98 : BitVec 32) (v1677 : BitVec 32) : Prop :=
  (∀ (k0_h10 : k0_cond10 v86 v88 = 1#1), ∀ (k0_h12 : k0_cond12 v96 v98 = 1#1), ∀ (r : Fin 8), ∀ a, (k0_off111 v1677 (BitVec.ofNat 32 (16 * r.val))) a + S16.size a ≤ S16384.size a)
theorem k0_off111_inb : ∀ (v86 : BitVec 32) (v88 : BitVec 32) (v96 : BitVec 32) (v98 : BitVec 32) (v1677 : BitVec 32) (k0_hw50 : k0_chk50 v86 v88 v96 v98 v1677), ∀ (k0_h10 : k0_cond10 v86 v88 = 1#1), ∀ (k0_h12 : k0_cond12 v96 v98 = 1#1), ∀ (r : Fin 8), ∀ a, (k0_off111 v1677 (BitVec.ofNat 32 (16 * r.val))) a + S16.size a ≤ S16384.size a := fun v86 v88 v96 v98 v1677 k0_hw50 k0_h10 k0_h12 r => k0_hw50 k0_h10 k0_h12 r

def k0_off112 (k0_t4 : Fin k0_t4_loop.trips) (c0_i32_530 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c12_i32 : BitVec 32 := 12#32
  let v1683 : BitVec 32 := Scalar.addi v75 c12_i32
  let c128_i32_529 : BitVec 32 := 128#32
  let v1684 : BitVec 32 := Scalar.muli v1683 c128_i32_529
  let v1685 : BitVec 32 := Scalar.addi v1684 c0_i32_530
  let v1686 : Index := Scalar.indexCast v1685
  ![v1686.toNat]
def k0_off113 (v1807 : BitVec 32) (c0_i32_567 : BitVec 32) : Fin 1 → Nat :=
  let c128_i32_566 : BitVec 32 := 128#32
  let v1808 : BitVec 32 := Scalar.muli v1807 c128_i32_566
  let v1809 : BitVec 32 := Scalar.addi v1808 c0_i32_567
  let v1810 : Index := Scalar.indexCast v1809
  ![v1810.toNat]

def k0_chk51 (v86 : BitVec 32) (v88 : BitVec 32) (v96 : BitVec 32) (v98 : BitVec 32) (v1807 : BitVec 32) : Prop :=
  (∀ (k0_h10 : k0_cond10 v86 v88 = 1#1), ∀ (k0_h12 : k0_cond12 v96 v98 = 1#1), ∀ (r : Fin 8), ∀ a, (k0_off113 v1807 (BitVec.ofNat 32 (16 * r.val))) a + S16.size a ≤ S16384.size a)
theorem k0_off113_inb : ∀ (v86 : BitVec 32) (v88 : BitVec 32) (v96 : BitVec 32) (v98 : BitVec 32) (v1807 : BitVec 32) (k0_hw51 : k0_chk51 v86 v88 v96 v98 v1807), ∀ (k0_h10 : k0_cond10 v86 v88 = 1#1), ∀ (k0_h12 : k0_cond12 v96 v98 = 1#1), ∀ (r : Fin 8), ∀ a, (k0_off113 v1807 (BitVec.ofNat 32 (16 * r.val))) a + S16.size a ≤ S16384.size a := fun v86 v88 v96 v98 v1807 k0_hw51 k0_h10 k0_h12 r => k0_hw51 k0_h10 k0_h12 r

def k0_off114 (k0_t4 : Fin k0_t4_loop.trips) (c0_i32_569 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c13_i32 : BitVec 32 := 13#32
  let v1813 : BitVec 32 := Scalar.addi v75 c13_i32
  let c128_i32_568 : BitVec 32 := 128#32
  let v1814 : BitVec 32 := Scalar.muli v1813 c128_i32_568
  let v1815 : BitVec 32 := Scalar.addi v1814 c0_i32_569
  let v1816 : Index := Scalar.indexCast v1815
  ![v1816.toNat]
def k0_off115 (v1937 : BitVec 32) (c0_i32_606 : BitVec 32) : Fin 1 → Nat :=
  let c128_i32_605 : BitVec 32 := 128#32
  let v1938 : BitVec 32 := Scalar.muli v1937 c128_i32_605
  let v1939 : BitVec 32 := Scalar.addi v1938 c0_i32_606
  let v1940 : Index := Scalar.indexCast v1939
  ![v1940.toNat]

def k0_chk52 (v86 : BitVec 32) (v88 : BitVec 32) (v96 : BitVec 32) (v98 : BitVec 32) (v1937 : BitVec 32) : Prop :=
  (∀ (k0_h10 : k0_cond10 v86 v88 = 1#1), ∀ (k0_h12 : k0_cond12 v96 v98 = 1#1), ∀ (r : Fin 8), ∀ a, (k0_off115 v1937 (BitVec.ofNat 32 (16 * r.val))) a + S16.size a ≤ S16384.size a)
theorem k0_off115_inb : ∀ (v86 : BitVec 32) (v88 : BitVec 32) (v96 : BitVec 32) (v98 : BitVec 32) (v1937 : BitVec 32) (k0_hw52 : k0_chk52 v86 v88 v96 v98 v1937), ∀ (k0_h10 : k0_cond10 v86 v88 = 1#1), ∀ (k0_h12 : k0_cond12 v96 v98 = 1#1), ∀ (r : Fin 8), ∀ a, (k0_off115 v1937 (BitVec.ofNat 32 (16 * r.val))) a + S16.size a ≤ S16384.size a := fun v86 v88 v96 v98 v1937 k0_hw52 k0_h10 k0_h12 r => k0_hw52 k0_h10 k0_h12 r

def k0_off116 (k0_t4 : Fin k0_t4_loop.trips) (c0_i32_609 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c14_i32_607 : BitVec 32 := 14#32
  let v1943 : BitVec 32 := Scalar.addi v75 c14_i32_607
  let c128_i32_608 : BitVec 32 := 128#32
  let v1944 : BitVec 32 := Scalar.muli v1943 c128_i32_608
  let v1945 : BitVec 32 := Scalar.addi v1944 c0_i32_609
  let v1946 : Index := Scalar.indexCast v1945
  ![v1946.toNat]
def k0_off117 (v2067 : BitVec 32) (c0_i32_646 : BitVec 32) : Fin 1 → Nat :=
  let c128_i32_645 : BitVec 32 := 128#32
  let v2068 : BitVec 32 := Scalar.muli v2067 c128_i32_645
  let v2069 : BitVec 32 := Scalar.addi v2068 c0_i32_646
  let v2070 : Index := Scalar.indexCast v2069
  ![v2070.toNat]

def k0_chk53 (v86 : BitVec 32) (v88 : BitVec 32) (v96 : BitVec 32) (v98 : BitVec 32) (v2067 : BitVec 32) : Prop :=
  (∀ (k0_h10 : k0_cond10 v86 v88 = 1#1), ∀ (k0_h12 : k0_cond12 v96 v98 = 1#1), ∀ (r : Fin 8), ∀ a, (k0_off117 v2067 (BitVec.ofNat 32 (16 * r.val))) a + S16.size a ≤ S16384.size a)
theorem k0_off117_inb : ∀ (v86 : BitVec 32) (v88 : BitVec 32) (v96 : BitVec 32) (v98 : BitVec 32) (v2067 : BitVec 32) (k0_hw53 : k0_chk53 v86 v88 v96 v98 v2067), ∀ (k0_h10 : k0_cond10 v86 v88 = 1#1), ∀ (k0_h12 : k0_cond12 v96 v98 = 1#1), ∀ (r : Fin 8), ∀ a, (k0_off117 v2067 (BitVec.ofNat 32 (16 * r.val))) a + S16.size a ≤ S16384.size a := fun v86 v88 v96 v98 v2067 k0_hw53 k0_h10 k0_h12 r => k0_hw53 k0_h10 k0_h12 r

def k0_off118 (k0_t4 : Fin k0_t4_loop.trips) (c0_i32_648 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c15_i32 : BitVec 32 := 15#32
  let v2073 : BitVec 32 := Scalar.addi v75 c15_i32
  let c128_i32_647 : BitVec 32 := 128#32
  let v2074 : BitVec 32 := Scalar.muli v2073 c128_i32_647
  let v2075 : BitVec 32 := Scalar.addi v2074 c0_i32_648
  let v2076 : Index := Scalar.indexCast v2075
  ![v2076.toNat]
def k0_off119 (k0_t4 : Fin k0_t4_loop.trips) (c0_i32_58 : BitVec 32) (c0_i32_60 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let v116 : BitVec 32 := Scalar.addi v105 c0_i32_58
  let c128_i32_59 : BitVec 32 := 128#32
  let v117 : BitVec 32 := Scalar.muli v116 c128_i32_59
  let v118 : BitVec 32 := Scalar.addi v117 c0_i32_60
  let v119 : Index := Scalar.indexCast v118
  ![v119.toNat]
def k0_off120 (v107 : BitVec 32) (c0_i32_99 : BitVec 32) : Fin 1 → Nat :=
  let c128_i32_98 : BitVec 32 := 128#32
  let v227 : BitVec 32 := Scalar.muli v107 c128_i32_98
  let v228 : BitVec 32 := Scalar.addi v227 c0_i32_99
  let v229 : Index := Scalar.indexCast v228
  ![v229.toNat]
def k0_cond13 (v107 : BitVec 32) (v109 : BitVec 32) : BitVec 1 :=
  let v110 : BitVec 1 := Scalar.cmpi .eq v107 v109
  let v111 : BitVec 32 := Scalar.extui v110
  let c0_i32_55 : BitVec 32 := 0#32
  let v112 : BitVec 1 := Scalar.cmpi .ne v111 c0_i32_55
  v112

def k0_chk54 (v86 : BitVec 32) (v88 : BitVec 32) (v107 : BitVec 32) (v109 : BitVec 32) : Prop :=
  (∀ (k0_h10 : k0_cond10 v86 v88 = 1#1), ∀ (k0_h13 : k0_cond13 v107 v109 = 1#1), ∀ (r : Fin 8), ∀ a, (k0_off120 v107 (BitVec.ofNat 32 (16 * r.val))) a + S16.size a ≤ S16384.size a)
theorem k0_off120_inb : ∀ (v86 : BitVec 32) (v88 : BitVec 32) (v107 : BitVec 32) (v109 : BitVec 32) (k0_hw54 : k0_chk54 v86 v88 v107 v109), ∀ (k0_h10 : k0_cond10 v86 v88 = 1#1), ∀ (k0_h13 : k0_cond13 v107 v109 = 1#1), ∀ (r : Fin 8), ∀ a, (k0_off120 v107 (BitVec.ofNat 32 (16 * r.val))) a + S16.size a ≤ S16384.size a := fun v86 v88 v107 v109 k0_hw54 k0_h10 k0_h13 r => k0_hw54 k0_h10 k0_h13 r

def k0_off121 (v117 : BitVec 32) (c0_i32_59 : BitVec 32) : Fin 1 → Nat :=
  let c128_i32_58 : BitVec 32 := 128#32
  let v118 : BitVec 32 := Scalar.muli v117 c128_i32_58
  let v119 : BitVec 32 := Scalar.addi v118 c0_i32_59
  let v120 : Index := Scalar.indexCast v119
  ![v120.toNat]
def k0_cond14 (v107 : BitVec 32) (v109 : BitVec 32) : BitVec 1 :=
  let v110 : BitVec 1 := Scalar.cmpi .eq v107 v109
  let true_56 : BitVec 1 := 1#1
  let v113 : BitVec 1 := Scalar.xori v110 true_56
  let v114 : BitVec 32 := Scalar.extui v113
  let c0_i32_57 : BitVec 32 := 0#32
  let v115 : BitVec 1 := Scalar.cmpi .ne v114 c0_i32_57
  v115

def k0_chk55 (v86 : BitVec 32) (v88 : BitVec 32) (v107 : BitVec 32) (v109 : BitVec 32) (v117 : BitVec 32) : Prop :=
  (∀ (k0_h10 : k0_cond10 v86 v88 = 1#1), ∀ (k0_h14 : k0_cond14 v107 v109 = 1#1), ∀ (r : Fin 8), ∀ a, (k0_off121 v117 (BitVec.ofNat 32 (16 * r.val))) a + S16.size a ≤ S16384.size a)
theorem k0_off121_inb : ∀ (v86 : BitVec 32) (v88 : BitVec 32) (v107 : BitVec 32) (v109 : BitVec 32) (v117 : BitVec 32) (k0_hw55 : k0_chk55 v86 v88 v107 v109 v117), ∀ (k0_h10 : k0_cond10 v86 v88 = 1#1), ∀ (k0_h14 : k0_cond14 v107 v109 = 1#1), ∀ (r : Fin 8), ∀ a, (k0_off121 v117 (BitVec.ofNat 32 (16 * r.val))) a + S16.size a ≤ S16384.size a := fun v86 v88 v107 v109 v117 k0_hw55 k0_h10 k0_h14 r => k0_hw55 k0_h10 k0_h14 r

def k0_off122 (k0_t4 : Fin k0_t4_loop.trips) (c0_i32_62 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c0_i32_60 : BitVec 32 := 0#32
  let v123 : BitVec 32 := Scalar.addi v105 c0_i32_60
  let c128_i32_61 : BitVec 32 := 128#32
  let v124 : BitVec 32 := Scalar.muli v123 c128_i32_61
  let v125 : BitVec 32 := Scalar.addi v124 c0_i32_62
  let v126 : Index := Scalar.indexCast v125
  ![v126.toNat]
def k0_off123 (v247 : BitVec 32) (c0_i32_93 : BitVec 32) : Fin 1 → Nat :=
  let c128_i32_92 : BitVec 32 := 128#32
  let v248 : BitVec 32 := Scalar.muli v247 c128_i32_92
  let v249 : BitVec 32 := Scalar.addi v248 c0_i32_93
  let v250 : Index := Scalar.indexCast v249
  ![v250.toNat]

def k0_chk56 (v86 : BitVec 32) (v88 : BitVec 32) (v107 : BitVec 32) (v109 : BitVec 32) (v247 : BitVec 32) : Prop :=
  (∀ (k0_h10 : k0_cond10 v86 v88 = 1#1), ∀ (k0_h14 : k0_cond14 v107 v109 = 1#1), ∀ (r : Fin 8), ∀ a, (k0_off123 v247 (BitVec.ofNat 32 (16 * r.val))) a + S16.size a ≤ S16384.size a)
theorem k0_off123_inb : ∀ (v86 : BitVec 32) (v88 : BitVec 32) (v107 : BitVec 32) (v109 : BitVec 32) (v247 : BitVec 32) (k0_hw56 : k0_chk56 v86 v88 v107 v109 v247), ∀ (k0_h10 : k0_cond10 v86 v88 = 1#1), ∀ (k0_h14 : k0_cond14 v107 v109 = 1#1), ∀ (r : Fin 8), ∀ a, (k0_off123 v247 (BitVec.ofNat 32 (16 * r.val))) a + S16.size a ≤ S16384.size a := fun v86 v88 v107 v109 v247 k0_hw56 k0_h10 k0_h14 r => k0_hw56 k0_h10 k0_h14 r

def k0_off124 (k0_t4 : Fin k0_t4_loop.trips) (c0_i32_96 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c1_i32_94 : BitVec 32 := 1#32
  let v253 : BitVec 32 := Scalar.addi v105 c1_i32_94
  let c128_i32_95 : BitVec 32 := 128#32
  let v254 : BitVec 32 := Scalar.muli v253 c128_i32_95
  let v255 : BitVec 32 := Scalar.addi v254 c0_i32_96
  let v256 : Index := Scalar.indexCast v255
  ![v256.toNat]
def k0_off125 (v377 : BitVec 32) (c0_i32_133 : BitVec 32) : Fin 1 → Nat :=
  let c128_i32_132 : BitVec 32 := 128#32
  let v378 : BitVec 32 := Scalar.muli v377 c128_i32_132
  let v379 : BitVec 32 := Scalar.addi v378 c0_i32_133
  let v380 : Index := Scalar.indexCast v379
  ![v380.toNat]

def k0_chk57 (v86 : BitVec 32) (v88 : BitVec 32) (v107 : BitVec 32) (v109 : BitVec 32) (v377 : BitVec 32) : Prop :=
  (∀ (k0_h10 : k0_cond10 v86 v88 = 1#1), ∀ (k0_h14 : k0_cond14 v107 v109 = 1#1), ∀ (r : Fin 8), ∀ a, (k0_off125 v377 (BitVec.ofNat 32 (16 * r.val))) a + S16.size a ≤ S16384.size a)
theorem k0_off125_inb : ∀ (v86 : BitVec 32) (v88 : BitVec 32) (v107 : BitVec 32) (v109 : BitVec 32) (v377 : BitVec 32) (k0_hw57 : k0_chk57 v86 v88 v107 v109 v377), ∀ (k0_h10 : k0_cond10 v86 v88 = 1#1), ∀ (k0_h14 : k0_cond14 v107 v109 = 1#1), ∀ (r : Fin 8), ∀ a, (k0_off125 v377 (BitVec.ofNat 32 (16 * r.val))) a + S16.size a ≤ S16384.size a := fun v86 v88 v107 v109 v377 k0_hw57 k0_h10 k0_h14 r => k0_hw57 k0_h10 k0_h14 r

def k0_off126 (k0_t4 : Fin k0_t4_loop.trips) (c0_i32_136 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c2_i32_134 : BitVec 32 := 2#32
  let v383 : BitVec 32 := Scalar.addi v105 c2_i32_134
  let c128_i32_135 : BitVec 32 := 128#32
  let v384 : BitVec 32 := Scalar.muli v383 c128_i32_135
  let v385 : BitVec 32 := Scalar.addi v384 c0_i32_136
  let v386 : Index := Scalar.indexCast v385
  ![v386.toNat]
def k0_off127 (v507 : BitVec 32) (c0_i32_173 : BitVec 32) : Fin 1 → Nat :=
  let c128_i32_172 : BitVec 32 := 128#32
  let v508 : BitVec 32 := Scalar.muli v507 c128_i32_172
  let v509 : BitVec 32 := Scalar.addi v508 c0_i32_173
  let v510 : Index := Scalar.indexCast v509
  ![v510.toNat]

def k0_chk58 (v86 : BitVec 32) (v88 : BitVec 32) (v107 : BitVec 32) (v109 : BitVec 32) (v507 : BitVec 32) : Prop :=
  (∀ (k0_h10 : k0_cond10 v86 v88 = 1#1), ∀ (k0_h14 : k0_cond14 v107 v109 = 1#1), ∀ (r : Fin 8), ∀ a, (k0_off127 v507 (BitVec.ofNat 32 (16 * r.val))) a + S16.size a ≤ S16384.size a)
theorem k0_off127_inb : ∀ (v86 : BitVec 32) (v88 : BitVec 32) (v107 : BitVec 32) (v109 : BitVec 32) (v507 : BitVec 32) (k0_hw58 : k0_chk58 v86 v88 v107 v109 v507), ∀ (k0_h10 : k0_cond10 v86 v88 = 1#1), ∀ (k0_h14 : k0_cond14 v107 v109 = 1#1), ∀ (r : Fin 8), ∀ a, (k0_off127 v507 (BitVec.ofNat 32 (16 * r.val))) a + S16.size a ≤ S16384.size a := fun v86 v88 v107 v109 v507 k0_hw58 k0_h10 k0_h14 r => k0_hw58 k0_h10 k0_h14 r

def k0_off128 (k0_t4 : Fin k0_t4_loop.trips) (c0_i32_176 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c3_i32_174 : BitVec 32 := 3#32
  let v513 : BitVec 32 := Scalar.addi v105 c3_i32_174
  let c128_i32_175 : BitVec 32 := 128#32
  let v514 : BitVec 32 := Scalar.muli v513 c128_i32_175
  let v515 : BitVec 32 := Scalar.addi v514 c0_i32_176
  let v516 : Index := Scalar.indexCast v515
  ![v516.toNat]
def k0_off129 (v637 : BitVec 32) (c0_i32_213 : BitVec 32) : Fin 1 → Nat :=
  let c128_i32_212 : BitVec 32 := 128#32
  let v638 : BitVec 32 := Scalar.muli v637 c128_i32_212
  let v639 : BitVec 32 := Scalar.addi v638 c0_i32_213
  let v640 : Index := Scalar.indexCast v639
  ![v640.toNat]

def k0_chk59 (v86 : BitVec 32) (v88 : BitVec 32) (v107 : BitVec 32) (v109 : BitVec 32) (v637 : BitVec 32) : Prop :=
  (∀ (k0_h10 : k0_cond10 v86 v88 = 1#1), ∀ (k0_h14 : k0_cond14 v107 v109 = 1#1), ∀ (r : Fin 8), ∀ a, (k0_off129 v637 (BitVec.ofNat 32 (16 * r.val))) a + S16.size a ≤ S16384.size a)
theorem k0_off129_inb : ∀ (v86 : BitVec 32) (v88 : BitVec 32) (v107 : BitVec 32) (v109 : BitVec 32) (v637 : BitVec 32) (k0_hw59 : k0_chk59 v86 v88 v107 v109 v637), ∀ (k0_h10 : k0_cond10 v86 v88 = 1#1), ∀ (k0_h14 : k0_cond14 v107 v109 = 1#1), ∀ (r : Fin 8), ∀ a, (k0_off129 v637 (BitVec.ofNat 32 (16 * r.val))) a + S16.size a ≤ S16384.size a := fun v86 v88 v107 v109 v637 k0_hw59 k0_h10 k0_h14 r => k0_hw59 k0_h10 k0_h14 r

def k0_off130 (k0_t4 : Fin k0_t4_loop.trips) (c0_i32_215 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c4_i32 : BitVec 32 := 4#32
  let v643 : BitVec 32 := Scalar.addi v105 c4_i32
  let c128_i32_214 : BitVec 32 := 128#32
  let v644 : BitVec 32 := Scalar.muli v643 c128_i32_214
  let v645 : BitVec 32 := Scalar.addi v644 c0_i32_215
  let v646 : Index := Scalar.indexCast v645
  ![v646.toNat]
def k0_off131 (v767 : BitVec 32) (c0_i32_252 : BitVec 32) : Fin 1 → Nat :=
  let c128_i32_251 : BitVec 32 := 128#32
  let v768 : BitVec 32 := Scalar.muli v767 c128_i32_251
  let v769 : BitVec 32 := Scalar.addi v768 c0_i32_252
  let v770 : Index := Scalar.indexCast v769
  ![v770.toNat]

def k0_chk60 (v86 : BitVec 32) (v88 : BitVec 32) (v107 : BitVec 32) (v109 : BitVec 32) (v767 : BitVec 32) : Prop :=
  (∀ (k0_h10 : k0_cond10 v86 v88 = 1#1), ∀ (k0_h14 : k0_cond14 v107 v109 = 1#1), ∀ (r : Fin 8), ∀ a, (k0_off131 v767 (BitVec.ofNat 32 (16 * r.val))) a + S16.size a ≤ S16384.size a)
theorem k0_off131_inb : ∀ (v86 : BitVec 32) (v88 : BitVec 32) (v107 : BitVec 32) (v109 : BitVec 32) (v767 : BitVec 32) (k0_hw60 : k0_chk60 v86 v88 v107 v109 v767), ∀ (k0_h10 : k0_cond10 v86 v88 = 1#1), ∀ (k0_h14 : k0_cond14 v107 v109 = 1#1), ∀ (r : Fin 8), ∀ a, (k0_off131 v767 (BitVec.ofNat 32 (16 * r.val))) a + S16.size a ≤ S16384.size a := fun v86 v88 v107 v109 v767 k0_hw60 k0_h10 k0_h14 r => k0_hw60 k0_h10 k0_h14 r

def k0_off132 (k0_t4 : Fin k0_t4_loop.trips) (c0_i32_254 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c5_i32 : BitVec 32 := 5#32
  let v773 : BitVec 32 := Scalar.addi v105 c5_i32
  let c128_i32_253 : BitVec 32 := 128#32
  let v774 : BitVec 32 := Scalar.muli v773 c128_i32_253
  let v775 : BitVec 32 := Scalar.addi v774 c0_i32_254
  let v776 : Index := Scalar.indexCast v775
  ![v776.toNat]
def k0_off133 (v897 : BitVec 32) (c0_i32_291 : BitVec 32) : Fin 1 → Nat :=
  let c128_i32_290 : BitVec 32 := 128#32
  let v898 : BitVec 32 := Scalar.muli v897 c128_i32_290
  let v899 : BitVec 32 := Scalar.addi v898 c0_i32_291
  let v900 : Index := Scalar.indexCast v899
  ![v900.toNat]

def k0_chk61 (v86 : BitVec 32) (v88 : BitVec 32) (v107 : BitVec 32) (v109 : BitVec 32) (v897 : BitVec 32) : Prop :=
  (∀ (k0_h10 : k0_cond10 v86 v88 = 1#1), ∀ (k0_h14 : k0_cond14 v107 v109 = 1#1), ∀ (r : Fin 8), ∀ a, (k0_off133 v897 (BitVec.ofNat 32 (16 * r.val))) a + S16.size a ≤ S16384.size a)
theorem k0_off133_inb : ∀ (v86 : BitVec 32) (v88 : BitVec 32) (v107 : BitVec 32) (v109 : BitVec 32) (v897 : BitVec 32) (k0_hw61 : k0_chk61 v86 v88 v107 v109 v897), ∀ (k0_h10 : k0_cond10 v86 v88 = 1#1), ∀ (k0_h14 : k0_cond14 v107 v109 = 1#1), ∀ (r : Fin 8), ∀ a, (k0_off133 v897 (BitVec.ofNat 32 (16 * r.val))) a + S16.size a ≤ S16384.size a := fun v86 v88 v107 v109 v897 k0_hw61 k0_h10 k0_h14 r => k0_hw61 k0_h10 k0_h14 r

def k0_off134 (k0_t4 : Fin k0_t4_loop.trips) (c0_i32_294 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c6_i32_292 : BitVec 32 := 6#32
  let v903 : BitVec 32 := Scalar.addi v105 c6_i32_292
  let c128_i32_293 : BitVec 32 := 128#32
  let v904 : BitVec 32 := Scalar.muli v903 c128_i32_293
  let v905 : BitVec 32 := Scalar.addi v904 c0_i32_294
  let v906 : Index := Scalar.indexCast v905
  ![v906.toNat]
def k0_off135 (v1027 : BitVec 32) (c0_i32_331 : BitVec 32) : Fin 1 → Nat :=
  let c128_i32_330 : BitVec 32 := 128#32
  let v1028 : BitVec 32 := Scalar.muli v1027 c128_i32_330
  let v1029 : BitVec 32 := Scalar.addi v1028 c0_i32_331
  let v1030 : Index := Scalar.indexCast v1029
  ![v1030.toNat]

def k0_chk62 (v86 : BitVec 32) (v88 : BitVec 32) (v107 : BitVec 32) (v109 : BitVec 32) (v1027 : BitVec 32) : Prop :=
  (∀ (k0_h10 : k0_cond10 v86 v88 = 1#1), ∀ (k0_h14 : k0_cond14 v107 v109 = 1#1), ∀ (r : Fin 8), ∀ a, (k0_off135 v1027 (BitVec.ofNat 32 (16 * r.val))) a + S16.size a ≤ S16384.size a)
theorem k0_off135_inb : ∀ (v86 : BitVec 32) (v88 : BitVec 32) (v107 : BitVec 32) (v109 : BitVec 32) (v1027 : BitVec 32) (k0_hw62 : k0_chk62 v86 v88 v107 v109 v1027), ∀ (k0_h10 : k0_cond10 v86 v88 = 1#1), ∀ (k0_h14 : k0_cond14 v107 v109 = 1#1), ∀ (r : Fin 8), ∀ a, (k0_off135 v1027 (BitVec.ofNat 32 (16 * r.val))) a + S16.size a ≤ S16384.size a := fun v86 v88 v107 v109 v1027 k0_hw62 k0_h10 k0_h14 r => k0_hw62 k0_h10 k0_h14 r

def k0_off136 (k0_t4 : Fin k0_t4_loop.trips) (c0_i32_334 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c7_i32_332 : BitVec 32 := 7#32
  let v1033 : BitVec 32 := Scalar.addi v105 c7_i32_332
  let c128_i32_333 : BitVec 32 := 128#32
  let v1034 : BitVec 32 := Scalar.muli v1033 c128_i32_333
  let v1035 : BitVec 32 := Scalar.addi v1034 c0_i32_334
  let v1036 : Index := Scalar.indexCast v1035
  ![v1036.toNat]
def k0_off137 (v1157 : BitVec 32) (c0_i32_371 : BitVec 32) : Fin 1 → Nat :=
  let c128_i32_370 : BitVec 32 := 128#32
  let v1158 : BitVec 32 := Scalar.muli v1157 c128_i32_370
  let v1159 : BitVec 32 := Scalar.addi v1158 c0_i32_371
  let v1160 : Index := Scalar.indexCast v1159
  ![v1160.toNat]

def k0_chk63 (v86 : BitVec 32) (v88 : BitVec 32) (v107 : BitVec 32) (v109 : BitVec 32) (v1157 : BitVec 32) : Prop :=
  (∀ (k0_h10 : k0_cond10 v86 v88 = 1#1), ∀ (k0_h14 : k0_cond14 v107 v109 = 1#1), ∀ (r : Fin 8), ∀ a, (k0_off137 v1157 (BitVec.ofNat 32 (16 * r.val))) a + S16.size a ≤ S16384.size a)
theorem k0_off137_inb : ∀ (v86 : BitVec 32) (v88 : BitVec 32) (v107 : BitVec 32) (v109 : BitVec 32) (v1157 : BitVec 32) (k0_hw63 : k0_chk63 v86 v88 v107 v109 v1157), ∀ (k0_h10 : k0_cond10 v86 v88 = 1#1), ∀ (k0_h14 : k0_cond14 v107 v109 = 1#1), ∀ (r : Fin 8), ∀ a, (k0_off137 v1157 (BitVec.ofNat 32 (16 * r.val))) a + S16.size a ≤ S16384.size a := fun v86 v88 v107 v109 v1157 k0_hw63 k0_h10 k0_h14 r => k0_hw63 k0_h10 k0_h14 r

def k0_off138 (k0_t4 : Fin k0_t4_loop.trips) (c0_i32_374 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c8_i32_372 : BitVec 32 := 8#32
  let v1163 : BitVec 32 := Scalar.addi v105 c8_i32_372
  let c128_i32_373 : BitVec 32 := 128#32
  let v1164 : BitVec 32 := Scalar.muli v1163 c128_i32_373
  let v1165 : BitVec 32 := Scalar.addi v1164 c0_i32_374
  let v1166 : Index := Scalar.indexCast v1165
  ![v1166.toNat]
def k0_off139 (v1287 : BitVec 32) (c0_i32_411 : BitVec 32) : Fin 1 → Nat :=
  let c128_i32_410 : BitVec 32 := 128#32
  let v1288 : BitVec 32 := Scalar.muli v1287 c128_i32_410
  let v1289 : BitVec 32 := Scalar.addi v1288 c0_i32_411
  let v1290 : Index := Scalar.indexCast v1289
  ![v1290.toNat]

def k0_chk64 (v86 : BitVec 32) (v88 : BitVec 32) (v107 : BitVec 32) (v109 : BitVec 32) (v1287 : BitVec 32) : Prop :=
  (∀ (k0_h10 : k0_cond10 v86 v88 = 1#1), ∀ (k0_h14 : k0_cond14 v107 v109 = 1#1), ∀ (r : Fin 8), ∀ a, (k0_off139 v1287 (BitVec.ofNat 32 (16 * r.val))) a + S16.size a ≤ S16384.size a)
theorem k0_off139_inb : ∀ (v86 : BitVec 32) (v88 : BitVec 32) (v107 : BitVec 32) (v109 : BitVec 32) (v1287 : BitVec 32) (k0_hw64 : k0_chk64 v86 v88 v107 v109 v1287), ∀ (k0_h10 : k0_cond10 v86 v88 = 1#1), ∀ (k0_h14 : k0_cond14 v107 v109 = 1#1), ∀ (r : Fin 8), ∀ a, (k0_off139 v1287 (BitVec.ofNat 32 (16 * r.val))) a + S16.size a ≤ S16384.size a := fun v86 v88 v107 v109 v1287 k0_hw64 k0_h10 k0_h14 r => k0_hw64 k0_h10 k0_h14 r

def k0_off140 (k0_t4 : Fin k0_t4_loop.trips) (c0_i32_413 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c9_i32 : BitVec 32 := 9#32
  let v1293 : BitVec 32 := Scalar.addi v105 c9_i32
  let c128_i32_412 : BitVec 32 := 128#32
  let v1294 : BitVec 32 := Scalar.muli v1293 c128_i32_412
  let v1295 : BitVec 32 := Scalar.addi v1294 c0_i32_413
  let v1296 : Index := Scalar.indexCast v1295
  ![v1296.toNat]
def k0_off141 (v1417 : BitVec 32) (c0_i32_450 : BitVec 32) : Fin 1 → Nat :=
  let c128_i32_449 : BitVec 32 := 128#32
  let v1418 : BitVec 32 := Scalar.muli v1417 c128_i32_449
  let v1419 : BitVec 32 := Scalar.addi v1418 c0_i32_450
  let v1420 : Index := Scalar.indexCast v1419
  ![v1420.toNat]

def k0_chk65 (v86 : BitVec 32) (v88 : BitVec 32) (v107 : BitVec 32) (v109 : BitVec 32) (v1417 : BitVec 32) : Prop :=
  (∀ (k0_h10 : k0_cond10 v86 v88 = 1#1), ∀ (k0_h14 : k0_cond14 v107 v109 = 1#1), ∀ (r : Fin 8), ∀ a, (k0_off141 v1417 (BitVec.ofNat 32 (16 * r.val))) a + S16.size a ≤ S16384.size a)
theorem k0_off141_inb : ∀ (v86 : BitVec 32) (v88 : BitVec 32) (v107 : BitVec 32) (v109 : BitVec 32) (v1417 : BitVec 32) (k0_hw65 : k0_chk65 v86 v88 v107 v109 v1417), ∀ (k0_h10 : k0_cond10 v86 v88 = 1#1), ∀ (k0_h14 : k0_cond14 v107 v109 = 1#1), ∀ (r : Fin 8), ∀ a, (k0_off141 v1417 (BitVec.ofNat 32 (16 * r.val))) a + S16.size a ≤ S16384.size a := fun v86 v88 v107 v109 v1417 k0_hw65 k0_h10 k0_h14 r => k0_hw65 k0_h10 k0_h14 r

def k0_off142 (k0_t4 : Fin k0_t4_loop.trips) (c0_i32_452 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c10_i32 : BitVec 32 := 10#32
  let v1423 : BitVec 32 := Scalar.addi v105 c10_i32
  let c128_i32_451 : BitVec 32 := 128#32
  let v1424 : BitVec 32 := Scalar.muli v1423 c128_i32_451
  let v1425 : BitVec 32 := Scalar.addi v1424 c0_i32_452
  let v1426 : Index := Scalar.indexCast v1425
  ![v1426.toNat]
def k0_off143 (v1547 : BitVec 32) (c0_i32_489 : BitVec 32) : Fin 1 → Nat :=
  let c128_i32_488 : BitVec 32 := 128#32
  let v1548 : BitVec 32 := Scalar.muli v1547 c128_i32_488
  let v1549 : BitVec 32 := Scalar.addi v1548 c0_i32_489
  let v1550 : Index := Scalar.indexCast v1549
  ![v1550.toNat]

def k0_chk66 (v86 : BitVec 32) (v88 : BitVec 32) (v107 : BitVec 32) (v109 : BitVec 32) (v1547 : BitVec 32) : Prop :=
  (∀ (k0_h10 : k0_cond10 v86 v88 = 1#1), ∀ (k0_h14 : k0_cond14 v107 v109 = 1#1), ∀ (r : Fin 8), ∀ a, (k0_off143 v1547 (BitVec.ofNat 32 (16 * r.val))) a + S16.size a ≤ S16384.size a)
theorem k0_off143_inb : ∀ (v86 : BitVec 32) (v88 : BitVec 32) (v107 : BitVec 32) (v109 : BitVec 32) (v1547 : BitVec 32) (k0_hw66 : k0_chk66 v86 v88 v107 v109 v1547), ∀ (k0_h10 : k0_cond10 v86 v88 = 1#1), ∀ (k0_h14 : k0_cond14 v107 v109 = 1#1), ∀ (r : Fin 8), ∀ a, (k0_off143 v1547 (BitVec.ofNat 32 (16 * r.val))) a + S16.size a ≤ S16384.size a := fun v86 v88 v107 v109 v1547 k0_hw66 k0_h10 k0_h14 r => k0_hw66 k0_h10 k0_h14 r

def k0_off144 (k0_t4 : Fin k0_t4_loop.trips) (c0_i32_491 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c11_i32 : BitVec 32 := 11#32
  let v1553 : BitVec 32 := Scalar.addi v105 c11_i32
  let c128_i32_490 : BitVec 32 := 128#32
  let v1554 : BitVec 32 := Scalar.muli v1553 c128_i32_490
  let v1555 : BitVec 32 := Scalar.addi v1554 c0_i32_491
  let v1556 : Index := Scalar.indexCast v1555
  ![v1556.toNat]
def k0_off145 (v1677 : BitVec 32) (c0_i32_528 : BitVec 32) : Fin 1 → Nat :=
  let c128_i32_527 : BitVec 32 := 128#32
  let v1678 : BitVec 32 := Scalar.muli v1677 c128_i32_527
  let v1679 : BitVec 32 := Scalar.addi v1678 c0_i32_528
  let v1680 : Index := Scalar.indexCast v1679
  ![v1680.toNat]

def k0_chk67 (v86 : BitVec 32) (v88 : BitVec 32) (v107 : BitVec 32) (v109 : BitVec 32) (v1677 : BitVec 32) : Prop :=
  (∀ (k0_h10 : k0_cond10 v86 v88 = 1#1), ∀ (k0_h14 : k0_cond14 v107 v109 = 1#1), ∀ (r : Fin 8), ∀ a, (k0_off145 v1677 (BitVec.ofNat 32 (16 * r.val))) a + S16.size a ≤ S16384.size a)
theorem k0_off145_inb : ∀ (v86 : BitVec 32) (v88 : BitVec 32) (v107 : BitVec 32) (v109 : BitVec 32) (v1677 : BitVec 32) (k0_hw67 : k0_chk67 v86 v88 v107 v109 v1677), ∀ (k0_h10 : k0_cond10 v86 v88 = 1#1), ∀ (k0_h14 : k0_cond14 v107 v109 = 1#1), ∀ (r : Fin 8), ∀ a, (k0_off145 v1677 (BitVec.ofNat 32 (16 * r.val))) a + S16.size a ≤ S16384.size a := fun v86 v88 v107 v109 v1677 k0_hw67 k0_h10 k0_h14 r => k0_hw67 k0_h10 k0_h14 r

def k0_off146 (k0_t4 : Fin k0_t4_loop.trips) (c0_i32_530 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c12_i32 : BitVec 32 := 12#32
  let v1683 : BitVec 32 := Scalar.addi v105 c12_i32
  let c128_i32_529 : BitVec 32 := 128#32
  let v1684 : BitVec 32 := Scalar.muli v1683 c128_i32_529
  let v1685 : BitVec 32 := Scalar.addi v1684 c0_i32_530
  let v1686 : Index := Scalar.indexCast v1685
  ![v1686.toNat]
def k0_off147 (v1807 : BitVec 32) (c0_i32_567 : BitVec 32) : Fin 1 → Nat :=
  let c128_i32_566 : BitVec 32 := 128#32
  let v1808 : BitVec 32 := Scalar.muli v1807 c128_i32_566
  let v1809 : BitVec 32 := Scalar.addi v1808 c0_i32_567
  let v1810 : Index := Scalar.indexCast v1809
  ![v1810.toNat]

def k0_chk68 (v86 : BitVec 32) (v88 : BitVec 32) (v107 : BitVec 32) (v109 : BitVec 32) (v1807 : BitVec 32) : Prop :=
  (∀ (k0_h10 : k0_cond10 v86 v88 = 1#1), ∀ (k0_h14 : k0_cond14 v107 v109 = 1#1), ∀ (r : Fin 8), ∀ a, (k0_off147 v1807 (BitVec.ofNat 32 (16 * r.val))) a + S16.size a ≤ S16384.size a)
theorem k0_off147_inb : ∀ (v86 : BitVec 32) (v88 : BitVec 32) (v107 : BitVec 32) (v109 : BitVec 32) (v1807 : BitVec 32) (k0_hw68 : k0_chk68 v86 v88 v107 v109 v1807), ∀ (k0_h10 : k0_cond10 v86 v88 = 1#1), ∀ (k0_h14 : k0_cond14 v107 v109 = 1#1), ∀ (r : Fin 8), ∀ a, (k0_off147 v1807 (BitVec.ofNat 32 (16 * r.val))) a + S16.size a ≤ S16384.size a := fun v86 v88 v107 v109 v1807 k0_hw68 k0_h10 k0_h14 r => k0_hw68 k0_h10 k0_h14 r

def k0_off148 (k0_t4 : Fin k0_t4_loop.trips) (c0_i32_569 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c13_i32 : BitVec 32 := 13#32
  let v1813 : BitVec 32 := Scalar.addi v105 c13_i32
  let c128_i32_568 : BitVec 32 := 128#32
  let v1814 : BitVec 32 := Scalar.muli v1813 c128_i32_568
  let v1815 : BitVec 32 := Scalar.addi v1814 c0_i32_569
  let v1816 : Index := Scalar.indexCast v1815
  ![v1816.toNat]
def k0_off149 (v1937 : BitVec 32) (c0_i32_606 : BitVec 32) : Fin 1 → Nat :=
  let c128_i32_605 : BitVec 32 := 128#32
  let v1938 : BitVec 32 := Scalar.muli v1937 c128_i32_605
  let v1939 : BitVec 32 := Scalar.addi v1938 c0_i32_606
  let v1940 : Index := Scalar.indexCast v1939
  ![v1940.toNat]

def k0_chk69 (v86 : BitVec 32) (v88 : BitVec 32) (v107 : BitVec 32) (v109 : BitVec 32) (v1937 : BitVec 32) : Prop :=
  (∀ (k0_h10 : k0_cond10 v86 v88 = 1#1), ∀ (k0_h14 : k0_cond14 v107 v109 = 1#1), ∀ (r : Fin 8), ∀ a, (k0_off149 v1937 (BitVec.ofNat 32 (16 * r.val))) a + S16.size a ≤ S16384.size a)
theorem k0_off149_inb : ∀ (v86 : BitVec 32) (v88 : BitVec 32) (v107 : BitVec 32) (v109 : BitVec 32) (v1937 : BitVec 32) (k0_hw69 : k0_chk69 v86 v88 v107 v109 v1937), ∀ (k0_h10 : k0_cond10 v86 v88 = 1#1), ∀ (k0_h14 : k0_cond14 v107 v109 = 1#1), ∀ (r : Fin 8), ∀ a, (k0_off149 v1937 (BitVec.ofNat 32 (16 * r.val))) a + S16.size a ≤ S16384.size a := fun v86 v88 v107 v109 v1937 k0_hw69 k0_h10 k0_h14 r => k0_hw69 k0_h10 k0_h14 r

def k0_off150 (k0_t4 : Fin k0_t4_loop.trips) (c0_i32_609 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c14_i32_607 : BitVec 32 := 14#32
  let v1943 : BitVec 32 := Scalar.addi v105 c14_i32_607
  let c128_i32_608 : BitVec 32 := 128#32
  let v1944 : BitVec 32 := Scalar.muli v1943 c128_i32_608
  let v1945 : BitVec 32 := Scalar.addi v1944 c0_i32_609
  let v1946 : Index := Scalar.indexCast v1945
  ![v1946.toNat]
def k0_off151 (v2067 : BitVec 32) (c0_i32_646 : BitVec 32) : Fin 1 → Nat :=
  let c128_i32_645 : BitVec 32 := 128#32
  let v2068 : BitVec 32 := Scalar.muli v2067 c128_i32_645
  let v2069 : BitVec 32 := Scalar.addi v2068 c0_i32_646
  let v2070 : Index := Scalar.indexCast v2069
  ![v2070.toNat]

def k0_chk70 (v86 : BitVec 32) (v88 : BitVec 32) (v107 : BitVec 32) (v109 : BitVec 32) (v2067 : BitVec 32) : Prop :=
  (∀ (k0_h10 : k0_cond10 v86 v88 = 1#1), ∀ (k0_h14 : k0_cond14 v107 v109 = 1#1), ∀ (r : Fin 8), ∀ a, (k0_off151 v2067 (BitVec.ofNat 32 (16 * r.val))) a + S16.size a ≤ S16384.size a)
theorem k0_off151_inb : ∀ (v86 : BitVec 32) (v88 : BitVec 32) (v107 : BitVec 32) (v109 : BitVec 32) (v2067 : BitVec 32) (k0_hw70 : k0_chk70 v86 v88 v107 v109 v2067), ∀ (k0_h10 : k0_cond10 v86 v88 = 1#1), ∀ (k0_h14 : k0_cond14 v107 v109 = 1#1), ∀ (r : Fin 8), ∀ a, (k0_off151 v2067 (BitVec.ofNat 32 (16 * r.val))) a + S16.size a ≤ S16384.size a := fun v86 v88 v107 v109 v2067 k0_hw70 k0_h10 k0_h14 r => k0_hw70 k0_h10 k0_h14 r

def k0_off152 (k0_t4 : Fin k0_t4_loop.trips) (c0_i32_648 : BitVec 32) : Fin 1 → Nat :=
  let c0_i32_42 : BitVec 32 := 0#32
  let c1_i32_44 : BitVec 32 := 1#32
  let arg13 : BitVec 32 := Scf.iv c0_i32_42 c1_i32_44 k0_t4
  let c2_i32_47 : BitVec 32 := 2#32
  let v74 : BitVec 32 := Scalar.muli arg13 c2_i32_47
  let c16_i32 : BitVec 32 := 16#32
  let v75 : BitVec 32 := Scalar.muli v74 c16_i32
  let c16_i32_54 : BitVec 32 := 16#32
  let v105 : BitVec 32 := Scalar.addi v75 c16_i32_54
  let c15_i32 : BitVec 32 := 15#32
  let v2073 : BitVec 32 := Scalar.addi v105 c15_i32
  let c128_i32_647 : BitVec 32 := 128#32
  let v2074 : BitVec 32 := Scalar.muli v2073 c128_i32_647
  let v2075 : BitVec 32 := Scalar.addi v2074 c0_i32_648
  let v2076 : Index := Scalar.indexCast v2075
  ![v2076.toNat]
@[reducible] def k0_t5_loop : Scf.Loop 32 :=
  let c0_i32_22 : BitVec 32 := 0#32
  let c14_i32 : BitVec 32 := 14#32
  let v48 : BitVec 32 := Scalar.addi c0_i32_22 c14_i32
  let c1_i32_23 : BitVec 32 := 1#32
  ⟨c0_i32_22, v48, c1_i32_23⟩
def k0_off153 (k0_t5 : Fin k0_t5_loop.trips) : Fin 1 → Nat :=
  let c0_i32_22 : BitVec 32 := 0#32
  let c1_i32_23 : BitVec 32 := 1#32
  let arg12 : BitVec 32 := Scf.iv c0_i32_22 c1_i32_23 k0_t5
  let c128_i32_27 : BitVec 32 := 128#32
  let v51 : BitVec 32 := Scalar.muli arg12 c128_i32_27
  let v52 : Index := Scalar.indexCast v51
  ![v52.toNat]
def k0_off154 (k0_t5 : Fin k0_t5_loop.trips) : Fin 1 → Nat :=
  let c0_i32_22 : BitVec 32 := 0#32
  let c1_i32_23 : BitVec 32 := 1#32
  let arg12 : BitVec 32 := Scf.iv c0_i32_22 c1_i32_23 k0_t5
  let c128_i32_27 : BitVec 32 := 128#32
  let v51 : BitVec 32 := Scalar.muli arg12 c128_i32_27
  let c128_i32_28 : BitVec 32 := 128#32
  let v57 : BitVec 32 := Scalar.addi v51 c128_i32_28
  let c16_i32 : BitVec 32 := 16#32
  let v58 : BitVec 32 := Scalar.subi v57 c16_i32
  let v59 : Index := Scalar.indexCast v58
  ![v59.toNat]
def k0_off155 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1792_i32 : BitVec 32 := 1792#32
  let v40 : BitVec 32 := Scalar.muli v1 c1792_i32
  let c0_i32_22 : BitVec 32 := 0#32
  let c1_i32_23 : BitVec 32 := 1#32
  let arg12 : BitVec 32 := Scf.iv c0_i32_22 c1_i32_23 k0_t5
  let c128_i32_27 : BitVec 32 := 128#32
  let v51 : BitVec 32 := Scalar.muli arg12 c128_i32_27
  let v67 : BitVec 32 := Scalar.addi v40 v51
  let c128_i32_30 : BitVec 32 := 128#32
  let v68 : BitVec 32 := Scalar.muli v67 c128_i32_30
  ![v68.toNat]
@[reducible] def k0_t6_loop : Scf.Loop 32 :=
  let c0_i32_32 : BitVec 32 := 0#32
  let c4_i32 : BitVec 32 := 4#32
  let v69 : BitVec 32 := Scalar.addi c0_i32_32 c4_i32
  let c1_i32_33 : BitVec 32 := 1#32
  ⟨c0_i32_32, v69, c1_i32_33⟩
def k0_off156 (k0_t5 : Fin k0_t5_loop.trips) (k0_t6 : Fin k0_t6_loop.trips) : Fin 1 → Nat :=
  let c0_i32_22 : BitVec 32 := 0#32
  let c1_i32_23 : BitVec 32 := 1#32
  let arg12 : BitVec 32 := Scf.iv c0_i32_22 c1_i32_23 k0_t5
  let c128_i32_27 : BitVec 32 := 128#32
  let v51 : BitVec 32 := Scalar.muli arg12 c128_i32_27
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let v72 : BitVec 32 := Scalar.addi v51 v71
  let v73 : Index := Scalar.indexCast v72
  ![v73.toNat]
def k0_off157 (k0_t5 : Fin k0_t5_loop.trips) (k0_t6 : Fin k0_t6_loop.trips) : Fin 1 → Nat :=
  let c0_i32_22 : BitVec 32 := 0#32
  let c1_i32_23 : BitVec 32 := 1#32
  let arg12 : BitVec 32 := Scf.iv c0_i32_22 c1_i32_23 k0_t5
  let c128_i32_27 : BitVec 32 := 128#32
  let v51 : BitVec 32 := Scalar.muli arg12 c128_i32_27
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let v76 : BitVec 32 := Scalar.addi v51 v71
  let c16_i32_37 : BitVec 32 := 16#32
  let v77 : BitVec 32 := Scalar.addi v76 c16_i32_37
  let v78 : Index := Scalar.indexCast v77
  ![v78.toNat]
def k0_off158 (k0_t6 : Fin k0_t6_loop.trips) (c0_i32_40 : BitVec 32) (c0_i32_42 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let v91 : BitVec 32 := Scalar.addi v71 c0_i32_40
  let c128_i32_41 : BitVec 32 := 128#32
  let v92 : BitVec 32 := Scalar.muli v91 c128_i32_41
  let v93 : BitVec 32 := Scalar.addi v92 c0_i32_42
  let v94 : Index := Scalar.indexCast v93
  ![v94.toNat]
def k0_off159 (v82 : BitVec 32) (c0_i32_114 : BitVec 32) : Fin 1 → Nat :=
  let c128_i32_113 : BitVec 32 := 128#32
  let v314 : BitVec 32 := Scalar.muli v82 c128_i32_113
  let v315 : BitVec 32 := Scalar.addi v314 c0_i32_114
  let v316 : Index := Scalar.indexCast v315
  ![v316.toNat]
def k0_cond15 (v56 : BitVec 32) (v63 : BitVec 32) : BitVec 1 :=
  let v64 : BitVec 1 := Scalar.cmpi .ne v56 v63
  let v65 : BitVec 32 := Scalar.extui v64
  let c0_i32_29 : BitVec 32 := 0#32
  let v66 : BitVec 1 := Scalar.cmpi .ne v65 c0_i32_29
  v66

def k0_cond16 (v82 : BitVec 32) (v84 : BitVec 32) : BitVec 1 :=
  let v85 : BitVec 1 := Scalar.cmpi .eq v82 v84
  let v86 : BitVec 32 := Scalar.extui v85
  let c0_i32_38 : BitVec 32 := 0#32
  let v87 : BitVec 1 := Scalar.cmpi .ne v86 c0_i32_38
  v87

def k0_chk71 (v56 : BitVec 32) (v63 : BitVec 32) (v82 : BitVec 32) (v84 : BitVec 32) : Prop :=
  (∀ (k0_h15 : k0_cond15 v56 v63 = 1#1), ∀ (k0_h16 : k0_cond16 v82 v84 = 1#1), ∀ (r : Fin 8), ∀ a, (k0_off159 v82 (BitVec.ofNat 32 (16 * r.val))) a + S16.size a ≤ S16384.size a)
theorem k0_off159_inb : ∀ (v56 : BitVec 32) (v63 : BitVec 32) (v82 : BitVec 32) (v84 : BitVec 32) (k0_hw71 : k0_chk71 v56 v63 v82 v84), ∀ (k0_h15 : k0_cond15 v56 v63 = 1#1), ∀ (k0_h16 : k0_cond16 v82 v84 = 1#1), ∀ (r : Fin 8), ∀ a, (k0_off159 v82 (BitVec.ofNat 32 (16 * r.val))) a + S16.size a ≤ S16384.size a := fun v56 v63 v82 v84 k0_hw71 k0_h15 k0_h16 r => k0_hw71 k0_h15 k0_h16 r

def k0_off160 (k0_t6 : Fin k0_t6_loop.trips) (c0_i32_47 : BitVec 32) (c0_i32_49 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let v112 : BitVec 32 := Scalar.addi v71 c0_i32_47
  let c128_i32_48 : BitVec 32 := 128#32
  let v113 : BitVec 32 := Scalar.muli v112 c128_i32_48
  let v114 : BitVec 32 := Scalar.addi v113 c0_i32_49
  let v115 : Index := Scalar.indexCast v114
  ![v115.toNat]
def k0_off161 (v92 : BitVec 32) (c0_i32_87 : BitVec 32) : Fin 1 → Nat :=
  let c128_i32_86 : BitVec 32 := 128#32
  let v223 : BitVec 32 := Scalar.muli v92 c128_i32_86
  let v224 : BitVec 32 := Scalar.addi v223 c0_i32_87
  let v225 : Index := Scalar.indexCast v224
  ![v225.toNat]
def k0_cond17 (v82 : BitVec 32) (v84 : BitVec 32) : BitVec 1 :=
  let v85 : BitVec 1 := Scalar.cmpi .eq v82 v84
  let v_true : BitVec 1 := 1#1
  let v88 : BitVec 1 := Scalar.xori v85 v_true
  let v89 : BitVec 32 := Scalar.extui v88
  let c0_i32_39 : BitVec 32 := 0#32
  let v90 : BitVec 1 := Scalar.cmpi .ne v89 c0_i32_39
  v90

def k0_cond18 (v92 : BitVec 32) (v94 : BitVec 32) : BitVec 1 :=
  let v95 : BitVec 1 := Scalar.cmpi .eq v92 v94
  let v96 : BitVec 32 := Scalar.extui v95
  let c0_i32_40 : BitVec 32 := 0#32
  let v97 : BitVec 1 := Scalar.cmpi .ne v96 c0_i32_40
  v97

def k0_chk72 (v56 : BitVec 32) (v63 : BitVec 32) (v82 : BitVec 32) (v84 : BitVec 32) (v92 : BitVec 32) (v94 : BitVec 32) : Prop :=
  (∀ (k0_h15 : k0_cond15 v56 v63 = 1#1), ∀ (k0_h17 : k0_cond17 v82 v84 = 1#1), ∀ (k0_h18 : k0_cond18 v92 v94 = 1#1), ∀ (r : Fin 8), ∀ a, (k0_off161 v92 (BitVec.ofNat 32 (16 * r.val))) a + S16.size a ≤ S16384.size a)
theorem k0_off161_inb : ∀ (v56 : BitVec 32) (v63 : BitVec 32) (v82 : BitVec 32) (v84 : BitVec 32) (v92 : BitVec 32) (v94 : BitVec 32) (k0_hw72 : k0_chk72 v56 v63 v82 v84 v92 v94), ∀ (k0_h15 : k0_cond15 v56 v63 = 1#1), ∀ (k0_h17 : k0_cond17 v82 v84 = 1#1), ∀ (k0_h18 : k0_cond18 v92 v94 = 1#1), ∀ (r : Fin 8), ∀ a, (k0_off161 v92 (BitVec.ofNat 32 (16 * r.val))) a + S16.size a ≤ S16384.size a := fun v56 v63 v82 v84 v92 v94 k0_hw72 k0_h15 k0_h17 k0_h18 r => k0_hw72 k0_h15 k0_h17 k0_h18 r

def k0_off162 (v113 : BitVec 32) (c0_i32_48 : BitVec 32) : Fin 1 → Nat :=
  let c128_i32_47 : BitVec 32 := 128#32
  let v114 : BitVec 32 := Scalar.muli v113 c128_i32_47
  let v115 : BitVec 32 := Scalar.addi v114 c0_i32_48
  let v116 : Index := Scalar.indexCast v115
  ![v116.toNat]
def k0_cond19 (v92 : BitVec 32) (v94 : BitVec 32) : BitVec 1 :=
  let v95 : BitVec 1 := Scalar.cmpi .eq v92 v94
  let true_41 : BitVec 1 := 1#1
  let v98 : BitVec 1 := Scalar.xori v95 true_41
  let v99 : BitVec 32 := Scalar.extui v98
  let c0_i32_42 : BitVec 32 := 0#32
  let v100 : BitVec 1 := Scalar.cmpi .ne v99 c0_i32_42
  v100

def k0_chk73 (v56 : BitVec 32) (v63 : BitVec 32) (v82 : BitVec 32) (v84 : BitVec 32) (v92 : BitVec 32) (v94 : BitVec 32) (v113 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off162 v113 (BitVec.ofNat 32 (16 * r.val))) a + S16.size a ≤ S16384.size a)
theorem k0_off162_inb : ∀ (v56 : BitVec 32) (v63 : BitVec 32) (v82 : BitVec 32) (v84 : BitVec 32) (v92 : BitVec 32) (v94 : BitVec 32) (v113 : BitVec 32) (k0_hw73 : k0_chk73 v56 v63 v82 v84 v92 v94 v113), ∀ (k0_h15 : k0_cond15 v56 v63 = 1#1), ∀ (k0_h17 : k0_cond17 v82 v84 = 1#1), ∀ (k0_h19 : k0_cond19 v92 v94 = 1#1), ∀ (r : Fin 8), ∀ a, (k0_off162 v113 (BitVec.ofNat 32 (16 * r.val))) a + S16.size a ≤ S16384.size a := fun v56 v63 v82 v84 v92 v94 v113 k0_hw73 k0_h15 k0_h17 k0_h19 r => k0_hw73 k0_h15 k0_h17 k0_h19 r

def k0_off163 (k0_t6 : Fin k0_t6_loop.trips) (c0_i32_51 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c0_i32_49 : BitVec 32 := 0#32
  let v119 : BitVec 32 := Scalar.addi v71 c0_i32_49
  let c128_i32_50 : BitVec 32 := 128#32
  let v120 : BitVec 32 := Scalar.muli v119 c128_i32_50
  let v121 : BitVec 32 := Scalar.addi v120 c0_i32_51
  let v122 : Index := Scalar.indexCast v121
  ![v122.toNat]
def k0_off164 (v243 : BitVec 32) (c0_i32_82 : BitVec 32) : Fin 1 → Nat :=
  let c128_i32_81 : BitVec 32 := 128#32
  let v244 : BitVec 32 := Scalar.muli v243 c128_i32_81
  let v245 : BitVec 32 := Scalar.addi v244 c0_i32_82
  let v246 : Index := Scalar.indexCast v245
  ![v246.toNat]

def k0_chk74 (v56 : BitVec 32) (v63 : BitVec 32) (v82 : BitVec 32) (v84 : BitVec 32) (v92 : BitVec 32) (v94 : BitVec 32) (v243 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off164 v243 (BitVec.ofNat 32 (16 * r.val))) a + S16.size a ≤ S16384.size a)
theorem k0_off164_inb : ∀ (v56 : BitVec 32) (v63 : BitVec 32) (v82 : BitVec 32) (v84 : BitVec 32) (v92 : BitVec 32) (v94 : BitVec 32) (v243 : BitVec 32) (k0_hw74 : k0_chk74 v56 v63 v82 v84 v92 v94 v243), ∀ (k0_h15 : k0_cond15 v56 v63 = 1#1), ∀ (k0_h17 : k0_cond17 v82 v84 = 1#1), ∀ (k0_h19 : k0_cond19 v92 v94 = 1#1), ∀ (r : Fin 8), ∀ a, (k0_off164 v243 (BitVec.ofNat 32 (16 * r.val))) a + S16.size a ≤ S16384.size a := fun v56 v63 v82 v84 v92 v94 v243 k0_hw74 k0_h15 k0_h17 k0_h19 r => k0_hw74 k0_h15 k0_h17 k0_h19 r

def k0_off165 (k0_t6 : Fin k0_t6_loop.trips) (c0_i32_85 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c1_i32_83 : BitVec 32 := 1#32
  let v249 : BitVec 32 := Scalar.addi v71 c1_i32_83
  let c128_i32_84 : BitVec 32 := 128#32
  let v250 : BitVec 32 := Scalar.muli v249 c128_i32_84
  let v251 : BitVec 32 := Scalar.addi v250 c0_i32_85
  let v252 : Index := Scalar.indexCast v251
  ![v252.toNat]
def k0_off166 (v373 : BitVec 32) (c0_i32_122 : BitVec 32) : Fin 1 → Nat :=
  let c128_i32_121 : BitVec 32 := 128#32
  let v374 : BitVec 32 := Scalar.muli v373 c128_i32_121
  let v375 : BitVec 32 := Scalar.addi v374 c0_i32_122
  let v376 : Index := Scalar.indexCast v375
  ![v376.toNat]

def k0_chk75 (v56 : BitVec 32) (v63 : BitVec 32) (v82 : BitVec 32) (v84 : BitVec 32) (v92 : BitVec 32) (v94 : BitVec 32) (v373 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off166 v373 (BitVec.ofNat 32 (16 * r.val))) a + S16.size a ≤ S16384.size a)
theorem k0_off166_inb : ∀ (v56 : BitVec 32) (v63 : BitVec 32) (v82 : BitVec 32) (v84 : BitVec 32) (v92 : BitVec 32) (v94 : BitVec 32) (v373 : BitVec 32) (k0_hw75 : k0_chk75 v56 v63 v82 v84 v92 v94 v373), ∀ (k0_h15 : k0_cond15 v56 v63 = 1#1), ∀ (k0_h17 : k0_cond17 v82 v84 = 1#1), ∀ (k0_h19 : k0_cond19 v92 v94 = 1#1), ∀ (r : Fin 8), ∀ a, (k0_off166 v373 (BitVec.ofNat 32 (16 * r.val))) a + S16.size a ≤ S16384.size a := fun v56 v63 v82 v84 v92 v94 v373 k0_hw75 k0_h15 k0_h17 k0_h19 r => k0_hw75 k0_h15 k0_h17 k0_h19 r

def k0_off167 (k0_t6 : Fin k0_t6_loop.trips) (c0_i32_125 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c2_i32_123 : BitVec 32 := 2#32
  let v379 : BitVec 32 := Scalar.addi v71 c2_i32_123
  let c128_i32_124 : BitVec 32 := 128#32
  let v380 : BitVec 32 := Scalar.muli v379 c128_i32_124
  let v381 : BitVec 32 := Scalar.addi v380 c0_i32_125
  let v382 : Index := Scalar.indexCast v381
  ![v382.toNat]
def k0_off168 (v503 : BitVec 32) (c0_i32_162 : BitVec 32) : Fin 1 → Nat :=
  let c128_i32_161 : BitVec 32 := 128#32
  let v504 : BitVec 32 := Scalar.muli v503 c128_i32_161
  let v505 : BitVec 32 := Scalar.addi v504 c0_i32_162
  let v506 : Index := Scalar.indexCast v505
  ![v506.toNat]

def k0_chk76 (v56 : BitVec 32) (v63 : BitVec 32) (v82 : BitVec 32) (v84 : BitVec 32) (v92 : BitVec 32) (v94 : BitVec 32) (v503 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off168 v503 (BitVec.ofNat 32 (16 * r.val))) a + S16.size a ≤ S16384.size a)
theorem k0_off168_inb : ∀ (v56 : BitVec 32) (v63 : BitVec 32) (v82 : BitVec 32) (v84 : BitVec 32) (v92 : BitVec 32) (v94 : BitVec 32) (v503 : BitVec 32) (k0_hw76 : k0_chk76 v56 v63 v82 v84 v92 v94 v503), ∀ (k0_h15 : k0_cond15 v56 v63 = 1#1), ∀ (k0_h17 : k0_cond17 v82 v84 = 1#1), ∀ (k0_h19 : k0_cond19 v92 v94 = 1#1), ∀ (r : Fin 8), ∀ a, (k0_off168 v503 (BitVec.ofNat 32 (16 * r.val))) a + S16.size a ≤ S16384.size a := fun v56 v63 v82 v84 v92 v94 v503 k0_hw76 k0_h15 k0_h17 k0_h19 r => k0_hw76 k0_h15 k0_h17 k0_h19 r

def k0_off169 (k0_t6 : Fin k0_t6_loop.trips) (c0_i32_165 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c3_i32_163 : BitVec 32 := 3#32
  let v509 : BitVec 32 := Scalar.addi v71 c3_i32_163
  let c128_i32_164 : BitVec 32 := 128#32
  let v510 : BitVec 32 := Scalar.muli v509 c128_i32_164
  let v511 : BitVec 32 := Scalar.addi v510 c0_i32_165
  let v512 : Index := Scalar.indexCast v511
  ![v512.toNat]
def k0_off170 (v633 : BitVec 32) (c0_i32_202 : BitVec 32) : Fin 1 → Nat :=
  let c128_i32_201 : BitVec 32 := 128#32
  let v634 : BitVec 32 := Scalar.muli v633 c128_i32_201
  let v635 : BitVec 32 := Scalar.addi v634 c0_i32_202
  let v636 : Index := Scalar.indexCast v635
  ![v636.toNat]

def k0_chk77 (v56 : BitVec 32) (v63 : BitVec 32) (v82 : BitVec 32) (v84 : BitVec 32) (v92 : BitVec 32) (v94 : BitVec 32) (v633 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off170 v633 (BitVec.ofNat 32 (16 * r.val))) a + S16.size a ≤ S16384.size a)
theorem k0_off170_inb : ∀ (v56 : BitVec 32) (v63 : BitVec 32) (v82 : BitVec 32) (v84 : BitVec 32) (v92 : BitVec 32) (v94 : BitVec 32) (v633 : BitVec 32) (k0_hw77 : k0_chk77 v56 v63 v82 v84 v92 v94 v633), ∀ (k0_h15 : k0_cond15 v56 v63 = 1#1), ∀ (k0_h17 : k0_cond17 v82 v84 = 1#1), ∀ (k0_h19 : k0_cond19 v92 v94 = 1#1), ∀ (r : Fin 8), ∀ a, (k0_off170 v633 (BitVec.ofNat 32 (16 * r.val))) a + S16.size a ≤ S16384.size a := fun v56 v63 v82 v84 v92 v94 v633 k0_hw77 k0_h15 k0_h17 k0_h19 r => k0_hw77 k0_h15 k0_h17 k0_h19 r

def k0_off171 (k0_t6 : Fin k0_t6_loop.trips) (c0_i32_205 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c4_i32_203 : BitVec 32 := 4#32
  let v639 : BitVec 32 := Scalar.addi v71 c4_i32_203
  let c128_i32_204 : BitVec 32 := 128#32
  let v640 : BitVec 32 := Scalar.muli v639 c128_i32_204
  let v641 : BitVec 32 := Scalar.addi v640 c0_i32_205
  let v642 : Index := Scalar.indexCast v641
  ![v642.toNat]
def k0_off172 (v763 : BitVec 32) (c0_i32_242 : BitVec 32) : Fin 1 → Nat :=
  let c128_i32_241 : BitVec 32 := 128#32
  let v764 : BitVec 32 := Scalar.muli v763 c128_i32_241
  let v765 : BitVec 32 := Scalar.addi v764 c0_i32_242
  let v766 : Index := Scalar.indexCast v765
  ![v766.toNat]

def k0_chk78 (v56 : BitVec 32) (v63 : BitVec 32) (v82 : BitVec 32) (v84 : BitVec 32) (v92 : BitVec 32) (v94 : BitVec 32) (v763 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off172 v763 (BitVec.ofNat 32 (16 * r.val))) a + S16.size a ≤ S16384.size a)
theorem k0_off172_inb : ∀ (v56 : BitVec 32) (v63 : BitVec 32) (v82 : BitVec 32) (v84 : BitVec 32) (v92 : BitVec 32) (v94 : BitVec 32) (v763 : BitVec 32) (k0_hw78 : k0_chk78 v56 v63 v82 v84 v92 v94 v763), ∀ (k0_h15 : k0_cond15 v56 v63 = 1#1), ∀ (k0_h17 : k0_cond17 v82 v84 = 1#1), ∀ (k0_h19 : k0_cond19 v92 v94 = 1#1), ∀ (r : Fin 8), ∀ a, (k0_off172 v763 (BitVec.ofNat 32 (16 * r.val))) a + S16.size a ≤ S16384.size a := fun v56 v63 v82 v84 v92 v94 v763 k0_hw78 k0_h15 k0_h17 k0_h19 r => k0_hw78 k0_h15 k0_h17 k0_h19 r

def k0_off173 (k0_t6 : Fin k0_t6_loop.trips) (c0_i32_244 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c5_i32 : BitVec 32 := 5#32
  let v769 : BitVec 32 := Scalar.addi v71 c5_i32
  let c128_i32_243 : BitVec 32 := 128#32
  let v770 : BitVec 32 := Scalar.muli v769 c128_i32_243
  let v771 : BitVec 32 := Scalar.addi v770 c0_i32_244
  let v772 : Index := Scalar.indexCast v771
  ![v772.toNat]
def k0_off174 (v893 : BitVec 32) (c0_i32_281 : BitVec 32) : Fin 1 → Nat :=
  let c128_i32_280 : BitVec 32 := 128#32
  let v894 : BitVec 32 := Scalar.muli v893 c128_i32_280
  let v895 : BitVec 32 := Scalar.addi v894 c0_i32_281
  let v896 : Index := Scalar.indexCast v895
  ![v896.toNat]

def k0_chk79 (v56 : BitVec 32) (v63 : BitVec 32) (v82 : BitVec 32) (v84 : BitVec 32) (v92 : BitVec 32) (v94 : BitVec 32) (v893 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off174 v893 (BitVec.ofNat 32 (16 * r.val))) a + S16.size a ≤ S16384.size a)
theorem k0_off174_inb : ∀ (v56 : BitVec 32) (v63 : BitVec 32) (v82 : BitVec 32) (v84 : BitVec 32) (v92 : BitVec 32) (v94 : BitVec 32) (v893 : BitVec 32) (k0_hw79 : k0_chk79 v56 v63 v82 v84 v92 v94 v893), ∀ (k0_h15 : k0_cond15 v56 v63 = 1#1), ∀ (k0_h17 : k0_cond17 v82 v84 = 1#1), ∀ (k0_h19 : k0_cond19 v92 v94 = 1#1), ∀ (r : Fin 8), ∀ a, (k0_off174 v893 (BitVec.ofNat 32 (16 * r.val))) a + S16.size a ≤ S16384.size a := fun v56 v63 v82 v84 v92 v94 v893 k0_hw79 k0_h15 k0_h17 k0_h19 r => k0_hw79 k0_h15 k0_h17 k0_h19 r

def k0_off175 (k0_t6 : Fin k0_t6_loop.trips) (c0_i32_283 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c6_i32 : BitVec 32 := 6#32
  let v899 : BitVec 32 := Scalar.addi v71 c6_i32
  let c128_i32_282 : BitVec 32 := 128#32
  let v900 : BitVec 32 := Scalar.muli v899 c128_i32_282
  let v901 : BitVec 32 := Scalar.addi v900 c0_i32_283
  let v902 : Index := Scalar.indexCast v901
  ![v902.toNat]
def k0_off176 (v1023 : BitVec 32) (c0_i32_320 : BitVec 32) : Fin 1 → Nat :=
  let c128_i32_319 : BitVec 32 := 128#32
  let v1024 : BitVec 32 := Scalar.muli v1023 c128_i32_319
  let v1025 : BitVec 32 := Scalar.addi v1024 c0_i32_320
  let v1026 : Index := Scalar.indexCast v1025
  ![v1026.toNat]

def k0_chk80 (v56 : BitVec 32) (v63 : BitVec 32) (v82 : BitVec 32) (v84 : BitVec 32) (v92 : BitVec 32) (v94 : BitVec 32) (v1023 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off176 v1023 (BitVec.ofNat 32 (16 * r.val))) a + S16.size a ≤ S16384.size a)
theorem k0_off176_inb : ∀ (v56 : BitVec 32) (v63 : BitVec 32) (v82 : BitVec 32) (v84 : BitVec 32) (v92 : BitVec 32) (v94 : BitVec 32) (v1023 : BitVec 32) (k0_hw80 : k0_chk80 v56 v63 v82 v84 v92 v94 v1023), ∀ (k0_h15 : k0_cond15 v56 v63 = 1#1), ∀ (k0_h17 : k0_cond17 v82 v84 = 1#1), ∀ (k0_h19 : k0_cond19 v92 v94 = 1#1), ∀ (r : Fin 8), ∀ a, (k0_off176 v1023 (BitVec.ofNat 32 (16 * r.val))) a + S16.size a ≤ S16384.size a := fun v56 v63 v82 v84 v92 v94 v1023 k0_hw80 k0_h15 k0_h17 k0_h19 r => k0_hw80 k0_h15 k0_h17 k0_h19 r

def k0_off177 (k0_t6 : Fin k0_t6_loop.trips) (c0_i32_322 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c7_i32 : BitVec 32 := 7#32
  let v1029 : BitVec 32 := Scalar.addi v71 c7_i32
  let c128_i32_321 : BitVec 32 := 128#32
  let v1030 : BitVec 32 := Scalar.muli v1029 c128_i32_321
  let v1031 : BitVec 32 := Scalar.addi v1030 c0_i32_322
  let v1032 : Index := Scalar.indexCast v1031
  ![v1032.toNat]
def k0_off178 (v1153 : BitVec 32) (c0_i32_359 : BitVec 32) : Fin 1 → Nat :=
  let c128_i32_358 : BitVec 32 := 128#32
  let v1154 : BitVec 32 := Scalar.muli v1153 c128_i32_358
  let v1155 : BitVec 32 := Scalar.addi v1154 c0_i32_359
  let v1156 : Index := Scalar.indexCast v1155
  ![v1156.toNat]

def k0_chk81 (v56 : BitVec 32) (v63 : BitVec 32) (v82 : BitVec 32) (v84 : BitVec 32) (v92 : BitVec 32) (v94 : BitVec 32) (v1153 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off178 v1153 (BitVec.ofNat 32 (16 * r.val))) a + S16.size a ≤ S16384.size a)
theorem k0_off178_inb : ∀ (v56 : BitVec 32) (v63 : BitVec 32) (v82 : BitVec 32) (v84 : BitVec 32) (v92 : BitVec 32) (v94 : BitVec 32) (v1153 : BitVec 32) (k0_hw81 : k0_chk81 v56 v63 v82 v84 v92 v94 v1153), ∀ (k0_h15 : k0_cond15 v56 v63 = 1#1), ∀ (k0_h17 : k0_cond17 v82 v84 = 1#1), ∀ (k0_h19 : k0_cond19 v92 v94 = 1#1), ∀ (r : Fin 8), ∀ a, (k0_off178 v1153 (BitVec.ofNat 32 (16 * r.val))) a + S16.size a ≤ S16384.size a := fun v56 v63 v82 v84 v92 v94 v1153 k0_hw81 k0_h15 k0_h17 k0_h19 r => k0_hw81 k0_h15 k0_h17 k0_h19 r

def k0_off179 (k0_t6 : Fin k0_t6_loop.trips) (c0_i32_362 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c8_i32_360 : BitVec 32 := 8#32
  let v1159 : BitVec 32 := Scalar.addi v71 c8_i32_360
  let c128_i32_361 : BitVec 32 := 128#32
  let v1160 : BitVec 32 := Scalar.muli v1159 c128_i32_361
  let v1161 : BitVec 32 := Scalar.addi v1160 c0_i32_362
  let v1162 : Index := Scalar.indexCast v1161
  ![v1162.toNat]
def k0_off180 (v1283 : BitVec 32) (c0_i32_399 : BitVec 32) : Fin 1 → Nat :=
  let c128_i32_398 : BitVec 32 := 128#32
  let v1284 : BitVec 32 := Scalar.muli v1283 c128_i32_398
  let v1285 : BitVec 32 := Scalar.addi v1284 c0_i32_399
  let v1286 : Index := Scalar.indexCast v1285
  ![v1286.toNat]

def k0_chk82 (v56 : BitVec 32) (v63 : BitVec 32) (v82 : BitVec 32) (v84 : BitVec 32) (v92 : BitVec 32) (v94 : BitVec 32) (v1283 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off180 v1283 (BitVec.ofNat 32 (16 * r.val))) a + S16.size a ≤ S16384.size a)
theorem k0_off180_inb : ∀ (v56 : BitVec 32) (v63 : BitVec 32) (v82 : BitVec 32) (v84 : BitVec 32) (v92 : BitVec 32) (v94 : BitVec 32) (v1283 : BitVec 32) (k0_hw82 : k0_chk82 v56 v63 v82 v84 v92 v94 v1283), ∀ (k0_h15 : k0_cond15 v56 v63 = 1#1), ∀ (k0_h17 : k0_cond17 v82 v84 = 1#1), ∀ (k0_h19 : k0_cond19 v92 v94 = 1#1), ∀ (r : Fin 8), ∀ a, (k0_off180 v1283 (BitVec.ofNat 32 (16 * r.val))) a + S16.size a ≤ S16384.size a := fun v56 v63 v82 v84 v92 v94 v1283 k0_hw82 k0_h15 k0_h17 k0_h19 r => k0_hw82 k0_h15 k0_h17 k0_h19 r

def k0_off181 (k0_t6 : Fin k0_t6_loop.trips) (c0_i32_401 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c9_i32 : BitVec 32 := 9#32
  let v1289 : BitVec 32 := Scalar.addi v71 c9_i32
  let c128_i32_400 : BitVec 32 := 128#32
  let v1290 : BitVec 32 := Scalar.muli v1289 c128_i32_400
  let v1291 : BitVec 32 := Scalar.addi v1290 c0_i32_401
  let v1292 : Index := Scalar.indexCast v1291
  ![v1292.toNat]
def k0_off182 (v1413 : BitVec 32) (c0_i32_438 : BitVec 32) : Fin 1 → Nat :=
  let c128_i32_437 : BitVec 32 := 128#32
  let v1414 : BitVec 32 := Scalar.muli v1413 c128_i32_437
  let v1415 : BitVec 32 := Scalar.addi v1414 c0_i32_438
  let v1416 : Index := Scalar.indexCast v1415
  ![v1416.toNat]

def k0_chk83 (v56 : BitVec 32) (v63 : BitVec 32) (v82 : BitVec 32) (v84 : BitVec 32) (v92 : BitVec 32) (v94 : BitVec 32) (v1413 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off182 v1413 (BitVec.ofNat 32 (16 * r.val))) a + S16.size a ≤ S16384.size a)
theorem k0_off182_inb : ∀ (v56 : BitVec 32) (v63 : BitVec 32) (v82 : BitVec 32) (v84 : BitVec 32) (v92 : BitVec 32) (v94 : BitVec 32) (v1413 : BitVec 32) (k0_hw83 : k0_chk83 v56 v63 v82 v84 v92 v94 v1413), ∀ (k0_h15 : k0_cond15 v56 v63 = 1#1), ∀ (k0_h17 : k0_cond17 v82 v84 = 1#1), ∀ (k0_h19 : k0_cond19 v92 v94 = 1#1), ∀ (r : Fin 8), ∀ a, (k0_off182 v1413 (BitVec.ofNat 32 (16 * r.val))) a + S16.size a ≤ S16384.size a := fun v56 v63 v82 v84 v92 v94 v1413 k0_hw83 k0_h15 k0_h17 k0_h19 r => k0_hw83 k0_h15 k0_h17 k0_h19 r

def k0_off183 (k0_t6 : Fin k0_t6_loop.trips) (c0_i32_440 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c10_i32 : BitVec 32 := 10#32
  let v1419 : BitVec 32 := Scalar.addi v71 c10_i32
  let c128_i32_439 : BitVec 32 := 128#32
  let v1420 : BitVec 32 := Scalar.muli v1419 c128_i32_439
  let v1421 : BitVec 32 := Scalar.addi v1420 c0_i32_440
  let v1422 : Index := Scalar.indexCast v1421
  ![v1422.toNat]
def k0_off184 (v1543 : BitVec 32) (c0_i32_477 : BitVec 32) : Fin 1 → Nat :=
  let c128_i32_476 : BitVec 32 := 128#32
  let v1544 : BitVec 32 := Scalar.muli v1543 c128_i32_476
  let v1545 : BitVec 32 := Scalar.addi v1544 c0_i32_477
  let v1546 : Index := Scalar.indexCast v1545
  ![v1546.toNat]

def k0_chk84 (v56 : BitVec 32) (v63 : BitVec 32) (v82 : BitVec 32) (v84 : BitVec 32) (v92 : BitVec 32) (v94 : BitVec 32) (v1543 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off184 v1543 (BitVec.ofNat 32 (16 * r.val))) a + S16.size a ≤ S16384.size a)
theorem k0_off184_inb : ∀ (v56 : BitVec 32) (v63 : BitVec 32) (v82 : BitVec 32) (v84 : BitVec 32) (v92 : BitVec 32) (v94 : BitVec 32) (v1543 : BitVec 32) (k0_hw84 : k0_chk84 v56 v63 v82 v84 v92 v94 v1543), ∀ (k0_h15 : k0_cond15 v56 v63 = 1#1), ∀ (k0_h17 : k0_cond17 v82 v84 = 1#1), ∀ (k0_h19 : k0_cond19 v92 v94 = 1#1), ∀ (r : Fin 8), ∀ a, (k0_off184 v1543 (BitVec.ofNat 32 (16 * r.val))) a + S16.size a ≤ S16384.size a := fun v56 v63 v82 v84 v92 v94 v1543 k0_hw84 k0_h15 k0_h17 k0_h19 r => k0_hw84 k0_h15 k0_h17 k0_h19 r

def k0_off185 (k0_t6 : Fin k0_t6_loop.trips) (c0_i32_479 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c11_i32 : BitVec 32 := 11#32
  let v1549 : BitVec 32 := Scalar.addi v71 c11_i32
  let c128_i32_478 : BitVec 32 := 128#32
  let v1550 : BitVec 32 := Scalar.muli v1549 c128_i32_478
  let v1551 : BitVec 32 := Scalar.addi v1550 c0_i32_479
  let v1552 : Index := Scalar.indexCast v1551
  ![v1552.toNat]
def k0_off186 (v1673 : BitVec 32) (c0_i32_516 : BitVec 32) : Fin 1 → Nat :=
  let c128_i32_515 : BitVec 32 := 128#32
  let v1674 : BitVec 32 := Scalar.muli v1673 c128_i32_515
  let v1675 : BitVec 32 := Scalar.addi v1674 c0_i32_516
  let v1676 : Index := Scalar.indexCast v1675
  ![v1676.toNat]

def k0_chk85 (v56 : BitVec 32) (v63 : BitVec 32) (v82 : BitVec 32) (v84 : BitVec 32) (v92 : BitVec 32) (v94 : BitVec 32) (v1673 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off186 v1673 (BitVec.ofNat 32 (16 * r.val))) a + S16.size a ≤ S16384.size a)
theorem k0_off186_inb : ∀ (v56 : BitVec 32) (v63 : BitVec 32) (v82 : BitVec 32) (v84 : BitVec 32) (v92 : BitVec 32) (v94 : BitVec 32) (v1673 : BitVec 32) (k0_hw85 : k0_chk85 v56 v63 v82 v84 v92 v94 v1673), ∀ (k0_h15 : k0_cond15 v56 v63 = 1#1), ∀ (k0_h17 : k0_cond17 v82 v84 = 1#1), ∀ (k0_h19 : k0_cond19 v92 v94 = 1#1), ∀ (r : Fin 8), ∀ a, (k0_off186 v1673 (BitVec.ofNat 32 (16 * r.val))) a + S16.size a ≤ S16384.size a := fun v56 v63 v82 v84 v92 v94 v1673 k0_hw85 k0_h15 k0_h17 k0_h19 r => k0_hw85 k0_h15 k0_h17 k0_h19 r

def k0_off187 (k0_t6 : Fin k0_t6_loop.trips) (c0_i32_518 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c12_i32 : BitVec 32 := 12#32
  let v1679 : BitVec 32 := Scalar.addi v71 c12_i32
  let c128_i32_517 : BitVec 32 := 128#32
  let v1680 : BitVec 32 := Scalar.muli v1679 c128_i32_517
  let v1681 : BitVec 32 := Scalar.addi v1680 c0_i32_518
  let v1682 : Index := Scalar.indexCast v1681
  ![v1682.toNat]
def k0_off188 (v1803 : BitVec 32) (c0_i32_555 : BitVec 32) : Fin 1 → Nat :=
  let c128_i32_554 : BitVec 32 := 128#32
  let v1804 : BitVec 32 := Scalar.muli v1803 c128_i32_554
  let v1805 : BitVec 32 := Scalar.addi v1804 c0_i32_555
  let v1806 : Index := Scalar.indexCast v1805
  ![v1806.toNat]

def k0_chk86 (v56 : BitVec 32) (v63 : BitVec 32) (v82 : BitVec 32) (v84 : BitVec 32) (v92 : BitVec 32) (v94 : BitVec 32) (v1803 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off188 v1803 (BitVec.ofNat 32 (16 * r.val))) a + S16.size a ≤ S16384.size a)
theorem k0_off188_inb : ∀ (v56 : BitVec 32) (v63 : BitVec 32) (v82 : BitVec 32) (v84 : BitVec 32) (v92 : BitVec 32) (v94 : BitVec 32) (v1803 : BitVec 32) (k0_hw86 : k0_chk86 v56 v63 v82 v84 v92 v94 v1803), ∀ (k0_h15 : k0_cond15 v56 v63 = 1#1), ∀ (k0_h17 : k0_cond17 v82 v84 = 1#1), ∀ (k0_h19 : k0_cond19 v92 v94 = 1#1), ∀ (r : Fin 8), ∀ a, (k0_off188 v1803 (BitVec.ofNat 32 (16 * r.val))) a + S16.size a ≤ S16384.size a := fun v56 v63 v82 v84 v92 v94 v1803 k0_hw86 k0_h15 k0_h17 k0_h19 r => k0_hw86 k0_h15 k0_h17 k0_h19 r

def k0_off189 (k0_t6 : Fin k0_t6_loop.trips) (c0_i32_557 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c13_i32 : BitVec 32 := 13#32
  let v1809 : BitVec 32 := Scalar.addi v71 c13_i32
  let c128_i32_556 : BitVec 32 := 128#32
  let v1810 : BitVec 32 := Scalar.muli v1809 c128_i32_556
  let v1811 : BitVec 32 := Scalar.addi v1810 c0_i32_557
  let v1812 : Index := Scalar.indexCast v1811
  ![v1812.toNat]
def k0_off190 (v1933 : BitVec 32) (c0_i32_594 : BitVec 32) : Fin 1 → Nat :=
  let c128_i32_593 : BitVec 32 := 128#32
  let v1934 : BitVec 32 := Scalar.muli v1933 c128_i32_593
  let v1935 : BitVec 32 := Scalar.addi v1934 c0_i32_594
  let v1936 : Index := Scalar.indexCast v1935
  ![v1936.toNat]

def k0_chk87 (v56 : BitVec 32) (v63 : BitVec 32) (v82 : BitVec 32) (v84 : BitVec 32) (v92 : BitVec 32) (v94 : BitVec 32) (v1933 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off190 v1933 (BitVec.ofNat 32 (16 * r.val))) a + S16.size a ≤ S16384.size a)
theorem k0_off190_inb : ∀ (v56 : BitVec 32) (v63 : BitVec 32) (v82 : BitVec 32) (v84 : BitVec 32) (v92 : BitVec 32) (v94 : BitVec 32) (v1933 : BitVec 32) (k0_hw87 : k0_chk87 v56 v63 v82 v84 v92 v94 v1933), ∀ (k0_h15 : k0_cond15 v56 v63 = 1#1), ∀ (k0_h17 : k0_cond17 v82 v84 = 1#1), ∀ (k0_h19 : k0_cond19 v92 v94 = 1#1), ∀ (r : Fin 8), ∀ a, (k0_off190 v1933 (BitVec.ofNat 32 (16 * r.val))) a + S16.size a ≤ S16384.size a := fun v56 v63 v82 v84 v92 v94 v1933 k0_hw87 k0_h15 k0_h17 k0_h19 r => k0_hw87 k0_h15 k0_h17 k0_h19 r

def k0_off191 (k0_t6 : Fin k0_t6_loop.trips) (c0_i32_597 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c14_i32_595 : BitVec 32 := 14#32
  let v1939 : BitVec 32 := Scalar.addi v71 c14_i32_595
  let c128_i32_596 : BitVec 32 := 128#32
  let v1940 : BitVec 32 := Scalar.muli v1939 c128_i32_596
  let v1941 : BitVec 32 := Scalar.addi v1940 c0_i32_597
  let v1942 : Index := Scalar.indexCast v1941
  ![v1942.toNat]
def k0_off192 (v2063 : BitVec 32) (c0_i32_634 : BitVec 32) : Fin 1 → Nat :=
  let c128_i32_633 : BitVec 32 := 128#32
  let v2064 : BitVec 32 := Scalar.muli v2063 c128_i32_633
  let v2065 : BitVec 32 := Scalar.addi v2064 c0_i32_634
  let v2066 : Index := Scalar.indexCast v2065
  ![v2066.toNat]

def k0_chk88 (v56 : BitVec 32) (v63 : BitVec 32) (v82 : BitVec 32) (v84 : BitVec 32) (v92 : BitVec 32) (v94 : BitVec 32) (v2063 : BitVec 32) : Prop :=
  (∀ (k0_h15 : k0_cond15 v56 v63 = 1#1), ∀ (k0_h17 : k0_cond17 v82 v84 = 1#1), ∀ (k0_h19 : k0_cond19 v92 v94 = 1#1), ∀ (r : Fin 8), ∀ a, (k0_off192 v2063 (BitVec.ofNat 32 (16 * r.val))) a + S16.size a ≤ S16384.size a)
theorem k0_off192_inb : ∀ (v56 : BitVec 32) (v63 : BitVec 32) (v82 : BitVec 32) (v84 : BitVec 32) (v92 : BitVec 32) (v94 : BitVec 32) (v2063 : BitVec 32) (k0_hw88 : k0_chk88 v56 v63 v82 v84 v92 v94 v2063), ∀ (k0_h15 : k0_cond15 v56 v63 = 1#1), ∀ (k0_h17 : k0_cond17 v82 v84 = 1#1), ∀ (k0_h19 : k0_cond19 v92 v94 = 1#1), ∀ (r : Fin 8), ∀ a, (k0_off192 v2063 (BitVec.ofNat 32 (16 * r.val))) a + S16.size a ≤ S16384.size a := fun v56 v63 v82 v84 v92 v94 v2063 k0_hw88 k0_h15 k0_h17 k0_h19 r => k0_hw88 k0_h15 k0_h17 k0_h19 r

def k0_off193 (k0_t6 : Fin k0_t6_loop.trips) (c0_i32_636 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c15_i32 : BitVec 32 := 15#32
  let v2069 : BitVec 32 := Scalar.addi v71 c15_i32
  let c128_i32_635 : BitVec 32 := 128#32
  let v2070 : BitVec 32 := Scalar.muli v2069 c128_i32_635
  let v2071 : BitVec 32 := Scalar.addi v2070 c0_i32_636
  let v2072 : Index := Scalar.indexCast v2071
  ![v2072.toNat]
def k0_off194 (k0_t6 : Fin k0_t6_loop.trips) (c0_i32_47 : BitVec 32) (c0_i32_49 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let v112 : BitVec 32 := Scalar.addi v101 c0_i32_47
  let c128_i32_48 : BitVec 32 := 128#32
  let v113 : BitVec 32 := Scalar.muli v112 c128_i32_48
  let v114 : BitVec 32 := Scalar.addi v113 c0_i32_49
  let v115 : Index := Scalar.indexCast v114
  ![v115.toNat]
def k0_off195 (v103 : BitVec 32) (c0_i32_87 : BitVec 32) : Fin 1 → Nat :=
  let c128_i32_86 : BitVec 32 := 128#32
  let v223 : BitVec 32 := Scalar.muli v103 c128_i32_86
  let v224 : BitVec 32 := Scalar.addi v223 c0_i32_87
  let v225 : Index := Scalar.indexCast v224
  ![v225.toNat]
def k0_cond20 (v103 : BitVec 32) (v105 : BitVec 32) : BitVec 1 :=
  let v106 : BitVec 1 := Scalar.cmpi .eq v103 v105
  let v107 : BitVec 32 := Scalar.extui v106
  let c0_i32_44 : BitVec 32 := 0#32
  let v108 : BitVec 1 := Scalar.cmpi .ne v107 c0_i32_44
  v108

def k0_chk89 (v56 : BitVec 32) (v63 : BitVec 32) (v82 : BitVec 32) (v84 : BitVec 32) (v103 : BitVec 32) (v105 : BitVec 32) : Prop :=
  (∀ (k0_h15 : k0_cond15 v56 v63 = 1#1), ∀ (k0_h17 : k0_cond17 v82 v84 = 1#1), ∀ (k0_h20 : k0_cond20 v103 v105 = 1#1), ∀ (r : Fin 8), ∀ a, (k0_off195 v103 (BitVec.ofNat 32 (16 * r.val))) a + S16.size a ≤ S16384.size a)
theorem k0_off195_inb : ∀ (v56 : BitVec 32) (v63 : BitVec 32) (v82 : BitVec 32) (v84 : BitVec 32) (v103 : BitVec 32) (v105 : BitVec 32) (k0_hw89 : k0_chk89 v56 v63 v82 v84 v103 v105), ∀ (k0_h15 : k0_cond15 v56 v63 = 1#1), ∀ (k0_h17 : k0_cond17 v82 v84 = 1#1), ∀ (k0_h20 : k0_cond20 v103 v105 = 1#1), ∀ (r : Fin 8), ∀ a, (k0_off195 v103 (BitVec.ofNat 32 (16 * r.val))) a + S16.size a ≤ S16384.size a := fun v56 v63 v82 v84 v103 v105 k0_hw89 k0_h15 k0_h17 k0_h20 r => k0_hw89 k0_h15 k0_h17 k0_h20 r

def k0_off196 (v113 : BitVec 32) (c0_i32_48 : BitVec 32) : Fin 1 → Nat :=
  let c128_i32_47 : BitVec 32 := 128#32
  let v114 : BitVec 32 := Scalar.muli v113 c128_i32_47
  let v115 : BitVec 32 := Scalar.addi v114 c0_i32_48
  let v116 : Index := Scalar.indexCast v115
  ![v116.toNat]
def k0_cond21 (v103 : BitVec 32) (v105 : BitVec 32) : BitVec 1 :=
  let v106 : BitVec 1 := Scalar.cmpi .eq v103 v105
  let true_45 : BitVec 1 := 1#1
  let v109 : BitVec 1 := Scalar.xori v106 true_45
  let v110 : BitVec 32 := Scalar.extui v109
  let c0_i32_46 : BitVec 32 := 0#32
  let v111 : BitVec 1 := Scalar.cmpi .ne v110 c0_i32_46
  v111

def k0_chk90 (v56 : BitVec 32) (v63 : BitVec 32) (v82 : BitVec 32) (v84 : BitVec 32) (v103 : BitVec 32) (v105 : BitVec 32) (v113 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off196 v113 (BitVec.ofNat 32 (16 * r.val))) a + S16.size a ≤ S16384.size a)
theorem k0_off196_inb : ∀ (v56 : BitVec 32) (v63 : BitVec 32) (v82 : BitVec 32) (v84 : BitVec 32) (v103 : BitVec 32) (v105 : BitVec 32) (v113 : BitVec 32) (k0_hw90 : k0_chk90 v56 v63 v82 v84 v103 v105 v113), ∀ (k0_h15 : k0_cond15 v56 v63 = 1#1), ∀ (k0_h17 : k0_cond17 v82 v84 = 1#1), ∀ (k0_h21 : k0_cond21 v103 v105 = 1#1), ∀ (r : Fin 8), ∀ a, (k0_off196 v113 (BitVec.ofNat 32 (16 * r.val))) a + S16.size a ≤ S16384.size a := fun v56 v63 v82 v84 v103 v105 v113 k0_hw90 k0_h15 k0_h17 k0_h21 r => k0_hw90 k0_h15 k0_h17 k0_h21 r

def k0_off197 (k0_t6 : Fin k0_t6_loop.trips) (c0_i32_51 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c0_i32_49 : BitVec 32 := 0#32
  let v119 : BitVec 32 := Scalar.addi v101 c0_i32_49
  let c128_i32_50 : BitVec 32 := 128#32
  let v120 : BitVec 32 := Scalar.muli v119 c128_i32_50
  let v121 : BitVec 32 := Scalar.addi v120 c0_i32_51
  let v122 : Index := Scalar.indexCast v121
  ![v122.toNat]
def k0_off198 (v243 : BitVec 32) (c0_i32_82 : BitVec 32) : Fin 1 → Nat :=
  let c128_i32_81 : BitVec 32 := 128#32
  let v244 : BitVec 32 := Scalar.muli v243 c128_i32_81
  let v245 : BitVec 32 := Scalar.addi v244 c0_i32_82
  let v246 : Index := Scalar.indexCast v245
  ![v246.toNat]

def k0_chk91 (v56 : BitVec 32) (v63 : BitVec 32) (v82 : BitVec 32) (v84 : BitVec 32) (v103 : BitVec 32) (v105 : BitVec 32) (v243 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off198 v243 (BitVec.ofNat 32 (16 * r.val))) a + S16.size a ≤ S16384.size a)
theorem k0_off198_inb : ∀ (v56 : BitVec 32) (v63 : BitVec 32) (v82 : BitVec 32) (v84 : BitVec 32) (v103 : BitVec 32) (v105 : BitVec 32) (v243 : BitVec 32) (k0_hw91 : k0_chk91 v56 v63 v82 v84 v103 v105 v243), ∀ (k0_h15 : k0_cond15 v56 v63 = 1#1), ∀ (k0_h17 : k0_cond17 v82 v84 = 1#1), ∀ (k0_h21 : k0_cond21 v103 v105 = 1#1), ∀ (r : Fin 8), ∀ a, (k0_off198 v243 (BitVec.ofNat 32 (16 * r.val))) a + S16.size a ≤ S16384.size a := fun v56 v63 v82 v84 v103 v105 v243 k0_hw91 k0_h15 k0_h17 k0_h21 r => k0_hw91 k0_h15 k0_h17 k0_h21 r

def k0_off199 (k0_t6 : Fin k0_t6_loop.trips) (c0_i32_85 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c1_i32_83 : BitVec 32 := 1#32
  let v249 : BitVec 32 := Scalar.addi v101 c1_i32_83
  let c128_i32_84 : BitVec 32 := 128#32
  let v250 : BitVec 32 := Scalar.muli v249 c128_i32_84
  let v251 : BitVec 32 := Scalar.addi v250 c0_i32_85
  let v252 : Index := Scalar.indexCast v251
  ![v252.toNat]
def k0_off200 (v373 : BitVec 32) (c0_i32_122 : BitVec 32) : Fin 1 → Nat :=
  let c128_i32_121 : BitVec 32 := 128#32
  let v374 : BitVec 32 := Scalar.muli v373 c128_i32_121
  let v375 : BitVec 32 := Scalar.addi v374 c0_i32_122
  let v376 : Index := Scalar.indexCast v375
  ![v376.toNat]

def k0_chk92 (v56 : BitVec 32) (v63 : BitVec 32) (v82 : BitVec 32) (v84 : BitVec 32) (v103 : BitVec 32) (v105 : BitVec 32) (v373 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off200 v373 (BitVec.ofNat 32 (16 * r.val))) a + S16.size a ≤ S16384.size a)
theorem k0_off200_inb : ∀ (v56 : BitVec 32) (v63 : BitVec 32) (v82 : BitVec 32) (v84 : BitVec 32) (v103 : BitVec 32) (v105 : BitVec 32) (v373 : BitVec 32) (k0_hw92 : k0_chk92 v56 v63 v82 v84 v103 v105 v373), ∀ (k0_h15 : k0_cond15 v56 v63 = 1#1), ∀ (k0_h17 : k0_cond17 v82 v84 = 1#1), ∀ (k0_h21 : k0_cond21 v103 v105 = 1#1), ∀ (r : Fin 8), ∀ a, (k0_off200 v373 (BitVec.ofNat 32 (16 * r.val))) a + S16.size a ≤ S16384.size a := fun v56 v63 v82 v84 v103 v105 v373 k0_hw92 k0_h15 k0_h17 k0_h21 r => k0_hw92 k0_h15 k0_h17 k0_h21 r

def k0_off201 (k0_t6 : Fin k0_t6_loop.trips) (c0_i32_125 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c2_i32_123 : BitVec 32 := 2#32
  let v379 : BitVec 32 := Scalar.addi v101 c2_i32_123
  let c128_i32_124 : BitVec 32 := 128#32
  let v380 : BitVec 32 := Scalar.muli v379 c128_i32_124
  let v381 : BitVec 32 := Scalar.addi v380 c0_i32_125
  let v382 : Index := Scalar.indexCast v381
  ![v382.toNat]
def k0_off202 (v503 : BitVec 32) (c0_i32_162 : BitVec 32) : Fin 1 → Nat :=
  let c128_i32_161 : BitVec 32 := 128#32
  let v504 : BitVec 32 := Scalar.muli v503 c128_i32_161
  let v505 : BitVec 32 := Scalar.addi v504 c0_i32_162
  let v506 : Index := Scalar.indexCast v505
  ![v506.toNat]

def k0_chk93 (v56 : BitVec 32) (v63 : BitVec 32) (v82 : BitVec 32) (v84 : BitVec 32) (v103 : BitVec 32) (v105 : BitVec 32) (v503 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off202 v503 (BitVec.ofNat 32 (16 * r.val))) a + S16.size a ≤ S16384.size a)
theorem k0_off202_inb : ∀ (v56 : BitVec 32) (v63 : BitVec 32) (v82 : BitVec 32) (v84 : BitVec 32) (v103 : BitVec 32) (v105 : BitVec 32) (v503 : BitVec 32) (k0_hw93 : k0_chk93 v56 v63 v82 v84 v103 v105 v503), ∀ (k0_h15 : k0_cond15 v56 v63 = 1#1), ∀ (k0_h17 : k0_cond17 v82 v84 = 1#1), ∀ (k0_h21 : k0_cond21 v103 v105 = 1#1), ∀ (r : Fin 8), ∀ a, (k0_off202 v503 (BitVec.ofNat 32 (16 * r.val))) a + S16.size a ≤ S16384.size a := fun v56 v63 v82 v84 v103 v105 v503 k0_hw93 k0_h15 k0_h17 k0_h21 r => k0_hw93 k0_h15 k0_h17 k0_h21 r

def k0_off203 (k0_t6 : Fin k0_t6_loop.trips) (c0_i32_165 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c3_i32_163 : BitVec 32 := 3#32
  let v509 : BitVec 32 := Scalar.addi v101 c3_i32_163
  let c128_i32_164 : BitVec 32 := 128#32
  let v510 : BitVec 32 := Scalar.muli v509 c128_i32_164
  let v511 : BitVec 32 := Scalar.addi v510 c0_i32_165
  let v512 : Index := Scalar.indexCast v511
  ![v512.toNat]
def k0_off204 (v633 : BitVec 32) (c0_i32_202 : BitVec 32) : Fin 1 → Nat :=
  let c128_i32_201 : BitVec 32 := 128#32
  let v634 : BitVec 32 := Scalar.muli v633 c128_i32_201
  let v635 : BitVec 32 := Scalar.addi v634 c0_i32_202
  let v636 : Index := Scalar.indexCast v635
  ![v636.toNat]

def k0_chk94 (v56 : BitVec 32) (v63 : BitVec 32) (v82 : BitVec 32) (v84 : BitVec 32) (v103 : BitVec 32) (v105 : BitVec 32) (v633 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off204 v633 (BitVec.ofNat 32 (16 * r.val))) a + S16.size a ≤ S16384.size a)
theorem k0_off204_inb : ∀ (v56 : BitVec 32) (v63 : BitVec 32) (v82 : BitVec 32) (v84 : BitVec 32) (v103 : BitVec 32) (v105 : BitVec 32) (v633 : BitVec 32) (k0_hw94 : k0_chk94 v56 v63 v82 v84 v103 v105 v633), ∀ (k0_h15 : k0_cond15 v56 v63 = 1#1), ∀ (k0_h17 : k0_cond17 v82 v84 = 1#1), ∀ (k0_h21 : k0_cond21 v103 v105 = 1#1), ∀ (r : Fin 8), ∀ a, (k0_off204 v633 (BitVec.ofNat 32 (16 * r.val))) a + S16.size a ≤ S16384.size a := fun v56 v63 v82 v84 v103 v105 v633 k0_hw94 k0_h15 k0_h17 k0_h21 r => k0_hw94 k0_h15 k0_h17 k0_h21 r

def k0_off205 (k0_t6 : Fin k0_t6_loop.trips) (c0_i32_205 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c4_i32_203 : BitVec 32 := 4#32
  let v639 : BitVec 32 := Scalar.addi v101 c4_i32_203
  let c128_i32_204 : BitVec 32 := 128#32
  let v640 : BitVec 32 := Scalar.muli v639 c128_i32_204
  let v641 : BitVec 32 := Scalar.addi v640 c0_i32_205
  let v642 : Index := Scalar.indexCast v641
  ![v642.toNat]
def k0_off206 (v763 : BitVec 32) (c0_i32_242 : BitVec 32) : Fin 1 → Nat :=
  let c128_i32_241 : BitVec 32 := 128#32
  let v764 : BitVec 32 := Scalar.muli v763 c128_i32_241
  let v765 : BitVec 32 := Scalar.addi v764 c0_i32_242
  let v766 : Index := Scalar.indexCast v765
  ![v766.toNat]

def k0_chk95 (v56 : BitVec 32) (v63 : BitVec 32) (v82 : BitVec 32) (v84 : BitVec 32) (v103 : BitVec 32) (v105 : BitVec 32) (v763 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off206 v763 (BitVec.ofNat 32 (16 * r.val))) a + S16.size a ≤ S16384.size a)
theorem k0_off206_inb : ∀ (v56 : BitVec 32) (v63 : BitVec 32) (v82 : BitVec 32) (v84 : BitVec 32) (v103 : BitVec 32) (v105 : BitVec 32) (v763 : BitVec 32) (k0_hw95 : k0_chk95 v56 v63 v82 v84 v103 v105 v763), ∀ (k0_h15 : k0_cond15 v56 v63 = 1#1), ∀ (k0_h17 : k0_cond17 v82 v84 = 1#1), ∀ (k0_h21 : k0_cond21 v103 v105 = 1#1), ∀ (r : Fin 8), ∀ a, (k0_off206 v763 (BitVec.ofNat 32 (16 * r.val))) a + S16.size a ≤ S16384.size a := fun v56 v63 v82 v84 v103 v105 v763 k0_hw95 k0_h15 k0_h17 k0_h21 r => k0_hw95 k0_h15 k0_h17 k0_h21 r

def k0_off207 (k0_t6 : Fin k0_t6_loop.trips) (c0_i32_244 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c5_i32 : BitVec 32 := 5#32
  let v769 : BitVec 32 := Scalar.addi v101 c5_i32
  let c128_i32_243 : BitVec 32 := 128#32
  let v770 : BitVec 32 := Scalar.muli v769 c128_i32_243
  let v771 : BitVec 32 := Scalar.addi v770 c0_i32_244
  let v772 : Index := Scalar.indexCast v771
  ![v772.toNat]
def k0_off208 (v893 : BitVec 32) (c0_i32_281 : BitVec 32) : Fin 1 → Nat :=
  let c128_i32_280 : BitVec 32 := 128#32
  let v894 : BitVec 32 := Scalar.muli v893 c128_i32_280
  let v895 : BitVec 32 := Scalar.addi v894 c0_i32_281
  let v896 : Index := Scalar.indexCast v895
  ![v896.toNat]

def k0_chk96 (v56 : BitVec 32) (v63 : BitVec 32) (v82 : BitVec 32) (v84 : BitVec 32) (v103 : BitVec 32) (v105 : BitVec 32) (v893 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off208 v893 (BitVec.ofNat 32 (16 * r.val))) a + S16.size a ≤ S16384.size a)
theorem k0_off208_inb : ∀ (v56 : BitVec 32) (v63 : BitVec 32) (v82 : BitVec 32) (v84 : BitVec 32) (v103 : BitVec 32) (v105 : BitVec 32) (v893 : BitVec 32) (k0_hw96 : k0_chk96 v56 v63 v82 v84 v103 v105 v893), ∀ (k0_h15 : k0_cond15 v56 v63 = 1#1), ∀ (k0_h17 : k0_cond17 v82 v84 = 1#1), ∀ (k0_h21 : k0_cond21 v103 v105 = 1#1), ∀ (r : Fin 8), ∀ a, (k0_off208 v893 (BitVec.ofNat 32 (16 * r.val))) a + S16.size a ≤ S16384.size a := fun v56 v63 v82 v84 v103 v105 v893 k0_hw96 k0_h15 k0_h17 k0_h21 r => k0_hw96 k0_h15 k0_h17 k0_h21 r

def k0_off209 (k0_t6 : Fin k0_t6_loop.trips) (c0_i32_283 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c6_i32 : BitVec 32 := 6#32
  let v899 : BitVec 32 := Scalar.addi v101 c6_i32
  let c128_i32_282 : BitVec 32 := 128#32
  let v900 : BitVec 32 := Scalar.muli v899 c128_i32_282
  let v901 : BitVec 32 := Scalar.addi v900 c0_i32_283
  let v902 : Index := Scalar.indexCast v901
  ![v902.toNat]
def k0_off210 (v1023 : BitVec 32) (c0_i32_320 : BitVec 32) : Fin 1 → Nat :=
  let c128_i32_319 : BitVec 32 := 128#32
  let v1024 : BitVec 32 := Scalar.muli v1023 c128_i32_319
  let v1025 : BitVec 32 := Scalar.addi v1024 c0_i32_320
  let v1026 : Index := Scalar.indexCast v1025
  ![v1026.toNat]

def k0_chk97 (v56 : BitVec 32) (v63 : BitVec 32) (v82 : BitVec 32) (v84 : BitVec 32) (v103 : BitVec 32) (v105 : BitVec 32) (v1023 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off210 v1023 (BitVec.ofNat 32 (16 * r.val))) a + S16.size a ≤ S16384.size a)
theorem k0_off210_inb : ∀ (v56 : BitVec 32) (v63 : BitVec 32) (v82 : BitVec 32) (v84 : BitVec 32) (v103 : BitVec 32) (v105 : BitVec 32) (v1023 : BitVec 32) (k0_hw97 : k0_chk97 v56 v63 v82 v84 v103 v105 v1023), ∀ (k0_h15 : k0_cond15 v56 v63 = 1#1), ∀ (k0_h17 : k0_cond17 v82 v84 = 1#1), ∀ (k0_h21 : k0_cond21 v103 v105 = 1#1), ∀ (r : Fin 8), ∀ a, (k0_off210 v1023 (BitVec.ofNat 32 (16 * r.val))) a + S16.size a ≤ S16384.size a := fun v56 v63 v82 v84 v103 v105 v1023 k0_hw97 k0_h15 k0_h17 k0_h21 r => k0_hw97 k0_h15 k0_h17 k0_h21 r

def k0_off211 (k0_t6 : Fin k0_t6_loop.trips) (c0_i32_322 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c7_i32 : BitVec 32 := 7#32
  let v1029 : BitVec 32 := Scalar.addi v101 c7_i32
  let c128_i32_321 : BitVec 32 := 128#32
  let v1030 : BitVec 32 := Scalar.muli v1029 c128_i32_321
  let v1031 : BitVec 32 := Scalar.addi v1030 c0_i32_322
  let v1032 : Index := Scalar.indexCast v1031
  ![v1032.toNat]
def k0_off212 (v1153 : BitVec 32) (c0_i32_359 : BitVec 32) : Fin 1 → Nat :=
  let c128_i32_358 : BitVec 32 := 128#32
  let v1154 : BitVec 32 := Scalar.muli v1153 c128_i32_358
  let v1155 : BitVec 32 := Scalar.addi v1154 c0_i32_359
  let v1156 : Index := Scalar.indexCast v1155
  ![v1156.toNat]

def k0_chk98 (v56 : BitVec 32) (v63 : BitVec 32) (v82 : BitVec 32) (v84 : BitVec 32) (v103 : BitVec 32) (v105 : BitVec 32) (v1153 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off212 v1153 (BitVec.ofNat 32 (16 * r.val))) a + S16.size a ≤ S16384.size a)
theorem k0_off212_inb : ∀ (v56 : BitVec 32) (v63 : BitVec 32) (v82 : BitVec 32) (v84 : BitVec 32) (v103 : BitVec 32) (v105 : BitVec 32) (v1153 : BitVec 32) (k0_hw98 : k0_chk98 v56 v63 v82 v84 v103 v105 v1153), ∀ (k0_h15 : k0_cond15 v56 v63 = 1#1), ∀ (k0_h17 : k0_cond17 v82 v84 = 1#1), ∀ (k0_h21 : k0_cond21 v103 v105 = 1#1), ∀ (r : Fin 8), ∀ a, (k0_off212 v1153 (BitVec.ofNat 32 (16 * r.val))) a + S16.size a ≤ S16384.size a := fun v56 v63 v82 v84 v103 v105 v1153 k0_hw98 k0_h15 k0_h17 k0_h21 r => k0_hw98 k0_h15 k0_h17 k0_h21 r

def k0_off213 (k0_t6 : Fin k0_t6_loop.trips) (c0_i32_362 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c8_i32_360 : BitVec 32 := 8#32
  let v1159 : BitVec 32 := Scalar.addi v101 c8_i32_360
  let c128_i32_361 : BitVec 32 := 128#32
  let v1160 : BitVec 32 := Scalar.muli v1159 c128_i32_361
  let v1161 : BitVec 32 := Scalar.addi v1160 c0_i32_362
  let v1162 : Index := Scalar.indexCast v1161
  ![v1162.toNat]
def k0_off214 (v1283 : BitVec 32) (c0_i32_399 : BitVec 32) : Fin 1 → Nat :=
  let c128_i32_398 : BitVec 32 := 128#32
  let v1284 : BitVec 32 := Scalar.muli v1283 c128_i32_398
  let v1285 : BitVec 32 := Scalar.addi v1284 c0_i32_399
  let v1286 : Index := Scalar.indexCast v1285
  ![v1286.toNat]

def k0_chk99 (v56 : BitVec 32) (v63 : BitVec 32) (v82 : BitVec 32) (v84 : BitVec 32) (v103 : BitVec 32) (v105 : BitVec 32) (v1283 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off214 v1283 (BitVec.ofNat 32 (16 * r.val))) a + S16.size a ≤ S16384.size a)
theorem k0_off214_inb : ∀ (v56 : BitVec 32) (v63 : BitVec 32) (v82 : BitVec 32) (v84 : BitVec 32) (v103 : BitVec 32) (v105 : BitVec 32) (v1283 : BitVec 32) (k0_hw99 : k0_chk99 v56 v63 v82 v84 v103 v105 v1283), ∀ (k0_h15 : k0_cond15 v56 v63 = 1#1), ∀ (k0_h17 : k0_cond17 v82 v84 = 1#1), ∀ (k0_h21 : k0_cond21 v103 v105 = 1#1), ∀ (r : Fin 8), ∀ a, (k0_off214 v1283 (BitVec.ofNat 32 (16 * r.val))) a + S16.size a ≤ S16384.size a := fun v56 v63 v82 v84 v103 v105 v1283 k0_hw99 k0_h15 k0_h17 k0_h21 r => k0_hw99 k0_h15 k0_h17 k0_h21 r

def k0_off215 (k0_t6 : Fin k0_t6_loop.trips) (c0_i32_401 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c9_i32 : BitVec 32 := 9#32
  let v1289 : BitVec 32 := Scalar.addi v101 c9_i32
  let c128_i32_400 : BitVec 32 := 128#32
  let v1290 : BitVec 32 := Scalar.muli v1289 c128_i32_400
  let v1291 : BitVec 32 := Scalar.addi v1290 c0_i32_401
  let v1292 : Index := Scalar.indexCast v1291
  ![v1292.toNat]
def k0_off216 (v1413 : BitVec 32) (c0_i32_438 : BitVec 32) : Fin 1 → Nat :=
  let c128_i32_437 : BitVec 32 := 128#32
  let v1414 : BitVec 32 := Scalar.muli v1413 c128_i32_437
  let v1415 : BitVec 32 := Scalar.addi v1414 c0_i32_438
  let v1416 : Index := Scalar.indexCast v1415
  ![v1416.toNat]

def k0_chk100 (v56 : BitVec 32) (v63 : BitVec 32) (v82 : BitVec 32) (v84 : BitVec 32) (v103 : BitVec 32) (v105 : BitVec 32) (v1413 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off216 v1413 (BitVec.ofNat 32 (16 * r.val))) a + S16.size a ≤ S16384.size a)
theorem k0_off216_inb : ∀ (v56 : BitVec 32) (v63 : BitVec 32) (v82 : BitVec 32) (v84 : BitVec 32) (v103 : BitVec 32) (v105 : BitVec 32) (v1413 : BitVec 32) (k0_hw100 : k0_chk100 v56 v63 v82 v84 v103 v105 v1413), ∀ (k0_h15 : k0_cond15 v56 v63 = 1#1), ∀ (k0_h17 : k0_cond17 v82 v84 = 1#1), ∀ (k0_h21 : k0_cond21 v103 v105 = 1#1), ∀ (r : Fin 8), ∀ a, (k0_off216 v1413 (BitVec.ofNat 32 (16 * r.val))) a + S16.size a ≤ S16384.size a := fun v56 v63 v82 v84 v103 v105 v1413 k0_hw100 k0_h15 k0_h17 k0_h21 r => k0_hw100 k0_h15 k0_h17 k0_h21 r

def k0_off217 (k0_t6 : Fin k0_t6_loop.trips) (c0_i32_440 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c10_i32 : BitVec 32 := 10#32
  let v1419 : BitVec 32 := Scalar.addi v101 c10_i32
  let c128_i32_439 : BitVec 32 := 128#32
  let v1420 : BitVec 32 := Scalar.muli v1419 c128_i32_439
  let v1421 : BitVec 32 := Scalar.addi v1420 c0_i32_440
  let v1422 : Index := Scalar.indexCast v1421
  ![v1422.toNat]
def k0_off218 (v1543 : BitVec 32) (c0_i32_477 : BitVec 32) : Fin 1 → Nat :=
  let c128_i32_476 : BitVec 32 := 128#32
  let v1544 : BitVec 32 := Scalar.muli v1543 c128_i32_476
  let v1545 : BitVec 32 := Scalar.addi v1544 c0_i32_477
  let v1546 : Index := Scalar.indexCast v1545
  ![v1546.toNat]

def k0_chk101 (v56 : BitVec 32) (v63 : BitVec 32) (v82 : BitVec 32) (v84 : BitVec 32) (v103 : BitVec 32) (v105 : BitVec 32) (v1543 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off218 v1543 (BitVec.ofNat 32 (16 * r.val))) a + S16.size a ≤ S16384.size a)
theorem k0_off218_inb : ∀ (v56 : BitVec 32) (v63 : BitVec 32) (v82 : BitVec 32) (v84 : BitVec 32) (v103 : BitVec 32) (v105 : BitVec 32) (v1543 : BitVec 32) (k0_hw101 : k0_chk101 v56 v63 v82 v84 v103 v105 v1543), ∀ (k0_h15 : k0_cond15 v56 v63 = 1#1), ∀ (k0_h17 : k0_cond17 v82 v84 = 1#1), ∀ (k0_h21 : k0_cond21 v103 v105 = 1#1), ∀ (r : Fin 8), ∀ a, (k0_off218 v1543 (BitVec.ofNat 32 (16 * r.val))) a + S16.size a ≤ S16384.size a := fun v56 v63 v82 v84 v103 v105 v1543 k0_hw101 k0_h15 k0_h17 k0_h21 r => k0_hw101 k0_h15 k0_h17 k0_h21 r

def k0_off219 (k0_t6 : Fin k0_t6_loop.trips) (c0_i32_479 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c11_i32 : BitVec 32 := 11#32
  let v1549 : BitVec 32 := Scalar.addi v101 c11_i32
  let c128_i32_478 : BitVec 32 := 128#32
  let v1550 : BitVec 32 := Scalar.muli v1549 c128_i32_478
  let v1551 : BitVec 32 := Scalar.addi v1550 c0_i32_479
  let v1552 : Index := Scalar.indexCast v1551
  ![v1552.toNat]
def k0_off220 (v1673 : BitVec 32) (c0_i32_516 : BitVec 32) : Fin 1 → Nat :=
  let c128_i32_515 : BitVec 32 := 128#32
  let v1674 : BitVec 32 := Scalar.muli v1673 c128_i32_515
  let v1675 : BitVec 32 := Scalar.addi v1674 c0_i32_516
  let v1676 : Index := Scalar.indexCast v1675
  ![v1676.toNat]

def k0_chk102 (v56 : BitVec 32) (v63 : BitVec 32) (v82 : BitVec 32) (v84 : BitVec 32) (v103 : BitVec 32) (v105 : BitVec 32) (v1673 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off220 v1673 (BitVec.ofNat 32 (16 * r.val))) a + S16.size a ≤ S16384.size a)
theorem k0_off220_inb : ∀ (v56 : BitVec 32) (v63 : BitVec 32) (v82 : BitVec 32) (v84 : BitVec 32) (v103 : BitVec 32) (v105 : BitVec 32) (v1673 : BitVec 32) (k0_hw102 : k0_chk102 v56 v63 v82 v84 v103 v105 v1673), ∀ (k0_h15 : k0_cond15 v56 v63 = 1#1), ∀ (k0_h17 : k0_cond17 v82 v84 = 1#1), ∀ (k0_h21 : k0_cond21 v103 v105 = 1#1), ∀ (r : Fin 8), ∀ a, (k0_off220 v1673 (BitVec.ofNat 32 (16 * r.val))) a + S16.size a ≤ S16384.size a := fun v56 v63 v82 v84 v103 v105 v1673 k0_hw102 k0_h15 k0_h17 k0_h21 r => k0_hw102 k0_h15 k0_h17 k0_h21 r

def k0_off221 (k0_t6 : Fin k0_t6_loop.trips) (c0_i32_518 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c12_i32 : BitVec 32 := 12#32
  let v1679 : BitVec 32 := Scalar.addi v101 c12_i32
  let c128_i32_517 : BitVec 32 := 128#32
  let v1680 : BitVec 32 := Scalar.muli v1679 c128_i32_517
  let v1681 : BitVec 32 := Scalar.addi v1680 c0_i32_518
  let v1682 : Index := Scalar.indexCast v1681
  ![v1682.toNat]
def k0_off222 (v1803 : BitVec 32) (c0_i32_555 : BitVec 32) : Fin 1 → Nat :=
  let c128_i32_554 : BitVec 32 := 128#32
  let v1804 : BitVec 32 := Scalar.muli v1803 c128_i32_554
  let v1805 : BitVec 32 := Scalar.addi v1804 c0_i32_555
  let v1806 : Index := Scalar.indexCast v1805
  ![v1806.toNat]

def k0_chk103 (v56 : BitVec 32) (v63 : BitVec 32) (v82 : BitVec 32) (v84 : BitVec 32) (v103 : BitVec 32) (v105 : BitVec 32) (v1803 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off222 v1803 (BitVec.ofNat 32 (16 * r.val))) a + S16.size a ≤ S16384.size a)
theorem k0_off222_inb : ∀ (v56 : BitVec 32) (v63 : BitVec 32) (v82 : BitVec 32) (v84 : BitVec 32) (v103 : BitVec 32) (v105 : BitVec 32) (v1803 : BitVec 32) (k0_hw103 : k0_chk103 v56 v63 v82 v84 v103 v105 v1803), ∀ (k0_h15 : k0_cond15 v56 v63 = 1#1), ∀ (k0_h17 : k0_cond17 v82 v84 = 1#1), ∀ (k0_h21 : k0_cond21 v103 v105 = 1#1), ∀ (r : Fin 8), ∀ a, (k0_off222 v1803 (BitVec.ofNat 32 (16 * r.val))) a + S16.size a ≤ S16384.size a := fun v56 v63 v82 v84 v103 v105 v1803 k0_hw103 k0_h15 k0_h17 k0_h21 r => k0_hw103 k0_h15 k0_h17 k0_h21 r

def k0_off223 (k0_t6 : Fin k0_t6_loop.trips) (c0_i32_557 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c13_i32 : BitVec 32 := 13#32
  let v1809 : BitVec 32 := Scalar.addi v101 c13_i32
  let c128_i32_556 : BitVec 32 := 128#32
  let v1810 : BitVec 32 := Scalar.muli v1809 c128_i32_556
  let v1811 : BitVec 32 := Scalar.addi v1810 c0_i32_557
  let v1812 : Index := Scalar.indexCast v1811
  ![v1812.toNat]
def k0_off224 (v1933 : BitVec 32) (c0_i32_594 : BitVec 32) : Fin 1 → Nat :=
  let c128_i32_593 : BitVec 32 := 128#32
  let v1934 : BitVec 32 := Scalar.muli v1933 c128_i32_593
  let v1935 : BitVec 32 := Scalar.addi v1934 c0_i32_594
  let v1936 : Index := Scalar.indexCast v1935
  ![v1936.toNat]

def k0_chk104 (v56 : BitVec 32) (v63 : BitVec 32) (v82 : BitVec 32) (v84 : BitVec 32) (v103 : BitVec 32) (v105 : BitVec 32) (v1933 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off224 v1933 (BitVec.ofNat 32 (16 * r.val))) a + S16.size a ≤ S16384.size a)
theorem k0_off224_inb : ∀ (v56 : BitVec 32) (v63 : BitVec 32) (v82 : BitVec 32) (v84 : BitVec 32) (v103 : BitVec 32) (v105 : BitVec 32) (v1933 : BitVec 32) (k0_hw104 : k0_chk104 v56 v63 v82 v84 v103 v105 v1933), ∀ (k0_h15 : k0_cond15 v56 v63 = 1#1), ∀ (k0_h17 : k0_cond17 v82 v84 = 1#1), ∀ (k0_h21 : k0_cond21 v103 v105 = 1#1), ∀ (r : Fin 8), ∀ a, (k0_off224 v1933 (BitVec.ofNat 32 (16 * r.val))) a + S16.size a ≤ S16384.size a := fun v56 v63 v82 v84 v103 v105 v1933 k0_hw104 k0_h15 k0_h17 k0_h21 r => k0_hw104 k0_h15 k0_h17 k0_h21 r

def k0_off225 (k0_t6 : Fin k0_t6_loop.trips) (c0_i32_597 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c14_i32_595 : BitVec 32 := 14#32
  let v1939 : BitVec 32 := Scalar.addi v101 c14_i32_595
  let c128_i32_596 : BitVec 32 := 128#32
  let v1940 : BitVec 32 := Scalar.muli v1939 c128_i32_596
  let v1941 : BitVec 32 := Scalar.addi v1940 c0_i32_597
  let v1942 : Index := Scalar.indexCast v1941
  ![v1942.toNat]
def k0_off226 (v2063 : BitVec 32) (c0_i32_634 : BitVec 32) : Fin 1 → Nat :=
  let c128_i32_633 : BitVec 32 := 128#32
  let v2064 : BitVec 32 := Scalar.muli v2063 c128_i32_633
  let v2065 : BitVec 32 := Scalar.addi v2064 c0_i32_634
  let v2066 : Index := Scalar.indexCast v2065
  ![v2066.toNat]

def k0_chk105 (v56 : BitVec 32) (v63 : BitVec 32) (v82 : BitVec 32) (v84 : BitVec 32) (v103 : BitVec 32) (v105 : BitVec 32) (v2063 : BitVec 32) : Prop :=
  (∀ (k0_h15 : k0_cond15 v56 v63 = 1#1), ∀ (k0_h17 : k0_cond17 v82 v84 = 1#1), ∀ (k0_h21 : k0_cond21 v103 v105 = 1#1), ∀ (r : Fin 8), ∀ a, (k0_off226 v2063 (BitVec.ofNat 32 (16 * r.val))) a + S16.size a ≤ S16384.size a)
theorem k0_off226_inb : ∀ (v56 : BitVec 32) (v63 : BitVec 32) (v82 : BitVec 32) (v84 : BitVec 32) (v103 : BitVec 32) (v105 : BitVec 32) (v2063 : BitVec 32) (k0_hw105 : k0_chk105 v56 v63 v82 v84 v103 v105 v2063), ∀ (k0_h15 : k0_cond15 v56 v63 = 1#1), ∀ (k0_h17 : k0_cond17 v82 v84 = 1#1), ∀ (k0_h21 : k0_cond21 v103 v105 = 1#1), ∀ (r : Fin 8), ∀ a, (k0_off226 v2063 (BitVec.ofNat 32 (16 * r.val))) a + S16.size a ≤ S16384.size a := fun v56 v63 v82 v84 v103 v105 v2063 k0_hw105 k0_h15 k0_h17 k0_h21 r => k0_hw105 k0_h15 k0_h17 k0_h21 r

def k0_off227 (k0_t6 : Fin k0_t6_loop.trips) (c0_i32_636 : BitVec 32) : Fin 1 → Nat :=
  let c0_i32_32 : BitVec 32 := 0#32
  let c1_i32_33 : BitVec 32 := 1#32
  let arg13 : BitVec 32 := Scf.iv c0_i32_32 c1_i32_33 k0_t6
  let c2_i32_35 : BitVec 32 := 2#32
  let v70 : BitVec 32 := Scalar.muli arg13 c2_i32_35
  let c16_i32_36 : BitVec 32 := 16#32
  let v71 : BitVec 32 := Scalar.muli v70 c16_i32_36
  let c16_i32_43 : BitVec 32 := 16#32
  let v101 : BitVec 32 := Scalar.addi v71 c16_i32_43
  let c15_i32 : BitVec 32 := 15#32
  let v2069 : BitVec 32 := Scalar.addi v101 c15_i32
  let c128_i32_635 : BitVec 32 := 128#32
  let v2070 : BitVec 32 := Scalar.muli v2069 c128_i32_635
  let v2071 : BitVec 32 := Scalar.addi v2070 c0_i32_636
  let v2072 : Index := Scalar.indexCast v2071
  ![v2072.toNat]
def k0_off228 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_25 : BitVec 32 := 128#32
  let v49 : BitVec 32 := Scalar.muli v1 c128_i32_25
  let c128_i32_26 : BitVec 32 := 128#32
  let v50 : BitVec 32 := Scalar.muli v49 c128_i32_26
  ![v50.toNat]
abbrev grid1 : Pipeline.Grid := ⟨1, ![56], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x448x8 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S448x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S32x8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S128 : Shape := ⟨1, ![128]⟩
abbrev S1x100000 : Shape := ⟨2, ![1, 100000]⟩
abbrev S128x1 : Shape := ⟨2, ![128, 1]⟩
abbrev S128x100000 : Shape := ⟨2, ![128, 100000]⟩
abbrev S128x100000x1 : Shape := ⟨3, ![128, 100000, 1]⟩
abbrev S1x100000x128 : Shape := ⟨3, ![1, 100000, 128]⟩
abbrev S_ : Shape := ⟨0, ![]⟩
abbrev S128x100000x128 : Shape := ⟨3, ![128, 100000, 128]⟩
abbrev S128x128 : Shape := ⟨2, ![128, 128]⟩

abbrev nBuf : Space → Nat
  | .hbm => 18
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128, .i32⟩
  | .hbm, ⟨3, _⟩ => ⟨S1x100000, .i32⟩
  | .hbm, ⟨4, _⟩ => ⟨S128x1, .i32⟩
  | .hbm, ⟨5, _⟩ => ⟨S128x100000, .i32⟩
  | .hbm, ⟨6, _⟩ => ⟨S128x100000, .i32⟩
  | .hbm, ⟨7, _⟩ => ⟨S128x100000, .i1⟩
  | .hbm, ⟨8, _⟩ => ⟨S128x100000x1, .i1⟩
  | .hbm, ⟨9, _⟩ => ⟨S1x100000x128, .f32⟩
  | .hbm, ⟨10, _⟩ => ⟨S_, .f32⟩
  | .hbm, ⟨11, _⟩ => ⟨S_, .f32⟩
  | .hbm, ⟨12, _⟩ => ⟨S128x100000x128, .i1⟩
  | .hbm, ⟨13, _⟩ => ⟨S128x100000x128, .f32⟩
  | .hbm, ⟨14, _⟩ => ⟨S128x100000x128, .f32⟩
  | .hbm, ⟨15, _⟩ => ⟨S128x100000x128, .f32⟩
  | .hbm, ⟨16, _⟩ => ⟨S_, .f32⟩
  | .hbm, ⟨17, _⟩ => ⟨S128x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Proof.Base.lean ====
/-
  The vocabulary of the proof, shared by every other module: the program as the launch theorem sees it, a
  vector subcore's thread, the tile's buffers, and the pure functions that say what the body's steps do to
  the accumulator.

  The accumulator holds 128 rows (one per segment) of 128 lanes. Every store of the body has one shape:
  sixteen lanes of one row become the maximum of what they were and a vector. `upd sid hi g a` is the
  accumulator `a` after the lanes below `hi` of row `sid` have been raised to `g`.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Scf
public import Idealize.ShloMosaic.Lib.Tactic
public import proofs.«01_k».proof.Proof.Gen.KernelIdeal

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the handshakes' rounds, the two TensorCore pipelines' rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-! ## A tile's thread and its buffers -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

local notation "aV" => (Memref.whole Cert.KernelIdeal.cc0_scratch4 : Memref Cert.KernelIdeal.sig Kind.scVector Space.vmem Cert.KernelIdeal.S16384 EltTy.f32)

/-- A program of tile `L`. -/
abbrev PE (L : grid0.Coords) (α : Type) := Prog (TpuEff nD τ sig (Elt F) Λ₀ (.scVector ((L 0).castLE hcore0) ((L 1).castLE hsub0))) α

/-- Position `n` of a list of `N` elements. -/
def ix (N : Nat) [NeZero N] (n : Nat) : (⟨1, ![N]⟩ : Shape).Idx := fun _ => ⟨n % N, by
  have := Nat.mod_lt n (NeZero.pos N); simpa using this⟩

theorem ix_val (N : Nat) [NeZero N] (n : Nat) (h : n < N) (a) : (ix N n a).val = n := Nat.mod_eq_of_lt h

/-! ## What the body computes, as pure functions -/

section Pure

variable [FloatOps F]

/-- The contents of the accumulator. -/
abbrev Acc (F : FTy → Type) : Type := S16384.Idx → Elt F .f32
/-- The contents of a staging buffer of rows. -/
abbrev Rows (F : FTy → Type) : Type := S28672.Idx → Elt F .f32

/-- Lane `c` of row `q` of a staging buffer. -/
def lane (R : Rows F) (q c : Nat) : F .f32 := R (ix 28672 (q * 128 + c))

/-- One level of the pairwise maxima the body forms. -/
def pairUp {s : Shape} : List (FVec F s .f32) → List (FVec F s .f32)
  | [] => []
  | [a] => [a]
  | a :: b :: r => maximumf a b :: pairUp r
/-- `n` levels of pairwise maxima. -/
def treeN {s : Shape} : Nat → List (FVec F s .f32) → FVec F s .f32
  | 0, a :: _ => a
  | 0, [] => broadcast s (Scalar.ofBits .f32 0xFF800000#32)
  | n + 1, l => treeN n (pairUp l)

/-- The same on numbers. -/
def pairS : List (F .f32) → List (F .f32)
  | [] => []
  | [a] => [a]
  | a :: b :: r => FloatOps.maximumf a b :: pairS r
def treeS : Nat → List (F .f32) → F .f32
  | 0, a :: _ => a
  | 0, [] => FloatOps.ofBits .f32 0xFF800000#32
  | n + 1, l => treeS n (pairS l)

theorem pairUp_apply {s : Shape} (x : s.Idx) : ∀ l : List (FVec F s .f32), (pairUp l).map (· x) = pairS (l.map (· x))
  | [] => rfl
  | [_] => rfl
  | a :: b :: r => by
    show maximumf a b x :: (pairUp r).map (· x) = FloatOps.maximumf (a x) (b x) :: pairS (r.map (· x))
    rw [pairUp_apply x r]; rfl

theorem treeN_apply {s : Shape} (x : s.Idx) : ∀ (n : Nat) (l : List (FVec F s .f32)), treeN n l x = treeS n (l.map (· x))
  | 0, [] => rfl
  | 0, _ :: _ => rfl
  | n + 1, l => by
    show treeN n (pairUp l) x = treeS n (pairS (l.map (· x)))
    rw [treeN_apply x n, pairUp_apply]

/-- The accumulator after the lanes below `hi` of row `sid` are raised to `g`. -/
def upd (sid hi : Nat) (g : Nat → F .f32) (a : Acc F) : Acc F :=
  fun x => if (x 0).val / 128 = sid ∧ (x 0).val % 128 < hi then FloatOps.maximumf (a x) (g ((x 0).val % 128)) else a x

theorem upd_zero (sid : Nat) (g : Nat → F .f32) (a : Acc F) : upd sid 0 g a = a := by
  funext x; exact if_neg fun h => absurd h.2 (Nat.not_lt_zero _)

/-- Raising row `sid` to the maximum of rows `q …  q + n - 1` of a staging buffer, formed in `lv` levels. -/
def treeG (R : Rows F) (q n lv : Nat) (c : Nat) : F .f32 := treeS lv ((List.range' q n).map fun r => lane R r c)

/-- A group of sixteen rows taken one by one: row `q + r` goes to segment `ids (p + r)`. -/
def rowsStep (ids : Nat → BitVec 32) (R : Rows F) (p q : Nat) : Nat → Acc F → Acc F
  | 0, a => a
  | n + 1, a => rowsStep ids R (p + 1) (q + 1) n (upd (ids p).toNat 128 (lane R q) a)

/-- A group of sixteen rows: at once when its first and last ids agree, else row by row. -/
def grpStep (ids : Nat → BitVec 32) (R : Rows F) (p q : Nat) (a : Acc F) : Acc F :=
  if ids p = ids (p + 15) then upd (ids p).toNat 128 (treeG R q 16 4) a else rowsStep ids R p q 16 a

/-- A unit of thirty-two rows: at once when its first and last ids agree, else its two groups. -/
def unitStep (ids : Nat → BitVec 32) (R : Rows F) (p q : Nat) (a : Acc F) : Acc F :=
  if ids p = ids (p + 31) then upd (ids p).toNat 128 (treeG R q 32 5) a
  else grpStep ids R (p + 16) (q + 16) (grpStep ids R p q a)

/-- `n` units in turn. -/
def unitsStep (ids : Nat → BitVec 32) (R : Rows F) (p q : Nat) : Nat → Acc F → Acc F
  | 0, a => a
  | n + 1, a => unitStep ids R (p + 32 * n) (q + 32 * n) (unitsStep ids R p q n a)

end Pure

/-! ## The body's offsets -/

/-- Row `row0 + r`, lane `c`, as the body computes it. -/
def rowOff (row0 r c : BitVec 32) : Fin 1 → Nat := ![(Scalar.indexCast (Scalar.addi (Scalar.muli (Scalar.addi row0 r) 128#32) c)).toNat]
/-- Row `sid`, lane `c`, as the body computes it. -/
def segOff (sid c : BitVec 32) : Fin 1 → Nat := ![(Scalar.indexCast (Scalar.addi (Scalar.muli sid 128#32) c)).toNat]

theorem segOff_eq (sid : BitVec 32) (h : sid.toNat < 128) (j : Nat) (hj : j < 8) :
    segOff sid (BitVec.ofNat 32 (16 * j)) 0 = sid.toNat * 128 + 16 * j := by
  show (Scalar.indexCast (Scalar.addi (Scalar.muli sid 128#32) (BitVec.ofNat 32 (16 * j)))).toNat = _
  simp only [Scalar.indexCast, Scalar.addi, Scalar.muli, IntOp.addi, IntOp.muli]
  simp [BitVec.toNat_add, BitVec.toNat_mul, BitVec.toNat_ofNat]
  omega

theorem rowOff_eq (row0 : BitVec 32) (q : Nat) (hq : row0.toNat = q) (r : Nat) (hr : q + r < 224) (j : Nat) (hj : j < 8) :
    rowOff row0 (BitVec.ofNat 32 r) (BitVec.ofNat 32 (16 * j)) 0 = (q + r) * 128 + 16 * j := by
  show (Scalar.indexCast (Scalar.addi (Scalar.muli (Scalar.addi row0 (BitVec.ofNat 32 r)) 128#32) (BitVec.ofNat 32 (16 * j)))).toNat = _
  simp only [Scalar.indexCast, Scalar.addi, Scalar.muli, IntOp.addi, IntOp.muli]
  simp [BitVec.toNat_add, BitVec.toNat_mul, BitVec.toNat_ofNat, hq]
  omega

end Cert.Proof.SegMax

end
-- ==== Proof.Body.lean ====
/-
  What a stretch of a tile's body does to the accumulator, and the rules that say so.

  `Ex B p a a'` says that the program `p` of a tile, run while the tile holds its staging buffer of rows, its
  ids and its accumulator at `a`, ends with the accumulator at `a'` and the other two as they were. Each rule
  is about one shape of the body's text — a vector's worth of a tree of maxima, a row taken by itself, a
  conditional, a loop — and the body's text is read by applying them in turn.
-/
module

public import proofs.«01_k».proof.Proof.Base

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "aV" => (Memref.whole Cert.KernelIdeal.cc0_scratch4 : Memref Cert.KernelIdeal.sig Kind.scVector Space.vmem Cert.KernelIdeal.S16384 EltTy.f32)

/-! ## One store of the body -/

section Pure
variable [FloatOps F]

/-- Raising sixteen lanes of a row, the lanes below them having been raised. -/
theorem store_upd (sid : BitVec 32) (h : sid.toNat < 128) (j : Nat) (hj : j < 8) (hs) (g : Nat → F .f32) (a : Acc F)
    (w : FVec F S16 .f32)
    (hw : ∀ x, w x = FloatOps.maximumf (upd sid.toNat (16 * j) g a ((Rect.unit (s := S16384) (segOff sid (BitVec.ofNat 32 (16 * j))) S16.size hs).emb x)) (g (16 * j + (x 0).val))) :
    (Memref.access aV (Rect.unit (s := S16384) (segOff sid (BitVec.ofNat 32 (16 * j))) S16.size hs)).write (Elt F) (upd sid.toNat (16 * j) g a) w Finset.univ
      = upd sid.toNat (16 * (j + 1)) g a := by
  have hv : ∀ f : Acc F, (View.whole cc0_scratch4 : View sig .scVector _ _ _).read (Elt F) f = f := fun f => rfl
  have h0 := segOff_eq sid h j hj
  refine (hv _).symm.trans ?_
  funext y
  by_cases hy : y ∈ (Finset.univ).map (Rect.unit (s := S16384) (segOff sid (BitVec.ofNat 32 (16 * j))) S16.size hs).emb
  · obtain ⟨x, -, rfl⟩ := Finset.mem_map.mp hy
    refine (View.read_slice_write_emb (Val := Elt F) (v := (View.whole cc0_scratch4 : View sig .scVector _ _ _)) _ _ w (Finset.mem_univ x)).trans ?_
    rw [hw x]
    have hx : (x 0).val < 16 := (x 0).isLt
    have e0 : ((Rect.unit (s := S16384) (segOff sid (BitVec.ofNat 32 (16 * j))) S16.size hs).emb x 0).val = sid.toNat * 128 + 16 * j + (x 0).val := by
      rw [Rect.emb_apply, Rect.off_unit, Rect.stride_unit, h0, Nat.one_mul]
    have e1 : (sid.toNat * 128 + 16 * j + (x 0).val) / 128 = sid.toNat := by omega
    have e2 : (sid.toNat * 128 + 16 * j + (x 0).val) % 128 = 16 * j + (x 0).val := by omega
    rw [upd, upd, e0, e1, e2, if_neg (by omega), if_pos ⟨rfl, by omega⟩]
  · refine (View.read_slice_write_of_not_mem (Val := Elt F) (v := (View.whole cc0_scratch4 : View sig .scVector _ _ _)) _ _ w _ hy).trans ?_
    refine (congrFun (hv _) y).trans ?_
    have hn : ¬ ((y 0).val / 128 = sid.toNat ∧ 16 * j ≤ (y 0).val % 128 ∧ (y 0).val % 128 < 16 * j + 16) := by
      rintro ⟨h1, h2, h3⟩
      refine hy ?_
      have : y ∈ (Rect.unit (s := S16384) (segOff sid (BitVec.ofNat 32 (16 * j))) S16.size hs).set := by
        rw [Rect.mem_set_unit]
        intro a
        obtain rfl : a = 0 := Subsingleton.elim _ _
        rw [h0]
        show _ ∧ _ < _ + 16
        omega
      rw [Rect.map_emb_univ]; exact this
    unfold upd
    by_cases h1 : (y 0).val / 128 = sid.toNat ∧ (y 0).val % 128 < 16 * j
    · rw [if_pos h1, if_pos ⟨h1.1, by omega⟩]
    · rw [if_neg h1, if_neg (by omega)]

/-- A load of sixteen lanes of a row of a staging buffer. -/
theorem load_lane (b : Memref sig .scVector .vmem S28672 .f32) (f : b.view.ty.Contents (Elt F)) (row0 : BitVec 32) (q : Nat) (hq : row0.toNat = q) (r : Nat) (hr : q + r < 224)
    (j : Nat) (hj : j < 8) (hb) (x : S16.Idx) :
    b.view.readAt (Elt F) (Rect.unit (s := S28672) (rowOff row0 (BitVec.ofNat 32 r) (BitVec.ofNat 32 (16 * j))) S16.size hb).toLoadRect f x
      = lane (b.view.read (Elt F) f) (q + r) (16 * j + (x 0).val) := by
  have hx : (x 0).val < 16 := (x 0).isLt
  show b.view.read (Elt F) f _ = b.view.read (Elt F) f _
  congr 1
  funext a
  obtain rfl : a = 0 := Subsingleton.elim _ _
  refine Fin.ext ?_
  refine (Rect.emb_apply (Rect.unit (s := S28672) (rowOff row0 (BitVec.ofNat 32 r) (BitVec.ofNat 32 (16 * j))) S16.size hb) x 0).trans ?_
  rw [Rect.off_unit, Rect.stride_unit, rowOff_eq row0 q hq r hr j hj]
  show _ = (_ % 28672)
  rw [Nat.mod_eq_of_lt (by omega)]
  omega

theorem seg_inb (sid : BitVec 32) (h : sid.toNat < 128) (j : Nat) (hj : j < 8) (a) :
    segOff sid (BitVec.ofNat 32 (16 * j)) a + S16.size a ≤ S16384.size a := by
  obtain rfl : a = 0 := Subsingleton.elim _ _
  rw [segOff_eq sid h j hj]
  show _ + 16 ≤ 16384
  omega

theorem row_inb (row0 : BitVec 32) (q : Nat) (hq : row0.toNat = q) (r : Nat) (hr : q + r < 224) (j : Nat) (hj : j < 8) (a) :
    rowOff row0 (BitVec.ofNat 32 r) (BitVec.ofNat 32 (16 * j)) a + S16.size a ≤ S28672.size a := by
  obtain rfl : a = 0 := Subsingleton.elim _ _
  rw [rowOff_eq row0 q hq r hr j hj]
  show _ + 16 ≤ 28672
  omega

end Pure

/-! ## The triple -/

variable [FloatOps F]

/-- What a stretch of the body works on: a staging buffer of rows, a buffer of ids, and their contents. -/
structure Held (F : FTy → Type) (d : Dev nD) (L : grid0.Coords) where
  N : Nat
  pos : NeZero N
  rows : Memref sig .scVector .vmem S28672 .f32
  ids : Memref sig .scVector .vmem (⟨1, ![N]⟩ : Shape) .i32
  R : Buf (Elt F) (rows.view.loc (VT d L))
  I : Buf (Elt F) (ids.view.loc (VT d L))

attribute [instance] Held.pos

variable {d : Dev nD} {L : grid0.Coords} {α β : Type}

/-- The rows as numbers, -/
def Held.lanes (B : Held F d L) : Rows F := B.rows.view.read (Elt F) B.R
/-- and the ids. -/
def Held.id (B : Held F d L) (n : Nat) : BitVec 32 := B.ids.view.read (Elt F) B.I (ix B.N n)
/-- Every id names a segment. -/
def Held.OK (B : Held F d L) : Prop := ∀ n, (B.id n).toNat < 128

/-- What the tile holds, the accumulator at `a`. -/
def Held.st (B : Held F d L) (a : Acc F) : sProp 𝕄 :=
  iprop((B.rows.view.loc (VT d L) ↦{fullShare} B.R) ∗ (B.ids.view.loc (VT d L) ↦{fullShare} B.I)
    ∗ ((aV).view.loc (VT d L) ↦{fullShare} a))

/-- `p` takes the accumulator from `a` to `a'`. -/
def Ex (B : Held F d L) (p : PE (F := F) L α) (a a' : Acc F) : Prop :=
  ∀ Q : α → sProp 𝕄, iprop(B.st a ∗ (∀ v, B.st a' -∗ Q v)) ⊢ wp frame (wpE (defs₀ (F := F)) 𝒱₀ (VT d L) none) Set.univ p Q

theorem Ex_ret (B : Held F d L) {v : α} {a a' : Acc F} (h : a = a') : Ex B (.ret v) a a' := by
  subst h
  intro Q
  rw [wp_ret]
  iintro ⟨Hs, HQ⟩
  imodintro
  iapply HQ $$ Hs

theorem Ex_bind (B : Held F d L) {p : PE (F := F) L α} {k : α → PE (F := F) L β} {a a₁ a' : Acc F} (hp : Ex B p a a₁) (hk : ∀ v, Ex B (k v) a₁ a') :
    Ex B (p >>= k) a a' := by
  intro Q
  rw [wp_bind]
  iintro ⟨Hs, HQ⟩
  iapply (hp _)
  isplitl [Hs]
  · iassumption
  iintro %v Hs
  iapply (hk v Q)
  isplitl [Hs] <;> iassumption

theorem Ex_mono (B : Held F d L) {p : PE (F := F) L α} {a a₁ a' : Acc F} (hp : Ex B p a a₁) (h : a₁ = a') : Ex B p a a' := h ▸ hp

/-- A conditional with nothing on its other side, and what comes after. -/
theorem Ex_when (B : Held F d L) {c : Prop} {dc : Decidable c} {t : c → PE (F := F) L β} {e : PE (F := F) L β} {a a₁ a' : Acc F}
    (hk : Ex B e a₁ a') (ht : ∀ h, Ex B e a₁ a' → Ex B (t h) a a') (hn : ¬ c → a = a₁) : Ex B (dite c t fun _ => e) a a' := by
  by_cases h : c
  · rw [dif_pos h]; exact ht h hk
  · rw [dif_neg h, hn h]; exact hk

theorem Ex_assume (B : Held F d L) {P : Prop} {dp : Decidable P} {k : PLift P → PE (F := F) L α} {a a' : Acc F} (h : P) (hk : Ex B (k ⟨h⟩) a a') :
    Ex B (.op (.assume P dp) k) a a' := fun Q => (hk Q).trans (wp_assume 𝒱₀ (VT d L) none Set.univ h)

/-- A loop. -/
theorem Ex_for (B : Held F d L) {lb ub st : BitVec 32} {hok : Scf.OK lb ub st} {body : Fin (Scf.trips lb ub st) → PUnit → PE (F := F) L PUnit} (s : Nat → Acc F)
    (h : ∀ n, Ex B (body n ⟨⟩) (s n.val) (s (n.val + 1))) : Ex B (Scf.for lb ub st hok ⟨⟩ body) (s 0) (s (Scf.trips lb ub st)) := by
  intro Q
  refine BIBase.Entails.trans ?_ (Scf.wp_for _ _ _ lb ub st hok ⟨⟩ body (fun n _ => B.st (s n)) ?_)
  · iintro ⟨Hs, HQ⟩
    isplitl [Hs]
    · iassumption
    iintro %v Hs
    iapply HQ $$ Hs
  · rintro n ⟨⟩
    refine BIBase.Entails.trans ?_ (h n _)
    iintro Hs
    isplitl [Hs]
    · iassumption
    iintro %v Hs
    iassumption

/-! ## The shapes of the body's text -/

/-- Sixteen ids from position `p` on, as a load brings them. -/
theorem ids_at (B : Held F d L) {off : Fin 1 → Nat} (p : Nat) (hp : off 0 = p) (hpn : p + 16 ≤ B.N) {hb} :
    B.ids.view.readAt (Elt F) (Rect.unit (s := ⟨1, ![B.N]⟩) off S16.size hb).toLoadRect B.I = fun x => B.id (p + (x 0).val) := by
  funext x
  have hx : (x 0).val < 16 := (x 0).isLt
  show B.ids.view.read (Elt F) B.I _ = B.ids.view.read (Elt F) B.I _
  congr 1
  funext z
  obtain rfl : z = 0 := Subsingleton.elim _ _
  refine Fin.ext ?_
  refine (Rect.emb_apply (Rect.unit (s := ⟨1, ![B.N]⟩) off S16.size hb) x 0).trans ?_
  rw [Rect.off_unit, Rect.stride_unit, hp]
  show _ = (_ % B.N)
  rw [Nat.mod_eq_of_lt (by omega), Nat.one_mul]

theorem wp_ids (B : Held F d L) {off : Fin 1 → Nat} (p : Nat) (hp : off 0 = p) (hpn : p + 16 ≤ B.N) {hb} {hl} {k : (S16.Idx → Elt F .i32) → PE (F := F) L α} {a : Acc F} {Q : α → sProp 𝕄} :
    B.st a ⊢ iprop((B.st a -∗ wp frame (wpE (defs₀ (F := F)) 𝒱₀ (VT d L) none) Set.univ (k fun x => B.id (p + (x 0).val)) Q)
      -∗ wp frame (wpE (defs₀ (F := F)) 𝒱₀ (VT d L) none) Set.univ (.op (.load B.ids (Rect.unit (s := ⟨1, ![B.N]⟩) off S16.size hb).toLoadRect hl) k) Q) := by
  unfold Held.st
  iintro ⟨Hr, Hi, Ha⟩ HQ
  iapply (wp_load 𝒱₀ (VT d L) none Set.univ (Finset.subset_univ _)) $$ Hi
  iintro Hi
  rw [ids_at B p hp hpn]
  iapply HQ
  isplitl [Hr]; · iassumption
  isplitl [Hi] <;> iassumption

theorem Ex_ids (B : Held F d L) {off : Fin 1 → Nat} (p : Nat) (hp : off 0 = p) (hpn : p + 16 ≤ B.N) {hb} {hl} {k : (S16.Idx → Elt F .i32) → PE (F := F) L α}
    {a a' : Acc F} (hk : Ex B (k fun x => B.id (p + (x 0).val)) a a') :
    Ex B (.op (.load B.ids (Rect.unit (s := ⟨1, ![B.N]⟩) off S16.size hb).toLoadRect hl) k) a a' := by
  intro Q
  iintro ⟨Hs, HQ⟩
  iapply (wp_ids B p hp hpn) $$ Hs
  iintro Hs
  iapply (hk Q)
  isplitl [Hs] <;> iassumption

/-- A load of sixteen lanes of a row. -/
theorem Ex_lane (B : Held F d L) (row0 : BitVec 32) (q : Nat) (hq : row0.toNat = q) (r : Nat) (hr : q + r < 224) (j : Nat) (hj : j < 8) {hb} {hl}
    {k : (S16.Idx → Elt F .f32) → PE (F := F) L α} {a a' : Acc F} (hk : Ex B (k fun x => lane B.lanes (q + r) (16 * j + (x 0).val)) a a') :
    Ex B (.op (.load B.rows (Rect.unit (s := S28672) (rowOff row0 (BitVec.ofNat 32 r) (BitVec.ofNat 32 (16 * j))) S16.size hb).toLoadRect hl) k) a a' := by
  intro Q
  have e : B.rows.view.readAt (Elt F) (Rect.unit (s := S28672) (rowOff row0 (BitVec.ofNat 32 r) (BitVec.ofNat 32 (16 * j))) S16.size hb).toLoadRect B.R
      = fun x => lane B.lanes (q + r) (16 * j + (x 0).val) := funext fun x => load_lane B.rows B.R row0 q hq r hr j hj hb x
  unfold Held.st
  iintro ⟨⟨Hr, Hi, Ha⟩, HQ⟩
  iapply (wp_load 𝒱₀ (VT d L) none Set.univ (Finset.subset_univ _)) $$ Hr
  iintro Hr
  rw [e]
  iapply (hk Q)
  unfold Held.st
  isplitl [Hr Hi Ha]
  · isplitl [Hr]; · iassumption
    isplitl [Hi] <;> iassumption
  · iassumption

/-- A load from the accumulator. -/
theorem Ex_acc (B : Held F d L) {off : Fin 1 → Nat} {hb} {hl} {k : (S16.Idx → Elt F .f32) → PE (F := F) L α} {a a' : Acc F}
    (hk : Ex B (k fun x => a ((Rect.unit (s := S16384) off S16.size hb).emb x)) a a') :
    Ex B (.op (.load aV (Rect.unit (s := S16384) off S16.size hb).toLoadRect hl) k) a a' := by
  intro Q
  unfold Held.st
  iintro ⟨⟨Hr, Hi, Ha⟩, HQ⟩
  iapply (wp_load 𝒱₀ (VT d L) none Set.univ (Finset.subset_univ _)) $$ Ha
  iintro Ha
  iapply (hk Q)
  unfold Held.st
  isplitl [Hr Hi Ha]
  · isplitl [Hr]; · iassumption
    isplitl [Hi] <;> iassumption
  · iassumption

/-- A store through a rectangle of a buffer held whole, the buffer named as the loads name it. -/
theorem store_whole {cs : CoreSpace} {s : Shape} {e : EltTy} {m : Memref sig .scVector cs s e} {r : Rect s} {w : r.shape.Idx → Elt F e} {Mk : Finset r.shape.Idx}
    {hx : (m.access r).Stores Mk} {hm : Mk = Finset.univ ∨ ∀ a, r.stride a = 1} {k : PUnit → PE (F := F) L α} {Q : α → sProp 𝕄} {f : Buf (Elt F) (m.view.loc (VT d L))} :
    (m.view.loc (VT d L) ↦{fullShare} f)
      ⊢ iprop(((m.view.loc (VT d L) ↦{fullShare} ((m.access r).write (Elt F) f w Mk)) -∗ wp frame (wpE (defs₀ (F := F)) 𝒱₀ (VT d L) none) Set.univ (k ⟨⟩) Q)
        -∗ wp frame (wpE (defs₀ (F := F)) 𝒱₀ (VT d L) none) Set.univ (.op (.store m r w Mk hx hm) k) Q) :=
  wp_store (defs := defs₀ (F := F)) (Γ := default) (m := m) (r := r) (w := w) (Mk := Mk) (hx := hx) (hm := hm) (k := k) (Q := Q) (f := f) (S := Finset.univ)
    𝒱₀ (VT d L) none Set.univ (Finset.subset_univ _)

/-- A store to the accumulator. -/
theorem Ex_store (B : Held F d L) {off : Fin 1 → Nat} {hb} {w : S16.Idx → Elt F .f32} {hx} {hm} {k : PUnit → PE (F := F) L α} {a a₁ a' : Acc F}
    (h : (Memref.access aV (Rect.unit (s := S16384) off S16.size hb)).write (Elt F) a w Finset.univ = a₁) (hk : Ex B (k ⟨⟩) a₁ a') :
    Ex B (.op (.store aV (Rect.unit (s := S16384) off S16.size hb) w Finset.univ hx hm) k) a a' := by
  subst h
  intro Q
  unfold Held.st
  iintro ⟨⟨Hr, Hi, Ha⟩, HQ⟩
  iapply (store_whole (m := aV)) $$ Ha
  iintro Ha
  iapply (hk Q)
  unfold Held.st
  isplitl [Hr Hi Ha]
  · isplitl [Hr]; · iassumption
    isplitl [Hi] <;> iassumption
  · iassumption

/-- The body's shape casts change nothing. -/
theorem cast16 (v : FVec F S16 .f32) (h) : shapeCast S16 v h = v := shapeCast_self v h

/-- Load rows `r … r + n - 1` at vector `j`. -/
def loadsC (b : Memref sig .scVector .vmem S28672 .f32) (row0 : BitVec 32) (j : Nat) {m : Nat} (hb : ∀ r, r < m → ∀ a, rowOff row0 (BitVec.ofNat 32 r) (BitVec.ofNat 32 (16 * j)) a + S16.size a ≤ S28672.size a) :
    (r n : Nat) → r + n ≤ m → (List (FVec F S16 .f32) → PE (F := F) L α) → PE (F := F) L α
  | _, 0, _, k => k []
  | r, n + 1, h, k => .op (.load b (Rect.unit (s := S28672) (rowOff row0 (BitVec.ofNat 32 r) (BitVec.ofNat 32 (16 * j))) S16.size (hb r (by omega))).toLoadRect (View.loadsAt_vmem Facts₀.h_S16))
      fun v => loadsC b row0 j hb (r + 1) n (by omega) fun l => k (shapeCast S16 v Facts₀.shapeCasts_S16_S16 :: l)

/-- Raise vector `j` of row `sid` to `v`, the maximum taken of what the first load gives. -/
def raiseC (sid : BitVec 32) (j : Nat) (hs : ∀ a, segOff sid (BitVec.ofNat 32 (16 * j)) a + S16.size a ≤ S16384.size a)
    (v : FVec F S16 .f32) (k : PE (F := F) L α) : PE (F := F) L α :=
  .op (.load aV (Rect.unit (s := S16384) (segOff sid (BitVec.ofNat 32 (16 * j))) S16.size hs).toLoadRect (View.loadsAt_vmem Facts₀.h_S16)) fun a =>
  .op (.load aV (Rect.unit (s := S16384) (segOff sid (BitVec.ofNat 32 (16 * j))) S16.size hs).toLoadRect (View.loadsAt_vmem Facts₀.h_S16)) fun _ =>
  .op (.store aV (Rect.unit (s := S16384) (segOff sid (BitVec.ofNat 32 (16 * j))) S16.size hs) (shapeCast S16 (maximumf (shapeCast S16 a Facts₀.shapeCasts_S16_S16) v) Facts₀.shapeCasts_S16_S16) Finset.univ (View.stores_vmem_bits_univ Facts₀.h_S16 rfl) (.inl rfl)) fun _ => k

/-- Raise vector `j` of row `sid` to the row `r` of the staging buffer, loaded between. -/
def raiseRowC (b : Memref sig .scVector .vmem S28672 .f32) (row0 sid : BitVec 32) (r j : Nat)
    (hb : ∀ a, rowOff row0 (BitVec.ofNat 32 r) (BitVec.ofNat 32 (16 * j)) a + S16.size a ≤ S28672.size a)
    (hs : ∀ a, segOff sid (BitVec.ofNat 32 (16 * j)) a + S16.size a ≤ S16384.size a) (k : (S16.Idx → Elt F .f32) → (S16.Idx → Elt F .f32) → (S16.Idx → Elt F .f32) → PUnit → PE (F := F) L α) : PE (F := F) L α :=
  .op (.load aV (Rect.unit (s := S16384) (segOff sid (BitVec.ofNat 32 (16 * j))) S16.size hs).toLoadRect (View.loadsAt_vmem Facts₀.h_S16)) fun a =>
  .op (.load b (Rect.unit (s := S28672) (rowOff row0 (BitVec.ofNat 32 r) (BitVec.ofNat 32 (16 * j))) S16.size hb).toLoadRect (View.loadsAt_vmem Facts₀.h_S16)) fun v =>
  .op (.load aV (Rect.unit (s := S16384) (segOff sid (BitVec.ofNat 32 (16 * j))) S16.size hs).toLoadRect (View.loadsAt_vmem Facts₀.h_S16)) fun a₂ =>
  .op (.store aV (Rect.unit (s := S16384) (segOff sid (BitVec.ofNat 32 (16 * j))) S16.size hs) (shapeCast S16 (maximumf (shapeCast S16 a Facts₀.shapeCasts_S16_S16) (shapeCast S16 v Facts₀.shapeCasts_S16_S16)) Facts₀.shapeCasts_S16_S16) Finset.univ (View.stores_vmem_bits_univ Facts₀.h_S16 rfl) (.inl rfl)) fun u => k a v a₂ u

theorem Ex_loads (B : Held F d L) (row0 : BitVec 32) (q : Nat) (hq : row0.toNat = q) (j : Nat) (hj : j < 8) {m : Nat} (hb) {a a' : Acc F} :
    ∀ (n r : Nat) (hn : r + n ≤ m) (hr : q + r + n ≤ 224) (k : List (FVec F S16 .f32) → PE (F := F) L α),
      Ex B (k ((List.range' (q + r) n).map fun r x => lane B.lanes r (16 * j + (x 0).val))) a a' → Ex B (loadsC B.rows row0 j hb r n hn k) a a'
  | 0, r, hn, hr, k, h => h
  | n + 1, r, hn, hr, k, h => by
    refine Ex_lane B row0 q hq r (by omega) j hj ?_
    refine Ex_loads B row0 q hq j hj hb n (r + 1) (by omega) (by omega) _ ?_
    rw [List.range'_succ, List.map_cons] at h
    exact (congrArg (fun w => Ex B (k (w :: _)) a a') (cast16 _ _)).mpr h

theorem Ex_raise (B : Held F d L) (sid : BitVec 32) (h : sid.toNat < 128) (j : Nat) (hj : j < 8) {hs} {v : FVec F S16 .f32} (g : Nat → F .f32)
    (hv : ∀ x, v x = g (16 * j + (x 0).val)) {k : PE (F := F) L α} {a a' : Acc F} (hk : Ex B k (upd sid.toNat (16 * (j + 1)) g a) a') :
    Ex B (raiseC sid j hs v k) (upd sid.toNat (16 * j) g a) a' := by
  refine Ex_acc B (Ex_acc B (Ex_store B (a₁ := upd sid.toNat (16 * (j + 1)) g a) ?_ hk))
  refine store_upd sid h j hj hs g a _ fun x => ?_
  refine (congrFun (cast16 _ _) x).trans ?_
  rw [← hv x]
  exact congrArg (FloatOps.maximumf · (v x)) (congrFun (cast16 _ _) x)

/-- Sixteen lanes of a row raised to those of a row of the staging buffer. -/
theorem Ex_raiseRow (B : Held F d L) {row0 : BitVec 32} {q : Nat} (hq : row0.toNat = q) {sid : BitVec 32} {i : Nat} (h : sid = B.id i) (hi : (B.id i).toNat < 128) {r : Nat} (hr : q + r < 224) {j : Nat} (hj : j < 8) {hb} {hs}
    {k : (S16.Idx → Elt F .f32) → (S16.Idx → Elt F .f32) → (S16.Idx → Elt F .f32) → PUnit → PE (F := F) L α} {a a' : Acc F}
    (hk : ∀ x y z u, Ex B (k x y z u) (upd (B.id i).toNat (16 * (j + 1)) (lane B.lanes (q + r)) a) a') :
    Ex B (raiseRowC B.rows row0 sid r j hb hs k) (upd (B.id i).toNat (16 * j) (lane B.lanes (q + r)) a) a' := by
  subst h
  refine Ex_acc B (Ex_lane B row0 q hq r hr j hj (Ex_acc B (Ex_store B (a₁ := upd (B.id i).toNat (16 * (j + 1)) (lane B.lanes (q + r)) a) ?_ (hk _ _ _ _))))
  refine store_upd (B.id i) hi j hj hs _ a _ fun x => ?_
  refine (congrFun (cast16 _ _) x).trans ?_
  exact congrArg₂ FloatOps.maximumf (congrFun (cast16 _ _) x) (congrFun (cast16 _ _) x)

/-- The first sixteen. -/
theorem Ex_raiseRow0 (B : Held F d L) {row0 : BitVec 32} {q : Nat} (hq : row0.toNat = q) {sid : BitVec 32} {i : Nat} (h : sid = B.id i) (hi : (B.id i).toNat < 128) {r : Nat} (hr : q + r < 224) {hb} {hs}
    {k : (S16.Idx → Elt F .f32) → (S16.Idx → Elt F .f32) → (S16.Idx → Elt F .f32) → PUnit → PE (F := F) L α} {a a' : Acc F}
    (hk : ∀ x y z u, Ex B (k x y z u) (upd (B.id i).toNat (16 * (0 + 1)) (lane B.lanes (q + r)) a) a') :
    Ex B (raiseRowC B.rows row0 sid r 0 hb hs k) a a' := by
  have := Ex_raiseRow B hq h hi hr (j := 0) (by decide) (hb := hb) (hs := hs) hk
  rw [Nat.mul_zero, upd_zero] at this
  exact this

/-- A vector's worth of a tree of maxima over the first `n` rows at `row0`, into row `sid`. -/
def treeC (b : Memref sig .scVector .vmem S28672 .f32) (row0 : BitVec 32) (q : Nat) (hq : row0.toNat = q) (n lv : Nat) (hn : 0 + n ≤ n) (hq32 : q + n ≤ 224) (sid : BitVec 32) (h : sid.toNat < 128)
    (j : Nat) (hj : j < 8) (k : PE (F := F) L α) : PE (F := F) L α :=
  loadsC b row0 j (fun r hr' => row_inb row0 q hq r (by omega) j hj) 0 n hn fun l => raiseC sid j (seg_inb sid h j hj) (treeN lv l) k

theorem Ex_treeV (B : Held F d L) (row0 : BitVec 32) (q : Nat) (hq : row0.toNat = q) (n lv : Nat) (hn : 0 + n ≤ n) (hq32 : q + n ≤ 224) (sid : BitVec 32) (h : sid.toNat < 128)
    (j : Nat) (hj : j < 8) {k : PE (F := F) L α} {a a' : Acc F} (hk : Ex B k (upd sid.toNat (16 * (j + 1)) (treeG B.lanes q n lv) a) a') :
    Ex B (treeC B.rows row0 q hq n lv hn hq32 sid h j hj k) (upd sid.toNat (16 * j) (treeG B.lanes q n lv) a) a' := by
  refine Ex_loads B row0 q hq j hj _ n 0 hn (by omega) _ ?_
  refine Ex_raise B sid h j hj _ (fun x => ?_) hk
  rw [treeN_apply, List.map_map]
  rfl

/-- A tree of maxima over `n` rows: all eight vectors of row `sid`. -/
theorem Ex_tree (B : Held F d L) (row0 : BitVec 32) (q : Nat) (hq : row0.toNat = q) (n lv : Nat) (hn : 0 + n ≤ n) (hq32 : q + n ≤ 224) (sid : BitVec 32) (h : sid.toNat < 128)
    {k : PE (F := F) L α} {a a' : Acc F} (hk : Ex B k (upd sid.toNat 128 (treeG B.lanes q n lv) a) a') :
    Ex B (treeC B.rows row0 q hq n lv hn hq32 sid h 0 (by decide) <| treeC B.rows row0 q hq n lv hn hq32 sid h 1 (by decide) <| treeC B.rows row0 q hq n lv hn hq32 sid h 2 (by decide) <| treeC B.rows row0 q hq n lv hn hq32 sid h 3 (by decide) <| treeC B.rows row0 q hq n lv hn hq32 sid h 4 (by decide) <| treeC B.rows row0 q hq n lv hn hq32 sid h 5 (by decide) <| treeC B.rows row0 q hq n lv hn hq32 sid h 6 (by decide) <| treeC B.rows row0 q hq n lv hn hq32 sid h 7 (by decide) <| k) a a' := by
  refine (congrArg (Ex B _ · a') (upd_zero sid.toNat (treeG B.lanes q n lv) a)).mp ?_
  iterate 8 (refine Ex_treeV B row0 q hq n lv hn hq32 sid h _ _ ?_)
  exact hk

/-- A tree of maxima, its segment known as an id. -/
theorem Ex_treeId (B : Held F d L) (row0 : BitVec 32) (q : Nat) (hq : row0.toNat = q) (n lv : Nat) (hn : 0 + n ≤ n) (hq32 : q + n ≤ 224) (i : Nat) {sid : BitVec 32} (hs : sid = B.id i)
    {h : sid.toNat < 128} {k : PE (F := F) L α} {a a' : Acc F} (hk : Ex B k (upd (B.id i).toNat 128 (treeG B.lanes q n lv) a) a') :
    Ex B (treeC B.rows row0 q hq n lv hn hq32 sid h 0 (by decide) <| treeC B.rows row0 q hq n lv hn hq32 sid h 1 (by decide) <| treeC B.rows row0 q hq n lv hn hq32 sid h 2 (by decide) <| treeC B.rows row0 q hq n lv hn hq32 sid h 3 (by decide) <| treeC B.rows row0 q hq n lv hn hq32 sid h 4 (by decide) <| treeC B.rows row0 q hq n lv hn hq32 sid h 5 (by decide) <| treeC B.rows row0 q hq n lv hn hq32 sid h 6 (by decide) <| treeC B.rows row0 q hq n lv hn hq32 sid h 7 (by decide) <| k) a a' := by
  subst hs
  exact Ex_tree B row0 q hq n lv hn hq32 _ h hk

/-- The body's test of two ids for being equal, and for being different. -/
def isEq (v w : BitVec 32) : BitVec 1 := Scalar.cmpi .ne (Scalar.extui (Scalar.cmpi .eq v w) : BitVec 32) 0#32
def isNe (v w : BitVec 32) : BitVec 1 := Scalar.cmpi .ne (Scalar.extui (Scalar.xori (Scalar.cmpi .eq v w) 1#1) : BitVec 32) 0#32

theorem isEq_iff (v w : BitVec 32) : isEq v w = 1#1 ↔ v = w := by
  have h : ∀ b : Bool, (Scalar.cmpi .ne (Scalar.extui (BitVec.ofBool b) : BitVec 32) 0#32 = 1#1) ↔ b = true := by decide
  exact (h (v == w)).trans beq_iff_eq
theorem isNe_iff (v w : BitVec 32) : isNe v w = 1#1 ↔ v ≠ w := by
  have h : ∀ b : Bool, (Scalar.cmpi .ne (Scalar.extui (Scalar.xori (BitVec.ofBool b) 1#1) : BitVec 32) 0#32 = 1#1) ↔ b = false := by decide
  exact (h (v == w)).trans beq_eq_false_iff_ne

/-- One lane of a loaded vector of ids. -/
theorem lane_at (f : Nat → BitVec 32) (k : Nat) (hk : k < 16) (v : S16.Idx → BitVec 32) (hv : v = fun x => f (x 0).val) (h1) (h2) (h3) :
    extractAt ![0] (extractStridedSlice S1 ![k] (shapeCast S16 v h1) h2) h3 = f k := by
  have e : shapeCast S16 v h1 = v := shapeCast_self v h1
  rw [e, hv]
  show f _ = f k
  rfl

/-- A group's two conditionals. -/
theorem Ex_grp (B : Held F d L) (p q : Nat) {v w : BitVec 32} (hv : v = B.id p) (hw : w = B.id (p + 15)) {c c' : BitVec 1} (hc : c = isEq v w) (hc' : c' = isNe v w)
    {dc : Decidable (c = 1#1)} {dc' : Decidable (c' = 1#1)} {e : PE (F := F) L β} {t : c = 1#1 → PE (F := F) L β} {t' : c' = 1#1 → PE (F := F) L β} {a a' : Acc F}
    (hk : Ex B e (grpStep B.id B.lanes p q a) a')
    (ht : ∀ h, Ex B (dite (c' = 1#1) t' fun _ => e) (upd (B.id p).toNat 128 (treeG B.lanes q 16 4) a) a' → Ex B (t h) a a')
    (ht' : ∀ h, Ex B e (rowsStep B.id B.lanes p q 16 a) a' → Ex B (t' h) a a') :
    Ex B (dite (c = 1#1) t fun _ => dite (c' = 1#1) t' fun _ => e) a a' := by
  subst hc hc' hv hw
  by_cases he : B.id p = B.id (p + 15)
  · have hg : grpStep B.id B.lanes p q a = upd (B.id p).toNat 128 (treeG B.lanes q 16 4) a := if_pos he
    rw [hg] at hk
    refine Ex_when B ?_ ht (fun h => absurd ((isEq_iff _ _).mpr he) h)
    have hx : ¬ isNe (B.id p) (B.id (p + 15)) = 1#1 := fun h => absurd he ((isNe_iff _ _).mp h)
    rw [dif_neg hx]; exact hk
  · have hg : grpStep B.id B.lanes p q a = rowsStep B.id B.lanes p q 16 a := if_neg he
    rw [hg] at hk
    have hx : ¬ isEq (B.id p) (B.id (p + 15)) = 1#1 := fun h => absurd ((isEq_iff _ _).mp h) he
    rw [dif_neg hx]
    have hy := (isNe_iff _ _).mpr he
    rw [dif_pos hy]; exact ht' hy hk

/-- A unit's two conditionals. -/
theorem Ex_unit (B : Held F d L) (p q : Nat) {v w : BitVec 32} (hv : v = B.id p) (hw : w = B.id (p + 31)) {c c' : BitVec 1} (hc : c = isEq v w) (hc' : c' = isNe v w)
    {dc : Decidable (c = 1#1)} {dc' : Decidable (c' = 1#1)} {e : PE (F := F) L β} {t : c = 1#1 → PE (F := F) L β} {t' : c' = 1#1 → PE (F := F) L β} {a a' : Acc F}
    (hk : Ex B e (unitStep B.id B.lanes p q a) a')
    (ht : ∀ h, Ex B (dite (c' = 1#1) t' fun _ => e) (upd (B.id p).toNat 128 (treeG B.lanes q 32 5) a) a' → Ex B (t h) a a')
    (ht' : ∀ h, Ex B e (grpStep B.id B.lanes (p + 16) (q + 16) (grpStep B.id B.lanes p q a)) a' → Ex B (t' h) a a') :
    Ex B (dite (c = 1#1) t fun _ => dite (c' = 1#1) t' fun _ => e) a a' := by
  subst hc hc' hv hw
  by_cases he : B.id p = B.id (p + 31)
  · have hg : unitStep B.id B.lanes p q a = upd (B.id p).toNat 128 (treeG B.lanes q 32 5) a := if_pos he
    rw [hg] at hk
    refine Ex_when B ?_ ht (fun h => absurd ((isEq_iff _ _).mpr he) h)
    have hx : ¬ isNe (B.id p) (B.id (p + 31)) = 1#1 := fun h => absurd he ((isNe_iff _ _).mp h)
    rw [dif_neg hx]; exact hk
  · have hg : unitStep B.id B.lanes p q a = grpStep B.id B.lanes (p + 16) (q + 16) (grpStep B.id B.lanes p q a) := if_neg he
    rw [hg] at hk
    have hx : ¬ isEq (B.id p) (B.id (p + 31)) = 1#1 := fun h => absurd ((isEq_iff _ _).mp h) he
    rw [dif_neg hx]
    have hy := (isNe_iff _ _).mpr he
    rw [dif_pos hy]; exact ht' hy hk

end Cert.Proof.SegMax

end
-- ==== Proof.Copy.lean ====
/-
  The copies a tile makes: what they bring, and the rules for starting one and waiting for it.
-/
module

public import proofs.«01_k».proof.Proof.Body

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "hV" => (Memref.whole Cert.KernelIdeal.main_v19_scv : Memref Cert.KernelIdeal.sig Kind.scVector Space.hbm Cert.KernelIdeal.S12800000 EltTy.f32)
local notation "iV" => (Memref.whole Cert.KernelIdeal.main_arg1_scv : Memref Cert.KernelIdeal.sig Kind.scVector Space.hbm Cert.KernelIdeal.S100000 EltTy.i32)

/-! ## What a copy brings -/

section Pure
variable [FloatOps F]

/-- The rows a staging buffer holds after a copy of `h` from word `o` on. -/
def rowsAt (H : S12800000.Idx → Elt F .f32) (o : Nat) : Rows F := fun x => H (ix 12800000 (o + (x 0).val))
/-- `n` ids from position `o` on. -/
def idsAt (I : S100000.Idx → Elt F .i32) (o N : Nat) : (⟨1, ![N]⟩ : Shape).Idx → Elt F .i32 := fun x => I (ix 100000 (o + (x 0).val))

/-- A window of a one-dimensional array of `N` elements, element by element. -/
theorem window {N n : Nat} [NeZero N] {off : Fin 1 → Nat} {o : Nat} (ho : off 0 = o) (hb : ∀ a, off a + (![n] : Fin 1 → Nat) a ≤ (⟨1, ![N]⟩ : Shape).size a) (x : (⟨1, ![n]⟩ : Shape).Idx) :
    (Rect.unit (s := ⟨1, ![N]⟩) off ![n] hb).emb x = ix N (o + (x 0).val) := by
  funext a
  obtain rfl : a = 0 := Subsingleton.elim _ _
  have hx : (x 0).val < n := (x 0).isLt
  have h0 := hb 0
  rw [ho] at h0
  refine Fin.ext ?_
  refine (Rect.emb_apply (Rect.unit (s := ⟨1, ![N]⟩) off ![n] hb) x 0).trans ?_
  rw [Rect.off_unit, Rect.stride_unit, ho, Nat.one_mul]
  exact (Nat.mod_eq_of_lt (show o + (x 0).val < N from by
    have : o + n ≤ N := h0
    omega)).symm

theorem read_rows (H : S12800000.Idx → Elt F .f32) {n : Nat} {off : Fin 1 → Nat} {o : Nat} (ho : off 0 = o) (hb) (hs) :
    ((hV).slice (Rect.unit (s := S12800000) off (⟨1, ![n]⟩ : Shape).size hb) hs).view.read (Elt F) H = fun x => H (ix 12800000 (o + (x 0).val)) :=
  funext fun x => congrArg H (window ho hb x)

theorem read_ids (I : S100000.Idx → Elt F .i32) {n : Nat} {off : Fin 1 → Nat} {o : Nat} (ho : off 0 = o) (hb) (hs) :
    ((iV).slice (Rect.unit (s := S100000) off (⟨1, ![n]⟩ : Shape).size hb) hs).view.read (Elt F) I = fun x => I (ix 100000 (o + (x 0).val)) :=
  funext fun x => congrArg I (window ho hb x)

end Pure

/-! ## A copy started and waited for -/

variable [FloatOps F] {d : Dev nD} {L : grid0.Coords} {α β : Type}

/-- A copy in flight: its destination will hold `g`, and the source's share `q` comes back. -/
def Fly (d : Dev nD) (L : grid0.Coords) (sm : DmaSem sig) {cs cs' : Space} {s s' : Shape} {e e' : EltTy} (dst : Memref sig .scVector cs s e) (g : Buf (Elt F) (dst.view.loc (VT d L)))
    (src : Memref sig .scVector cs' s' e') (q : PosShare TreeShare) (f : Buf (Elt F) (src.view.loc (VT d L))) : sProp 𝕄 :=
  iprop(∃ S : Finset (Idx (src.view.loc (VT d L))),
    (Transfers.Flight (countersEmb (U := UU)) (VT d L) (.dma sm) (default : HIx 1) dst.view.dmaCredit
      iprop((dst.view.loc (VT d L) ↦{fullShare} g) ∗ (src.view.loc (VT d L) ↦[S]{q} f)))
    ∗ (src.view.loc (VT d L) ↦[Finset.univ \ S]{q} f))

theorem start_copy {cs cs' : Space} {s s' : Shape} {e : EltTy} {src : Memref sig .scVector cs' s' e} {r : Rect s'} {hr : ∀ a, r.stride a = 1} {dst : Memref sig .scVector cs r.shape e} {sm : DmaSem sig}
    {hsrc} {hdst} {hsem} {k : PUnit → PE (F := F) L α} {Q : α → sProp 𝕄} {q : PosShare TreeShare} {f : Buf (Elt F) (src.view.loc (VT d L))} {fd g : Buf (Elt F) (dst.view.loc (VT d L))}
    (hg : dst.view.write (Elt F) fd ((src.slice r hr).view.read (Elt F) f) Finset.univ = g) (h0 : 0 < r.shape.numel) :
    iprop((src.view.loc (VT d L) ↦{q} f) ∗ (dst.view.loc (VT d L) ↦{fullShare} fd) ∗ semVal (VT d L, SemLoc.dma sm) 0)
      ⊢ iprop((Fly d L sm dst g src q f -∗ wp frame (wpE (defs₀ (F := F)) 𝒱₀ (VT d L) none) Set.univ (k ⟨⟩) Q)
          -∗ wp frame (wpE (defs₀ (F := F)) 𝒱₀ (VT d L) none) Set.univ (.op (.enqueueDmaAs (src.slice r hr) (.here dst) .same (.dma sm) hsrc hdst hsem) k) Q) := by
  subst hg
  iintro ⟨Hs, Hd, Hv⟩ HK
  ihave Hs' := (pointsTo_split_subset (ℓ := src.view.loc (VT d L)) (q := q) (f := f) (Finset.subset_univ (src.slice r hr).view.set)).1 $$ Hs
  icases Hs' with ⟨Hs, Hr⟩
  iapply (Transfers.wp_dmaLocal (countersEmb (U := UU)) 𝒱₀ (VT d L) none (src := src.slice r hr) (via := .same) (dst := dst) (fs := f) (fd := fd) (Sd := Finset.univ) (default : HIx 1)
    dst.view.dmaCredit rfl (View.dmaCredit_pos _ h0) (Finset.subset_univ _)) $$ [Hs Hd Hv]
  · isplitl [Hs]; · iexact Hs
    isplitl [Hd]; · iexact Hd
    iexact Hv
  iintro HF
  iapply HK
  unfold Fly
  iexists (src.slice r hr).view.set
  isplitl [HF]
  · iexact HF
  · iexact Hr

/-- What a tile owes, and that it may wait on its own cells for it. -/
def Ow (d : Dev nD) (L : grid0.Coords) (O : CellTallies nD τ sig (HIx 1)) : sProp 𝕄 := iprop(Transfers.MayWaits (VT d L) (default : HIx 1) O ∗ ∃ W, owes (VT d L) O W)

theorem wait_copy {O : CellTallies nD τ sig (HIx 1)} {cs cs' cs'' : Space} {s s' s'' : Shape} {e e' e'' : EltTy} {src : Memref sig .scVector cs' s' e'} {srcw : Memref sig .scVector cs'' s'' e''} {dst : Memref sig .scVector cs s e} {sm : DmaSem sig}
    {hsrc} {hdst} {k : PUnit → PE (F := F) L α} {Q : α → sProp 𝕄} {q : PosShare TreeShare} {f : Buf (Elt F) (src.view.loc (VT d L))} {g : Buf (Elt F) (dst.view.loc (VT d L))} :
    iprop(Fly d L sm dst g src q f ∗ Ow d L O)
      ⊢ iprop(((src.view.loc (VT d L) ↦{q} f) ∗ (dst.view.loc (VT d L) ↦{fullShare} g) ∗ semVal (VT d L, SemLoc.dma sm) 0 ∗ Ow d L O
            -∗ wp frame (wpE (defs₀ (F := F)) 𝒱₀ (VT d L) none) Set.univ (k ⟨⟩) Q)
          -∗ wp frame (wpE (defs₀ (F := F)) 𝒱₀ (VT d L) none) Set.univ (.op (.waitDma2 sm srcw dst hsrc hdst) k) Q) := by
  unfold Fly Ow
  iintro ⟨⟨%S, HF, Hr⟩, #Hmw, ⟨%W, HO⟩⟩ HK
  ihave Hm := (Transfers.MayWaits.elim (SemLoc.dma sm)) $$ Hmw
  iapply (Transfers.wp_waitLocalO (countersEmb (U := UU)) 𝒱₀ (VT d L) none (srcw := srcw) (dstw := dst) (default : HIx 1) rfl) $$ [HF HO Hm]
  · isplitl [HF]; · iexact HF
    isplitl [HO]; · iexact HO
    iexact Hm
  iintro ⟨⟨Hd, Hs⟩, Hv, HO⟩
  iapply HK
  isplitl [Hs Hr]
  · iapply (pointsTo_split_subset (ℓ := src.view.loc (VT d L)) (q := q) (f := f) (Finset.subset_univ S)).2
    isplitl [Hs] <;> iassumption
  isplitl [Hd]; · iexact Hd
  isplitl [Hv]; · iexact Hv
  isplitr; · iexact Hmw
  iexists _; iexact HO

/-- A stretch of the body and what comes after it. -/
theorem run_Ex (B : Held F d L) {p : PE (F := F) L α} {k : α → PE (F := F) L β} {a a' : Acc F} (h : Ex B p a a') {Q : β → sProp 𝕄} :
    B.st a ⊢ iprop((∀ v, B.st a' -∗ wp frame (wpE (defs₀ (F := F)) 𝒱₀ (VT d L) none) Set.univ (k v) Q) -∗ wp frame (wpE (defs₀ (F := F)) 𝒱₀ (VT d L) none) Set.univ (p >>= k) Q) := by
  rw [wp_bind]
  iintro Hs HK
  iapply (h _)
  isplitl [Hs] <;> iassumption

end Cert.Proof.SegMax

end
-- ==== Proof.Shape.lean ====
/-
  The body of a tile, over the bodies of the four loops that touch only what the tile holds.
-/
module

public import proofs.«01_k».proof.Proof.Copy

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "hV" => (Memref.whole Cert.KernelIdeal.main_v19_scv : Memref Cert.KernelIdeal.sig Kind.scVector Space.hbm Cert.KernelIdeal.S12800000 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v20_scv : Memref Cert.KernelIdeal.sig Kind.scVector Space.hbm Cert.KernelIdeal.S524288 EltTy.f32)
local notation "i5V" => (Memref.whole Cert.KernelIdeal.cc0_scratch0 : Memref Cert.KernelIdeal.sig Kind.scVector Space.vmem Cert.KernelIdeal.S1344 EltTy.i32)
local notation "i6V" => (Memref.whole Cert.KernelIdeal.cc0_scratch1 : Memref Cert.KernelIdeal.sig Kind.scVector Space.vmem Cert.KernelIdeal.S1792 EltTy.i32)
local notation "r7V" => (Memref.whole Cert.KernelIdeal.cc0_scratch2 : Memref Cert.KernelIdeal.sig Kind.scVector Space.vmem Cert.KernelIdeal.S28672 EltTy.f32)
local notation "r8V" => (Memref.whole Cert.KernelIdeal.cc0_scratch3 : Memref Cert.KernelIdeal.sig Kind.scVector Space.vmem Cert.KernelIdeal.S28672 EltTy.f32)
local notation "aV" => (Memref.whole Cert.KernelIdeal.cc0_scratch4 : Memref Cert.KernelIdeal.sig Kind.scVector Space.vmem Cert.KernelIdeal.S16384 EltTy.f32)

variable [FloatOps F]

/-- The tile's body on the launch's buffers. -/
abbrev body (L : grid0.Coords) : PE (F := F) L PUnit :=
  cc0_k L hV (Memref.isWhole_whole _) iV (Memref.isWhole_whole _) oV (Memref.isWhole_whole _) i5V (Memref.isWhole_whole _) i6V (Memref.isWhole_whole _)
    r7V (Memref.isWhole_whole _) r8V (Memref.isWhole_whole _) aV (Memref.isWhole_whole _) cc0_scratch5 cc0_scratch6 cc0_scoped0 cc0_scoped1 cc0_scoped2 cc0_scoped3

abbrev csem (k : Fin 6) : DmaSem sig := ⟨k.val, Nat.lt_of_lt_of_le k.isLt (by decide)⟩

/-- A tile's block of the result, as the body names it. -/
abbrev oK (L : grid0.Coords) : Memref sig .scVector .hbm S16384 .f32 := (oV).slice (Rect.unit (s := S524288) (k0_off228 L) S16384.size (k0_off228_inb L)) (fun _ => rfl)

/-- The first 128 rows of the first staging buffer. -/
abbrev r7P : Memref sig .scVector .vmem S16384 .f32 := (r7V).slice (Rect.unit (s := S28672) ![0] S16384.size inb_S28672_S16384_0) (fun _ => rfl)

/-- The bodies of the three outer loops. -/
structure Loops (F : FTy → Type) (L : grid0.Coords) where
  b1 : Fin k0_t1_loop.trips → PUnit.{1} → PE (F := F) L PUnit
  b2 : Fin k0_t2_loop.trips → PUnit.{1} → PE (F := F) L PUnit
  b5 : Fin k0_t5_loop.trips → PUnit.{1} → PE (F := F) L PUnit

variable {L : grid0.Coords}

/-- A trip of the loop over pairs of chunks. -/
def pairBody (b3 : Fin k0_t3_loop.trips → PUnit.{1} → PE (F := F) L PUnit) (b4 : Fin k0_t4_loop.trips → PUnit.{1} → PE (F := F) L PUnit) (t : Fin k0_t2_loop.trips) : PE (F := F) L PUnit :=
  have j2 : PE (F := F) L PUnit := .op (.waitDma2 (csem 1) ((hV).slice (Rect.unit (s := S12800000) (k0_off80 L t) S28672.size (k0_off80_inb L t)) (fun _ => rfl)) r8V (View.wordExact_bits rfl) (Memref.isWhole_whole _).wordExact) fun _ =>
    Scf.Loop.for k0_t4_loop k0_t4_ok ⟨⟩ b4 >>= fun _ => .ret ⟨⟩
  have j1 : PE (F := F) L PUnit := .op (.waitDma2 (csem 0) ((hV).slice (Rect.unit (s := S12800000) (k0_off6 L t) S28672.size (k0_off6_inb L t)) (fun _ => rfl)) r7V (View.wordExact_bits rfl) (Memref.isWhole_whole _).wordExact) fun _ =>
    Scf.Loop.for k0_t3_loop k0_t3_ok ⟨⟩ b3 >>= fun _ =>
    dite (k0_cond8 t = 1#1) (fun h => .op (.enqueueDmaAs ((hV).slice (Rect.unit (s := S12800000) (k0_off79 L t) S28672.size (k0_off79_inb L t h)) (fun _ => rfl)) (.here r7V) .same (.dma (csem 0)) (View.wordExact_bits rfl) (Memref.isWhole_whole _).wordExact ⟨Or.inl rfl, trivial⟩) fun _ => j2) fun _ => j2
  dite (k0_cond1 t = 1#1) (fun h => .op (.enqueueDmaAs ((hV).slice (Rect.unit (s := S12800000) (k0_off5 L t) S28672.size (k0_off5_inb L t h)) (fun _ => rfl)) (.here r8V) .same (.dma (csem 1)) (View.wordExact_bits rfl) (Memref.isWhole_whole _).wordExact ⟨Or.inl rfl, trivial⟩) fun _ => j1) fun _ => j1

/-- A block's first and last id, as loaded. -/
abbrev lane0 (v : S16.Idx → Elt F .i32) : BitVec 32 := extractAt ![0] (extractStridedSlice S1 ![0] (shapeCast S16 v shapeCasts_S16_S16) slices_S16_o0_S1) inpos_S1_p0
abbrev lane15 (v : S16.Idx → Elt F .i32) : BitVec 32 := extractAt ![0] (extractStridedSlice S1 ![15] (shapeCast S16 v shapeCasts_S16_S16) slices_S16_o15_S1) inpos_S1_p0

/-- A trip of the loop over the tile's blocks. -/
def blockBody (t : Fin k0_t5_loop.trips) (b6 : (v w : S16.Idx → Elt F .i32) → k0_cond15 (lane0 (F := F) v) (lane15 (F := F) w) = 1#1 → Fin k0_t6_loop.trips → PUnit.{1} → PE (F := F) L PUnit) : PE (F := F) L PUnit :=
  .op (.load i6V (Rect.unit (s := S1792) (k0_off153 t) S16.size (k0_off153_inb t)).toLoadRect (View.loadsAt_vmem h_S16)) fun v =>
  .op (.load i6V (Rect.unit (s := S1792) (k0_off154 t) S16.size (k0_off154_inb t)).toLoadRect (View.loadsAt_vmem h_S16)) fun w =>
  dite (k0_cond15 (lane0 (F := F) v) (lane15 (F := F) w) = 1#1)
    (fun h => .op (.enqueueDmaAs ((hV).slice (Rect.unit (s := S12800000) (k0_off155 L t) S16384.size (k0_off155_inb L t)) (fun _ => rfl)) (.here r7P) .same (.dma (csem 4)) (View.wordExact_bits rfl) (View.wordExact_bits rfl) ⟨Or.inl rfl, trivial⟩) fun _ =>
      .op (.waitDma2 (csem 4) ((hV).slice (Rect.unit (s := S12800000) (k0_off155 L t) S16384.size (k0_off155_inb L t)) (fun _ => rfl)) r7P (View.wordExact_bits rfl) (View.wordExact_bits rfl)) fun _ =>
      Scf.Loop.for k0_t6_loop k0_t6_ok ⟨⟩ (b6 v w h) >>= fun _ => .ret ⟨⟩)
    fun _ => .ret ⟨⟩

/-- The whole body over its loops' bodies. -/
def built (s : Loops F L) : PE (F := F) L PUnit :=
  .op (.enqueueDmaAs ((hV).slice (Rect.unit (s := S12800000) (k0_off1 L) S28672.size (k0_off1_inb L)) (fun _ => rfl)) (.here r7V) .same (.dma (csem 0)) (View.wordExact_bits rfl) (Memref.isWhole_whole _).wordExact ⟨Or.inl rfl, trivial⟩) fun _ =>
  .op (.enqueueDmaAs ((iV).slice (Rect.unit (s := S100000) (k0_off2 L) S1344.size (k0_off2_inb L)) (fun _ => rfl)) (.here i5V) .same (.dma (csem 2)) (View.wordExact_bits rfl) (Memref.isWhole_whole _).wordExact ⟨Or.inl rfl, trivial⟩) fun _ =>
  .op (.waitDma2 (csem 2) ((iV).slice (Rect.unit (s := S100000) (k0_off2 L) S1344.size (k0_off2_inb L)) (fun _ => rfl)) i5V (View.wordExact_bits rfl) (Memref.isWhole_whole _).wordExact) fun _ =>
  .op (.enqueueDmaAs ((iV).slice (Rect.unit (s := S100000) (k0_off3 L) S1792.size (k0_off3_inb L)) (fun _ => rfl)) (.here i6V) .same (.dma (csem 3)) (View.wordExact_bits rfl) (Memref.isWhole_whole _).wordExact ⟨Or.inl rfl, trivial⟩) fun _ =>
  .op (.waitDma2 (csem 3) ((iV).slice (Rect.unit (s := S100000) (k0_off3 L) S1792.size (k0_off3_inb L)) (fun _ => rfl)) i6V (View.wordExact_bits rfl) (Memref.isWhole_whole _).wordExact) fun _ =>
  Scf.Loop.for k0_t1_loop k0_t1_ok ⟨⟩ s.b1 >>= fun _ =>
  Scf.Loop.for k0_t2_loop k0_t2_ok ⟨⟩ s.b2 >>= fun _ =>
  Scf.Loop.for k0_t5_loop k0_t5_ok ⟨⟩ s.b5 >>= fun _ =>
  .op (.enqueueDmaAs aV (.here (oK L)) .same (.dma (csem 5)) (Memref.isWhole_whole _).wordExact (View.wordExact_bits rfl) ⟨Or.inl rfl, trivial⟩) fun _ =>
  .op (.waitDma2 (csem 5) aV (oK L) (Memref.isWhole_whole _).wordExact (View.wordExact_bits rfl)) fun _ => .ret ⟨⟩

set_option maxRecDepth 100000

/-- The body is built of its loops' bodies. -/
def built_eq (L : grid0.Coords) : { s : Loops F L // body L = built s } := ⟨⟨_, _, _⟩, rfl⟩

/-- So is a trip over a pair of chunks, -/
def pair_eq (L : grid0.Coords) (t : Fin k0_t2_loop.trips) : { b : (Fin k0_t3_loop.trips → PUnit.{1} → PE (F := F) L PUnit) × (Fin k0_t4_loop.trips → PUnit.{1} → PE (F := F) L PUnit) //
    (built_eq (F := F) L).1.b2 t ⟨⟩ = pairBody b.1 b.2 t } := ⟨⟨_, _⟩, rfl⟩

/-- and a trip over a block. -/
def block_eq (L : grid0.Coords) (t : Fin k0_t5_loop.trips) : { b : (v w : S16.Idx → Elt F .i32) → k0_cond15 (lane0 (F := F) v) (lane15 (F := F) w) = 1#1 → Fin k0_t6_loop.trips → PUnit.{1} → PE (F := F) L PUnit //
    (built_eq (F := F) L).1.b5 t ⟨⟩ = blockBody t b } := ⟨_, rfl⟩

end Cert.Proof.SegMax

end
-- ==== Proof.Units.lean ====
/-
  Units of thirty-two rows: what a tile holds, and the loop over them.
-/
module

public import proofs.«01_k».proof.Proof.Shape

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "i5V" => (Memref.whole Cert.KernelIdeal.cc0_scratch0 : Memref Cert.KernelIdeal.sig Kind.scVector Space.vmem Cert.KernelIdeal.S1344 EltTy.i32)
local notation "i6V" => (Memref.whole Cert.KernelIdeal.cc0_scratch1 : Memref Cert.KernelIdeal.sig Kind.scVector Space.vmem Cert.KernelIdeal.S1792 EltTy.i32)
local notation "r7V" => (Memref.whole Cert.KernelIdeal.cc0_scratch2 : Memref Cert.KernelIdeal.sig Kind.scVector Space.vmem Cert.KernelIdeal.S28672 EltTy.f32)
local notation "r8V" => (Memref.whole Cert.KernelIdeal.cc0_scratch3 : Memref Cert.KernelIdeal.sig Kind.scVector Space.vmem Cert.KernelIdeal.S28672 EltTy.f32)

variable [FloatOps F] {d : Dev nD} {L : grid0.Coords}

set_option maxRecDepth 100000

/-- What a tile holds while it goes through the chunks in the first buffer, -/
abbrev held5 (d : Dev nD) (L : grid0.Coords) (R : Rows F) (I : S1344.Idx → Elt F .i32) : Held F d L := ⟨1344, inferInstance, r7V, i5V, R, I⟩
/-- in the second, -/
abbrev held8 (d : Dev nD) (L : grid0.Coords) (R : Rows F) (I : S1344.Idx → Elt F .i32) : Held F d L := ⟨1344, inferInstance, r8V, i5V, R, I⟩
/-- and while it goes through its blocks. -/
abbrev held6 (d : Dev nD) (L : grid0.Coords) (R : Rows F) (I : S1792.Idx → Elt F .i32) : Held F d L := ⟨1792, inferInstance, r7V, i6V, R, I⟩

/-- The first row of a unit in its buffer. -/
theorem row0_eq (n : Nat) (i : Fin n) (hn : n < 8) : (Scalar.muli (Scalar.muli (Scf.iv 0#32 1#32 i.val) 2#32) 16#32).toNat = 32 * i.val := by
  have := i.isLt
  simp only [Scf.iv, Scalar.muli, Scalar.addi, IntOp.muli, IntOp.addi, BitVec.toNat_mul, BitVec.toNat_add, BitVec.toNat_ofNat]
  omega

/-- The first row of its second group. -/
theorem row0_eq' {row0 : BitVec 32} {q : Nat} (hq : row0.toNat = q) (h : q < 1000) : (Scalar.addi row0 16#32).toNat = q + 16 := by
  simp only [Scalar.addi, IntOp.addi, BitVec.toNat_add, BitVec.toNat_ofNat, hq]
  omega

/-- A lane of loaded ids names a segment. -/
theorem lane_lt (f : Nat → BitVec 32) (hf : ∀ k, (f k).toNat < 128) (k : Nat) (hk : k < 16) (v : S16.Idx → BitVec 32) (hv : v = fun x => f (x 0).val) (h1) (h2) (h3) :
    (extractAt ![0] (extractStridedSlice S1 ![k] (shapeCast S16 v h1) h2) h3 : BitVec 32).toNat < 128 := by
  rw [lane_at f k hk v hv h1 h2 h3]; exact hf k

/-- Units in turn, from what one does. -/
theorem Ex_units (B : Held F d L) (p : Nat) {lb ub st : BitVec 32} {hok : Scf.OK lb ub st} {body : Fin (Scf.trips lb ub st) → PUnit → PE (F := F) L PUnit} (a : Acc F)
    (h : ∀ u a, Ex B (body u ⟨⟩) a (unitStep B.id B.lanes (p + 32 * u.val) (32 * u.val) a)) :
    Ex B (Scf.for lb ub st hok ⟨⟩ body) a (unitsStep B.id B.lanes p 0 (Scf.trips lb ub st) a) := by
  refine Ex_for B (fun n => unitsStep B.id B.lanes p 0 n a) fun u => ?_
  show Ex B (body u ⟨⟩) _ (unitStep B.id B.lanes (p + 32 * u.val) (0 + 32 * u.val) (unitsStep B.id B.lanes p 0 u.val a))
  rw [Nat.zero_add]
  exact h u _

end Cert.Proof.SegMax

end
-- ==== Proof.Unit3.lean ====
/-
  A unit of a chunk staged in the first buffer.
-/
module

public import proofs.«01_k».proof.Proof.Units

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "i5V" => (Memref.whole Cert.KernelIdeal.cc0_scratch0 : Memref Cert.KernelIdeal.sig Kind.scVector Space.vmem Cert.KernelIdeal.S1344 EltTy.i32)
local notation "i6V" => (Memref.whole Cert.KernelIdeal.cc0_scratch1 : Memref Cert.KernelIdeal.sig Kind.scVector Space.vmem Cert.KernelIdeal.S1792 EltTy.i32)
local notation "r7V" => (Memref.whole Cert.KernelIdeal.cc0_scratch2 : Memref Cert.KernelIdeal.sig Kind.scVector Space.vmem Cert.KernelIdeal.S28672 EltTy.f32)
local notation "r8V" => (Memref.whole Cert.KernelIdeal.cc0_scratch3 : Memref Cert.KernelIdeal.sig Kind.scVector Space.vmem Cert.KernelIdeal.S28672 EltTy.f32)

variable [FloatOps F] {d : Dev nD} {L : grid0.Coords}

set_option maxRecDepth 100000

set_option maxHeartbeats 4000000 in
/-- A unit of a chunk in the first buffer. -/
theorem unit3 (t : Fin k0_t2_loop.trips) (u : Fin k0_t3_loop.trips) (R : Rows F) (I : S1344.Idx → Elt F .i32) (hB : (held5 d L R I).OK) (a : Acc F) :
    Ex (held5 d L R I) ((pair_eq L t).1.1 u ⟨⟩) a (unitStep (held5 d L R I).id (held5 d L R I).lanes (448 * t.val + 32 * u.val) (32 * u.val) a) := by
  have ht : t.val < 3 := t.isLt
  have hu : u.val < 7 := u.isLt
  have hq := row0_eq 7 u (by decide)
  have hq' := row0_eq' hq (by omega)
  have g0 := fun k => hB (448 * t.val + 32 * u.val + k)
  have g1 := fun k => hB (448 * t.val + 32 * u.val + 16 + k)
  have l0 := lane_at (fun k => (held5 d L R I).id (448 * t.val + 32 * u.val + k))
  have l1 := lane_at (fun k => (held5 d L R I).id (448 * t.val + 32 * u.val + 16 + k))
  have s0 := lane_lt (fun k => (held5 d L R I).id (448 * t.val + 32 * u.val + k)) g0
  have s1 := lane_lt (fun k => (held5 d L R I).id (448 * t.val + 32 * u.val + 16 + k)) g1
  refine Ex_ids (held5 d L R I) (448 * t.val + 32 * u.val) (congrFun (k0_off7_eq t u) 0) (show _ ≤ 1344 by omega) ?_
  refine Ex_ids (held5 d L R I) (448 * t.val + 32 * u.val + 16) (congrFun (k0_off8_eq t u) 0) (show _ ≤ 1344 by omega) ?_
  refine Ex_assume (held5 d L R I) (fun _ r a => seg_inb _ (s0 0 (by decide) _ rfl _ _ _) r.val r.isLt a) ?_
  refine Ex_unit (held5 d L R I) (448 * t.val + 32 * u.val) (32 * u.val) (l0 0 (by decide) _ rfl _ _ _) (l1 15 (by decide) _ rfl _ _ _) rfl rfl ?_ ?_ ?_
  · exact Ex_ret _ rfl
  · intro h hJ
    exact Ex_treeId (held5 d L R I) _ _ hq 32 5 (by decide) (by omega) _ (l0 0 (by decide) _ rfl _ _ _) (h := s0 0 (by decide) _ rfl _ _ _) hJ
  intro h hJ
  refine Ex_assume (held5 d L R I) (fun _ _ r a => seg_inb _ (s0 0 (by decide) _ rfl _ _ _) r.val r.isLt a) ?_
  refine Ex_grp (held5 d L R I) (448 * t.val + 32 * u.val) (32 * u.val) (l0 0 (by decide) _ rfl _ _ _) (l0 15 (by decide) _ rfl _ _ _) rfl rfl ?_ ?_ ?_
  · refine Ex_assume (held5 d L R I) (fun _ _ r a => seg_inb _ (s1 0 (by decide) _ rfl _ _ _) r.val r.isLt a) ?_
    refine Ex_grp (held5 d L R I) (448 * t.val + 32 * u.val + 16) (32 * u.val + 16) (l1 0 (by decide) _ rfl _ _ _) (l1 15 (by decide) _ rfl _ _ _) rfl rfl hJ ?_ ?_
    · intro h hJ
      exact Ex_treeId (held5 d L R I) _ _ hq' 16 4 (by decide) (by omega) _ (l1 0 (by decide) _ rfl _ _ _) (h := s1 0 (by decide) _ rfl _ _ _) hJ
    · intro h hJ
      iterate 16
        refine Ex_assume (held5 d L R I) (fun _ _ r a => seg_inb _ (s1 _ (by decide) _ rfl _ _ _) r.val r.isLt a) ?_
        refine Ex_raiseRow0 (held5 d L R I) hq' (l1 _ (by decide) _ rfl _ _ _) (hB _) (by omega) fun _ _ _ _ => ?_
        refine Ex_raiseRow (held5 d L R I) hq' (l1 _ (by decide) _ rfl _ _ _) (hB _) (by omega) (j := 1) (by decide) fun _ _ _ _ => ?_
        refine Ex_raiseRow (held5 d L R I) hq' (l1 _ (by decide) _ rfl _ _ _) (hB _) (by omega) (j := 2) (by decide) fun _ _ _ _ => ?_
        refine Ex_raiseRow (held5 d L R I) hq' (l1 _ (by decide) _ rfl _ _ _) (hB _) (by omega) (j := 3) (by decide) fun _ _ _ _ => ?_
        refine Ex_raiseRow (held5 d L R I) hq' (l1 _ (by decide) _ rfl _ _ _) (hB _) (by omega) (j := 4) (by decide) fun _ _ _ _ => ?_
        refine Ex_raiseRow (held5 d L R I) hq' (l1 _ (by decide) _ rfl _ _ _) (hB _) (by omega) (j := 5) (by decide) fun _ _ _ _ => ?_
        refine Ex_raiseRow (held5 d L R I) hq' (l1 _ (by decide) _ rfl _ _ _) (hB _) (by omega) (j := 6) (by decide) fun _ _ _ _ => ?_
        refine Ex_raiseRow (held5 d L R I) hq' (l1 _ (by decide) _ rfl _ _ _) (hB _) (by omega) (j := 7) (by decide) fun _ _ _ _ => ?_
      exact hJ
  · intro h hJ
    exact Ex_treeId (held5 d L R I) _ _ hq 16 4 (by decide) (by omega) _ (l0 0 (by decide) _ rfl _ _ _) (h := s0 0 (by decide) _ rfl _ _ _) hJ
  · intro h hJ
    iterate 16
      refine Ex_assume (held5 d L R I) (fun _ _ r a => seg_inb _ (s0 _ (by decide) _ rfl _ _ _) r.val r.isLt a) ?_
      refine Ex_raiseRow0 (held5 d L R I) hq (l0 _ (by decide) _ rfl _ _ _) (hB _) (by omega) fun _ _ _ _ => ?_
      refine Ex_raiseRow (held5 d L R I) hq (l0 _ (by decide) _ rfl _ _ _) (hB _) (by omega) (j := 1) (by decide) fun _ _ _ _ => ?_
      refine Ex_raiseRow (held5 d L R I) hq (l0 _ (by decide) _ rfl _ _ _) (hB _) (by omega) (j := 2) (by decide) fun _ _ _ _ => ?_
      refine Ex_raiseRow (held5 d L R I) hq (l0 _ (by decide) _ rfl _ _ _) (hB _) (by omega) (j := 3) (by decide) fun _ _ _ _ => ?_
      refine Ex_raiseRow (held5 d L R I) hq (l0 _ (by decide) _ rfl _ _ _) (hB _) (by omega) (j := 4) (by decide) fun _ _ _ _ => ?_
      refine Ex_raiseRow (held5 d L R I) hq (l0 _ (by decide) _ rfl _ _ _) (hB _) (by omega) (j := 5) (by decide) fun _ _ _ _ => ?_
      refine Ex_raiseRow (held5 d L R I) hq (l0 _ (by decide) _ rfl _ _ _) (hB _) (by omega) (j := 6) (by decide) fun _ _ _ _ => ?_
      refine Ex_raiseRow (held5 d L R I) hq (l0 _ (by decide) _ rfl _ _ _) (hB _) (by omega) (j := 7) (by decide) fun _ _ _ _ => ?_
    exact hJ

theorem loop3 (t : Fin k0_t2_loop.trips) (R : Rows F) (I : S1344.Idx → Elt F .i32) (hB : (held5 d L R I).OK) (a : Acc F) :
    Ex (held5 d L R I) (Scf.Loop.for k0_t3_loop k0_t3_ok ⟨⟩ (pair_eq L t).1.1) a (unitsStep (held5 d L R I).id (held5 d L R I).lanes (448 * t.val) 0 7 a) :=
  Ex_units (held5 d L R I) (448 * t.val) a fun u a => unit3 t u R I hB a

end Cert.Proof.SegMax

end
-- ==== Proof.Unit4.lean ====
/-
  A unit of a chunk staged in the second buffer.
-/
module

public import proofs.«01_k».proof.Proof.Unit3

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "i5V" => (Memref.whole Cert.KernelIdeal.cc0_scratch0 : Memref Cert.KernelIdeal.sig Kind.scVector Space.vmem Cert.KernelIdeal.S1344 EltTy.i32)
local notation "i6V" => (Memref.whole Cert.KernelIdeal.cc0_scratch1 : Memref Cert.KernelIdeal.sig Kind.scVector Space.vmem Cert.KernelIdeal.S1792 EltTy.i32)
local notation "r7V" => (Memref.whole Cert.KernelIdeal.cc0_scratch2 : Memref Cert.KernelIdeal.sig Kind.scVector Space.vmem Cert.KernelIdeal.S28672 EltTy.f32)
local notation "r8V" => (Memref.whole Cert.KernelIdeal.cc0_scratch3 : Memref Cert.KernelIdeal.sig Kind.scVector Space.vmem Cert.KernelIdeal.S28672 EltTy.f32)

variable [FloatOps F] {d : Dev nD} {L : grid0.Coords}

set_option maxRecDepth 100000

set_option maxHeartbeats 4000000 in
/-- A unit of a chunk in the second buffer. -/
theorem unit4 (t : Fin k0_t2_loop.trips) (u : Fin k0_t4_loop.trips) (R : Rows F) (I : S1344.Idx → Elt F .i32) (hB : (held8 d L R I).OK) (a : Acc F) :
    Ex (held8 d L R I) ((pair_eq L t).1.2 u ⟨⟩) a (unitStep (held8 d L R I).id (held8 d L R I).lanes (448 * t.val + 224 + 32 * u.val) (32 * u.val) a) := by
  have ht : t.val < 3 := t.isLt
  have hu : u.val < 7 := u.isLt
  have hq := row0_eq 7 u (by decide)
  have hq' := row0_eq' hq (by omega)
  have g0 := fun k => hB (448 * t.val + 224 + 32 * u.val + k)
  have g1 := fun k => hB (448 * t.val + 224 + 32 * u.val + 16 + k)
  have l0 := lane_at (fun k => (held8 d L R I).id (448 * t.val + 224 + 32 * u.val + k))
  have l1 := lane_at (fun k => (held8 d L R I).id (448 * t.val + 224 + 32 * u.val + 16 + k))
  have s0 := lane_lt (fun k => (held8 d L R I).id (448 * t.val + 224 + 32 * u.val + k)) g0
  have s1 := lane_lt (fun k => (held8 d L R I).id (448 * t.val + 224 + 32 * u.val + 16 + k)) g1
  refine Ex_ids (held8 d L R I) (448 * t.val + 224 + 32 * u.val) ((congrFun (k0_off81_eq t u) 0).trans (show 448 * t.val + 32 * u.val + 224 = _ by omega)) (show _ ≤ 1344 by omega) ?_
  refine Ex_ids (held8 d L R I) (448 * t.val + 224 + 32 * u.val + 16) ((congrFun (k0_off82_eq t u) 0).trans (show 448 * t.val + 32 * u.val + 240 = _ by omega)) (show _ ≤ 1344 by omega) ?_
  refine Ex_assume (held8 d L R I) (fun _ r a => seg_inb _ (s0 0 (by decide) _ rfl _ _ _) r.val r.isLt a) ?_
  refine Ex_unit (held8 d L R I) (448 * t.val + 224 + 32 * u.val) (32 * u.val) (l0 0 (by decide) _ rfl _ _ _) (l1 15 (by decide) _ rfl _ _ _) rfl rfl ?_ ?_ ?_
  · exact Ex_ret _ rfl
  · intro h hJ
    exact Ex_treeId (held8 d L R I) _ _ hq 32 5 (by decide) (by omega) _ (l0 0 (by decide) _ rfl _ _ _) (h := s0 0 (by decide) _ rfl _ _ _) hJ
  intro h hJ
  refine Ex_assume (held8 d L R I) (fun _ _ r a => seg_inb _ (s0 0 (by decide) _ rfl _ _ _) r.val r.isLt a) ?_
  refine Ex_grp (held8 d L R I) (448 * t.val + 224 + 32 * u.val) (32 * u.val) (l0 0 (by decide) _ rfl _ _ _) (l0 15 (by decide) _ rfl _ _ _) rfl rfl ?_ ?_ ?_
  · refine Ex_assume (held8 d L R I) (fun _ _ r a => seg_inb _ (s1 0 (by decide) _ rfl _ _ _) r.val r.isLt a) ?_
    refine Ex_grp (held8 d L R I) (448 * t.val + 224 + 32 * u.val + 16) (32 * u.val + 16) (l1 0 (by decide) _ rfl _ _ _) (l1 15 (by decide) _ rfl _ _ _) rfl rfl hJ ?_ ?_
    · intro h hJ
      exact Ex_treeId (held8 d L R I) _ _ hq' 16 4 (by decide) (by omega) _ (l1 0 (by decide) _ rfl _ _ _) (h := s1 0 (by decide) _ rfl _ _ _) hJ
    · intro h hJ
      iterate 16
        refine Ex_assume (held8 d L R I) (fun _ _ r a => seg_inb _ (s1 _ (by decide) _ rfl _ _ _) r.val r.isLt a) ?_
        refine Ex_raiseRow0 (held8 d L R I) hq' (l1 _ (by decide) _ rfl _ _ _) (hB _) (by omega) fun _ _ _ _ => ?_
        refine Ex_raiseRow (held8 d L R I) hq' (l1 _ (by decide) _ rfl _ _ _) (hB _) (by omega) (j := 1) (by decide) fun _ _ _ _ => ?_
        refine Ex_raiseRow (held8 d L R I) hq' (l1 _ (by decide) _ rfl _ _ _) (hB _) (by omega) (j := 2) (by decide) fun _ _ _ _ => ?_
        refine Ex_raiseRow (held8 d L R I) hq' (l1 _ (by decide) _ rfl _ _ _) (hB _) (by omega) (j := 3) (by decide) fun _ _ _ _ => ?_
        refine Ex_raiseRow (held8 d L R I) hq' (l1 _ (by decide) _ rfl _ _ _) (hB _) (by omega) (j := 4) (by decide) fun _ _ _ _ => ?_
        refine Ex_raiseRow (held8 d L R I) hq' (l1 _ (by decide) _ rfl _ _ _) (hB _) (by omega) (j := 5) (by decide) fun _ _ _ _ => ?_
        refine Ex_raiseRow (held8 d L R I) hq' (l1 _ (by decide) _ rfl _ _ _) (hB _) (by omega) (j := 6) (by decide) fun _ _ _ _ => ?_
        refine Ex_raiseRow (held8 d L R I) hq' (l1 _ (by decide) _ rfl _ _ _) (hB _) (by omega) (j := 7) (by decide) fun _ _ _ _ => ?_
      exact hJ
  · intro h hJ
    exact Ex_treeId (held8 d L R I) _ _ hq 16 4 (by decide) (by omega) _ (l0 0 (by decide) _ rfl _ _ _) (h := s0 0 (by decide) _ rfl _ _ _) hJ
  · intro h hJ
    iterate 16
      refine Ex_assume (held8 d L R I) (fun _ _ r a => seg_inb _ (s0 _ (by decide) _ rfl _ _ _) r.val r.isLt a) ?_
      refine Ex_raiseRow0 (held8 d L R I) hq (l0 _ (by decide) _ rfl _ _ _) (hB _) (by omega) fun _ _ _ _ => ?_
      refine Ex_raiseRow (held8 d L R I) hq (l0 _ (by decide) _ rfl _ _ _) (hB _) (by omega) (j := 1) (by decide) fun _ _ _ _ => ?_
      refine Ex_raiseRow (held8 d L R I) hq (l0 _ (by decide) _ rfl _ _ _) (hB _) (by omega) (j := 2) (by decide) fun _ _ _ _ => ?_
      refine Ex_raiseRow (held8 d L R I) hq (l0 _ (by decide) _ rfl _ _ _) (hB _) (by omega) (j := 3) (by decide) fun _ _ _ _ => ?_
      refine Ex_raiseRow (held8 d L R I) hq (l0 _ (by decide) _ rfl _ _ _) (hB _) (by omega) (j := 4) (by decide) fun _ _ _ _ => ?_
      refine Ex_raiseRow (held8 d L R I) hq (l0 _ (by decide) _ rfl _ _ _) (hB _) (by omega) (j := 5) (by decide) fun _ _ _ _ => ?_
      refine Ex_raiseRow (held8 d L R I) hq (l0 _ (by decide) _ rfl _ _ _) (hB _) (by omega) (j := 6) (by decide) fun _ _ _ _ => ?_
      refine Ex_raiseRow (held8 d L R I) hq (l0 _ (by decide) _ rfl _ _ _) (hB _) (by omega) (j := 7) (by decide) fun _ _ _ _ => ?_
    exact hJ

theorem loop4 (t : Fin k0_t2_loop.trips) (R : Rows F) (I : S1344.Idx → Elt F .i32) (hB : (held8 d L R I).OK) (a : Acc F) :
    Ex (held8 d L R I) (Scf.Loop.for k0_t4_loop k0_t4_ok ⟨⟩ (pair_eq L t).1.2) a (unitsStep (held8 d L R I).id (held8 d L R I).lanes (448 * t.val + 224) 0 7 a) :=
  Ex_units (held8 d L R I) (448 * t.val + 224) a fun u a => unit4 t u R I hB a

end Cert.Proof.SegMax

end
-- ==== Proof.Unit6.lean ====
/-
  A unit of a block.
-/
module

public import proofs.«01_k».proof.Proof.Unit4

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "i5V" => (Memref.whole Cert.KernelIdeal.cc0_scratch0 : Memref Cert.KernelIdeal.sig Kind.scVector Space.vmem Cert.KernelIdeal.S1344 EltTy.i32)
local notation "i6V" => (Memref.whole Cert.KernelIdeal.cc0_scratch1 : Memref Cert.KernelIdeal.sig Kind.scVector Space.vmem Cert.KernelIdeal.S1792 EltTy.i32)
local notation "r7V" => (Memref.whole Cert.KernelIdeal.cc0_scratch2 : Memref Cert.KernelIdeal.sig Kind.scVector Space.vmem Cert.KernelIdeal.S28672 EltTy.f32)
local notation "r8V" => (Memref.whole Cert.KernelIdeal.cc0_scratch3 : Memref Cert.KernelIdeal.sig Kind.scVector Space.vmem Cert.KernelIdeal.S28672 EltTy.f32)

variable [FloatOps F] {d : Dev nD} {L : grid0.Coords}

set_option maxRecDepth 100000

set_option maxHeartbeats 4000000 in
/-- A unit of a chunk of a block. -/
theorem unit6 (t : Fin k0_t5_loop.trips) (v w : S16.Idx → Elt F .i32) (h15 : k0_cond15 (lane0 (F := F) v) (lane15 (F := F) w) = 1#1) (u : Fin k0_t6_loop.trips) (R : Rows F) (I : S1792.Idx → Elt F .i32) (hB : (held6 d L R I).OK) (a : Acc F) :
    Ex (held6 d L R I) ((block_eq L t).1 v w h15 u ⟨⟩) a (unitStep (held6 d L R I).id (held6 d L R I).lanes (128 * t.val + 32 * u.val) (32 * u.val) a) := by
  have ht : t.val < 14 := t.isLt
  have hu : u.val < 4 := u.isLt
  have hq := row0_eq 4 u (by decide)
  have hq' := row0_eq' hq (by omega)
  have g0 := fun k => hB (128 * t.val + 32 * u.val + k)
  have g1 := fun k => hB (128 * t.val + 32 * u.val + 16 + k)
  have l0 := lane_at (fun k => (held6 d L R I).id (128 * t.val + 32 * u.val + k))
  have l1 := lane_at (fun k => (held6 d L R I).id (128 * t.val + 32 * u.val + 16 + k))
  have s0 := lane_lt (fun k => (held6 d L R I).id (128 * t.val + 32 * u.val + k)) g0
  have s1 := lane_lt (fun k => (held6 d L R I).id (128 * t.val + 32 * u.val + 16 + k)) g1
  refine Ex_ids (held6 d L R I) (128 * t.val + 32 * u.val) (congrFun (k0_off156_eq t u) 0) (show _ ≤ 1792 by omega) ?_
  refine Ex_ids (held6 d L R I) (128 * t.val + 32 * u.val + 16) (congrFun (k0_off157_eq t u) 0) (show _ ≤ 1792 by omega) ?_
  refine Ex_assume (held6 d L R I) (fun _ _ r a => seg_inb _ (s0 0 (by decide) _ rfl _ _ _) r.val r.isLt a) ?_
  refine Ex_unit (held6 d L R I) (128 * t.val + 32 * u.val) (32 * u.val) (l0 0 (by decide) _ rfl _ _ _) (l1 15 (by decide) _ rfl _ _ _) rfl rfl ?_ ?_ ?_
  · exact Ex_ret _ rfl
  · intro h hJ
    exact Ex_treeId (held6 d L R I) _ _ hq 32 5 (by decide) (by omega) _ (l0 0 (by decide) _ rfl _ _ _) (h := s0 0 (by decide) _ rfl _ _ _) hJ
  intro h hJ
  refine Ex_assume (held6 d L R I) (fun _ _ _ r a => seg_inb _ (s0 0 (by decide) _ rfl _ _ _) r.val r.isLt a) ?_
  refine Ex_grp (held6 d L R I) (128 * t.val + 32 * u.val) (32 * u.val) (l0 0 (by decide) _ rfl _ _ _) (l0 15 (by decide) _ rfl _ _ _) rfl rfl ?_ ?_ ?_
  · refine Ex_assume (held6 d L R I) (fun _ _ _ r a => seg_inb _ (s1 0 (by decide) _ rfl _ _ _) r.val r.isLt a) ?_
    refine Ex_grp (held6 d L R I) (128 * t.val + 32 * u.val + 16) (32 * u.val + 16) (l1 0 (by decide) _ rfl _ _ _) (l1 15 (by decide) _ rfl _ _ _) rfl rfl hJ ?_ ?_
    · intro h hJ
      exact Ex_treeId (held6 d L R I) _ _ hq' 16 4 (by decide) (by omega) _ (l1 0 (by decide) _ rfl _ _ _) (h := s1 0 (by decide) _ rfl _ _ _) hJ
    · intro h hJ
      iterate 16
        refine Ex_assume (held6 d L R I) (fun _ _ _ r a => seg_inb _ (s1 _ (by decide) _ rfl _ _ _) r.val r.isLt a) ?_
        refine Ex_raiseRow0 (held6 d L R I) hq' (l1 _ (by decide) _ rfl _ _ _) (hB _) (by omega) fun _ _ _ _ => ?_
        refine Ex_raiseRow (held6 d L R I) hq' (l1 _ (by decide) _ rfl _ _ _) (hB _) (by omega) (j := 1) (by decide) fun _ _ _ _ => ?_
        refine Ex_raiseRow (held6 d L R I) hq' (l1 _ (by decide) _ rfl _ _ _) (hB _) (by omega) (j := 2) (by decide) fun _ _ _ _ => ?_
        refine Ex_raiseRow (held6 d L R I) hq' (l1 _ (by decide) _ rfl _ _ _) (hB _) (by omega) (j := 3) (by decide) fun _ _ _ _ => ?_
        refine Ex_raiseRow (held6 d L R I) hq' (l1 _ (by decide) _ rfl _ _ _) (hB _) (by omega) (j := 4) (by decide) fun _ _ _ _ => ?_
        refine Ex_raiseRow (held6 d L R I) hq' (l1 _ (by decide) _ rfl _ _ _) (hB _) (by omega) (j := 5) (by decide) fun _ _ _ _ => ?_
        refine Ex_raiseRow (held6 d L R I) hq' (l1 _ (by decide) _ rfl _ _ _) (hB _) (by omega) (j := 6) (by decide) fun _ _ _ _ => ?_
        refine Ex_raiseRow (held6 d L R I) hq' (l1 _ (by decide) _ rfl _ _ _) (hB _) (by omega) (j := 7) (by decide) fun _ _ _ _ => ?_
      exact hJ
  · intro h hJ
    exact Ex_treeId (held6 d L R I) _ _ hq 16 4 (by decide) (by omega) _ (l0 0 (by decide) _ rfl _ _ _) (h := s0 0 (by decide) _ rfl _ _ _) hJ
  · intro h hJ
    iterate 16
      refine Ex_assume (held6 d L R I) (fun _ _ _ r a => seg_inb _ (s0 _ (by decide) _ rfl _ _ _) r.val r.isLt a) ?_
      refine Ex_raiseRow0 (held6 d L R I) hq (l0 _ (by decide) _ rfl _ _ _) (hB _) (by omega) fun _ _ _ _ => ?_
      refine Ex_raiseRow (held6 d L R I) hq (l0 _ (by decide) _ rfl _ _ _) (hB _) (by omega) (j := 1) (by decide) fun _ _ _ _ => ?_
      refine Ex_raiseRow (held6 d L R I) hq (l0 _ (by decide) _ rfl _ _ _) (hB _) (by omega) (j := 2) (by decide) fun _ _ _ _ => ?_
      refine Ex_raiseRow (held6 d L R I) hq (l0 _ (by decide) _ rfl _ _ _) (hB _) (by omega) (j := 3) (by decide) fun _ _ _ _ => ?_
      refine Ex_raiseRow (held6 d L R I) hq (l0 _ (by decide) _ rfl _ _ _) (hB _) (by omega) (j := 4) (by decide) fun _ _ _ _ => ?_
      refine Ex_raiseRow (held6 d L R I) hq (l0 _ (by decide) _ rfl _ _ _) (hB _) (by omega) (j := 5) (by decide) fun _ _ _ _ => ?_
      refine Ex_raiseRow (held6 d L R I) hq (l0 _ (by decide) _ rfl _ _ _) (hB _) (by omega) (j := 6) (by decide) fun _ _ _ _ => ?_
      refine Ex_raiseRow (held6 d L R I) hq (l0 _ (by decide) _ rfl _ _ _) (hB _) (by omega) (j := 7) (by decide) fun _ _ _ _ => ?_
    exact hJ

theorem loop6 (t : Fin k0_t5_loop.trips) (v w : S16.Idx → Elt F .i32) (h15 : k0_cond15 (lane0 (F := F) v) (lane15 (F := F) w) = 1#1) (R : Rows F) (I : S1792.Idx → Elt F .i32) (hB : (held6 d L R I).OK) (a : Acc F) :
    Ex (held6 d L R I) (Scf.Loop.for k0_t6_loop k0_t6_ok ⟨⟩ ((block_eq L t).1 v w h15)) a (unitsStep (held6 d L R I).id (held6 d L R I).lanes (128 * t.val) 0 4 a) :=
  Ex_units (held6 d L R I) (128 * t.val) a fun u a => unit6 t v w h15 u R I hB a

end Cert.Proof.SegMax

end
-- ==== Proof.Trips.lean ====
/-
  A tile's loops: clearing the accumulator, a pair of chunks, a block.
-/
module

public import proofs.«01_k».proof.Proof.Unit6

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "hV" => (Memref.whole Cert.KernelIdeal.main_v19_scv : Memref Cert.KernelIdeal.sig Kind.scVector Space.hbm Cert.KernelIdeal.S12800000 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v20_scv : Memref Cert.KernelIdeal.sig Kind.scVector Space.hbm Cert.KernelIdeal.S524288 EltTy.f32)
local notation "i5V" => (Memref.whole Cert.KernelIdeal.cc0_scratch0 : Memref Cert.KernelIdeal.sig Kind.scVector Space.vmem Cert.KernelIdeal.S1344 EltTy.i32)
local notation "i6V" => (Memref.whole Cert.KernelIdeal.cc0_scratch1 : Memref Cert.KernelIdeal.sig Kind.scVector Space.vmem Cert.KernelIdeal.S1792 EltTy.i32)
local notation "r7V" => (Memref.whole Cert.KernelIdeal.cc0_scratch2 : Memref Cert.KernelIdeal.sig Kind.scVector Space.vmem Cert.KernelIdeal.S28672 EltTy.f32)
local notation "r8V" => (Memref.whole Cert.KernelIdeal.cc0_scratch3 : Memref Cert.KernelIdeal.sig Kind.scVector Space.vmem Cert.KernelIdeal.S28672 EltTy.f32)
local notation "aV" => (Memref.whole Cert.KernelIdeal.cc0_scratch4 : Memref Cert.KernelIdeal.sig Kind.scVector Space.vmem Cert.KernelIdeal.S16384 EltTy.f32)

/-! ## Where a tile's pieces lie -/

/-- The first row of a tile's chunks, and the first row of its blocks. -/
def tbase (L : grid0.Coords) : Nat := k0_off2 L 0
def tbb (L : grid0.Coords) : Nat := 3584 * (L 1).val + 1792 * (L 0).val

theorem cond15_iff (v w : BitVec 32) : k0_cond15 v w = 1#1 ↔ v ≠ w := by
  have h : ∀ b : Bool, (Scalar.cmpi .ne (Scalar.extui (BitVec.ofBool b) : BitVec 32) 0#32 = 1#1) ↔ b = true := by decide
  exact (h (v != w)).trans bne_iff_ne

theorem off1_at : ∀ L : grid0.Coords, k0_off1 L 0 = (tbase L + 224 * 0) * 128 := by decide +kernel
theorem off3_at (L : grid0.Coords) : k0_off3 L 0 = tbb L := by rw [k0_off3_eq]; rfl
theorem off5_at : ∀ (L : grid0.Coords) (t : Fin k0_t2_loop.trips), k0_off5 L t 0 = (tbase L + 224 * (2 * t.val + 1)) * 128 := by decide +kernel
theorem off79_at : ∀ (L : grid0.Coords) (t : Fin k0_t2_loop.trips), k0_off79 L t 0 = (tbase L + 224 * (2 * (t.val + 1))) * 128 := by decide +kernel
theorem off155_at : ∀ (L : grid0.Coords) (t : Fin k0_t5_loop.trips), k0_off155 L t 0 = (tbb L + 128 * t.val) * 128 := by decide +kernel
theorem cond1_at : ∀ t : Fin k0_t2_loop.trips, k0_cond1 t = 1#1 := by decide +kernel
theorem cond8_at : ∀ t : Fin k0_t2_loop.trips, k0_cond8 t = 1#1 ↔ t.val + 1 < 3 := by decide +kernel

/-! ## What a tile's accumulator goes through -/

section Pure
variable [FloatOps F]

def negAcc : Acc F := fun _ => FloatOps.ofBits .f32 0xFF800000#32

/-- The ids a tile holds of its chunks, and of its blocks. -/
def idC (I : S100000.Idx → Elt F .i32) (o N : Nat) [NeZero N] (n : Nat) : BitVec 32 := idsAt I o N (ix N n)

/-- After `k` chunks of 224 rows. -/
def chunkAcc (H : S12800000.Idx → Elt F .f32) (I : S100000.Idx → Elt F .i32) (o : Nat) : Nat → Acc F
  | 0 => negAcc
  | k + 1 => unitsStep (idC I o 1344) (rowsAt H ((o + 224 * k) * 128)) (224 * k) 0 7 (chunkAcc H I o k)

/-- After `b` blocks of 128 rows: a block all of one segment is left out. -/
def blockAcc (H : S12800000.Idx → Elt F .f32) (I : S100000.Idx → Elt F .i32) (o : Nat) (a : Acc F) : Nat → Acc F
  | 0 => a
  | b + 1 => if idC I o 1792 (128 * b) = idC I o 1792 (128 * b + 127) then blockAcc H I o a b
      else unitsStep (idC I o 1792) (rowsAt H ((o + 128 * b) * 128)) (128 * b) 0 4 (blockAcc H I o a b)

/-- What a tile writes out. -/
def tileAcc (H : S12800000.Idx → Elt F .f32) (I : S100000.Idx → Elt F .i32) (L : grid0.Coords) : Acc F :=
  blockAcc H I (tbb L) (chunkAcc H I (tbase L) 6) 14

/-- The accumulator while it is being cleared: the rows below `n` are, and the lanes below `hi` of row `n`. -/
def clr (f : Acc F) (n hi : Nat) : Acc F := fun x => if (x 0).val < n * 128 + hi then FloatOps.ofBits .f32 0xFF800000#32 else f x

theorem clr_store {off : Fin 1 → Nat} (n hi : Nat) (ho : off 0 = n * 128 + hi) (hb) (f : Acc F) (w : FVec F S16 .f32) (hw : ∀ x, w x = FloatOps.ofBits .f32 0xFF800000#32) :
    (Memref.access aV (Rect.unit (s := S16384) off S16.size hb)).write (Elt F) (clr f n hi) w Finset.univ = clr f n (hi + 16) := by
  have hv : ∀ f : Acc F, (View.whole cc0_scratch4 : View sig .scVector _ _ _).read (Elt F) f = f := fun f => rfl
  refine (hv _).symm.trans ?_
  funext y
  by_cases hy : y ∈ (Finset.univ).map (Rect.unit (s := S16384) off S16.size hb).emb
  · obtain ⟨x, -, rfl⟩ := Finset.mem_map.mp hy
    refine (View.read_slice_write_emb (Val := Elt F) (v := (View.whole cc0_scratch4 : View sig .scVector _ _ _)) _ _ w (Finset.mem_univ x)).trans ?_
    have hx : (x 0).val < 16 := (x 0).isLt
    have e0 : ((Rect.unit (s := S16384) off S16.size hb).emb x 0).val = n * 128 + hi + (x 0).val := by
      rw [Rect.emb_apply, Rect.off_unit, Rect.stride_unit, ho, Nat.one_mul]
    rw [hw x, clr, e0, if_pos (by omega)]
  · refine (View.read_slice_write_of_not_mem (Val := Elt F) (v := (View.whole cc0_scratch4 : View sig .scVector _ _ _)) _ _ w _ hy).trans ?_
    refine (congrFun (hv _) y).trans ?_
    have hn : ¬ (n * 128 + hi ≤ (y 0).val ∧ (y 0).val < n * 128 + hi + 16) := by
      rintro ⟨h1, h2⟩
      refine hy ?_
      rw [Rect.map_emb_univ, Rect.mem_set_unit]
      intro a
      obtain rfl : a = 0 := Subsingleton.elim _ _
      rw [ho]
      exact ⟨h1, h2⟩
    unfold clr
    by_cases h1 : (y 0).val < n * 128 + hi
    · rw [if_pos h1, if_pos (by omega)]
    · rw [if_neg h1, if_neg (by omega)]

end Pure

variable [FloatOps F] {d : Dev nD} {L : grid0.Coords} {α β : Type}

/-- Clearing sixteen lanes. -/
theorem Ex_clear (B : Held F d L) {off : Fin 1 → Nat} (n hi : Nat) (ho : off 0 = n * 128 + hi) {hb} {hl} {w : FVec F S16 .f32} (hw : w = broadcast S16 (Scalar.ofBits .f32 0xFF800000#32)) {h1} {hx} {hm} {k : PUnit → PE (F := F) L α} {f a' : Acc F}
    (hk : Ex B (k ⟨⟩) (clr f n (hi + 16)) a') :
    Ex B (.op (.load aV (Rect.unit (s := S16384) off S16.size hb).toLoadRect hl) fun _ => .op (.store aV (Rect.unit (s := S16384) off S16.size hb) (shapeCast S16 w h1) Finset.univ hx hm) k) (clr f n hi) a' := by
  refine Ex_acc B (Ex_store B (clr_store n hi ho hb f _ fun x => ?_) hk)
  subst hw
  exact congrFun (cast16 _ _) x

set_option maxRecDepth 100000

/-- Clearing the accumulator. -/
theorem loop1 (B : Held F d L) (f : Acc F) : Ex B (Scf.Loop.for k0_t1_loop k0_t1_ok ⟨⟩ (built_eq L).1.b1) f negAcc := by
  have h0 : clr f 0 0 = f := funext fun x => if_neg (by omega)
  have h1 : clr f 128 0 = negAcc := funext fun x => if_pos (by
    have : (x 0).val < 16384 := (x 0).isLt
    omega)
  have hs : ∀ n, clr f n 128 = clr f (n + 1) 0 := fun n => by
    unfold clr; rw [show n * 128 + 128 = (n + 1) * 128 + 0 by omega]
  have key : Ex B (Scf.Loop.for k0_t1_loop k0_t1_ok ⟨⟩ (built_eq L).1.b1) (clr f 0 0) (clr f 128 0) := by
    refine Ex_for B (fun n => clr f n 0) fun n => ?_
    have ho : ∀ r : Fin 8, k0_off4 n (BitVec.ofNat 32 (16 * r.val)) 0 = n.val * 128 + 16 * r.val := fun r => by
      rw [k0_off4_eq]; show 128 * n.val + 16 * r.val = _; omega
    rw [← hs]
    refine Ex_clear B n.val 0 (ho 0) rfl ?_
    refine Ex_clear B n.val 16 (ho 1) rfl ?_
    refine Ex_clear B n.val 32 (ho 2) rfl ?_
    refine Ex_clear B n.val 48 (ho 3) rfl ?_
    refine Ex_clear B n.val 64 (ho 4) rfl ?_
    refine Ex_clear B n.val 80 (ho 5) rfl ?_
    refine Ex_clear B n.val 96 (ho 6) rfl ?_
    refine Ex_clear B n.val 112 (ho 7) rfl ?_
    exact Ex_ret B rfl
  rw [h0, h1] at key
  exact key

/-! ## A pair of chunks -/

/-- The first buffer: the next chunk on its way to it, or idle after the last. -/
def Front (d : Dev nD) (L : grid0.Coords) (H : S12800000.Idx → Elt F .f32) (q0 : PosShare TreeShare) (n : Nat) : sProp 𝕄 :=
  if n < 3 then Fly d L (csem 0) r7V (rowsAt H ((tbase L + 224 * (2 * n)) * 128)) hV q0 H
  else iprop(((hV).view.loc (VT d L) ↦{q0} H) ∗ (∃ f : Rows F, (r7V).view.loc (VT d L) ↦{fullShare} f) ∗ semVal (VT d L, SemLoc.dma (csem 0)) 0)

/-- What a tile holds between two pairs of chunks. -/
def PairInv (d : Dev nD) (L : grid0.Coords) (O : CellTallies nD τ sig (HIx 1)) (H : S12800000.Idx → Elt F .f32) (I : S100000.Idx → Elt F .i32) (q0 q1 : PosShare TreeShare) (n : Nat) : sProp 𝕄 :=
  iprop(((hV).view.loc (VT d L) ↦{q1} H) ∗ (∃ f : Rows F, (r8V).view.loc (VT d L) ↦{fullShare} f) ∗ semVal (VT d L, SemLoc.dma (csem 1)) 0
    ∗ ((i5V).view.loc (VT d L) ↦{fullShare} idsAt I (tbase L) 1344) ∗ ((aV).view.loc (VT d L) ↦{fullShare} chunkAcc H I (tbase L) (2 * n))
    ∗ Front d L H q0 n ∗ Ow d L O)

/-- A copy of rows fills its buffer with them. -/
theorem fill7 (H : S12800000.Idx → Elt F .f32) (f : Rows F) {off : Fin 1 → Nat} {o : Nat} (ho : off 0 = o) (hb) (hs) :
    (r7V).view.write (Elt F) f (((hV).slice (Rect.unit (s := S12800000) off S28672.size hb) hs).view.read (Elt F) H) Finset.univ = rowsAt H o :=
  (View.write_whole_univ _ _ _).trans (read_rows H ho hb hs)
theorem fill8 (H : S12800000.Idx → Elt F .f32) (f : Rows F) {off : Fin 1 → Nat} {o : Nat} (ho : off 0 = o) (hb) (hs) :
    (r8V).view.write (Elt F) f (((hV).slice (Rect.unit (s := S12800000) off S28672.size hb) hs).view.read (Elt F) H) Finset.univ = rowsAt H o :=
  (View.write_whole_univ _ _ _).trans (read_rows H ho hb hs)

set_option maxHeartbeats 2000000 in
theorem pair_trip (O : CellTallies nD τ sig (HIx 1)) (H : S12800000.Idx → Elt F .f32) (I : S100000.Idx → Elt F .i32) (hI : ∀ x, (I x).toNat < 128) (q0 q1 : PosShare TreeShare) (t : Fin k0_t2_loop.trips) :
    PairInv d L O H I q0 q1 t.val ⊢ wp frame (wpE (defs₀ (F := F)) 𝒱₀ (VT d L) none) Set.univ (pairBody (pair_eq L t).1.1 (pair_eq L t).1.2 t) fun _ => PairInv d L O H I q0 q1 (t.val + 1) := by
  have ht : t.val < 3 := t.isLt
  have e1 : unitsStep (held5 d L (rowsAt H ((tbase L + 224 * (2 * t.val)) * 128)) (idsAt I (tbase L) 1344)).id (held5 d L (rowsAt H ((tbase L + 224 * (2 * t.val)) * 128)) (idsAt I (tbase L) 1344)).lanes (448 * t.val) 0 7 (chunkAcc H I (tbase L) (2 * t.val)) = chunkAcc H I (tbase L) (2 * t.val + 1) := by
    rw [show 448 * t.val = 224 * (2 * t.val) by omega]; rfl
  have e2 : unitsStep (held8 d L (rowsAt H ((tbase L + 224 * (2 * t.val + 1)) * 128)) (idsAt I (tbase L) 1344)).id (held8 d L (rowsAt H ((tbase L + 224 * (2 * t.val + 1)) * 128)) (idsAt I (tbase L) 1344)).lanes (448 * t.val + 224) 0 7 (chunkAcc H I (tbase L) (2 * t.val + 1)) = chunkAcc H I (tbase L) (2 * (t.val + 1)) := by
    rw [show 448 * t.val + 224 = 224 * (2 * t.val + 1) by omega]; rfl
  have E1 := loop3 (d := d) (L := L) t (rowsAt H ((tbase L + 224 * (2 * t.val)) * 128)) (idsAt I (tbase L) 1344) (fun n => hI (ix 100000 (tbase L + (ix 1344 n 0).val))) (chunkAcc H I (tbase L) (2 * t.val))
  have E2 := loop4 (d := d) (L := L) t (rowsAt H ((tbase L + 224 * (2 * t.val + 1)) * 128)) (idsAt I (tbase L) 1344) (fun n => hI (ix 100000 (tbase L + (ix 1344 n 0).val))) (chunkAcc H I (tbase L) (2 * t.val + 1))
  rw [e1] at E1
  rw [e2] at E2
  unfold pairBody
  generalize (pair_eq (F := F) L t).1.1 = b3 at E1 ⊢
  generalize (pair_eq (F := F) L t).1.2 = b4 at E2 ⊢
  extract_lets j2 j1
  rw [dif_pos (cond1_at t)]
  unfold PairInv
  rw [show Front d L H q0 t.val = _ from if_pos ht]
  iintro ⟨Hh1, ⟨%f8, H8⟩, Hc1, H5, Ha, Hf0, HO⟩
  iapply (start_copy (s := S28672) (src := hV) (dst := r8V) (q := q1) (f := H) (fd := f8) (g := rowsAt H ((tbase L + 224 * (2 * t.val + 1)) * 128)) (fill8 H f8 (off5_at L t) _ _) (show 0 < S28672.numel by decide)) $$ [Hh1 H8 Hc1]
  · isplitl [Hh1]; · iexact Hh1
    isplitl [H8]; · iexact H8
    iexact Hc1
  iintro Hf1
  unfold j1
  iapply (wait_copy (O := O)) $$ [Hf0 HO]
  · isplitl [Hf0]; · iexact Hf0
    iexact HO
  iintro ⟨Hh0, H7, Hc0, HO⟩
  iapply (run_Ex (held5 d L (rowsAt H ((tbase L + 224 * (2 * t.val)) * 128)) (idsAt I (tbase L) 1344)) E1) $$ [H7 H5 Ha]
  · unfold Held.st
    isplitl [H7]; · iexact H7
    isplitl [H5]; · iexact H5
    iexact Ha
  iintro %_ Hst
  unfold Held.st
  icases Hst with ⟨H7, H5, Ha⟩
  by_cases h8 : t.val + 1 < 3
  · rw [dif_pos ((cond8_at t).mpr h8)]
    iapply (start_copy (s := S28672) (src := hV) (dst := r7V) (q := q0) (f := H) (g := rowsAt H ((tbase L + 224 * (2 * (t.val + 1))) * 128)) (fill7 H _ (off79_at L t) _ _) (show 0 < S28672.numel by decide)) $$ [Hh0 H7 Hc0]
    · isplitl [Hh0]; · iexact Hh0
      isplitl [H7]; · iexact H7
      iexact Hc0
    iintro Hf0
    unfold j2
    iapply (wait_copy (O := O)) $$ [Hf1 HO]
    · isplitl [Hf1]; · iexact Hf1
      iexact HO
    iintro ⟨Hh1, H8, Hc1, HO⟩
    iapply (run_Ex (held8 d L (rowsAt H ((tbase L + 224 * (2 * t.val + 1)) * 128)) (idsAt I (tbase L) 1344)) E2) $$ [H8 H5 Ha]
    · unfold Held.st
      isplitl [H8]; · iexact H8
      isplitl [H5]; · iexact H5
      iexact Ha
    iintro %_ Hst
    unfold Held.st
    icases Hst with ⟨H8, H5, Ha⟩
    rw [wp_ret, show Front d L H q0 (t.val + 1) = _ from if_pos h8]
    imodintro
    isplitl [Hh1]; · iexact Hh1
    isplitl [H8]; · iexists _; iexact H8
    isplitl [Hc1]; · iexact Hc1
    isplitl [H5]; · iexact H5
    isplitl [Ha]; · iexact Ha
    isplitl [Hf0]; · iexact Hf0
    iexact HO
  · rw [dif_neg fun h => h8 ((cond8_at t).mp h)]
    unfold j2
    iapply (wait_copy (O := O)) $$ [Hf1 HO]
    · isplitl [Hf1]; · iexact Hf1
      iexact HO
    iintro ⟨Hh1, H8, Hc1, HO⟩
    iapply (run_Ex (held8 d L (rowsAt H ((tbase L + 224 * (2 * t.val + 1)) * 128)) (idsAt I (tbase L) 1344)) E2) $$ [H8 H5 Ha]
    · unfold Held.st
      isplitl [H8]; · iexact H8
      isplitl [H5]; · iexact H5
      iexact Ha
    iintro %_ Hst
    unfold Held.st
    icases Hst with ⟨H8, H5, Ha⟩
    rw [wp_ret, show Front d L H q0 (t.val + 1) = _ from if_neg h8]
    imodintro
    isplitl [Hh1]; · iexact Hh1
    isplitl [H8]; · iexists _; iexact H8
    isplitl [Hc1]; · iexact Hc1
    isplitl [H5]; · iexact H5
    isplitl [Ha]; · iexact Ha
    isplitl [Hh0 H7 Hc0]
    · isplitl [Hh0]; · iexact Hh0
      isplitl [H7]; · iexists _; iexact H7
      iexact Hc0
    iexact HO

set_option maxRecDepth 100000

/-! ## A block -/

section Pure

/-- The units read only the rows they go through. -/
theorem upd_congr {sid : Nat} {g g' : Nat → F .f32} (h : ∀ c < 128, g c = g' c) (a : Acc F) : upd sid 128 g a = upd sid 128 g' a := by
  funext x; unfold upd
  rw [h _ (Nat.mod_lt _ (by decide))]
theorem treeG_congr {R R' : Rows F} {q n m : Nat} (hm : q + n ≤ m) (h : ∀ r < m, ∀ c < 128, lane R r c = lane R' r c) (lv : Nat) : ∀ c < 128, treeG R q n lv c = treeG R' q n lv c := fun c hc => by
  unfold treeG
  refine congrArg (treeS lv) (List.map_congr_left fun r hr => h r ?_ c hc)
  have := List.mem_range'_1.mp hr
  omega
theorem rowsStep_congr {R R' : Rows F} {m : Nat} (h : ∀ r < m, ∀ c < 128, lane R r c = lane R' r c) (ids : Nat → BitVec 32) : ∀ (n p q : Nat) (a : Acc F), q + n ≤ m → rowsStep ids R p q n a = rowsStep ids R' p q n a
  | 0, _, _, _, _ => rfl
  | n + 1, p, q, a, hq => by
    unfold rowsStep
    rw [upd_congr (h q (by omega)), rowsStep_congr h ids n (p + 1) (q + 1) _ (by omega)]
theorem grpStep_congr {R R' : Rows F} {m : Nat} (h : ∀ r < m, ∀ c < 128, lane R r c = lane R' r c) (ids : Nat → BitVec 32) (p q : Nat) (hq : q + 16 ≤ m) (a : Acc F) : grpStep ids R p q a = grpStep ids R' p q a := by
  unfold grpStep
  rw [upd_congr (treeG_congr hq h 4), rowsStep_congr h ids 16 p q a hq]
theorem unitStep_congr {R R' : Rows F} {m : Nat} (h : ∀ r < m, ∀ c < 128, lane R r c = lane R' r c) (ids : Nat → BitVec 32) (p q : Nat) (hq : q + 32 ≤ m) (a : Acc F) : unitStep ids R p q a = unitStep ids R' p q a := by
  unfold unitStep
  rw [upd_congr (treeG_congr hq h 5), grpStep_congr h ids p q (by omega), grpStep_congr h ids (p + 16) (q + 16) (by omega)]
theorem unitsStep_congr {R R' : Rows F} {m : Nat} (h : ∀ r < m, ∀ c < 128, lane R r c = lane R' r c) (ids : Nat → BitVec 32) (p q : Nat) : ∀ (n : Nat) (a : Acc F), q + 32 * n ≤ m → unitsStep ids R p q n a = unitsStep ids R' p q n a
  | 0, _, _ => rfl
  | n + 1, a, hq => by
    unfold unitsStep
    rw [unitsStep_congr h ids p q n a (by omega), unitStep_congr h ids _ _ (by omega)]

/-- What a block's copy leaves in the first 128 rows of its buffer. -/
theorem fill_lane (H : S12800000.Idx → Elt F .f32) (f : Rows F) {off : Fin 1 → Nat} {o : Nat} (ho : off 0 = o) (hb) (hs) (r : Nat) (hr : r < 128) (c : Nat) (hc : c < 128) :
    lane ((r7P).view.write (Elt F) f (((hV).slice (Rect.unit (s := S12800000) off S16384.size hb) hs).view.read (Elt F) H) Finset.univ) r c = lane (rowsAt H o) r c := by
  rw [read_rows H ho hb hs]
  unfold lane rowsAt
  have hx : ix 28672 (r * 128 + c) = (Rect.unit (s := S28672) ![0] S16384.size inb_S28672_S16384_0).emb (ix 16384 (r * 128 + c)) := by
    rw [window (N := 28672) (n := 16384) (o := 0) rfl]
    funext a; refine Fin.ext ?_
    show (r * 128 + c) % 28672 = (0 + (r * 128 + c) % 16384) % 28672
    omega
  rw [hx]
  refine (View.read_slice_write_emb (Val := Elt F) (v := (View.whole cc0_scratch2 : View sig .scVector _ _ _)) (Rect.unit (s := S28672) ![0] S16384.size inb_S28672_S16384_0) f _ (Finset.mem_univ (ix 16384 (r * 128 + c)))).trans ?_
  show H (ix 12800000 (o + (r * 128 + c) % 16384)) = H (ix 12800000 (o + ((Rect.unit (s := S28672) ![0] S16384.size inb_S28672_S16384_0).emb (ix 16384 (r * 128 + c)) 0).val))
  rw [← hx]
  show H (ix 12800000 (o + (r * 128 + c) % 16384)) = H (ix 12800000 (o + (r * 128 + c) % 28672))
  rw [Nat.mod_eq_of_lt (by omega), Nat.mod_eq_of_lt (by omega)]

end Pure

/-- What a tile holds between two blocks. -/
def BlockInv (d : Dev nD) (L : grid0.Coords) (O : CellTallies nD τ sig (HIx 1)) (H : S12800000.Idx → Elt F .f32) (I : S100000.Idx → Elt F .i32) (q0 : PosShare TreeShare) (a : Acc F) (n : Nat) : sProp 𝕄 :=
  iprop(((hV).view.loc (VT d L) ↦{q0} H) ∗ (∃ f : Rows F, (held6 d L f (idsAt I (tbb L) 1792)).st (blockAcc H I (tbb L) a n)) ∗ semVal (VT d L, SemLoc.dma (csem 4)) 0 ∗ Ow d L O)

set_option maxHeartbeats 2000000 in
theorem block_trip (O : CellTallies nD τ sig (HIx 1)) (H : S12800000.Idx → Elt F .f32) (I : S100000.Idx → Elt F .i32) (hI : ∀ x, (I x).toNat < 128) (q0 : PosShare TreeShare) (a : Acc F) (t : Fin k0_t5_loop.trips) :
    BlockInv d L O H I q0 a t.val ⊢ wp frame (wpE (defs₀ (F := F)) 𝒱₀ (VT d L) none) Set.univ (blockBody t (block_eq L t).1) fun _ => BlockInv d L O H I q0 a (t.val + 1) := by
  have ht : t.val < 14 := t.isLt
  have E := fun (v w : S16.Idx → Elt F .i32) h15 (f : Rows F) => loop6 (d := d) (L := L) t v w h15 f (idsAt I (tbb L) 1792) (fun n => hI (ix 100000 (tbb L + (ix 1792 n 0).val))) (blockAcc H I (tbb L) a t.val)
  have hid : ∀ (f : Rows F) (n : Nat), (held6 d L f (idsAt I (tbb L) 1792)).id n = idC I (tbb L) 1792 n := fun _ _ => rfl
  generalize (block_eq (F := F) L t).1 = b6 at E ⊢
  unfold BlockInv blockBody
  iintro ⟨Hh, ⟨%f, Hst⟩, Hc, HO⟩
  iapply (wp_ids (held6 d L f (idsAt I (tbb L) 1792)) (128 * t.val) (congrFun (k0_off153_eq t) 0) (show _ ≤ 1792 by omega)) $$ Hst
  iintro Hst
  iapply (wp_ids (held6 d L f (idsAt I (tbb L) 1792)) (128 * t.val + 112) (congrFun (k0_off154_eq t) 0) (show _ ≤ 1792 by omega)) $$ Hst
  iintro Hst
  have hl0 := lane_at (fun k => (held6 d L f (idsAt I (tbb L) 1792)).id (128 * t.val + k)) 0 (by decide) _ rfl shapeCasts_S16_S16 slices_S16_o0_S1 inpos_S1_p0
  have hl1 := lane_at (fun k => (held6 d L f (idsAt I (tbb L) 1792)).id (128 * t.val + 112 + k)) 15 (by decide) _ rfl shapeCasts_S16_S16 slices_S16_o15_S1 inpos_S1_p0
  have hc : k0_cond15 (lane0 (F := F) fun x => (held6 d L f (idsAt I (tbb L) 1792)).id (128 * t.val + (x 0).val)) (lane15 (F := F) fun x => (held6 d L f (idsAt I (tbb L) 1792)).id (128 * t.val + 112 + (x 0).val)) = 1#1
      ↔ idC I (tbb L) 1792 (128 * t.val) ≠ idC I (tbb L) 1792 (128 * t.val + 127) := by
    refine (cond15_iff _ _).trans ?_
    show extractAt _ _ _ ≠ extractAt _ _ _ ↔ _
    rw [hl0, hl1]
    exact Iff.rfl
  by_cases h : idC I (tbb L) 1792 (128 * t.val) = idC I (tbb L) 1792 (128 * t.val + 127)
  · rw [dif_neg fun h' => hc.mp h' h, wp_ret]
    imodintro
    rw [show blockAcc H I (tbb L) a (t.val + 1) = _ from if_pos h]
    isplitl [Hh]; · iexact Hh
    isplitl [Hst]; · iexists _; iexact Hst
    isplitl [Hc]; · iexact Hc
    iexact HO
  · rw [dif_pos (hc.mpr h)]
    unfold Held.st
    icases Hst with ⟨H7, H6, Ha⟩
    obtain ⟨g, hg⟩ : ∃ g : Rows F, (r7P).view.write (Elt F) f (((hV).slice (Rect.unit (s := S12800000) (k0_off155 L t) S16384.size (k0_off155_inb L t)) (fun _ => rfl)).view.read (Elt F) H) Finset.univ = g := ⟨_, rfl⟩
    have hL := fill_lane H f (off155_at L t) (k0_off155_inb L t) (fun _ => rfl)
    rw [hg] at hL
    iapply (start_copy (s := S16384) (src := hV) (dst := r7P) (q := q0) (f := H) (fd := f) (g := g) hg (show 0 < S16384.numel by decide)) $$ [Hh H7 Hc]
    · isplitl [Hh]; · iexact Hh
      isplitl [H7]; · iexact H7
      iexact Hc
    iintro Hf
    iapply (wait_copy (O := O)) $$ [Hf HO]
    · isplitl [Hf]; · iexact Hf
      iexact HO
    iintro ⟨Hh, H7, Hc, HO⟩
    have e : blockAcc H I (tbb L) a (t.val + 1) = _ := if_neg h
    rw [← unitsStep_congr hL (idC I (tbb L) 1792) (128 * t.val) 0 4 (blockAcc H I (tbb L) a t.val) (by omega)] at e
    iapply (run_Ex (held6 d L g (idsAt I (tbb L) 1792)) (E _ _ (hc.mpr h) g)) $$ [H7 H6 Ha]
    · unfold Held.st
      isplitl [H7]; · iexact H7
      isplitl [H6]; · iexact H6
      iexact Ha
    iintro %_ Hst
    rw [wp_ret]
    imodintro
    rw [e]
    unfold Held.st
    isplitl [Hh]; · iexact Hh
    isplitl [Hst]; · iexists g; iexact Hst
    isplitl [Hc]; · iexact Hc
    iexact HO

end Cert.Proof.SegMax

end
-- ==== Proof.Tile.lean ====
/-
  A tile's run: from the pieces the launch deals it to what it hands back.
-/
module

public import proofs.«01_k».proof.Proof.Trips

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
local notation "hV" => (Memref.whole Cert.KernelIdeal.main_v19_scv : Memref Cert.KernelIdeal.sig Kind.scVector Space.hbm Cert.KernelIdeal.S12800000 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v20_scv : Memref Cert.KernelIdeal.sig Kind.scVector Space.hbm Cert.KernelIdeal.S524288 EltTy.f32)
local notation "i5V" => (Memref.whole Cert.KernelIdeal.cc0_scratch0 : Memref Cert.KernelIdeal.sig Kind.scVector Space.vmem Cert.KernelIdeal.S1344 EltTy.i32)
local notation "i6V" => (Memref.whole Cert.KernelIdeal.cc0_scratch1 : Memref Cert.KernelIdeal.sig Kind.scVector Space.vmem Cert.KernelIdeal.S1792 EltTy.i32)
local notation "r7V" => (Memref.whole Cert.KernelIdeal.cc0_scratch2 : Memref Cert.KernelIdeal.sig Kind.scVector Space.vmem Cert.KernelIdeal.S28672 EltTy.f32)
local notation "r8V" => (Memref.whole Cert.KernelIdeal.cc0_scratch3 : Memref Cert.KernelIdeal.sig Kind.scVector Space.vmem Cert.KernelIdeal.S28672 EltTy.f32)
local notation "aV" => (Memref.whole Cert.KernelIdeal.cc0_scratch4 : Memref Cert.KernelIdeal.sig Kind.scVector Space.vmem Cert.KernelIdeal.S16384 EltTy.f32)
variable [FloatOps F] {d : Dev nD} {L : grid0.Coords} {α β : Type}

set_option maxRecDepth 100000

/-! ## The whole body -/

/-- The cells of a tile at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0)

/-- A whole buffer copied out to a window of an array, and the wait for it. -/
theorem put_copy {O : CellTallies nD τ sig (HIx 1)} {cs cs' : Space} {s : Shape} {e : EltTy} {src : Memref sig .scVector cs s e} {dst : Memref sig .scVector cs' s e} {sm : DmaSem sig}
    {hsrc} {hdst} {hsem} {hsrc'} {hdst'} {k : PUnit → PE (F := F) L α} {Q : α → sProp 𝕄} {q : PosShare TreeShare} {f : Buf (Elt F) (src.view.loc (VT d L))} {fd : Buf (Elt F) (dst.view.loc (VT d L))} {w : s.Idx → Elt F e}
    (hw : src.view.read (Elt F) f = w) (hs : src.view.set = Finset.univ) (h0 : 0 < s.numel) :
    iprop((src.view.loc (VT d L) ↦{q} f) ∗ (dst.view.loc (VT d L) ↦[dst.view.set]{fullShare} fd) ∗ semVal (VT d L, SemLoc.dma sm) 0 ∗ Ow d L O)
      ⊢ iprop(((src.view.loc (VT d L) ↦{q} f) ∗ (dst.view.loc (VT d L) ↦[dst.view.set]{fullShare} (dst.view.write (Elt F) fd w Finset.univ)) ∗ semVal (VT d L, SemLoc.dma sm) 0 ∗ Ow d L O
            -∗ wp frame (wpE (defs₀ (F := F)) 𝒱₀ (VT d L) none) Set.univ (k ⟨⟩) Q)
          -∗ wp frame (wpE (defs₀ (F := F)) 𝒱₀ (VT d L) none) Set.univ (.op (.enqueueDmaAs src (.here dst) .same (.dma sm) hsrc hdst hsem) fun _ => .op (.waitDma2 sm src dst hsrc' hdst') k) Q) := by
  subst hw
  unfold Ow
  rw [← hs]
  iintro ⟨Hs, Hd, Hv, #Hmw, ⟨%W, HO⟩⟩ HK
  iapply (Transfers.wp_dmaLocal (countersEmb (U := UU)) 𝒱₀ (VT d L) none (src := src) (via := .same) (dst := dst) (fs := f) (fd := fd) (Sd := dst.view.set) (default : HIx 1)
    dst.view.dmaCredit rfl (View.dmaCredit_pos _ h0) (Finset.Subset.refl _)) $$ [Hs Hd Hv]
  · isplitl [Hs]; · iexact Hs
    isplitl [Hd]; · iexact Hd
    iexact Hv
  iintro HF
  ihave Hm := (Transfers.MayWaits.elim (SemLoc.dma sm)) $$ Hmw
  iapply (Transfers.wp_waitLocalO (countersEmb (U := UU)) 𝒱₀ (VT d L) none (srcw := src) (dstw := dst) (default : HIx 1) rfl) $$ [HF HO Hm]
  · isplitl [HF]; · iexact HF
    isplitl [HO]; · iexact HO
    iexact Hm
  iintro ⟨⟨Hd, Hs⟩, Hv, HO⟩
  iapply HK
  isplitl [Hs]; · iexact Hs
  isplitl [Hd]; · iexact Hd
  isplitl [Hv]; · iexact Hv
  isplitr; · iexact Hmw
  iexists _; iexact HO

set_option maxHeartbeats 1000000 in
/-- A tile's run: it writes its accumulator to its block of the result, and hands everything else back. -/
theorem tile_run (d : Dev nD) (L : grid0.Coords) (O : CellTallies nD τ sig (HIx 1)) (H : S12800000.Idx → Elt F .f32) (I : S100000.Idx → Elt F .i32) (hI : ∀ x, (I x).toNat < 128)
    (q0 q1 q : PosShare TreeShare) (f5 : S1344.Idx → Elt F .i32) (f6 : S1792.Idx → Elt F .i32) (f7 f8 : Rows F) (f9 : Acc F) (fo : S524288.Idx → Elt F .f32) :
    (iprop(((hV).view.loc (VT d L) ↦{q0} H) ∗ ((hV).view.loc (VT d L) ↦{q1} H) ∗ ((iV).view.loc (VT d L) ↦{q} I)
        ∗ ((oK L).view.loc (VT d L) ↦[(oK L).view.set]{fullShare} fo)
        ∗ ((i5V).view.loc (VT d L) ↦{fullShare} f5) ∗ ((i6V).view.loc (VT d L) ↦{fullShare} f6)
        ∗ ((r7V).view.loc (VT d L) ↦{fullShare} f7) ∗ ((r8V).view.loc (VT d L) ↦{fullShare} f8)
        ∗ ((aV).view.loc (VT d L) ↦{fullShare} f9) ∗ cells0 d L ∗ Ow d L O) : sProp 𝕄)
      ⊢ wp frame (wpE (defs₀ (F := F)) 𝒱₀ (VT d L) none) Set.univ (body L)
          fun _ => iprop(((hV).view.loc (VT d L) ↦{q0} H) ∗ ((hV).view.loc (VT d L) ↦{q1} H) ∗ ((iV).view.loc (VT d L) ↦{q} I)
            ∗ ((oK L).view.loc (VT d L) ↦[(oK L).view.set]{fullShare} ((oK L).view.write (Elt F) fo (tileAcc H I L) Finset.univ))
            ∗ (∃ f, (i5V).view.loc (VT d L) ↦{fullShare} f) ∗ (∃ f, (i6V).view.loc (VT d L) ↦{fullShare} f)
            ∗ (∃ f, (r7V).view.loc (VT d L) ↦{fullShare} f) ∗ (∃ f, (r8V).view.loc (VT d L) ↦{fullShare} f)
            ∗ (∃ f, (aV).view.loc (VT d L) ↦{fullShare} f) ∗ cells0 d L ∗ Ow d L O) := by
  have T1 := loop1 (held5 d L f7 (idsAt I (tbase L) 1344)) f9
  have T1' := fun (R : Rows F) => loop1 (held8 d L R (idsAt I (tbase L) 1344)) f9
  have T2 := fun t => (pair_trip (d := d) (L := L) O H I hI q0 q1 t)
  have T5 := fun t => (block_trip (d := d) (L := L) O H I hI q0 (chunkAcc H I (tbase L) 6) t)
  simp only [← (pair_eq L _).2] at T2
  simp only [← (block_eq L _).2] at T5
  rw [(built_eq L).2]
  generalize (built_eq (F := F) L).1 = s at T1' T2 T5 ⊢
  unfold built
  iintro ⟨Hh0, Hh1, Hi, Ho, H5, H6, H7, H8, H9, ⟨Hc0, Hc1, Hc2, Hc3, Hc4, Hc5⟩, HO⟩
  iapply (start_copy (s := S28672) (src := hV) (dst := r7V) (q := q0) (f := H) (fd := f7) (g := rowsAt H ((tbase L + 224 * (2 * 0)) * 128)) (fill7 H f7 (off1_at L) _ _) (show 0 < S28672.numel by decide)) $$ [Hh0 H7 Hc0]
  · isplitl [Hh0]; · iexact Hh0
    isplitl [H7]; · iexact H7
    iexact Hc0
  iintro Hf0
  iapply (start_copy (s := S1344) (src := iV) (dst := i5V) (q := q) (f := I) (fd := f5) (g := idsAt I (tbase L) 1344) ((View.write_whole_univ _ _ _).trans (read_ids I rfl _ _)) (show 0 < S1344.numel by decide)) $$ [Hi H5 Hc2]
  · isplitl [Hi]; · iexact Hi
    isplitl [H5]; · iexact H5
    iexact Hc2
  iintro Hf
  iapply (wait_copy (O := O)) $$ [Hf HO]
  · isplitl [Hf]; · iexact Hf
    iexact HO
  iintro ⟨Hi, H5, Hc2, HO⟩
  iapply (start_copy (s := S1792) (src := iV) (dst := i6V) (q := q) (f := I) (fd := f6) (g := idsAt I (tbb L) 1792) ((View.write_whole_univ _ _ _).trans (read_ids I (off3_at L) _ _)) (show 0 < S1792.numel by decide)) $$ [Hi H6 Hc3]
  · isplitl [Hi]; · iexact Hi
    isplitl [H6]; · iexact H6
    iexact Hc3
  iintro Hf
  iapply (wait_copy (O := O)) $$ [Hf HO]
  · isplitl [Hf]; · iexact Hf
    iexact HO
  iintro ⟨Hi, H6, Hc3, HO⟩
  iapply (run_Ex (held8 d L f8 (idsAt I (tbase L) 1344)) (T1' f8)) $$ [H8 H5 H9]
  · unfold Held.st
    isplitl [H8]; · iexact H8
    isplitl [H5]; · iexact H5
    iexact H9
  iintro %_ Hst
  unfold Held.st
  icases Hst with ⟨H8, H5, H9⟩
  iapply (Scf.wp_for_bind frame (wpE (defs₀ (F := F)) 𝒱₀ (VT d L) none) Set.univ k0_t2_loop.lb k0_t2_loop.ub k0_t2_loop.st k0_t2_ok PUnit.unit s.b2 (fun n _ => PairInv d L O H I q0 q1 n) (fun n _ => T2 n)) $$ [Hh1 H8 Hc1 H5 H9 Hf0 HO]
  · unfold PairInv
    isplitl [Hh1]; · iexact Hh1
    isplitl [H8]; · iexists f8; iexact H8
    isplitl [Hc1]; · iexact Hc1
    isplitl [H5]; · iexact H5
    isplitl [H9]; · iexact H9
    isplitl [Hf0]
    · rw [show Front d L H q0 0 = _ from if_pos (by decide)]; iexact Hf0
    iexact HO
  iintro %_ HP
  unfold PairInv
  rw [show Front d L H q0 (Scf.trips k0_t2_loop.lb k0_t2_loop.ub k0_t2_loop.st) = _ from if_neg (by decide)]
  icases HP with ⟨Hh1, H8, Hc1, H5, H9, ⟨Hh0, ⟨%g7, H7⟩, Hc0⟩, HO⟩
  iapply (Scf.wp_for_bind frame (wpE (defs₀ (F := F)) 𝒱₀ (VT d L) none) Set.univ k0_t5_loop.lb k0_t5_loop.ub k0_t5_loop.st k0_t5_ok PUnit.unit s.b5 (fun n _ => BlockInv d L O H I q0 (chunkAcc H I (tbase L) 6) n) (fun n _ => T5 n)) $$ [Hh0 H7 Hc4 H6 H9 HO]
  · unfold BlockInv Held.st
    isplitl [Hh0]; · iexact Hh0
    isplitl [H7 H6 H9]
    · iexists g7
      isplitl [H7]; · iexact H7
      isplitl [H6]; · iexact H6
      iexact H9
    isplitl [Hc4]; · iexact Hc4
    iexact HO
  iintro %_ HP
  unfold BlockInv Held.st
  icases HP with ⟨Hh0, ⟨%g7', H7, H6, H9⟩, Hc4, HO⟩
  iapply (put_copy (O := O) (src := aV) (dst := oK L) (q := fullShare) (fd := fo) (w := tileAcc H I L) (show (aV).view.read (Elt F) (tileAcc H I L) = tileAcc H I L from rfl) (View.set_whole _) (show 0 < S16384.numel by decide)) $$ [H9 Ho Hc5 HO]
  · isplitl [H9]; · iexact H9
    isplitl [Ho]; · iexact Ho
    isplitl [Hc5]; · iexact Hc5
    iexact HO
  iintro ⟨H9, Ho, Hc5, HO⟩
  rw [wp_ret]
  imodintro
  isplitl [Hh0]; · iexact Hh0
  isplitl [Hh1]; · iexact Hh1
  isplitl [Hi]; · iexact Hi
  isplitl [Ho]; · iexact Ho
  isplitl [H5]; · iexists _; iexact H5
  isplitl [H6]; · iexists _; iexact H6
  isplitl [H7]; · iexists _; iexact H7
  isplitl [H8]; · iexact H8
  isplitl [H9]; · iexists _; iexact H9
  isplitl [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4]; · iexact Hc4
    iexact Hc5
  iexact HO

end Cert.Proof.SegMax

end
-- ==== Proof.Deal.lean ====
/-
  What the launch deals the tiles, and a tile's obligation.
-/
module

public import proofs.«01_k».proof.Proof.Tile

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.SparseCore.Cfg (ownCells mem_ownCells ownSems0 ownBufs ownRefs)
local notation "𝕄" => MT nD τ sig (HIx 1) (Elt F) ℕ UU ℕ
local notation "hV" => (Memref.whole Cert.KernelIdeal.main_v19_scv : Memref Cert.KernelIdeal.sig Kind.scVector Space.hbm Cert.KernelIdeal.S12800000 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v20_scv : Memref Cert.KernelIdeal.sig Kind.scVector Space.hbm Cert.KernelIdeal.S524288 EltTy.f32)
local notation "i5V" => (Memref.whole Cert.KernelIdeal.cc0_scratch0 : Memref Cert.KernelIdeal.sig Kind.scVector Space.vmem Cert.KernelIdeal.S1344 EltTy.i32)
local notation "i6V" => (Memref.whole Cert.KernelIdeal.cc0_scratch1 : Memref Cert.KernelIdeal.sig Kind.scVector Space.vmem Cert.KernelIdeal.S1792 EltTy.i32)
local notation "r7V" => (Memref.whole Cert.KernelIdeal.cc0_scratch2 : Memref Cert.KernelIdeal.sig Kind.scVector Space.vmem Cert.KernelIdeal.S28672 EltTy.f32)
local notation "r8V" => (Memref.whole Cert.KernelIdeal.cc0_scratch3 : Memref Cert.KernelIdeal.sig Kind.scVector Space.vmem Cert.KernelIdeal.S28672 EltTy.f32)
local notation "aV" => (Memref.whole Cert.KernelIdeal.cc0_scratch4 : Memref Cert.KernelIdeal.sig Kind.scVector Space.vmem Cert.KernelIdeal.S16384 EltTy.f32)

set_option maxRecDepth 100000

/-! ## The launch's facts and the ghost state -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds in the ghost state, -/
abbrev EH : Emb UH 𝕄 := (Emb.inl : Emb UH UU).trans uEmb.toEmb
/-- and the pipelines'. -/
abbrev EP : Emb UP 𝕄 := ((Emb.inl : Emb UP (UP × Counters)).trans (Emb.inr : Emb (UP × Counters) UU)).trans uEmb.toEmb

instance EH_landsIn : (EH (F := F)).LandsIn (upEmb : UEmb _ 𝕄) := by unfold EH; infer_instance
instance EP_landsIn : (EP (F := F)).LandsIn (upEmb : UEmb _ 𝕄) := by unfold EP; infer_instance

/-! ## The arrays the call takes -/

abbrev hLoc (d : Dev nD) : Loc nD τ sig := (SparseCore.T d).loc main_v19
abbrev iLoc (d : Dev nD) : Loc nD τ sig := (SparseCore.T d).loc main_arg1
abbrev oLoc (d : Dev nD) : Loc nD τ sig := (SparseCore.T d).loc main_v20

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

/-- Its number: the blocks of the result are laid out by it. -/
def tileNo (L : grid0.Coords) : Nat := 2 * (L 1).val + (L 0).val
/-- The tile of a number. -/
def tileOf (w : Nat) : grid0.Coords := coordsV ⟨w % 2, Nat.mod_lt _ (by decide)⟩ ⟨w / 2 % 16, Nat.mod_lt _ (by decide)⟩

theorem coords_eta (L : grid0.Coords) : coordsV (L 0) (L 1) = L := by
  funext a
  match a with
  | 0 => rfl
  | 1 => rfl

theorem tileOf_no (L : grid0.Coords) : tileOf (tileNo L) = L := by
  have h0 : (L 0).val < 2 := (L 0).isLt
  have h1 : (L 1).val < 16 := (L 1).isLt
  refine Eq.trans ?_ (coords_eta L)
  unfold tileOf tileNo
  congr 1 <;> refine Fin.ext ?_
  · show (2 * (L 1).val + (L 0).val) % 2 = _; omega
  · show (2 * (L 1).val + (L 0).val) / 2 % 16 = _; omega

/-- A tile's block of the result. -/
abbrev oSet (L : grid0.Coords) : Finset (S524288.Idx) := (oK L).view.set

theorem mem_oSet (L : grid0.Coords) (x : S524288.Idx) : x ∈ oSet L ↔ (x 0).val / 16384 = tileNo L := by
  have e : oSet L = (Rect.unit (s := S524288) (k0_off228 L) S16384.size (k0_off228_inb L)).set := by
    show ((View.whole (main_v20_scv : Ref sig .scVector)).slice _).set = _
    rw [View.set_slice]; exact Finset.map_refl
  rw [e, Rect.mem_set_unit]
  have ho : k0_off228 L 0 = 32768 * (L 1).val + 16384 * (L 0).val := congrFun (k0_off228_eq L) 0
  unfold tileNo
  constructor
  · intro h
    have h0 := h 0
    rw [ho] at h0
    have h1 : 32768 * (L 1).val + 16384 * (L 0).val ≤ (x 0).val := h0.1
    have h2 : (x 0).val < 32768 * (L 1).val + 16384 * (L 0).val + 16384 := h0.2
    omega
  · intro h a
    obtain rfl : a = 0 := Subsingleton.elim _ _
    rw [ho]
    show 32768 * (L 1).val + 16384 * (L 0).val ≤ (x 0).val ∧ (x 0).val < 32768 * (L 1).val + 16384 * (L 0).val + 16384
    omega

section Out
variable [FloatOps F]

/-- What the call leaves in the result: the tiles' accumulators, in the order of their numbers. -/
def outC (H : S12800000.Idx → Elt F .f32) (I : S100000.Idx → Elt F .i32) : S524288.Idx → Elt F .f32 := fun x =>
  tileAcc H I (tileOf ((x 0).val / 16384)) (ix 16384 (x 0).val)

theorem write_outC (H : S12800000.Idx → Elt F .f32) (I : S100000.Idx → Elt F .i32) (L : grid0.Coords) (fo : S524288.Idx → Elt F .f32) (x : S524288.Idx) (hx : x ∈ oSet L) :
    (oK L).view.write (Elt F) fo (tileAcc H I L) Finset.univ x = outC H I x := by
  have hn := (mem_oSet L x).mp hx
  have ho : k0_off228 L 0 = 16384 * tileNo L := by
    rw [congrFun (k0_off228_eq L) 0]; unfold tileNo
    show 32768 * (L 1).val + 16384 * (L 0).val = _; omega
  have hlt : tileNo L < 32 := by
    have h0 : (L 0).val < 2 := (L 0).isLt
    have h1 : (L 1).val < 16 := (L 1).isLt
    unfold tileNo; omega
  have hxx : (x 0).val < 524288 := (x 0).isLt
  have hw := window (N := 524288) (n := 16384) (o := 16384 * tileNo L) ho (k0_off228_inb L) (ix 16384 (x 0).val)
  have e : (Rect.unit (s := S524288) (k0_off228 L) S16384.size (k0_off228_inb L)).emb (ix 16384 (x 0).val) = x := by
    refine hw.trans ?_
    funext a
    obtain rfl : a = 0 := Subsingleton.elim _ _
    refine Fin.ext ?_
    show (16384 * tileNo L + (x 0).val % 16384) % 524288 = (x 0).val
    omega
  have hv : ∀ f : S524288.Idx → Elt F .f32, (View.whole main_v20_scv : View sig .scVector _ _ _).read (Elt F) f = f := fun f => rfl
  refine (congrFun (hv _).symm x).trans ?_
  have h2 := View.read_slice_write_emb (Val := Elt F) (v := (View.whole main_v20_scv : View sig .scVector _ _ _)) (Rect.unit (s := S524288) (k0_off228 L) S16384.size (k0_off228_inb L)) fo (tileAcc H I L) (Finset.mem_univ (ix 16384 (x 0).val))
  rw [e] at h2
  refine h2.trans ?_
  unfold outC
  rw [hn, tileOf_no]

end Out

theorem oSet_disjoint : ∀ L ∈ (Finset.univ : Finset grid0.Coords), ∀ L' ∈ (Finset.univ : Finset grid0.Coords), L ≠ L' → Disjoint (oSet L) (oSet L') := fun L _ L' _ h =>
  Finset.disjoint_left.mpr fun x hx hx' => h (by rw [← tileOf_no L, ← tileOf_no L', ← (mem_oSet L x).mp hx, ← (mem_oSet L' x).mp hx'])

theorem oSet_cover : (Finset.univ : Finset grid0.Coords).biUnion oSet = Finset.univ := by
  refine Finset.eq_univ_of_forall fun x => Finset.mem_biUnion.mpr ⟨tileOf ((x 0).val / 16384), Finset.mem_univ _, ?_⟩
  rw [mem_oSet]
  have : (x 0).val < 524288 := (x 0).isLt
  show _ = 2 * ((x 0).val / 16384 / 2 % 16) + (x 0).val / 16384 % 2
  omega

/-- The tiles, a core at a time. -/
def tilesEquiv : Fin 2 × Fin 16 ≃ grid0.Coords where
  toFun p := coordsV p.1 p.2
  invFun L := (L 0, L 1)
  left_inv _ := rfl
  right_inv L := coords_eta L

/-- The tiles by number. -/
def numEquiv : Fin 32 ≃ grid0.Coords where
  toFun w := tileOf w.val
  invFun L := ⟨tileNo L, by
    have h0 : (L 0).val < 2 := (L 0).isLt
    have h1 : (L 1).val < 16 := (L 1).isLt
    unfold tileNo; omega⟩
  left_inv w := Fin.ext (by
    have := w.isLt
    show 2 * (w.val / 2 % 16) + w.val % 2 = w.val; omega)
  right_inv L := tileOf_no L

/-! ## What the handshakes carry -/

/-- A tile's share of an array all tiles read. -/
abbrev tk (L : grid0.Coords) : PosShare TreeShare := Transfers.shareTokN fullShare (tileNo L)

/-- An array all tiles read is what stays and the tiles' shares of it, -/
theorem dealt_shares {ℓ : Loc nD τ sig} (f : Buf (Elt F) ℓ) :
    (ℓ ↦{fullShare} f : sProp 𝕄) ⊣⊢ iprop((ℓ ↦{Transfers.shareDrop fullShare 32} f) ∗ bigSep Finset.univ fun L : grid0.Coords => ℓ ↦{tk L} f) := by
  have h : (ℓ ↦{fullShare} f : sProp 𝕄) ⊣⊢ _ := Transfers.pointsTo_toks (S := Finset.univ) fullShare 32
  have e : (bigSep Finset.univ fun L : grid0.Coords => (ℓ ↦{tk L} f : sProp 𝕄)) = bigSep Finset.univ fun i : Fin 32 => ℓ ↦{Transfers.shareTok fullShare 32 i} f := by
    rw [bigSep_univ_equiv numEquiv]
    refine bigSep_congr fun w _ => ?_
    have : tileNo (numEquiv w) = w.val := congrArg Fin.val (numEquiv.left_inv w)
    show (ℓ ↦{Transfers.shareTokN fullShare (tileNo (numEquiv w))} f : sProp 𝕄) = _
    rw [this]
  rw [e]; exact h

/-- and the result is the tiles' blocks. -/
theorem dealt_blocks (d : Dev nD) (f : Buf (Elt F) (oLoc d)) :
    (oLoc d ↦{fullShare} f : sProp 𝕄) = bigSep Finset.univ fun L : grid0.Coords => oLoc d ↦[oSet L]{fullShare} f := by
  rw [← pointsTo_biUnion Finset.univ (ℓ := oLoc d) oSet oSet_disjoint, oSet_cover]

variable [FloatOps F]
variable (H : Dev nD → S12800000.Idx → Elt F .f32) (I : Dev nD → S100000.Idx → Elt F .i32) (fo : Dev nD → S524288.Idx → Elt F .f32)

/-- What a tile is dealt, the result at `f`. -/
abbrev pieces (f : Dev nD → S524288.Idx → Elt F .f32) (d : Dev nD) (L : grid0.Coords) : sProp 𝕄 :=
  iprop((hLoc d ↦{tk L} H d) ∗ (iLoc d ↦{tk L} I d) ∗ (oLoc d ↦[oSet L]{fullShare} f d))

abbrev LL (c : Fin ((K (F := F)).nCore 0)) (i : Fin ((K (F := F)).nSub 0)) : grid0.Coords := coordsV ⟨c.val, c.isLt⟩ ⟨i.val, i.isLt⟩

def P : (K (F := F)).Pay (nD := nD) (Val := Elt F) (Name := ℕ) (U := UU) where
  st := fun q d c => match q with | 0 => bigSep Finset.univ fun i => pieces H I fo d (LL c i)
  dn := fun q d c => match q with | 0 => bigSep Finset.univ fun i => pieces H I (fun d => outC (H d) (I d)) d (LL c i)
  go := fun q d c i => match q with | 0 => pieces H I fo d (LL c i)
  td := fun q d c i => match q with | 0 => pieces H I (fun d => outC (H d) (I d)) d (LL c i)
  x := fun _ _ => iprop(emp)

instance P_storable : (P H I fo).IsStorable where
  st q d c := match q with
    | 0 => (inferInstance : BI.Storable (upEmb : UEmb _ 𝕄) (bigSep Finset.univ fun i => pieces H I fo d (LL c i)))
  dn q d c := match q with
    | 0 => (inferInstance : BI.Storable (upEmb : UEmb _ 𝕄) (bigSep Finset.univ fun i => pieces H I (fun d => outC (H d) (I d)) d (LL c i)))
  go q d c i := match q with
    | 0 => (inferInstance : BI.Storable (upEmb : UEmb _ 𝕄) (pieces H I fo d (LL c i)))
  td q d c i := match q with
    | 0 => (inferInstance : BI.Storable (upEmb : UEmb _ 𝕄) (pieces H I (fun d => outC (H d) (I d)) d (LL c i)))

/-- All tiles' pieces, a core at a time, are the arrays less what stays of the two that are read. -/
theorem pieces_all (f : Dev nD → S524288.Idx → Elt F .f32) (d : Dev nD) :
    (bigSep Finset.univ fun c : Fin ((K (F := F)).nCore 0) => bigSep Finset.univ fun i => pieces H I f d (LL c i))
      = iprop((bigSep Finset.univ fun L : grid0.Coords => hLoc d ↦{tk L} H d) ∗ (bigSep Finset.univ fun L : grid0.Coords => iLoc d ↦{tk L} I d) ∗ (oLoc d ↦{fullShare} f d)) := by
  rw [dealt_blocks, ← bigSep_sep', ← bigSep_sep', bigSep_univ_equiv tilesEquiv, BI.bigSep_univ_prod]
  rfl

theorem vecSplit : (K (F := F)).VecSplit' (P H I fo) 0 := by
  intro d c
  show (bigSep Finset.univ fun i => pieces H I fo d (LL c i)) ⊢ |={Set.univ}=> iprop(
      (bigSep Finset.univ fun i : Fin ((K (F := F)).nSub 0) => pieces H I fo d (LL c i))
      ∗ ((bigSep Finset.univ fun i : Fin ((K (F := F)).nSub 0) => pieces H I (fun d => outC (H d) (I d)) d (LL c i))
          -∗ (bigSep Finset.univ fun i => pieces H I (fun d => outC (H d) (I d)) d (LL c i))))
  iintro H; imodintro
  isplitl [H]; · iexact H
  iintro H; iexact H

/-! ## A tile's obligation -/

abbrev dcell (d : Dev nD) (c : Fin τ.nSC) (i : Fin τ.nSub) (k : Fin 6) : GSem nD τ sig := (V d c i, .dma (csem k))

theorem dcell_mem (d : Dev nD) (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

/-- A tile's own cells: the six it names and the rest, -/
theorem ownSems0_V (d : Dev nD) (L : grid0.Coords) :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]

/-- A buffer taken out of a set of the tile's own. -/
theorem own_take {d : Dev nD} {L : grid0.Coords} {S : Finset (DevRef τ sig)} (b : Ref sig .scVector) (h : (Proc.scVector (cV L) (jV L)).devRef b ∈ S) :
    (bigSep S fun b => iprop(∃ f, ((d, b) : Loc nD τ sig) ↦{fullShare} f) : sProp 𝕄)
      = iprop((∃ f, (VT d L).loc b ↦{fullShare} f) ∗ bigSep (S.erase ((Proc.scVector (cV L) (jV L)).devRef b)) fun b => iprop(∃ f, ((d, b) : Loc nD τ sig) ↦{fullShare} f)) :=
  SparseCore.bigSep_erase' h

theorem own_ne {L : grid0.Coords} {b b' : Ref sig .scVector} (h : b ≠ b') : (Proc.scVector (cV L) (jV L)).devRef b ≠ (Proc.scVector (cV L) (jV L)).devRef b' :=
  fun e => h (Proc.devRef_injective _ e)

/-- and its own buffers: the five it names and the rest. -/
theorem ownBufs_V (d : Dev nD) (L : grid0.Coords) : ∃ S : Finset (DevRef τ sig),
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f)
          ∗ (∃ f, (VT d L).loc cc0_scratch3 ↦{fullShare} f) ∗ (∃ f, (VT d L).loc cc0_scratch4 ↦{fullShare} f)
          ∗ bigSep S fun b => iprop(∃ f, ((d, b) : Loc nD τ sig) ↦{fullShare} f)) := by
  have hm := fun (b : Ref sig .scVector) (h : ((Proc.scVector (cV L) (jV L)).devRef b).owner = _) => SparseCore.Cfg.mem_ownRefs_of_owner (p := Proc.scVector (cV L) (jV L)) (b := (Proc.scVector (cV L) (jV L)).devRef b) h
  refine ⟨(((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase
    ((Proc.scVector (cV L) (jV L)).devRef cc0_scratch3)).erase ((Proc.scVector (cV L) (jV L)).devRef cc0_scratch4), ?_⟩
  unfold SparseCore.Cfg.ownBufs
  rw [own_take cc0_scratch0 (hm _ rfl),
    own_take cc0_scratch1 (Finset.mem_erase.mpr ⟨own_ne (by decide), hm _ rfl⟩),
    own_take cc0_scratch2 (Finset.mem_erase.mpr ⟨own_ne (by decide), Finset.mem_erase.mpr ⟨own_ne (by decide), hm _ rfl⟩⟩),
    own_take cc0_scratch3 (Finset.mem_erase.mpr ⟨own_ne (by decide), Finset.mem_erase.mpr ⟨own_ne (by decide), Finset.mem_erase.mpr ⟨own_ne (by decide), hm _ rfl⟩⟩⟩),
    own_take cc0_scratch4 (Finset.mem_erase.mpr ⟨own_ne (by decide), Finset.mem_erase.mpr ⟨own_ne (by decide), Finset.mem_erase.mpr ⟨own_ne (by decide), Finset.mem_erase.mpr ⟨own_ne (by decide), hm _ rfl⟩⟩⟩⟩)]

/-- A share as what stays of it and two read tokens. -/
theorem two_toks {ℓ : Loc nD τ sig} (q : PosShare TreeShare) (f : Buf (Elt F) ℓ) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h : (ℓ ↦{q} f : sProp 𝕄) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

theorem tile_body (hI : ∀ d x, (I d x).toNat < 128) (d : Dev nD) (L : grid0.Coords) (O : CellTallies nD τ sig (HIx 1)) (W : Waits sig (HIx 1)) (hO : ∀ g, O g none = 0) :
    iprop(levAts (K (F := F)).L (K (F := F)).lev ∗ emp ∗ pieces H I fo d L ∗ scopedBufs (VT d L) ∗ scopedSems0 (VT d L) ∗ owes (VT d L) O W)
      ⊢ wp frame (wpE (defs₀ (F := F)) 𝒱₀ (VT d L) none) Set.univ (body L)
          fun _ => iprop(pieces H I (fun d => outC (H d) (I d)) d L ∗ scopedBufs (VT d L) ∗ scopedSems0 (VT d L)
            ∗ ∃ W', ⌜∀ p ∈ W', p ∈ W ∨ p.2 = none ∨ p.2 = some (0 : Fin 1)⌝ ∗ owes (VT d L) O W') := by
  obtain ⟨S, hS⟩ := ownBufs_V (F := F) d L
  rw [(K (F := F)).scopedBufs_V facts d (cV L) (jV L), SparseCore.Cfg.scopedSems0_V (Val := Elt F) d (cV L) (jV L), ownSems0_V, hS]
  iintro ⟨#Hlv, -, ⟨Hh, Hi, Ho⟩, ⟨⟨%f5, H5⟩, ⟨%f6, H6⟩, ⟨%f7, H7⟩, ⟨%f8, H8⟩, ⟨%f9, H9⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave Hh' := (two_toks (ℓ := hLoc d) (tk L) (H d)).1 $$ Hh
  icases Hh' with ⟨Hhr, Hh0, Hh1⟩
  iapply (wp_wand_r frame (wpE (defs₀ (F := F)) 𝒱₀ (VT d L) none) Set.univ)
  isplitl [Hi Hh0 Hh1 Ho H5 H6 H7 H8 H9 HC Hmw HO]
  · iapply (tile_run d L O (H d) (I d) (hI d) (Transfers.shareTokN (tk L) 0) (Transfers.shareTokN (tk L) 1) (tk L) f5 f6 f7 f8 f9 (fo d))
    isplitl [Hh0]; · iexact Hh0
    isplitl [Hh1]; · iexact Hh1
    isplitl [Hi]; · iexact Hi
    isplitl [Ho]; · iexact Ho
    isplitl [H5]; · iexact H5
    isplitl [H6]; · iexact H6
    isplitl [H7]; · iexact H7
    isplitl [H8]; · iexact H8
    isplitl [H9]; · iexact H9
    isplitl [HC]; · iexact HC
    unfold Ow
    isplitl [Hmw]; · iexact Hmw
    iexists W; iexact HO
  unfold Ow
  iintro %_ ⟨Hh0, Hh1, Hi, Ho, H5, H6, H7, H8, H9, HC, -, ⟨%W', HO⟩⟩
  ihave Hh := (two_toks (ℓ := hLoc d) (tk L) (H d)).2 $$ [Hhr Hh0 Hh1]
  · isplitl [Hhr]; · iexact Hhr
    isplitl [Hh0]; · iexact Hh0
    iexact Hh1
  isplitl [Hi Hh Ho]
  · isplitl [Hh]; · iexact Hh
    isplitl [Hi]; · iexact Hi
    iapply (Entails.of_eq (pointsTo_congr (ℓ := oLoc d) (I := oSet L) (q := fullShare) (write_outC (H d) (I d) L (fo d))))
    iexact Ho
  isplitl [H5 H6 H7 H8 H9 Hbufs]
  · isplitl [H5]; · iexact H5
    isplitl [H6]; · iexact H6
    isplitl [H7]; · iexact H7
    isplitl [H8]; · iexact H8
    isplitl [H9]; · iexact H9
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 0 () = SparseCore.onTile hcore0 hsub0 (fun c s => body (coordsV c s)) ⟨⟩ c s := rfl

theorem tileObl (hI : ∀ d x, (I d x).toNat < 128) : (K (F := F)).TileObl (D (F := F)) 𝒱 (P H I fo) v₀ 0 := by
  intro d c i O W hO _ _
  simp only [show (P H I fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body H I fo hI d (coordsV ⟨_, hci.1⟩ ⟨_, hci.2⟩) O W hO

end Cert.Proof.SegMax

end
-- ==== Proof.Regs.lean ====
/-
  The two TensorCore calls: their bodies between their buffers' contents, and their regions over the unscoped buffers.
-/
module

public import proofs.«01_k».proof.Proof.Deal
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.VecWindow
public import Idealize.ShloMosaic.Lib.Tactic

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type}

local notation "𝕄" => MT nD τ sig (HIx 1) (Elt F) ℕ UU ℕ

variable [FloatOps F]

set_option maxHeartbeats 1000000 in
/-- What the first TensorCore body leaves in its result's buffer, with the proof that it runs to it. -/
noncomputable def run1 (c : Dev nD) (i : grid1.Coords) (M0 : Memref sig .tc .vmem S1024x128 .f32) (h0 : M0.IsWhole) (M1 : Memref sig .tc .vmem S8x128 .f32) (h1 : M1.IsWhole)
    (f0 : Buf (Elt F) (M0.view.loc (c : Thread nD τ))) :
    { W : Buf (Elt F) (M1.view.loc (c : Thread nD τ)) // ∀ (f1 : Buf (Elt F) (M1.view.loc (c : Thread nD τ))) (E : Set ℕ) (Q : PUnit → sProp 𝕄),
        iprop((M0.view.loc (c : Thread nD τ) ↦{fullShare} f0) ∗ (M1.view.loc (c : Thread nD τ) ↦{fullShare} f1) ∗ (iprop((M0.view.loc (c : Thread nD τ) ↦{fullShare} f0) ∗ (M1.view.loc (c : Thread nD τ) ↦{fullShare} W)) -∗ Q ⟨⟩))
          ⊢ wp frame (wpE (defs₀ (F := F)) Variants.none c none) E (cc1_body i M0 h0 M1 h1) Q } := by
  refine ⟨?_, fun f1 E Q => ?run⟩
  case run =>
    iintro ⟨H0, H1, Hk⟩
    sl_exec!
    sl_step
    iapply Hk
    isplitl [H0]; · iexact H0
    iexact H1

set_option maxHeartbeats 2000000 in
/-- What the second TensorCore body leaves in its result's buffer, with the proof that it runs to it. -/
noncomputable def run2 (c : Dev nD) (i : grid2.Coords) (M0 : Memref sig .tc .vmem S1x448x8 .i32) (h0 : M0.IsWhole) (M1 : Memref sig .tc .vmem S448x128 .f32) (h1 : M1.IsWhole)
    (M2 : Memref sig .tc .vmem S32x8x128 .f32) (h2 : M2.IsWhole) (M3 : Memref sig .tc .vmem S8x128 .f32) (h3 : M3.IsWhole)
    (f0 : Buf (Elt F) (M0.view.loc (c : Thread nD τ))) (f1 : Buf (Elt F) (M1.view.loc (c : Thread nD τ))) (f2 : Buf (Elt F) (M2.view.loc (c : Thread nD τ))) :
    { W : Buf (Elt F) (M3.view.loc (c : Thread nD τ)) // ∀ (f3 : Buf (Elt F) (M3.view.loc (c : Thread nD τ))) (E : Set ℕ) (Q : PUnit → sProp 𝕄),
        iprop((M0.view.loc (c : Thread nD τ) ↦{fullShare} f0) ∗ (M1.view.loc (c : Thread nD τ) ↦{fullShare} f1) ∗ (M2.view.loc (c : Thread nD τ) ↦{fullShare} f2)
            ∗ (M3.view.loc (c : Thread nD τ) ↦{fullShare} f3)
            ∗ (iprop((M0.view.loc (c : Thread nD τ) ↦{fullShare} f0) ∗ (M1.view.loc (c : Thread nD τ) ↦{fullShare} f1) ∗ (M2.view.loc (c : Thread nD τ) ↦{fullShare} f2)
              ∗ (M3.view.loc (c : Thread nD τ) ↦{fullShare} W)) -∗ Q ⟨⟩))
          ⊢ wp frame (wpE (defs₀ (F := F)) Variants.none c none) E (cc2_body i M0 h0 M1 h1 M2 h2 M3 h3) Q } := by
  refine ⟨?_, fun f3 E Q => ?run⟩
  case run =>
    iintro ⟨H0, H1, H2, H3, Hk⟩
    sl_exec!
    sl_step
    iapply Hk
    isplitl [H0]; · iexact H0
    isplitl [H1]; · iexact H1
    isplitl [H2]; · iexact H2
    iexact H3

/-- The maxima over the columns of one 128-row unit of a 1024-row block, as a row. -/
def unitMax (X : S1024x128.Idx → Elt F .f32) (k : ℕ) (h : ∀ a, (![k, 0] : Fin 2 → ℕ) a + S128x128.size a ≤ S1024x128.size a) : FVec F S1x128 .f32 :=
  shapeCast S1x128 (multiReduction (F := F) .maximumf [0] S128 (fun j => X ((Rect.unit (s := S1024x128) ![k, 0] S128x128.size h).emb j) : FVec F S128x128 .f32) 0xFF800000#32
    reduces_S128x128_S128 (.inl rfl) rfl) shapeCasts_S128_S1x128

/-- What the first TensorCore body computes from its block: the eight units' maxima, a row each. -/
def blockMax (X : S1024x128.Idx → Elt F .f32) : S8x128.Idx → Elt F .f32 :=
  concatenate S8x128 0 [⟨S1x128, unitMax X 0 inb_S1024x128_S128x128_0_0⟩, ⟨S1x128, unitMax X 128 inb_S1024x128_S128x128_128_0⟩, ⟨S1x128, unitMax X 256 inb_S1024x128_S128x128_256_0⟩,
    ⟨S1x128, unitMax X 384 inb_S1024x128_S128x128_384_0⟩, ⟨S1x128, unitMax X 512 inb_S1024x128_S128x128_512_0⟩, ⟨S1x128, unitMax X 640 inb_S1024x128_S128x128_640_0⟩,
    ⟨S1x128, unitMax X 768 inb_S1024x128_S128x128_768_0⟩, ⟨S1x128, unitMax X 896 inb_S1024x128_S128x128_896_0⟩] concatenates_S1x128_S1x128_S1x128_S1x128_S1x128_S1x128_S1x128_S1x128_S8x128_d0

/-- The maxima over the units that the mask's column `k` selects, as a row. -/
def maskedMax (A : S1x448x8.Idx → Elt F .i32) (B : S448x128.Idx → Elt F .f32) (k : ℕ) (h : ∀ a, (![0, 0, k] : Fin 3 → ℕ) a + S1x448x1.size a ≤ S1x448x8.size a) : FVec F S1x128 .f32 :=
  shapeCast S1x128 (multiReduction (F := F) .maximumf [0] S128 (select (broadcastTo S448x128 (shapeCast S448x1
    (cmpi .ne (shapeCast S448x1 (fun j => A ((Rect.unit (s := S1x448x8) ![0, 0, k] S1x448x1.size h).emb j) : Vec F S1x448x1 .i32) shapeCasts_S1x448x1_S448x1 : IVec S448x1 32) (broadcast S448x1 0#32))
      shapeCasts_S448x1_S448x1) broadcasts_S448x1_S448x128) (shapeCast S448x128 (fun j => B ((Rect.unit (s := S448x128) ![0, 0] S448x128.size inb_S448x128_S448x128_0_0).emb j)) shapeCasts_S448x128_S448x128) (broadcast S448x128 (Scalar.ofBits .f32 0xFF800000#32)) : FVec F S448x128 .f32)
    0xFF800000#32 reduces_S448x128_S128 (.inl rfl) rfl) shapeCasts_S128_S1x128

/-- What the second TensorCore body computes: at each of its eight segments the maximum over the partial results and over the selected units' maxima. -/
def mergeMax (A : S1x448x8.Idx → Elt F .i32) (B : S448x128.Idx → Elt F .f32) (P : S32x8x128.Idx → Elt F .f32) : S8x128.Idx → Elt F .f32 :=
  maximumf (multiReduction (F := F) .maximumf [0] S8x128 (shapeCast S32x8x128
      (fun j => P ((Rect.unit (s := S32x8x128) ![0, 0, 0] S32x8x128.size inb_S32x8x128_S32x8x128_0_0_0).emb j) : FVec F S32x8x128 .f32) shapeCasts_S32x8x128_S32x8x128) 0xFF800000#32
      reduces_S32x8x128_S8x128 (.inl rfl) rfl : FVec F S8x128 .f32)
    (concatenate S8x128 0 [⟨S1x128, maskedMax A B 0 inb_S1x448x8_S1x448x1_0_0_0⟩, ⟨S1x128, maskedMax A B 1 inb_S1x448x8_S1x448x1_0_0_1⟩, ⟨S1x128, maskedMax A B 2 inb_S1x448x8_S1x448x1_0_0_2⟩,
      ⟨S1x128, maskedMax A B 3 inb_S1x448x8_S1x448x1_0_0_3⟩, ⟨S1x128, maskedMax A B 4 inb_S1x448x8_S1x448x1_0_0_4⟩, ⟨S1x128, maskedMax A B 5 inb_S1x448x8_S1x448x1_0_0_5⟩,
      ⟨S1x128, maskedMax A B 6 inb_S1x448x8_S1x448x1_0_0_6⟩, ⟨S1x128, maskedMax A B 7 inb_S1x448x8_S1x448x1_0_0_7⟩] concatenates_S1x128_S1x128_S1x128_S1x128_S1x128_S1x128_S1x128_S1x128_S8x128_d0)

theorem run1_read (c : Dev nD) (i : grid1.Coords) (M0 : Memref sig .tc .vmem S1024x128 .f32) (h0 : M0.IsWhole) (M1 : Memref sig .tc .vmem S8x128 .f32) (h1 : M1.IsWhole)
    (f0 : Buf (Elt F) (M0.view.loc (c : Thread nD τ))) :
    M1.view.read (Elt F) (run1 c i M0 h0 M1 h1 f0).1 = blockMax (M0.view.read (Elt F) f0) := by
  dsimp only [run1]
  refine (View.read_writes_full (M1.view) _ _ _ _).trans ?_
  rfl

theorem run2_read (c : Dev nD) (i : grid2.Coords) (M0 : Memref sig .tc .vmem S1x448x8 .i32) (h0 : M0.IsWhole) (M1 : Memref sig .tc .vmem S448x128 .f32) (h1 : M1.IsWhole)
    (M2 : Memref sig .tc .vmem S32x8x128 .f32) (h2 : M2.IsWhole) (M3 : Memref sig .tc .vmem S8x128 .f32) (h3 : M3.IsWhole)
    (f0 : Buf (Elt F) (M0.view.loc (c : Thread nD τ))) (f1 : Buf (Elt F) (M1.view.loc (c : Thread nD τ))) (f2 : Buf (Elt F) (M2.view.loc (c : Thread nD τ))) :
    M3.view.read (Elt F) (run2 c i M0 h0 M1 h1 M2 h2 M3 h3 f0 f1 f2).1 = mergeMax (M0.view.read (Elt F) f0) (M1.view.read (Elt F) f1) (M2.view.read (Elt F) f2) := by
  dsimp only [run2]
  refine (View.read_writes_full (M3.view) _ _ _ _).trans ?_
  rfl

/-- The first TensorCore body between its buffers' contents. -/
theorem body1 (c : Dev nD) (i : grid1.Coords) (M0 : Memref sig .tc .vmem S1024x128 .f32) (h0 : M0.IsWhole) (M1 : Memref sig .tc .vmem S8x128 .f32) (h1 : M1.IsWhole)
    (X0 : S1024x128.Idx → Elt F .f32) (X1 : S8x128.Idx → Elt F .f32) (E : Set ℕ) (Q : PUnit → sProp 𝕄) :
    iprop((owns (c : Thread nD τ) M0 fullShare X0) ∗ (owns (c : Thread nD τ) M1 fullShare X1)
        ∗ (iprop((owns (c : Thread nD τ) M0 fullShare X0) ∗ (owns (c : Thread nD τ) M1 fullShare (blockMax X0))) -∗ Q ⟨⟩))
      ⊢ wp frame (wpE (defs₀ (F := F)) Variants.none c none) E (cc1_body i M0 h0 M1 h1) Q := by
  unfold owns
  rw [h0.set_eq_univ, h1.set_eq_univ]
  iintro ⟨⟨%f0, %e0, H0⟩, ⟨%f1, %e1, H1⟩, Hk⟩
  iapply (run1 c i M0 h0 M1 h1 f0).2 f1 E Q
  isplitl [H0]; · iexact H0
  isplitl [H1]; · iexact H1
  iintro ⟨H0, H1⟩
  iapply Hk
  isplitl [H0]; · iexists f0; isplitr; · ipureintro; exact e0
                  iexact H0
  iexists _; isplitr; swap; (· iexact H1)
  ipureintro
  exact (run1_read c i M0 h0 M1 h1 f0).trans (congrArg blockMax e0)

/-- The second TensorCore body between its buffers' contents. -/
theorem body2 (c : Dev nD) (i : grid2.Coords) (M0 : Memref sig .tc .vmem S1x448x8 .i32) (h0 : M0.IsWhole) (M1 : Memref sig .tc .vmem S448x128 .f32) (h1 : M1.IsWhole)
    (M2 : Memref sig .tc .vmem S32x8x128 .f32) (h2 : M2.IsWhole) (M3 : Memref sig .tc .vmem S8x128 .f32) (h3 : M3.IsWhole)
    (X0 : S1x448x8.Idx → Elt F .i32) (X1 : S448x128.Idx → Elt F .f32) (X2 : S32x8x128.Idx → Elt F .f32) (X3 : S8x128.Idx → Elt F .f32) (E : Set ℕ) (Q : PUnit → sProp 𝕄) :
    iprop((owns (c : Thread nD τ) M0 fullShare X0) ∗ (owns (c : Thread nD τ) M1 fullShare X1) ∗ (owns (c : Thread nD τ) M2 fullShare X2) ∗ (owns (c : Thread nD τ) M3 fullShare X3)
        ∗ (iprop((owns (c : Thread nD τ) M0 fullShare X0) ∗ (owns (c : Thread nD τ) M1 fullShare X1) ∗ (owns (c : Thread nD τ) M2 fullShare X2)
          ∗ (owns (c : Thread nD τ) M3 fullShare (mergeMax X0 X1 X2))) -∗ Q ⟨⟩))
      ⊢ wp frame (wpE (defs₀ (F := F)) Variants.none c none) E (cc2_body i M0 h0 M1 h1 M2 h2 M3 h3) Q := by
  unfold owns
  rw [h0.set_eq_univ, h1.set_eq_univ, h2.set_eq_univ, h3.set_eq_univ]
  iintro ⟨⟨%f0, %e0, H0⟩, ⟨%f1, %e1, H1⟩, ⟨%f2, %e2, H2⟩, ⟨%f3, %e3, H3⟩, Hk⟩
  subst e0; subst e1; subst e2
  iapply (run2 c i M0 h0 M1 h1 M2 h2 M3 h3 f0 f1 f2).2 f3 E Q
  isplitl [H0]; · iexact H0
  isplitl [H1]; · iexact H1
  isplitl [H2]; · iexact H2
  isplitl [H3]; · iexact H3
  iintro ⟨H0, H1, H2, H3⟩
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  iexists _; isplitr; swap; (· iexact H3)
  ipureintro
  exact run2_read c i M0 h0 M1 h1 M2 h2 M3 h3 f0 f1 f2

/-! ## The two pipelines' proof data at an entry valuation -/

variable [∀ e, Nonempty (Elt F e)] (V : (c : Dev nD) → (b : Ref sig .tc) → Buf (Elt F) ((c : Thread nD τ).loc b))

/-- The block of an array that window `w` of the first pipeline stages at point `t`. -/
def in1 (c : Dev nD) (w : Fin 2) (t : Fin cfg1.N) : (cfg1.win w).block.Idx → Elt F (cfg1.win w).elt :=
  (cfg1.win w).fill (cfg1.grid.coords t) (fun _ => Classical.arbitrary _) (((cfg1.win w).blk t).view.read (Elt F) (V c (Pipeline.arrRef spec1 w)))

/-- The block of an array that window `w` of the second pipeline stages at point `t`. -/
def in2 (c : Dev nD) (w : Fin 4) (t : Fin cfg2.N) : (cfg2.win w).block.Idx → Elt F (cfg2.win w).elt :=
  (cfg2.win w).fill (cfg2.grid.coords t) (fun _ => Classical.arbitrary _) (((cfg2.win w).blk t).view.read (Elt F) (V c (Pipeline.arrRef spec2 w)))

/-- The first pipeline's proof data from valuation `V`. -/
def dat1 (c : Dev nD) : Dat τ (Elt F) (HIx 1) ℕ UU ℕ cfg1 c where
  A w := V c (Pipeline.arrRef spec1 w)
  after w t := match w with
    | ⟨0, _⟩ => in1 V c 0 t
    | ⟨1, _⟩ => blockMax (in1 V c 0 t)
  Φ _ := Pipeline.scopedRest (Ix := HIx 1) (Name := ℕ) (U := UU) (Lvl := ℕ) (Val := Elt F) spec1 c
  q _ := fullShare
  owed _ := 0

/-- The second pipeline's proof data from valuation `V`. -/
def dat2 (c : Dev nD) : Dat τ (Elt F) (HIx 1) ℕ UU ℕ cfg2 c where
  A w := V c (Pipeline.arrRef spec2 w)
  after w t := match w with
    | ⟨0, _⟩ => in2 V c 0 t
    | ⟨1, _⟩ => in2 V c 1 t
    | ⟨2, _⟩ => in2 V c 2 t
    | ⟨3, _⟩ => mergeMax (in2 V c 0 t) (in2 V c 1 t) (in2 V c 2 t)
  Φ _ := Pipeline.scopedRest (Ix := HIx 1) (Name := ℕ) (U := UU) (Lvl := ℕ) (Val := Elt F) spec2 c
  q _ := fullShare
  owed _ := 0

theorem clip1 : ∀ (t : Fin cfg1.N) (a : Fin 2), (cfg1.win 0).clip (cfg1.grid.coords t) a = none := by decide

theorem before1 (c : Dev nD) (t : Fin cfg1.N) (d) : (dat1 V c).before 0 t d = in1 V c 0 t := by
  rw [(dat1 V c).before_fetched 0 t (fetch1_0 t) d]
  exact Pipeline.fill_of_clip_none 0 _ (clip1 t) _ _ _

theorem before2_0 (c : Dev nD) (t : Fin cfg2.N) (d) : (dat2 V c).before 0 t d = in2 V c 0 t :=
  (dat2 V c).before_fetched 0 t (fetch2_0 t) d

theorem before2_2 (c : Dev nD) (t : Fin cfg2.N) (d) : (dat2 V c).before 2 t d = in2 V c 2 t :=
  (dat2 V c).before_fetched 2 t (fetch2_2 t) d

theorem before2_1 (c : Dev nD) (t : Fin cfg2.N) (d) : (dat2 V c).before 1 t d = in2 V c 1 t :=
  (dat2 V c).before_in_eq_fetched 1 rfl (fun _ => rfl) (fun _ _ _ => rfl) (fun _ => rfl) t d

theorem bodyOb1 (c : Dev nD) : BodyObligation (dat1 V c) (defs₀ (F := F)) Variants.none (none : HIx 1) Set.univ := fun t => by
  rw [bigSep_W1, bigSep_W1]
  rw [show (dat1 V c).Φ t.succ = (dat1 V c).Φ t.castSucc from rfl,
    show (dat1 V c).owesAt (none : HIx 1) t.succ = (dat1 V c).owesAt none t.castSucc from rfl]
  iintro ⟨HΦ, Howes, ⟨%d0, H0⟩, ⟨%d1, H1⟩⟩
  rw [before1]
  iapply (body1 c (cfg1.grid.coords t) (st1_0 t) (hstage1_0 _) (st1_1 t) (hstage1_1 _) (in1 V c 0 t) ((dat1 V c).before 1 t d1) Set.univ _)
  isplitl [H0]; · iexact H0
  isplitl [H1]; · iexact H1
  iintro ⟨H0, H1⟩
  isplitl [HΦ]; · iexact HΦ
  isplitl [Howes]; · iexact Howes
  isplitl [H0]; · iexact H0
  iexact H1

theorem bodyOb2 (c : Dev nD) : BodyObligation (dat2 V c) (defs₀ (F := F)) Variants.none (none : HIx 1) Set.univ := fun t => by
  rw [bigSep_W2, bigSep_W2]
  rw [show (dat2 V c).Φ t.succ = (dat2 V c).Φ t.castSucc from rfl,
    show (dat2 V c).owesAt (none : HIx 1) t.succ = (dat2 V c).owesAt none t.castSucc from rfl]
  iintro ⟨HΦ, Howes, ⟨%d0, H0⟩, ⟨%d1, H1⟩, ⟨%d2, H2⟩, ⟨%d3, H3⟩⟩
  rw [before2_0, before2_1, before2_2]
  iapply (body2 c _ _ (hstage2_0 _) _ (hstage2_1 _) _ (hstage2_2 _) _ (hstage2_3 _) _ _ _ _ Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The two regions over the thread state -/

/-- Proof data for a pipeline that a region does not run. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- No pipeline prefetches a table. -/
abbrev adm (p : Fin 2) : (pcfgs (F := F) p).Adm := (cfgs p).toPCfg_adm

/-- The data for the first region. -/
def pdats1 : (p : Fin 2) → (c : Dev nD) → Dat τ (Elt F) (HIx 1) ℕ UU ℕ (Pipeline.pin (pcfgs (F := F)) adm p) c
  | ⟨0, _⟩ => fun c => dat1 V c
  | ⟨1, _⟩ => fun c => junkDat c

/-- The data for the second region. -/
def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 V c

/-- The block maxima's array after the first region. -/
def out1 (c : Dev nD) : Buf (Elt F) ((c : Thread nD τ).loc main_v21) := (dat1 V c).arrAt 1 cfg1.N

/-- The result's array after the second region. -/
def out2 (c : Dev nD) : Buf (Elt F) ((c : Thread nD τ).loc main_v23) := (dat2 V c).arrAt 3 cfg2.N

variable (Vp : (c : Dev nD) → (b : Ref sig .tc) → Buf (Elt F) ((c : Thread nD τ).loc b)) (R : Dev nD → sProp (MT nD τ sig (HIx 1) (Elt F) ℕ UU ℕ))

set_option backward.isDefEq.respectTransparency.types false in
/-- The first region, from the unscoped buffers at `V` to them at `V` with the block maxima in place. -/
def reg1 (hout : ∀ c, Vp c main_v21 = out1 V c) (hne : ∀ c (b : Ref sig .tc), b ≠ main_v21 → Vp c b = V c b) :
    Pipeline.RegionSeg (pcfgs (F := F)) adm (pdats1 V) (none : HIx 1) defs₀ Variants.none (K (F := F)).L (K (F := F)).lev 0 where
  win := (launch1).win.to₀
  block_pos := (launch1).block_pos
  stage_whole := (launch1).stage_whole
  K := PEmpty
  osem k := k.elim
  ho := Pipeline.OwnSemFacts.none _
  hbody c := (bodyOb1 V c).loose
  hwaits := Pipeline.hwaits_of_owed_zero _ _ _ _ (K (F := F)).L (K (F := F)).lev 0 fun _ _ => rfl
  pre c := iprop(unscopedBufs c (V c) ∗ R c ∗ ∃ W, owes (c : Thread nD τ) (0 : CellTallies nD τ sig (HIx 1)) W)
  post c := iprop(unscopedBufs c (Vp c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats1 V) (launch1).win (launch1).arr_whole c
      ((pdats1 V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats1 V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats1 V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats1 V) ((pdats1 V 0 c).share_full fun _ => rfl) (V c) (Vp c) ((pdats1 V 0 c).arrAt · cfg1.N)
      (fun w => by
        fin_cases w
        · exact ((pdats1 V 0 c).arrAt_in 0 rfl _).trans (hne c main_arg0 (by decide)).symm
        · exact (hout c).symm)
      (fun b hb => hne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

set_option backward.isDefEq.respectTransparency.types false in
/-- The second region, from the unscoped buffers at `V` to them at `V` with the result in place. -/
def reg2 (hout : ∀ c, Vp c main_v23 = out2 V c) (hne : ∀ c (b : Ref sig .tc), b ≠ main_v23 → Vp c b = V c b) :
    Pipeline.RegionSeg (pcfgs (F := F)) adm (pdats2 V) (none : HIx 1) defs₀ Variants.none (K (F := F)).L (K (F := F)).lev 1 where
  win := (launch2).win.to₀
  block_pos := (launch2).block_pos
  stage_whole := (launch2).stage_whole
  K := PEmpty
  osem k := k.elim
  ho := Pipeline.OwnSemFacts.none _
  hbody c := (bodyOb2 V c).loose
  hwaits := Pipeline.hwaits_of_owed_zero _ _ _ _ (K (F := F)).L (K (F := F)).lev 1 fun _ _ => rfl
  pre c := iprop(unscopedBufs c (V c) ∗ R c ∗ ∃ W, owes (c : Thread nD τ) (0 : CellTallies nD τ sig (HIx 1)) W)
  post c := iprop(unscopedBufs c (Vp c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats2 V) (launch2).win (launch2).arr_whole c
      ((pdats2 V 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats2 V 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats2 V 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch2).win (launch2).arr_whole c
      (pdats2 V) ((pdats2 V 1 c).share_full fun _ => rfl) (V c) (Vp c) ((pdats2 V 1 c).arrAt · cfg2.N)
      (fun w => by
        fin_cases w
        · exact ((pdats2 V 1 c).arrAt_in 0 rfl _).trans (hne c main_v18 (by decide)).symm
        · exact ((pdats2 V 1 c).arrAt_in 1 rfl _).trans (hne c main_v21 (by decide)).symm
        · exact ((pdats2 V 1 c).arrAt_in 2 rfl _).trans (hne c main_v22 (by decide)).symm
        · exact (hout c).symm)
      (fun b hb => hne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.Proof.SegMax

end
-- ==== Proof.Main.lean ====
/-
  The run of @main: the host operations, the SparseCore call and the two TensorCore calls, from launch to the final memory.
-/
module

public import proofs.«01_k».proof.Proof.Regs
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.Frame
public import Idealize.ShloMosaic.Lib.VecWindow
public import Idealize.ShloMosaic.Lib.StableHlo.RunRead
public import Idealize.ShloMosaic.Lib.Tactic

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type}

local notation "𝕄" => MT nD τ sig (HIx 1) (Elt F) ℕ UU ℕ

variable [FloatOps F]

/-! ## @main as host operations, the SparseCore call and the two TensorCore calls -/

/-- The host operations before the SparseCore call. -/
def preOps : List (HloOp τ sig (Elt F)) :=
  [StableHlo.unary main_arg1 main_v0 ((extractStridedSlice S57344 ![0] · slices_S100000_S57344_0) : (⟨S100000, .i32⟩ : BufTy).Contents (Elt F) → (⟨S57344, .i32⟩ : BufTy).Contents (Elt F)),
   StableHlo.reshape main_v0 main_v1 (rfl : (.i32 : EltTy) = .i32) shapeCasts_S57344_S448x128,
   StableHlo.unary main_v1 main_v2 ((extractStridedSlice S448x1 ![0, 0] · slices_S448x128_S448x1_0_0) : (⟨S448x128, .i32⟩ : BufTy).Contents (Elt F) → (⟨S448x1, .i32⟩ : BufTy).Contents (Elt F)),
   StableHlo.reshape main_v2 main_v3 (rfl : (.i32 : EltTy) = .i32) shapeCasts_S448x1_S448,
   StableHlo.unary main_v1 main_v4 ((extractStridedSlice S448x1 ![0, 127] · slices_S448x128_S448x1_0_127) : (⟨S448x128, .i32⟩ : BufTy).Contents (Elt F) → (⟨S448x1, .i32⟩ : BufTy).Contents (Elt F)),
   StableHlo.reshape main_v4 main_v5 (rfl : (.i32 : EltTy) = .i32) shapeCasts_S448x1_S448,
   StableHlo.binary main_v3 main_v5 main_v6 (cmpi .eq : (⟨S448, .i32⟩ : BufTy).Contents (Elt F) → (⟨S448, .i32⟩ : BufTy).Contents (Elt F) → (⟨S448, .i1⟩ : BufTy).Contents (Elt F)),
   StableHlo.unary main_v3 main_v7 (broadcastInDim S448x1 ![0] bcast_S448_S448x1_0 : (⟨S448, .i32⟩ : BufTy).Contents (Elt F) → (⟨S448x1, .i32⟩ : BufTy).Contents (Elt F)),
   StableHlo.nullary main_v8 (iotaInDim S128 32 0),
   StableHlo.unary main_v8 main_v9 (broadcastInDim S1x128 ![1] bcast_S128_S1x128_1 : (⟨S128, .i32⟩ : BufTy).Contents (Elt F) → (⟨S1x128, .i32⟩ : BufTy).Contents (Elt F)),
   StableHlo.unary main_v7 main_v10 (broadcastInDim S448x128 ![0, 1] bcast_S448x1_S448x128_0_1 : (⟨S448x1, .i32⟩ : BufTy).Contents (Elt F) → (⟨S448x128, .i32⟩ : BufTy).Contents (Elt F)),
   StableHlo.unary main_v9 main_v11 (broadcastInDim S448x128 ![0, 1] bcast_S1x128_S448x128_0_1 : (⟨S1x128, .i32⟩ : BufTy).Contents (Elt F) → (⟨S448x128, .i32⟩ : BufTy).Contents (Elt F)),
   StableHlo.binary main_v10 main_v11 main_v12 (cmpi .eq : (⟨S448x128, .i32⟩ : BufTy).Contents (Elt F) → (⟨S448x128, .i32⟩ : BufTy).Contents (Elt F) → (⟨S448x128, .i1⟩ : BufTy).Contents (Elt F)),
   StableHlo.unary main_v6 main_v13 (broadcastInDim S448x1 ![0] bcast_S448_S448x1_0 : (⟨S448, .i1⟩ : BufTy).Contents (Elt F) → (⟨S448x1, .i1⟩ : BufTy).Contents (Elt F)),
   StableHlo.unary main_v13 main_v14 (broadcastInDim S448x128 ![0, 1] bcast_S448x1_S448x128_0_1 : (⟨S448x1, .i1⟩ : BufTy).Contents (Elt F) → (⟨S448x128, .i1⟩ : BufTy).Contents (Elt F)),
   StableHlo.binary main_v12 main_v14 main_v15 (andi : (⟨S448x128, .i1⟩ : BufTy).Contents (Elt F) → (⟨S448x128, .i1⟩ : BufTy).Contents (Elt F) → (⟨S448x128, .i1⟩ : BufTy).Contents (Elt F)),
   StableHlo.unary main_v15 main_v16 ((extui 32 · natLt_1_32) : (⟨S448x128, .i1⟩ : BufTy).Contents (Elt F) → (⟨S448x128, .i32⟩ : BufTy).Contents (Elt F)),
   StableHlo.reshape main_v16 main_v17 (rfl : (.i32 : EltTy) = .i32) shapeCasts_S448x128_S448x16x8,
   StableHlo.unary main_v17 main_v18 ((transpose S16x448x8 [1, 0, 2] · transposes_S448x16x8_S16x448x8_1_0_2) : (⟨S448x16x8, .i32⟩ : BufTy).Contents (Elt F) → (⟨S16x448x8, .i32⟩ : BufTy).Contents (Elt F)),
   StableHlo.reshape main_arg0 main_v19 (rfl : (.f32 : EltTy) = .f32) shapeCasts_S100000x128_S12800000]

/-- The host operation between the TensorCore calls. -/
abbrev midOp : HloOp τ sig (Elt F) := StableHlo.reshape main_v20 main_v22 (rfl : (.f32 : EltTy) = .f32) shapeCasts_S524288_S32x128x128

abbrev ΛS : Labels := SparseCore.Sig (Pipeline.Sig Λ₀ (Fin 2) fun p => (pcfgs (F := F) p).Adm) 1

/-- A TensorCore call of @main. -/
abbrev callTc (p : Fin 2) : Prog (TpuEff nD τ sig (Elt F) (ΛS (F := F)) .tc) PUnit := Prog.lift (.customCall (SparseCore.inner (Pipeline.entry p)) ())

theorem main_eq (d : Dev nD) : main (F := F) d
    = (StableHlo.seq preOps >>= fun _ => (K (F := F)).run d 0 >>= fun _ => callTc 0 >>= fun _ => StableHlo.seq [midOp] >>= fun _ => callTc 1 >>= fun _ => pure ⟨⟩) := by
  rw [StableHlo.seq_bind_seqK]
  simp only [StableHlo.seq, pure_bind, bind_assoc, preOps, StableHlo.seqK]
  rfl

section Values

variable (m : (ℓ : Loc nD τ sig) → Buf (Elt F) ℓ) [∀ e, Nonempty (Elt F e)]

/-- The buffers at launch, -/
def W0 (c : Dev nD) : Valuation τ sig (Elt F) := fun b => m (c, b)
/-- before the SparseCore call, -/
def W1 (c : Dev nD) : Valuation τ sig (Elt F) := StableHlo.after preOps (W0 m c)
/-- the table and the segment numbers as the SparseCores read them, -/
abbrev Hv (c : Dev nD) : S12800000.Idx → Elt F .f32 := W1 m c (Proc.devRef .tc main_v19)
abbrev Iv (c : Dev nD) : S100000.Idx → Elt F .i32 := W1 m c (Proc.devRef .tc main_arg1)
abbrev fov (c : Dev nD) : S524288.Idx → Elt F .f32 := W1 m c (Proc.devRef .tc main_v20)
/-- after it, -/
def W2 (c : Dev nD) : Valuation τ sig (Elt F) := Function.update (W1 m c) (Proc.devRef .tc main_v20) (outC (Hv m c) (Iv m c))
/-- after the first TensorCore call, -/
def W3 (c : Dev nD) : Valuation τ sig (Elt F) := Function.update (W2 m c) (Proc.devRef .tc main_v21) (out1 (fun c b => W2 m c (Proc.devRef .tc b)) c)
/-- before the second, -/
def W4 (c : Dev nD) : Valuation τ sig (Elt F) := StableHlo.after [midOp] (W3 m c)
/-- and after it. -/
def W5 (c : Dev nD) : Valuation τ sig (Elt F) := Function.update (W4 m c) (Proc.devRef .tc main_v23) (out2 (fun c b => W4 m c (Proc.devRef .tc b)) c)

/-- The calls' pieces at these values. -/
abbrev PP := P (F := F) (Hv m) (Iv m) (fov m)

theorem st0_eq (d : Dev nD) : (bigSep Finset.univ fun c : Fin ((K (F := F)).nCore 0) => (PP m).st 0 d c)
    = iprop((bigSep Finset.univ fun L : grid0.Coords => hLoc d ↦{tk L} Hv m d) ∗ (bigSep Finset.univ fun L : grid0.Coords => iLoc d ↦{tk L} Iv m d) ∗ (oLoc d ↦{fullShare} fov m d)) :=
  pieces_all (Hv m) (Iv m) (fov m) d
theorem dn0_eq (d : Dev nD) : (bigSep Finset.univ fun c : Fin ((K (F := F)).nCore 0) => (PP m).dn 0 d c)
    = iprop((bigSep Finset.univ fun L : grid0.Coords => hLoc d ↦{tk L} Hv m d) ∗ (bigSep Finset.univ fun L : grid0.Coords => iLoc d ↦{tk L} Iv m d) ∗ (oLoc d ↦{fullShare} outC (Hv m d) (Iv m d))) :=
  pieces_all (Hv m) (Iv m) (fun d => outC (Hv m d) (Iv m d)) d

/-- The three arrays of the SparseCore call, as references. -/
def scRefs : Finset (DevRef τ sig) := {Proc.devRef .tc main_v19, Proc.devRef .tc main_arg1, Proc.devRef .tc main_v20}

theorem scRefs_sub : scRefs ⊆ Pipeline.ucRefs τ sig := by
  intro b hb
  simp only [scRefs, Finset.mem_insert, Finset.mem_singleton] at hb
  rcases hb with rfl | rfl | rfl <;> exact Finset.mem_filter.mpr ⟨StableHlo.devRef_mem_tcRefs _, by decide⟩

theorem held_sc (d : Dev nD) (W : Valuation τ sig (Elt F)) :
    (StableHlo.held (T d) scRefs W : sProp 𝕄)
      = iprop((hLoc d ↦{fullShare} W (Proc.devRef .tc main_v19)) ∗ (iLoc d ↦{fullShare} W (Proc.devRef .tc main_arg1)) ∗ (oLoc d ↦{fullShare} W (Proc.devRef .tc main_v20))) := by
  unfold StableHlo.held scRefs
  rw [SparseCore.bigSep_insert' (by decide), SparseCore.bigSep_insert' (by decide), bigSep_singleton]

/-- The SparseCore call over the unscoped buffers. -/
theorem sc_step (κ : GSem nD τ sig → ℕ) (d : Dev nD) (Φ : PUnit → sProp 𝕄) :
    iprop((K (F := F)).ctx EH (PP m) κ ∗ (K (F := F)).tcSt EH d 0 ∗ (StableHlo.held (T d) (Pipeline.ucRefs τ sig) (W1 m d))
        ∗ (iprop((K (F := F)).tcSt EH d 1 ∗ (StableHlo.held (T d) (Pipeline.ucRefs τ sig) (W2 m d))) -∗ Φ ⟨⟩))
      ⊢ wp frame (wpE ((K (F := F)).defs (D (F := F))) 𝒱 (T d) none) Set.univ ((K (F := F)).run d 0) Φ := by
  rw [StableHlo.held_sub_split (T d) scRefs_sub (W1 m d), StableHlo.held_sub_split (T d) scRefs_sub (W2 m d), held_sc, held_sc,
    show (StableHlo.held (T d) (Pipeline.ucRefs τ sig \ scRefs) (W2 m d) : sProp 𝕄) = StableHlo.held (T d) (Pipeline.ucRefs τ sig \ scRefs) (W1 m d) from
      StableHlo.held_congr (T d) fun b hb => Function.update_of_ne (fun e => (Finset.mem_sdiff.mp hb).2 (by rw [e]; decide)) _ _]
  iintro ⟨#Hctx, Hst, ⟨⟨Hh, Hi, Ho⟩, Hrest⟩, Hk⟩
  ihave Hh' := (dealt_shares (ℓ := hLoc d) (Hv m d)).1 $$ Hh
  ihave Hi' := (dealt_shares (ℓ := iLoc d) (Iv m d)).1 $$ Hi
  icases Hh' with ⟨Hhr, Hh⟩
  icases Hi' with ⟨Hir, Hi⟩
  iapply ((K (F := F)).wp_run (D (F := F)) 𝒱 (EH := EH) (P := PP m) κ d 0)
  isplitr; · iexact Hctx
  isplitl [Hst]; · iexact Hst
  isplitl [Hh Hi Ho]
  · rw [st0_eq]
    isplitl [Hh]; · iexact Hh
    isplitl [Hi]; · iexact Hi
    iexact Ho
  iintro ⟨Hst, Hdn⟩
  ihave Hdn' := (Entails.of_eq (dn0_eq m d)) $$ Hdn
  icases Hdn' with ⟨Hh, Hi, Ho⟩
  ihave Hh' := (dealt_shares (ℓ := hLoc d) (Hv m d)).2 $$ [Hhr Hh]
  · isplitl [Hhr] <;> iassumption
  ihave Hi' := (dealt_shares (ℓ := iLoc d) (Iv m d)).2 $$ [Hir Hi]
  · isplitl [Hir] <;> iassumption
  iapply Hk
  isplitl [Hst]; · iexact Hst
  isplitr [Hrest]
  · isplitl [Hh']; · rw [show W2 m d (Proc.devRef .tc main_v19) = Hv m d from Function.update_of_ne (by decide) _ _]; iexact Hh'
    isplitl [Hi']; · rw [show W2 m d (Proc.devRef .tc main_arg1) = Iv m d from Function.update_of_ne (by decide) _ _]; iexact Hi'
    rw [show W2 m d (Proc.devRef .tc main_v20) = outC (Hv m d) (Iv m d) from Function.update_self _ _ _]; iexact Ho
  iexact Hrest

end Values

/-! ## @main's run -/

section Run

variable (m : (ℓ : Loc nD τ sig) → Buf (Elt F) ℓ) (ρ : Dev nD → PrngReg) [∀ e, Nonempty (Elt F e)]

/-- The pipelines' cells are distinct. -/
theorem phinj : Function.Injective (Pipeline.cellOf (nD := nD) (τ := τ) (Pipeline.pin (pcfgs (F := F)) adm)) := cellOf_inj

/-- What a device's TensorCore calls start from. -/
abbrev G (d : Dev nD) : sProp (MT nD τ sig (HIx 1) (Elt F) ℕ UU ℕ) :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

theorem G_split (d : Dev nD) : G (F := F) d = iprop((Pipeline.cellsGhost (Pipeline.pin (pcfgs (F := F)) adm) EP 0 d ∗ Pipeline.cellsGhost (Pipeline.pin (pcfgs (F := F)) adm) EP 1 d)
    ∗ (Pipeline.toksInit (Pipeline.pin (pcfgs (F := F)) adm) EP 0 d ∗ Pipeline.toksInit (Pipeline.pin (pcfgs (F := F)) adm) EP 1 d)) := by
  unfold G
  exact congrArg₂ _ (bigSep_W1 _) (bigSep_W1 _)

/-- A TensorCore call, by its region. -/
theorem tc_step {pdats : (p : Fin 2) → (c : Dev nD) → Dat τ (Elt F) (HIx 1) ℕ UU ℕ (Pipeline.pin (pcfgs (F := F)) adm p) c} {p : Fin 2}
    (R : Pipeline.RegionSeg (pcfgs (F := F)) adm pdats (none : HIx 1) defs₀ Variants.none (K (F := F)).L (K (F := F)).lev p) (d : Dev nD)
    (Φ : PUnit → sProp (MT nD τ sig (HIx 1) (Elt F) ℕ UU ℕ)) :
    iprop((iprop(boundary (d.tc : Thread nD τ) ∗ R.post d) -∗ Φ ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ (callTc (F := F) p) Φ := by
  have key : iprop((iprop(boundary (d.tc : Thread nD τ) ∗ R.post d) -∗ Φ ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (D (F := F)) 𝒱 (T d) none) Set.univ (Prog.lift (.customCall (Pipeline.entry p) ())) Φ := by
    iintro ⟨Hk, H⟩
    iapply (R.wp (pcfgs (F := F)) adm pdats none phinj EP defs₀ Variants.none (K (F := F)).L (K (F := F)).lev d none (fun _ h => nomatch h) (fun x => .ret x) Φ)
    isplitl [Hk]
    · iintro H
      rw [wp_ret]
      imodintro
      iapply Hk; iexact H
    iexact H
  exact BI.Entails.trans key ((K (F := F)).wp_liftProg (D (F := F)) 𝒱 (T d) Set.univ none (Prog.lift (.customCall (Pipeline.entry p) ())) Φ)

/-- What the core waits at and owes, of a handshake state after the call. -/
theorem tcSt_owes (d : Dev nD) : ((K (F := F)).tcSt EH d 1 : sProp (MT nD τ sig (HIx 1) (Elt F) ℕ UU ℕ))
    ⊢ iprop((∃ W, owes (T d) (0 : CellTallies nD τ sig (HIx 1)) W) ∗ ((∃ W, owes (T d) (0 : CellTallies nD τ sig (HIx 1)) W) -∗ (K (F := F)).tcSt EH d 1)) := by
  unfold SparseCore.Cfg.tcSt
  rw [(K (F := F)).Otc_end d (Nat.le_refl 1)]
  iintro ⟨⟨%W, -, HO⟩, H⟩
  isplitl [HO]; · iexists W; iexact HO
  iintro ⟨%W', HO⟩
  isplitl [HO]
  · iexists W'; isplitr
    · ipureintro
      intro p _
      rcases hp : p.2 with _ | q
      · exact Nat.zero_le _
      · refine ((K (F := F)).lev_some_le _ q).trans ?_
        have := q.isLt
        show 8 * q.val + 7 ≤ 8 * 1
        omega
    · iexact HO
  iexact H

/-- What @main leaves. -/
abbrev FIN (d : Dev nD) : sProp (MT nD τ sig (HIx 1) (Elt F) ℕ UU ℕ) := StableHlo.held (T d) (Pipeline.ucRefs τ sig) (W5 m d)

theorem preOps_sub : ∀ op ∈ preOps (F := F), op.bufs ⊆ Pipeline.ucRefs τ sig := by
  intro op h
  refine Pipeline.sub_ucRefs op ?_
  simp only [preOps, List.mem_cons, List.not_mem_nil, or_false] at h
  rcases h with h | h | h | h | h | h | h | h | h | h | h | h | h | h | h | h | h | h | h | h <;> subst h <;>
    first
      | exact StableHlo.unary_bufs_sub ..
      | exact StableHlo.reshape_bufs_sub ..
      | exact StableHlo.binary_bufs_sub ..
      | exact StableHlo.nullary_bufs_sub ..

theorem preOps_fresh : ∀ op ∈ preOps (F := F), op.fresh = ∅ := by
  intro op h
  simp only [preOps, List.mem_cons, List.not_mem_nil, or_false] at h
  rcases h with h | h | h | h | h | h | h | h | h | h | h | h | h | h | h | h | h | h | h | h <;> subst h <;> rfl

theorem midOp_sub : ∀ op ∈ [midOp (F := F)], op.bufs ⊆ Pipeline.ucRefs τ sig := by
  intro op h
  obtain rfl := List.mem_singleton.mp h
  exact Pipeline.sub_ucRefs _ (StableHlo.reshape_bufs_sub ..)

theorem midOp_fresh : ∀ op ∈ [midOp (F := F)], op.fresh = ∅ := by
  intro op h
  obtain rfl := List.mem_singleton.mp h
  rfl

theorem launch_held (d : Dev nD) : (unscopedBufs d (fun b => m ((SparseCore.T d).loc b)) : sProp (MT nD τ sig (HIx 1) (Elt F) ℕ UU ℕ))
    = StableHlo.held (SparseCore.T d) (Pipeline.ucRefs τ sig) (W0 m d) := by
  have h := Pipeline.unscopedBufs_held (Ix := HIx 1) (Val := Elt F) (Name := ℕ) (U := UU) (Lvl := ℕ) d (W0 m d)
  unfold W0 at h ⊢
  exact h

/-- TensorCore call 1 at these values. -/
abbrev regA1 := reg1 (fun c b => W2 m c (Proc.devRef .tc b)) (fun c b => W3 m c (Proc.devRef .tc b)) (fun _ => iprop(emp))
    (fun c => Function.update_self _ _ _) (fun c b h => Function.update_of_ne (StableHlo.devRef_ne_of_ne h) _ _)

theorem regA1_pre (d : Dev nD) : iprop(StableHlo.held (SparseCore.T d) (Pipeline.ucRefs τ sig) (W2 m d) ∗ ∃ W, owes (SparseCore.T d) (0 : CellTallies nD τ sig (HIx 1)) W)
    ⊢ ((regA1 m).pre d : sProp (MT nD τ sig (HIx 1) (Elt F) ℕ UU ℕ)) := by
  show _ ⊢ iprop(unscopedBufs d (fun b => W2 m d (Proc.devRef .tc b)) ∗ emp ∗ ∃ W, owes (SparseCore.T d) (0 : CellTallies nD τ sig (HIx 1)) W)
  rw [Pipeline.unscopedBufs_held d (W2 m d)]
  iintro ⟨Hu, HO⟩
  isplitl [Hu]; · iexact Hu
  isplitr; · iempintro
  iexact HO

theorem regA1_post (d : Dev nD) : ((regA1 m).post d : sProp (MT nD τ sig (HIx 1) (Elt F) ℕ UU ℕ))
    ⊢ iprop(StableHlo.held (SparseCore.T d) (Pipeline.ucRefs τ sig) (W3 m d) ∗ ∃ W, owes (SparseCore.T d) (0 : CellTallies nD τ sig (HIx 1)) W) := by
  show iprop(unscopedBufs d (fun b => W3 m d (Proc.devRef .tc b)) ∗ emp ∗ ∃ W, owes (SparseCore.T d) (0 : CellTallies nD τ sig (HIx 1)) W) ⊢ _
  rw [Pipeline.unscopedBufs_held d (W3 m d)]
  iintro ⟨Hu, -, HO⟩
  isplitl [Hu]; · iexact Hu
  iexact HO

/-- TensorCore call 2 at these values. -/
abbrev regA2 := reg2 (fun c b => W4 m c (Proc.devRef .tc b)) (fun c b => W5 m c (Proc.devRef .tc b)) (fun _ => iprop(emp))
    (fun c => Function.update_self _ _ _) (fun c b h => Function.update_of_ne (StableHlo.devRef_ne_of_ne h) _ _)

theorem regA2_pre (d : Dev nD) : iprop(StableHlo.held (SparseCore.T d) (Pipeline.ucRefs τ sig) (W4 m d) ∗ ∃ W, owes (SparseCore.T d) (0 : CellTallies nD τ sig (HIx 1)) W)
    ⊢ ((regA2 m).pre d : sProp (MT nD τ sig (HIx 1) (Elt F) ℕ UU ℕ)) := by
  show _ ⊢ iprop(unscopedBufs d (fun b => W4 m d (Proc.devRef .tc b)) ∗ emp ∗ ∃ W, owes (SparseCore.T d) (0 : CellTallies nD τ sig (HIx 1)) W)
  rw [Pipeline.unscopedBufs_held d (W4 m d)]
  iintro ⟨Hu, HO⟩
  isplitl [Hu]; · iexact Hu
  isplitr; · iempintro
  iexact HO

theorem regA2_post (d : Dev nD) : ((regA2 m).post d : sProp (MT nD τ sig (HIx 1) (Elt F) ℕ UU ℕ))
    ⊢ iprop(StableHlo.held (SparseCore.T d) (Pipeline.ucRefs τ sig) (W5 m d) ∗ ∃ W, owes (SparseCore.T d) (0 : CellTallies nD τ sig (HIx 1)) W) := by
  show iprop(unscopedBufs d (fun b => W5 m d (Proc.devRef .tc b)) ∗ emp ∗ ∃ W, owes (SparseCore.T d) (0 : CellTallies nD τ sig (HIx 1)) W) ⊢ _
  rw [Pipeline.unscopedBufs_held d (W5 m d)]
  iintro ⟨Hu, -, HO⟩
  isplitl [Hu]; · iexact Hu
  iexact HO

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [main_eq, launch_held, G_split]
  iintro ⟨#Hctx, Hst, ⟨Hb, Hu, Hts, -⟩, ⟨⟨Hc0, Hc1⟩, ⟨Ht0, Ht1⟩⟩⟩
  ihave #Hlv := ((K (F := F)).ctx_levAts (EH := EH) (P := PP m) κ) $$ Hctx
  iapply (StableHlo.wp_seq (defs := (K (F := F)).defs (D (F := F))) 𝒱 none Set.univ d (Pipeline.ucRefs τ sig) _ preOps preOps_sub preOps_fresh (W0 m d)) $$ [Hb Hu]
  · isplitl [Hb]; · iexact Hb
    iexact Hu
  iintro ⟨Hb, Hu⟩
  rw [wp_bind]
  iapply (sc_step m κ d)
  isplitr; · iexact Hctx
  isplitl [Hst]; · iexact Hst
  isplitl [Hu]; · iexact Hu
  iintro ⟨Hst, Hu⟩
  ihave Hst' := (tcSt_owes (F := F) d) $$ Hst
  icases Hst' with ⟨HO, Hst⟩
  rw [wp_bind]
  iapply (tc_step (regA1 m) d)
  isplitr [Hb Hu HO Hc0 Ht0]; rotate_left
  · isplitl [Hb]; · iexact Hb
    isplitl [Hu HO]
    · iapply (regA1_pre m d)
      isplitl [Hu]; · iexact Hu
      iexact HO
    isplitr; · iexact Hlv
    isplitl [Hc0]; · iexact Hc0
    iexact Ht0
  iintro ⟨Hb, Hp⟩
  ihave Hp' := (regA1_post m d) $$ Hp
  icases Hp' with ⟨Hu, HO⟩
  iapply (StableHlo.wp_seq (defs := (K (F := F)).defs (D (F := F))) 𝒱 none Set.univ d (Pipeline.ucRefs τ sig) _ [midOp] midOp_sub midOp_fresh (W3 m d)) $$ [Hb Hu]
  · isplitl [Hb]; · iexact Hb
    iexact Hu
  iintro ⟨Hb, Hu⟩
  rw [wp_bind]
  iapply (tc_step (regA2 m) d)
  isplitr [Hb Hu HO Hc1 Ht1]; rotate_left
  · isplitl [Hb]; · iexact Hb
    isplitl [Hu HO]
    · iapply (regA2_pre m d)
      isplitl [Hu]; · iexact Hu
      iexact HO
    isplitr; · iexact Hlv
    isplitl [Hc1]; · iexact Hc1
    iexact Ht1
  iintro ⟨Hb, Hp⟩
  ihave Hp' := (regA2_post m d) $$ Hp
  icases Hp' with ⟨Hu, HO⟩
  rw [wp_pure]
  imodintro
  isplitl [Hst HO]; · iapply Hst; iexact HO
  isplitl [Hu]; · iexact Hu
  isplitl [Hb] <;> iassumption

/-! ## The launch -/

/-- The launch element of the ghost state. -/
def u₀ : UU := (initOf (K (F := F)).hsCells (K (F := F)).hsToks,
  (initOf (Pipeline.cells (nD := nD) (τ := τ) (Pipeline.pin (pcfgs (F := F)) adm) phinj) (Pipeline.launchToks (Pipeline.pin (pcfgs (F := F)) adm) phinj), 1))

theorem ownU_three (a : UH) (b : UP) : (ownU ((a, (b, 1)) : UU) : sProp (MT nD τ sig (HIx 1) (Elt F) ℕ UU ℕ)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem hu₀ : (ownU (u₀ (F := F)) : sProp (MT nD τ sig (HIx 1) (Elt F) ℕ UU ℕ))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_three (F := F) _ _) $$ Hu
  icases H with ⟨HH, HP⟩
  imod (Pipeline.fund_ghost (Pipeline.pin (pcfgs (F := F)) adm) EP phinj) $$ HP with ⟨Hc, Ht⟩
  imodintro
  isplitl [HH]; · iexact HH
  isplitl [Hc Ht]
  · rw [bigSep_sep']
    isplitl [Hc] <;> iassumption
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1),
    show (bigSep (Finset.univ : Finset (Thread nD τ)) fun _ => (iprop(emp) : sProp (MT nD τ sig (HIx 1) (Elt F) ℕ UU ℕ))) = iprop(emp) from bigSep_emp_const _]
  iempintro

end Run

section Claims

variable (m : (ℓ : Loc nD τ sig) → Buf (Elt F) ℓ) (ρ : Dev nD → PrngReg) [∀ e, Nonempty (Elt F e)]

/-- Where the arguments and the result lie. -/
abbrev aLoc (d : Dev nD) : Loc nD τ sig := (d.tc : Thread nD τ).loc main_arg0
abbrev rLoc (d : Dev nD) : Loc nD τ sig := (d.tc : Thread nD τ).loc main_v23

/-- The host operations before the call write none of the arguments. -/
theorem preOps_keep (V : Valuation τ sig (Elt F)) {r : Ref sig .tc}
    (hr : r ∉ [main_v0, main_v1, main_v2, main_v3, main_v4, main_v5, main_v6, main_v7, main_v8, main_v9, main_v10, main_v11, main_v12, main_v13, main_v14,
      main_v15, main_v16, main_v17, main_v18, main_v19]) :
    StableHlo.after preOps V (Proc.devRef .tc r) = V (Proc.devRef .tc r) :=
  StableHlo.after_unwritten _ rfl hr V

theorem Iv_eq (d : Dev nD) : Iv m d = m (iLoc d) := preOps_keep (W0 m d) (by decide)

/-- A buffer that the calls and the host operations do not write is as at launch. -/
theorem W5_keep (d : Dev nD) {r : Ref sig .tc} (h20 : r ≠ main_v20) (h21 : r ≠ main_v21) (h22 : r ≠ main_v22) (h23 : r ≠ main_v23)
    (hr : r ∉ [main_v0, main_v1, main_v2, main_v3, main_v4, main_v5, main_v6, main_v7, main_v8, main_v9, main_v10, main_v11, main_v12, main_v13, main_v14,
      main_v15, main_v16, main_v17, main_v18, main_v19]) :
    W5 m d (Proc.devRef .tc r) = W0 m d (Proc.devRef .tc r) :=
  (Function.update_of_ne (StableHlo.devRef_ne_of_ne h23) _ _).trans <|
    (StableHlo.after_unwritten [main_v22] rfl (by simpa using h22) _).trans <|
      (Function.update_of_ne (StableHlo.devRef_ne_of_ne h21) _ _).trans <|
        (Function.update_of_ne (StableHlo.devRef_ne_of_ne h20) _ _).trans (preOps_keep _ hr)

/-- The arguments and the result, as references. -/
def endRefs : Finset (DevRef τ sig) := {Proc.devRef .tc main_arg0, Proc.devRef .tc main_arg1, Proc.devRef .tc main_v23}

theorem endRefs_sub : endRefs ⊆ Pipeline.ucRefs τ sig := by
  intro b hb
  simp only [endRefs, Finset.mem_insert, Finset.mem_singleton] at hb
  rcases hb with rfl | rfl | rfl <;> exact Finset.mem_filter.mpr ⟨StableHlo.devRef_mem_tcRefs _, by decide⟩

theorem held_end (d : Dev nD) (W : Valuation τ sig (Elt F)) :
    (StableHlo.held (SparseCore.T d) endRefs W : sProp 𝕄)
      = iprop((aLoc d ↦{fullShare} W (Proc.devRef .tc main_arg0)) ∗ (iLoc d ↦{fullShare} W (Proc.devRef .tc main_arg1)) ∗ (rLoc d ↦{fullShare} W (Proc.devRef .tc main_v23))) := by
  unfold StableHlo.held endRefs
  rw [SparseCore.bigSep_insert' (by decide), SparseCore.bigSep_insert' (by decide), bigSep_singleton]

/-- What holds of a device's memory at the end. -/
def fq (d : Dev nD) (s' : Phys nD τ sig (Elt F)) : Prop :=
  s'.mem.mem (aLoc d) = m (aLoc d) ∧ s'.mem.mem (iLoc d) = m (iLoc d) ∧ s'.mem.mem (rLoc d) = W5 m d (Proc.devRef .tc main_v23)

/-- A buffer held whole is what the memory has. -/
theorem held_agree (ℓ : Loc nD τ sig) (f : Buf (Elt F) ℓ) (s' : Phys nD τ sig (Elt F)) :
    iprop(SI s' ∗ ℓ ↦{fullShare} f) ⊢ (iprop(⌜s'.mem.mem ℓ = f⌝ ∗ SI s' ∗ ℓ ↦{fullShare} f) : sProp 𝕄) := by
  iintro H
  ihave H' := (persistent_entails_right (SI_pointsTo_agree (st := s') (ℓ := ℓ) (I := Finset.univ) (q := fullShare) (f := f))) $$ H
  icases H' with ⟨%h, H⟩
  isplitr
  · ipureintro; exact funext fun (i : Idx ℓ) => h i (Finset.mem_univ i)
  iexact H

theorem hfin (d : Dev nD) (s' : Phys nD τ sig (Elt F)) : iprop(FIN m d ∗ SI s') ⊢ (⌜fq m d s'⌝ : sProp 𝕄) := by
  unfold FIN
  rw [StableHlo.held_sub_split (SparseCore.T d) endRefs_sub, held_end]
  iintro ⟨⟨⟨Ha, Hi, Hr⟩, -⟩, HSI⟩
  ihave H := (held_agree _ _ s') $$ [HSI Ha]
  · isplitl [HSI] <;> iassumption
  icases H with ⟨%h1, HSI, -⟩
  ihave H := (held_agree _ _ s') $$ [HSI Hi]
  · isplitl [HSI] <;> iassumption
  icases H with ⟨%h2, HSI, -⟩
  ihave H := (held_agree _ _ s') $$ [HSI Hr]
  · isplitl [HSI] <;> iassumption
  icases H with ⟨%h3, -, -⟩
  ipureintro
  exact ⟨h1.trans (W5_keep m d (by decide) (by decide) (by decide) (by decide) (by decide)),
    h2.trans (W5_keep m d (by decide) (by decide) (by decide) (by decide) (by decide)), h3⟩

/-- What holds of the final state. -/
def QC : PUnit × MemSt nD τ sig (Elt F) → Prop := fun r =>
  (∀ d : Dev nD, r.2.mem (aLoc d) = m (aLoc d) ∧ r.2.mem (iLoc d) = m (iLoc d) ∧ r.2.mem (rLoc d) = W5 m d (Proc.devRef .tc main_v23)) ∧ r.2.sem = fun _ => 0

/-- The program's run, from segment numbers below 128. -/
theorem run_main (hI : ∀ (d : Dev nD) x, (m (iLoc d) x : BitVec 32).toNat < 128) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (Hv m) (Iv m) (fov m) (fun d x => by rw [Iv_eq]; exact hI d x))
    (fun q _ => match q with | 0 => SparseCore.Cfg.VecSplit.of_plain (vecSplit (Hv m) (Iv m) (fov m)))
    m ρ main G (FIN m) (u₀ (F := F)) (sep_elim_left.trans (hu₀ m)) (hmain m ρ) (fq m) (hfin m) (QC m) (fun _ h hz => ⟨h, hz⟩)

end Claims

end Cert.Proof.SegMax

end
-- ==== Proof.Same.lean ====
/-
  The program as printed and its idealized text, at the bits, are the same programs.
-/
module

public import proofs.«01_k».proof.Defs
public import proofs.«01_k».proof.Proof.Gen.Kernel
public import proofs.«01_k».proof.Proof.Gen.KernelIdeal

@[expose] public section

noncomputable section

namespace Cert.Proof.SegMax

open Idealize.ShloMosaic Idealize.SL.Sem

set_option maxHeartbeats 0 in
/-- The sparse call's body. -/
theorem body_same : @Cert.Kernel.cc0_k Bits _ _ = @Cert.KernelIdeal.cc0_k Bits _ _ := rfl

end Cert.Proof.SegMax

end
-- ==== Proof.Frames.lean ====
/-
  What the preconditions say of the segment numbers, and the frames.
-/
module

public import proofs.«01_k».proof.Defs
public import proofs.«01_k».proof.Proof.Main
public import proofs.«01_k».proof.Proof.Same
public import proofs.«01_k».proof.Proof.Gen.Kernel
public import proofs.«01_k».proof.Proof.Gen.ReferenceIdeal.Run
public import proofs.«01_k».proof.Proof.Gen.Pre_ids_in_range
public import proofs.«01_k».proof.Proof.Gen.Pre_ids_sorted_in_range
public import Idealize.ShloMosaic.Lib.ReduceAll

@[expose] public section

noncomputable section

namespace Cert.Proof.SegMax

open Cert.KernelIdeal Idealize.ShloMosaic Idealize.SL.Sem

/-! ## The preconditions -/

theorem one_of_and (a b : Bool) : IntOp.andi (BitVec.ofBool a) (BitVec.ofBool b) = 1#1 ↔ a = true ∧ b = true := by
  cases a <;> cases b <;> decide

theorem ofBool_one (a : Bool) : BitVec.ofBool a = 1#1 ↔ a = true := by cases a <;> decide

/-- A word from 0 to below 128 as a signed number is below 128 as an unsigned one. -/
theorem word_range (v : BitVec 32) (e : IntOp.andi (IntOp.cmpi .sge v 0#32) (IntOp.cmpi .slt v 128#32) = 1#1) : v.toNat < 128 := by
  simp only [IntOp.cmpi, one_of_and, BitVec.sle_eq_decide, BitVec.slt_eq_decide, decide_eq_true_eq, BitVec.toInt_eq_toNat_cond, BitVec.toNat_ofNat,
    Nat.reducePow, Nat.reduceMod] at e
  omega

/-- Two words below 128 that are in signed order are in order. -/
theorem word_le (v w : BitVec 32) (hv : v.toNat < 128) (hw : w.toNat < 128) (e : IntOp.cmpi .sle v w = 1#1) : v.toNat ≤ w.toNat := by
  simp only [IntOp.cmpi, ofBool_one, BitVec.sle_eq_decide, decide_eq_true_eq, BitVec.toInt_eq_toNat_cond, Nat.reducePow] at e
  omega

instance : Subsingleton Cert.Pre_ids_in_range.S_.Idx := ⟨fun _ _ => funext fun a => a.elim0⟩
instance : Subsingleton Cert.Pre_ids_sorted_in_range.S_.Idx := ⟨fun _ _ => funext fun a => a.elim0⟩

/-- The first precondition: every segment number is below 128. -/
theorem in_range {F : FTy → Type} [FloatOps F] (X : S100000x128.Idx → Elt F .f32) (I : S100000.Idx → BitVec 32)
    (h : Cert.Pre_ids_in_range.fn (F := F) X I = fun _ => 1#1) (x : S100000.Idx) : (I x).toNat < 128 := by
  have e := congrFun h (fun a => a.elim0)
  unfold Cert.Pre_ids_in_range.fn at e
  exact word_range _ (Host.reduce_andi_all _ _ _ _ _ e x)

/-- The second precondition: every segment number is below 128, and none is above the next. -/
theorem in_range_sorted {F : FTy → Type} [FloatOps F] (X : S100000x128.Idx → Elt F .f32) (I : S100000.Idx → BitVec 32)
    (h : Cert.Pre_ids_sorted_in_range.fn (F := F) X I = fun _ => 1#1) :
    (∀ x : S100000.Idx, (I x).toNat < 128) ∧ ∀ x y : S100000.Idx, (x 0).val + 1 = (y 0).val → (I x).toNat ≤ (I y).toNat := by
  have e := congrFun h (fun a => a.elim0)
  unfold Cert.Pre_ids_sorted_in_range.fn at e
  obtain ⟨e1, e2⟩ := IntOp.andi_eq_one.mp e
  have hr : ∀ x : S100000.Idx, (I x).toNat < 128 := fun x => word_range _ (Host.reduce_andi_all _ _ _ _ _ e1 x)
  refine ⟨hr, fun x y hxy => ?_⟩
  have hy : (y 0).val < 100000 := (y 0).isLt
  have e3 := Host.reduce_andi_all _ _ _ _ _ e2 (fun a => ⟨(x 0).val, by rw [Subsingleton.elim a 0]; show (x 0).val < 99999; omega⟩ : Cert.Pre_ids_sorted_in_range.S99999.Idx)
  have hx0 : ∀ z w : S100000.Idx, (z 0).val = (w 0).val → z = w := fun z w h => funext fun a => by rw [Subsingleton.elim a 0]; exact Fin.ext h
  have e4 := word_le _ _ (hr _) (hr _) e3
  have key : ∀ z w : S100000.Idx, (z 0).val = (x 0).val → (w 0).val = (y 0).val → (I z).toNat ≤ (I w).toNat → (I x).toNat ≤ (I y).toNat := fun z w hz hw e => by
    rwa [hx0 z x hz, hx0 w y hw] at e
  refine key _ _ ?_ ?_ e4
  · simp
  · simp; omega

/-! ## The frames -/

open Cert.KernelIdeal Cert.KernelIdeal.Gen in
/-- The bodies of the three calls. -/
theorem defs0_same : Cert.Kernel.defs₀ (F := Bits) = Cert.KernelIdeal.defs₀ (F := Bits) := by
  funext p ℓ a
  rcases p with _ | c | ⟨c, s⟩
  · match ℓ, a with | 0, _ => rfl | 1, _ => rfl | 2, _ => rfl
  · rfl
  · match ℓ, a with
    | 0, _ => exact congrArg (fun k : type_of% (@Cert.KernelIdeal.cc0_k Bits _ _) => SparseCore.onTile hcore0 hsub0 (fun c s => k (fun | 0 => c | 1 => s | ⟨_ + 2, h⟩ => absurd h (Nat.not_lt.2 (Nat.le_add_left _ _))) (Memref.whole main_v19_scv) (Memref.isWhole_whole _) (Memref.whole main_arg1_scv) (Memref.isWhole_whole _) (Memref.whole main_v20_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scoped0 cc0_scoped1 cc0_scoped2 cc0_scoped3) ⟨⟩ c s) body_same
    | 1, _ => rfl
    | 2, _ => rfl

/-- The programs of every call. -/
theorem defs_same : Cert.Kernel.defs (F := Bits) = Cert.KernelIdeal.defs (F := Bits) := by
  unfold Cert.Kernel.defs Cert.KernelIdeal.defs
  rw [defs0_same]; rfl

/-- The run of the program as printed, at its bits. -/
theorem frame_kernel : Cert.quiescent_Kernel := fun m ρ hpre => by
  have h : θ_run (Cert.KernelIdeal.defs (F := Bits)) (Cert.KernelIdeal.threads (F := Bits)) ⟨m, fun _ => 0, ρ⟩
      (fun r => (∀ c : Dev Cert.KernelIdeal.nD, r.2.mem (aLoc c) = m (aLoc c) ∧ r.2.mem (iLoc c) = m (iLoc c)) ∧ r.2.sem = fun _ => 0) :=
    (θ_run Cert.KernelIdeal.defs _ _).mono (fun _ h => ⟨fun c => ⟨(h.1 c).1, (h.1 c).2.1⟩, h.2⟩)
      (run_main (F := Bits) m ρ fun d x => in_range (F := Bits) _ _ (hpre d) x)
  rw [← defs_same] at h
  exact h

/-- The run of its idealized text, from segment numbers in range, -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d x => in_range (F := Ideal) _ _ (hpre d) x)

/-- and from sorted ones. -/
theorem frame_ideal_sorted : Cert.quiescent_KernelIdeal_pre_ids_sorted_in_range := fun m ρ hpre =>
  (θ_run Cert.KernelIdeal.defs _ _).mono (fun _ h => ⟨fun c => ⟨(h.1 c).1, (h.1 c).2.1⟩, h.2⟩)
    (run_main (F := Ideal) m ρ fun d x => (in_range_sorted (F := Ideal) _ _ (hpre d)).1 x)

/-- The reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_sorted : Cert.quiescent_ReferenceIdeal_pre_ids_sorted_in_range := fun m ρ _ => frame_reference m ρ trivial

end Cert.Proof.SegMax

end
-- ==== Proof.Bounds.lean ====
/-
  What bounds the sparse call's results: exactly the rows of their segments.
-/
module

public import proofs.«01_k».proof.Proof.Main
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.Frame
public import Idealize.ShloMosaic.Lib.VecWindow
public import Idealize.ShloMosaic.Lib.StableHlo.RunRead
public import Idealize.ShloMosaic.Lib.Tactic

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type}

local notation "𝕄" => MT nD τ sig (HIx 1) (Elt F) ℕ UU ℕ

open Idealize.ShloMosaic

/-! ## Bounds of the sparse call's folds -/

/-- The pattern of the smallest number is the least element. -/
theorem negInf : (FloatOps.ofBits .f32 0xFF800000#32 : Ideal .f32) = (⊥ : EReal) := by
  show Ideal.ofBits .f32 0xFF800000#32 = ⊥
  simp [Ideal.ofBits, Ideal.ieee]

theorem forall_lt_add (m n : ℕ) (P : ℕ → Prop) : (∀ r < m + n, P r) ↔ (∀ r < m, P r) ∧ ∀ r < n, P (m + r) :=
  ⟨fun h => ⟨fun r hr => h r (by omega), fun r hr => h _ (by omega)⟩, fun h r hr => by
    rcases Nat.lt_or_ge r m with hm | hm
    · exact h.1 r hm
    · have := h.2 (r - m) (by omega); rwa [Nat.add_sub_cancel' hm] at this⟩

theorem pairS_le (y : EReal) : ∀ l : List (Ideal .f32), (∀ v ∈ pairS l, (v : EReal) ≤ y) ↔ ∀ v ∈ l, (v : EReal) ≤ y
  | [] => Iff.rfl
  | [_] => Iff.rfl
  | a :: b :: r => by
    simp only [pairS, List.forall_mem_cons, pairS_le y r, Ideal.maximumf_def, max_le_iff, and_assoc]

theorem pairS_length : ∀ (n : ℕ) (l : List (Ideal .f32)), l.length = 2 * n → (pairS l).length = n
  | 0, [], _ => rfl
  | n + 1, a :: b :: r, h => by
    simp only [pairS, List.length_cons, pairS_length n r (by simp only [List.length_cons] at h; omega)]
  | n + 1, [_], h => by simp only [List.length_cons, List.length_nil] at h; omega

theorem treeS_le (y : EReal) : ∀ (n : ℕ) (l : List (Ideal .f32)), l.length = 2 ^ n → ((treeS n l : EReal) ≤ y ↔ ∀ v ∈ l, (v : EReal) ≤ y)
  | 0, [a], _ => by simp only [treeS, List.forall_mem_cons, List.not_mem_nil, false_imp_iff, implies_true, and_true]
  | n + 1, l, h => by
    show (treeS n (pairS l) : EReal) ≤ y ↔ _
    rw [treeS_le y n _ (pairS_length _ _ (by rw [h, Nat.pow_succ]; omega)), pairS_le]

theorem treeG_le (y : EReal) (R : Rows Ideal) (q lv c : ℕ) : (treeG R q (2 ^ lv) lv c : EReal) ≤ y ↔ ∀ r < 2 ^ lv, (lane R (q + r) c : EReal) ≤ y := by
  unfold treeG
  rw [treeS_le y lv _ (by simp)]
  simp only [List.forall_mem_map, List.mem_range', forall_exists_index, and_imp]
  exact ⟨fun h r hr => h _ r hr (by omega), fun h _ r hr e => by rw [e, Nat.one_mul]; exact h r hr⟩

theorem upd_le (y : EReal) (sid : ℕ) (g : ℕ → Ideal .f32) (a : Acc Ideal) (x : S16384.Idx) :
    (upd sid 128 g a x : EReal) ≤ y ↔ (a x : EReal) ≤ y ∧ ((x 0).val / 128 = sid → (g ((x 0).val % 128) : EReal) ≤ y) := by
  unfold upd
  have h : (x 0).val % 128 < 128 := Nat.mod_lt _ (by decide)
  by_cases e : (x 0).val / 128 = sid
  · rw [if_pos ⟨e, h⟩, Ideal.maximumf_def, max_le_iff]; simp only [e, true_imp_iff]
  · rw [if_neg fun h => e h.1]; simp only [e, false_imp_iff, and_true]

section Steps
variable (y : EReal) (ids : ℕ → BitVec 32) (R : Rows Ideal) (x : S16384.Idx)

/-- The rows `q …` that go to the segment of the element `x` are at most `y` there. -/
def RowsLe (p q n : ℕ) : Prop := ∀ r < n, (x 0).val / 128 = (ids (p + r)).toNat → (lane R (q + r) ((x 0).val % 128) : EReal) ≤ y

theorem rowsLe_add (p q m n : ℕ) : RowsLe y ids R x p q (m + n) ↔ RowsLe y ids R x p q m ∧ RowsLe y ids R x (p + m) (q + m) n := by
  unfold RowsLe
  rw [forall_lt_add]; simp only [Nat.add_assoc]

theorem rowsStep_le : ∀ (n p q : ℕ) (a : Acc Ideal), (rowsStep ids R p q n a x : EReal) ≤ y ↔ (a x : EReal) ≤ y ∧ RowsLe y ids R x p q n
  | 0, p, q, a => by simp only [rowsStep, RowsLe, Nat.not_lt_zero, false_imp_iff, implies_true, and_true]
  | n + 1, p, q, a => by
    show (rowsStep ids R (p + 1) (q + 1) n _ x : EReal) ≤ y ↔ _
    rw [rowsStep_le n, upd_le, Nat.add_comm n 1, rowsLe_add, and_assoc]
    refine and_congr_right fun _ => and_congr_left fun _ => ?_
    unfold RowsLe
    exact ⟨fun h r hr => by rw [show r = 0 by omega]; exact h, fun h => h 0 (by omega)⟩

/-- Rows all of one segment, taken at once. -/
theorem tree_le {M : ℕ} (hs : ∀ i j, i ≤ j → j < M → (ids i).toNat ≤ (ids j).toNat) (p q lv k : ℕ) (hk : k + 1 = 2 ^ lv) (hp : p + k < M) (e : ids p = ids (p + k)) (a : Acc Ideal) :
    (upd (ids p).toNat 128 (treeG R q (2 ^ lv) lv) a x : EReal) ≤ y ↔ (a x : EReal) ≤ y ∧ RowsLe y ids R x p q (2 ^ lv) := by
  have he : ∀ r < 2 ^ lv, (ids (p + r)).toNat = (ids p).toNat := fun r hr => by
    have h1 := hs p (p + r) (by omega) (by omega)
    have h2 := hs (p + r) (p + k) (by omega) hp
    rw [← e] at h2; omega
  rw [upd_le, treeG_le]
  refine and_congr_right fun _ => ?_
  unfold RowsLe
  exact ⟨fun h r hr hx => h (by rw [hx, he r hr]) r hr, fun h hx r hr => h r hr (by rw [hx, he r hr])⟩

theorem grpStep_le {M : ℕ} (hs : ∀ i j, i ≤ j → j < M → (ids i).toNat ≤ (ids j).toNat) (p q : ℕ) (hp : p + 16 ≤ M) (a : Acc Ideal) :
    (grpStep ids R p q a x : EReal) ≤ y ↔ (a x : EReal) ≤ y ∧ RowsLe y ids R x p q 16 := by
  unfold grpStep
  split
  · next e => exact tree_le y ids R x hs p q 4 15 rfl (by omega) e a
  · exact rowsStep_le y ids R x 16 p q a

theorem unitStep_le {M : ℕ} (hs : ∀ i j, i ≤ j → j < M → (ids i).toNat ≤ (ids j).toNat) (p q : ℕ) (hp : p + 32 ≤ M) (a : Acc Ideal) :
    (unitStep ids R p q a x : EReal) ≤ y ↔ (a x : EReal) ≤ y ∧ RowsLe y ids R x p q 32 := by
  unfold unitStep
  split
  · next e => exact tree_le y ids R x hs p q 5 31 rfl (by omega) e a
  · rw [grpStep_le y ids R x hs _ _ (by omega), grpStep_le y ids R x hs _ _ (by omega), show (32 : ℕ) = 16 + 16 from rfl, rowsLe_add, and_assoc]

theorem unitsStep_le {M : ℕ} (hs : ∀ i j, i ≤ j → j < M → (ids i).toNat ≤ (ids j).toNat) (p q : ℕ) (a : Acc Ideal) : ∀ n : ℕ, p + 32 * n ≤ M →
    ((unitsStep ids R p q n a x : EReal) ≤ y ↔ (a x : EReal) ≤ y ∧ RowsLe y ids R x p q (32 * n))
  | 0, _ => by simp only [unitsStep, RowsLe, Nat.mul_zero, Nat.not_lt_zero, false_imp_iff, implies_true, and_true]
  | n + 1, h => by
    show (unitStep ids R _ _ (unitsStep ids R p q n a) x : EReal) ≤ y ↔ _
    rw [unitStep_le y ids R x hs _ _ (by omega), unitsStep_le hs p q a n (by omega), Nat.mul_add, Nat.mul_one, rowsLe_add, and_assoc]

end Steps

/-! ## The tiles -/

section Tiles
variable (H : S12800000.Idx → Elt Ideal .f32) (I : S100000.Idx → Elt Ideal .i32)

/-- Column `c` of row `r` of the flat features, and the segment of row `r`. -/
def feat (r c : ℕ) : EReal := H (ix 12800000 (r * 128 + c))
def segm (r : ℕ) : ℕ := (I (ix 100000 r) : BitVec 32).toNat

/-- No segment number is above the one after it. -/
def Sorted : Prop := ∀ i j, i ≤ j → j < 100000 → segm I i ≤ segm I j

/-- Among the `n` rows from `o`, those of the segment of the element `x` are at most `y` there. -/
def SegLe (y : EReal) (x : S16384.Idx) (o n : ℕ) : Prop := ∀ r < n, (x 0).val / 128 = segm I (o + r) → feat H (o + r) ((x 0).val % 128) ≤ y

variable {I} (hI : Sorted I) (y : EReal) (x : S16384.Idx)
include hI

theorem idC_toNat (o N : ℕ) [NeZero N] (n : ℕ) (hn : n < N) : (idC I o N n).toNat = segm I (o + n) := by
  show (I (ix 100000 (o + ((ix N n) 0).val)) : BitVec 32).toNat = _
  rw [ix_val N n hn]; rfl

theorem idC_sorted (o N : ℕ) [NeZero N] (h : o + N ≤ 100000) : ∀ i j, i ≤ j → j < N → (idC I o N i).toNat ≤ (idC I o N j).toNat := fun i j hij hj => by
  rw [idC_toNat hI o N i (by omega), idC_toNat hI o N j hj]; exact hI _ _ (by omega) (by omega)

theorem lane_feat (o r c : ℕ) (hr : r < 224) (hc : c < 128) : (lane (rowsAt H (o * 128)) r c : EReal) = feat H (o + r) c := by
  show H (ix 12800000 (o * 128 + ((ix 28672 (r * 128 + c)) 0).val)) = H _
  rw [ix_val 28672 _ (by omega)]
  exact congrArg (fun n => H (ix 12800000 n)) (by rw [Nat.add_mul]; omega)

/-- What a staging buffer's rows say of the rows of the array they were copied from. -/
theorem rowsLe_seg (o N : ℕ) [NeZero N] (p n : ℕ) (hp : p + n ≤ N) (hn : n ≤ 224) :
    RowsLe y (idC I o N) (rowsAt H ((o + p) * 128)) x p 0 n ↔ SegLe H I y x (o + p) n := by
  unfold RowsLe SegLe
  refine forall_congr' fun r => forall_congr' fun hr => ?_
  rw [idC_toNat hI o N _ (by omega), lane_feat H hI _ _ _ (by omega) (Nat.mod_lt _ (by decide)), Nat.zero_add, Nat.add_assoc]

theorem segLe_add (o m n : ℕ) : SegLe H I y x o (m + n) ↔ SegLe H I y x o m ∧ SegLe H I y x (o + m) n := by
  unfold SegLe; rw [forall_lt_add]; simp only [Nat.add_assoc]

theorem chunkAcc_le (o : ℕ) (ho : o + 1344 ≤ 100000) : ∀ k ≤ 6, ((chunkAcc H I o k x : EReal) ≤ y ↔ SegLe H I y x o (224 * k))
  | 0, _ => by
    show ((FloatOps.ofBits .f32 0xFF800000#32 : Ideal .f32) : EReal) ≤ y ↔ _
    rw [negInf]
    exact iff_of_true bot_le fun r hr => absurd hr (by omega)
  | k + 1, hk => by
    show (unitsStep (idC I o 1344) (rowsAt H ((o + 224 * k) * 128)) (224 * k) 0 7 (chunkAcc H I o k) x : EReal) ≤ y ↔ _
    rw [unitsStep_le y _ _ x (idC_sorted hI o 1344 ho) _ _ _ 7 (by omega), chunkAcc_le o ho k (by omega), rowsLe_seg H hI y x o 1344 _ _ (by omega) (by omega),
      Nat.mul_add, segLe_add H hI]

/-- Block `b` of 128 rows from `o` is of one segment. -/
def Uniform (I : S100000.Idx → Elt Ideal .i32) (o : ℕ) : Prop := segm I o = segm I (o + 127)

theorem blockAcc_le (o : ℕ) (ho : o + 1792 ≤ 100000) (a : Acc Ideal) : ∀ k ≤ 14,
    ((blockAcc H I o a k x : EReal) ≤ y ↔ (a x : EReal) ≤ y ∧ ∀ b < k, ¬Uniform I (o + 128 * b) → SegLe H I y x (o + 128 * b) 128)
  | 0, _ => by
    show (a x : EReal) ≤ y ↔ _
    exact ⟨fun h => ⟨h, fun b hb => absurd hb (by omega)⟩, fun h => h.1⟩
  | k + 1, hk => by
    have hu : idC I o 1792 (128 * k) = idC I o 1792 (128 * k + 127) ↔ Uniform I (o + 128 * k) := by
      unfold Uniform
      rw [← BitVec.toNat_inj, idC_toNat hI o 1792 _ (by omega), idC_toNat hI o 1792 _ (by omega), Nat.add_assoc]
    have hlast : (∀ b < k + 1, ¬Uniform I (o + 128 * b) → SegLe H I y x (o + 128 * b) 128)
        ↔ (∀ b < k, ¬Uniform I (o + 128 * b) → SegLe H I y x (o + 128 * b) 128) ∧ (¬Uniform I (o + 128 * k) → SegLe H I y x (o + 128 * k) 128) := by
      rw [forall_lt_add]
      exact and_congr_right fun _ => ⟨fun h => h 0 (by omega), fun h b hb => by rw [show b = 0 by omega]; exact h⟩
    rw [hlast, ← and_assoc, ← blockAcc_le o ho a k (by omega)]
    rw [show blockAcc H I o a (k + 1) = if idC I o 1792 (128 * k) = idC I o 1792 (128 * k + 127) then blockAcc H I o a k
      else unitsStep (idC I o 1792) (rowsAt H ((o + 128 * k) * 128)) (128 * k) 0 4 (blockAcc H I o a k) from rfl]
    split
    · next e => exact ⟨fun h => ⟨h, fun h' => absurd (hu.mp e) h'⟩, fun h => h.1⟩
    · next e =>
      rw [unitsStep_le y _ _ x (idC_sorted hI o 1792 ho) _ _ _ 4 (by omega), rowsLe_seg H hI y x o 1792 _ _ (by omega) (by omega)]
      exact and_congr_right fun _ => ⟨fun h _ => h, fun h => h fun h' => e (hu.mpr h')⟩

end Tiles

/-! ## Every row is counted -/

/-- Where the chunks of tile `w` begin. -/
def chunk0 (w : ℕ) : ℕ := 57344 + w * 41312 / 31 / 8 * 8

theorem tbase_eq : ∀ w : Fin 32, tbase (tileOf w.val) = chunk0 w.val := by decide +kernel
theorem tbb_eq : ∀ w : Fin 32, tbb (tileOf w.val) = 1792 * w.val := by decide +kernel
theorem chunk0_step : ∀ w : Fin 31, chunk0 (w.val + 1) ≤ chunk0 w.val + 1344 := by decide +kernel
theorem chunk0_le : ∀ w : Fin 32, 57344 ≤ chunk0 w.val ∧ chunk0 w.val + 1344 ≤ 100000 := by decide +kernel

/-- A row behind the blocks lies in some tile's chunks. -/
theorem chunk_cover (r : ℕ) (h0 : chunk0 0 ≤ r) (n : ℕ) : n < 32 → r < chunk0 n + 1344 → ∃ w < 32, chunk0 w ≤ r ∧ r < chunk0 w + 1344 := by
  induction n with
  | zero => exact fun hn h => ⟨0, hn, h0, h⟩
  | succ n ih =>
    intro hn h
    rcases Nat.lt_or_ge r (chunk0 (n + 1)) with hr | hr
    · exact ih (by omega) (lt_of_lt_of_le hr (chunk0_step ⟨n, by omega⟩))
    · exact ⟨n + 1, hn, hr, h⟩

theorem chunk0_first : chunk0 0 = 57344 := by decide +kernel
theorem chunk0_last : chunk0 31 + 1344 = 100000 := by decide +kernel

section Cover
variable (H : S12800000.Idx → Elt Ideal .f32) {I : S100000.Idx → Elt Ideal .i32} (hI : Sorted I) (y : EReal) (x : S16384.Idx)
include hI

theorem tileAcc_le (w : ℕ) (hw : w < 32) : (tileAcc H I (tileOf w) x : EReal) ≤ y ↔
    SegLe H I y x (chunk0 w) 1344 ∧ ∀ b < 14, ¬Uniform I (128 * (14 * w + b)) → SegLe H I y x (128 * (14 * w + b)) 128 := by
  unfold tileAcc
  rw [tbase_eq ⟨w, hw⟩, tbb_eq ⟨w, hw⟩]
  have hc := (chunk0_le ⟨w, hw⟩).2
  rw [blockAcc_le H hI y x _ (by show 1792 * w + 1792 ≤ _; omega) _ 14 le_rfl, chunkAcc_le H hI y x _ hc 6 le_rfl]
  have e : ∀ b, 1792 * w + 128 * b = 128 * (14 * w + b) := fun b => by omega
  simp only [e]

/-- A block of one segment holds no other. -/
theorem uniform_segm (o r : ℕ) (ho : o + 127 < 100000) (hr : r < 128) (h : Uniform I o) : segm I (o + r) = segm I o := by
  have h1 := hI o (o + r) (by omega) (by omega)
  have h2 := hI (o + r) (o + 127) (by omega) ho
  unfold Uniform at h; omega

/-- The tiles' results and the maxima of the blocks of one segment bound exactly the rows of a segment. -/
theorem all_rows :
    ((∀ w < 32, (tileAcc H I (tileOf w) x : EReal) ≤ y)
        ∧ ∀ b < 448, (segm I (128 * b) = (x 0).val / 128 ∧ Uniform I (128 * b)) → ∀ r < 128, feat H (128 * b + r) ((x 0).val % 128) ≤ y)
      ↔ ∀ r < 100000, (x 0).val / 128 = segm I r → feat H r ((x 0).val % 128) ≤ y := by
  constructor
  · rintro ⟨ht, hb⟩ r hr hs
    rcases Nat.lt_or_ge r 57344 with h | h
    · have er : r = 128 * (r / 128) + r % 128 := by omega
      by_cases hu : Uniform I (128 * (r / 128))
      · have e := uniform_segm hI (128 * (r / 128)) (r % 128) (by omega) (by omega) hu
        rw [← er] at e
        have := hb (r / 128) (by omega) ⟨by rw [hs, e], hu⟩ (r % 128) (by omega)
        rwa [← er] at this
      · have e14 : r / 128 = 14 * (r / 1792) + r / 128 % 14 := by omega
        have := ((tileAcc_le H hI y x (r / 1792) (by omega)).mp (ht _ (by omega))).2 (r / 128 % 14) (by omega)
        rw [← e14] at this
        have := this hu (r % 128) (by omega)
        rw [← er] at this; exact this hs
    · obtain ⟨w, hw, h1, h2⟩ := chunk_cover r (by rw [chunk0_first]; exact h) 31 (by omega) (by rw [chunk0_last]; exact hr)
      have := ((tileAcc_le H hI y x w hw).mp (ht w hw)).1 (r - chunk0 w) (by omega)
      rw [Nat.add_sub_cancel' h1] at this; exact this hs
  · intro h
    refine ⟨fun w hw => (tileAcc_le H hI y x w hw).mpr ⟨fun r hr hs => h _ ?_ hs, fun b hb _ r hr hs => h _ (by omega) hs⟩, fun b hb hu r hr => h _ (by omega) ?_⟩
    · have : chunk0 w + 1344 ≤ 100000 := (chunk0_le ⟨w, hw⟩).2
      omega
    · rw [uniform_segm hI _ r (by omega) hr hu.2, hu.1]

end Cover

end Cert.Proof.SegMax

end
-- ==== Proof.Blocks.lean ====
/-
  What bounds an element of the TensorCore's blocks.
-/
module

public import proofs.«01_k».proof.Proof.Bounds
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.Frame
public import Idealize.ShloMosaic.Lib.VecWindow
public import Idealize.ShloMosaic.Lib.StableHlo.RunRead
public import Idealize.ShloMosaic.Lib.Pipeline.ValueKit.Geometry
public import Idealize.ShloMosaic.Lib.ValueIdx
public import Idealize.ShloMosaic.PureOps.Ideal.Laws
public import Idealize.ShloMosaic.Lib.Tactic

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type}

local notation "𝕄" => MT nD τ sig (HIx 1) (Elt F) ℕ UU ℕ

open Idealize.ShloMosaic.ValueIdx

/-! ## Bounds of the TensorCore's blocks -/

theorem fold_le {ι : Type} (s : Finset ι) (f : ι → EReal) (y : EReal) :
    s.fold max ((FloatOps.ofBits .f32 0xFF800000#32 : Ideal .f32) : EReal) f ≤ y ↔ ∀ i ∈ s, f i ≤ y := by
  rw [Finset.fold_max_le, negInf]; exact ⟨fun h => h.2, fun h => ⟨bot_le, h⟩⟩

/-- A maximum along an axis is bounded where what it is taken of is. -/
theorem reduce_le {s t : Shape} {ax : List (Fin s.rank)} (src : FVec Ideal s .f32) (h : s.Reduces ax t) (hφ) (hacc) (j : t.Idx) (y : EReal) :
    (multiReduction (F := Ideal) .maximumf ax t src 0xFF800000#32 h hφ hacc j : EReal) ≤ y ↔ ∀ i, h.drop i = j → (src i : EReal) ≤ y := by
  rw [multiReduction_maximumf_eq_fold]
  refine (fold_le _ _ y).trans ⟨fun h' i hi => h' i (Finset.mem_filter.mpr ⟨Finset.mem_univ _, hi⟩), fun h' i hi => h' i (Finset.mem_filter.mp hi).2⟩

theorem drop_128 (i : S128x128.Idx) (c : Fin 128) : reduces_S128x128_S128.drop i = ix1 c ↔ (i 1).val = c.val :=
  ⟨fun h => congrArg Fin.val (congrFun h 0), fun h => funext fun a => match a with | ⟨0, _⟩ => Fin.ext h⟩
theorem drop_448 (i : S448x128.Idx) (c : Fin 128) : reduces_S448x128_S128.drop i = ix1 c ↔ (i 1).val = c.val :=
  ⟨fun h => congrArg Fin.val (congrFun h 0), fun h => funext fun a => match a with | ⟨0, _⟩ => Fin.ext h⟩
theorem drop_32 (i : S32x8x128.Idx) (j : S8x128.Idx) : reduces_S32x8x128_S8x128.drop i = j ↔ (i 1).val = (j 0).val ∧ (i 2).val = (j 1).val :=
  ⟨fun h => ⟨congrArg Fin.val (congrFun h 0), congrArg Fin.val (congrFun h 1)⟩, fun h => funext fun a => match a with | ⟨0, _⟩ => Fin.ext h.1 | ⟨1, _⟩ => Fin.ext h.2⟩

/-- A row of 128 as a block of one row. -/
theorem row_apply {α : Type} (v : S128.Idx → α) (i : S1x128.Idx) : shapeCast S1x128 v shapeCasts_S128_S1x128 i = v (ix1 (i 1)) :=
  (shapeCast_addUnit_apply _ v _ i).trans (congrArg v (funext fun a => match a with | ⟨0, _⟩ => rfl))

theorem unitMax_le (X : S1024x128.Idx → Elt Ideal .f32) (k : ℕ) (h) (i : S1x128.Idx) (y : EReal) :
    (unitMax X k h i : EReal) ≤ y ↔ ∀ z : S1024x128.Idx, k ≤ (z 0).val → (z 0).val < k + 128 → (z 1).val = (i 1).val → (X z : EReal) ≤ y := by
  unfold unitMax
  rw [row_apply]
  refine (reduce_le _ _ _ _ _ y).trans ?_
  have hk : ∀ (z : S128x128.Idx) (a), ((Rect.unit (s := S1024x128) ![k, 0] S128x128.size h).emb z a).val = (![k, 0] : Fin 2 → ℕ) a + (z a).val := fun z a =>
    ValueKit.rect_emb_unit_val (s := S1024x128) _ _ _ _ _
  constructor
  · intro hX z h1 h2 h3
    obtain ⟨w, hw⟩ : ∃ w : S128x128.Idx, w = ix2 ⟨(z 0).val - k, by omega⟩ (i 1) := ⟨_, rfl⟩
    have hw0 : (w 0).val = (z 0).val - k := by rw [hw]
    have hw1 : (w 1).val = (i 1).val := by rw [hw]
    have := hX w ((drop_128 w (i 1)).mpr hw1)
    refine le_trans (le_of_eq (congrArg X (funext fun a => Fin.ext ?_))) this
    match a with
    | ⟨0, _⟩ => exact ((hk w 0).trans (show k + (w 0).val = (z 0).val by omega)).symm
    | ⟨1, _⟩ => exact ((hk w 1).trans (show 0 + (w 1).val = (z 1).val by omega)).symm
  · intro hX z hz
    refine hX _ ?_ ?_ ?_
    · exact le_of_le_of_eq (Nat.le_add_right _ _) (hk z 0).symm
    · exact lt_of_eq_of_lt (hk z 0) (Nat.add_lt_add_left (z 0).isLt k)
    · exact (hk z 1).trans ((Nat.zero_add _).trans ((drop_128 _ _).mp hz))

theorem unit_inb (n : Fin 8) : ∀ a, (![128 * n.val, 0] : Fin 2 → ℕ) a + S128x128.size a ≤ S1024x128.size a := by
  revert n; decide

/-- An element of the first body's block: the maximum of its column over its row's 128-row unit. -/
theorem blockMax_le (X : S1024x128.Idx → Elt Ideal .f32) (j : S8x128.Idx) (y : EReal) :
    (blockMax X j : EReal) ≤ y ↔ ∀ z : S1024x128.Idx, (z 0).val / 128 = (j 0).val → (z 1).val = (j 1).val → (X z : EReal) ≤ y := by
  have e : blockMax X j = unitMax X (128 * (j 0).val) (unit_inb (j 0)) (ix2 0 (j 1)) :=
    concatenate_ofFn_unit_apply (t := S8x128) (s₁ := S1x128) 0 (fun n : Fin 8 => unitMax X (128 * n.val) (unit_inb n)) _ rfl rfl j (j 0) rfl (ix2 0 (j 1))
      (fun b hb => match b with | ⟨0, _⟩ => absurd rfl hb | ⟨1, _⟩ => rfl)
  rw [e, unitMax_le]
  exact forall_congr' fun z => ⟨fun h h1 h2 => h (by omega) (by omega) h2, fun h h1 h2 h3 => h (by omega) h3⟩

theorem cmpi_ne (v : BitVec 32) : IntOp.cmpi .ne v 0#32 = 1#1 ↔ v ≠ 0#32 := by
  show BitVec.ofBool (v != 0#32) = 1#1 ↔ v ≠ 0#32
  by_cases e : v = 0#32
  · subst e; decide
  · rw [show (v != 0#32) = true from bne_iff_ne.mpr e]; exact iff_of_true rfl e

theorem maskedMax_le (A : S1x448x8.Idx → Elt Ideal .i32) (B : S448x128.Idx → Elt Ideal .f32) (k : Fin 8) (h) (i : S1x128.Idx) (y : EReal) :
    (maskedMax A B k.val h i : EReal) ≤ y ↔ ∀ z : S448x128.Idx, (z 1).val = (i 1).val → A (ix3 0 (z 0) k) ≠ 0#32 → (B z : EReal) ≤ y := by
  unfold maskedMax
  rw [row_apply]
  refine (reduce_le _ _ _ _ _ y).trans ?_
  refine forall_congr' fun z => ?_
  refine (imp_congr_left (drop_448 z (i 1))).trans (imp_congr_right fun hz => ?_)
  have eB : shapeCast S448x128 (fun j => B ((Rect.unit (s := S448x128) ![0, 0] S448x128.size inb_S448x128_S448x128_0_0).emb j)) shapeCasts_S448x128_S448x128 z = B z := by
    refine (congrFun (shapeCast_self _ _) z).trans ?_
    exact congrArg B (funext fun a => Fin.ext ((ValueKit.rect_emb_unit_val (s := S448x128) _ _ _ z a).trans (match a with | ⟨0, _⟩ => Nat.zero_add _ | ⟨1, _⟩ => Nat.zero_add _)))
  have eA : broadcastTo S448x128 (shapeCast S448x1
    (cmpi .ne (shapeCast S448x1 (fun j => A ((Rect.unit (s := S1x448x8) ![0, 0, k.val] S1x448x1.size h).emb j) : Vec Ideal S1x448x1 .i32) shapeCasts_S1x448x1_S448x1 : IVec S448x1 32) (broadcast S448x1 0#32))
      shapeCasts_S448x1_S448x1) broadcasts_S448x1_S448x128 z = IntOp.cmpi .ne (A (ix3 0 (z 0) k)) 0#32 := by
    refine (broadcastTo_apply (s := S448x1) (t := S448x128) _ _ z (ix2 (n0 := 448) (n1 := 1) (z 0) 0) (fun a => match a with | ⟨0, _⟩ => rfl | ⟨1, _⟩ => rfl)).trans ?_
    refine (congrFun (shapeCast_self _ _) _).trans ?_
    refine congrArg (fun v => IntOp.cmpi .ne v 0#32) ((shapeCast_dropUnit_apply _ _ _ _).trans (congrArg A (funext fun a => Fin.ext ?_)))
    refine (ValueKit.rect_emb_unit_val (s := S1x448x8) _ _ _ _ a).trans ?_
    match a with
    | ⟨0, _⟩ => rfl
    | ⟨1, _⟩ => exact Nat.zero_add _
    | ⟨2, _⟩ => rfl
  show ((if _ = 1#1 then _ else _ : Ideal .f32) : EReal) ≤ y ↔ _
  rw [eA, eB]
  have hc : IntOp.cmpi .ne (A (ix3 0 (z 0) k)) 0#32 = 1#1 ↔ A (ix3 0 (z 0) k) ≠ 0#32 := cmpi_ne _
  by_cases e : A (ix3 0 (z 0) k) ≠ 0#32
  · rw [if_pos (hc.mpr e)]; exact ⟨fun h _ => h, fun h => h e⟩
  · rw [if_neg fun h => e (hc.mp h)]
    exact ⟨fun _ h => absurd h e, fun _ => by
      show ((FloatOps.ofBits .f32 0xFF800000#32 : Ideal .f32) : EReal) ≤ y
      rw [negInf]; exact bot_le⟩

theorem mask_inb (n : Fin 8) : ∀ a, (![0, 0, n.val] : Fin 3 → ℕ) a + S1x448x1.size a ≤ S1x448x8.size a := by
  revert n; decide

/-- An element of the second body's block. -/
theorem mergeMax_le (A : S1x448x8.Idx → Elt Ideal .i32) (B : S448x128.Idx → Elt Ideal .f32) (P : S32x8x128.Idx → Elt Ideal .f32) (j : S8x128.Idx) (y : EReal) :
    (mergeMax A B P j : EReal) ≤ y ↔ (∀ z : S32x8x128.Idx, (z 1).val = (j 0).val → (z 2).val = (j 1).val → (P z : EReal) ≤ y)
      ∧ ∀ z : S448x128.Idx, (z 1).val = (j 1).val → A (ix3 0 (z 0) (j 0)) ≠ 0#32 → (B z : EReal) ≤ y := by
  unfold mergeMax
  rw [maximumf_apply, max_le_iff]
  refine and_congr ((reduce_le _ _ _ _ _ y).trans (forall_congr' fun z => ?_)) ?_
  · refine (imp_congr_left (drop_32 z j)).trans (and_imp.trans ?_)
    have e : (Rect.unit (s := S32x8x128) ![0, 0, 0] S32x8x128.size inb_S32x8x128_S32x8x128_0_0_0).emb z = z := funext fun a => Fin.ext <|
      (ValueKit.rect_emb_unit_val (s := S32x8x128) _ _ _ z a).trans (match a with | ⟨0, _⟩ => Nat.zero_add _ | ⟨1, _⟩ => Nat.zero_add _ | ⟨2, _⟩ => Nat.zero_add _)
    refine imp_congr_right fun _ => imp_congr_right fun _ => iff_of_eq (congrArg (fun v : EReal => v ≤ y) ((congrFun (shapeCast_self _ _) z).trans ?_))
    exact congrArg P e
  · refine Iff.trans (iff_of_eq (congrArg (fun v : EReal => v ≤ y) ?_)) (maskedMax_le A B (j 0) (mask_inb (j 0)) (ix2 0 (j 1)) y)
    exact concatenate_ofFn_unit_apply (t := S8x128) (s₁ := S1x128) 0 (fun n : Fin 8 => maskedMax A B n.val (mask_inb n)) _ rfl rfl j (j 0) rfl (ix2 0 (j 1))
      (fun b hb => match b with | ⟨0, _⟩ => absurd rfl hb | ⟨1, _⟩ => rfl)

end Cert.Proof.SegMax

end
-- ==== Proof.Outs.lean ====
/-
  The results of the two TensorCore calls, element by element: bounded by y exactly when all that they take the maximum of is.
-/
module

public import proofs.«01_k».proof.Proof.Blocks
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.Frame
public import Idealize.ShloMosaic.Lib.VecWindow
public import Idealize.ShloMosaic.Lib.StableHlo.RunRead
public import Idealize.ShloMosaic.Lib.Pipeline.ValueKit.Geometry
public import Idealize.ShloMosaic.Lib.ValueIdx
public import Idealize.ShloMosaic.PureOps.Ideal.Laws
public import Idealize.ShloMosaic.Lib.Tactic

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type}

local notation "𝕄" => MT nD τ sig (HIx 1) (Elt F) ℕ UU ℕ

open Idealize.ShloMosaic.ValueIdx

variable (Vi : (c : Dev nD) → (b : Ref sig .tc) → Buf (Elt Ideal) ((c : Thread nD τ).loc b))

theorem index1_0 : ∀ t : Fin cfg1.N, win1_0.index t = ![t.val, 0] := by decide +kernel
theorem index1_1 : ∀ t : Fin cfg1.N, win1_1.index t = ![t.val, 0] := by decide +kernel
theorem index2_0 : ∀ t : Fin cfg2.N, win2_0.index t = ![t.val, 0, 0] := by decide +kernel
theorem index2_1 : ∀ t : Fin cfg2.N, win2_1.index t = ![0, 0] := by decide +kernel
theorem index2_2 : ∀ t : Fin cfg2.N, win2_2.index t = ![0, t.val, 0] := by decide +kernel
theorem index2_3 : ∀ t : Fin cfg2.N, win2_3.index t = ![t.val, 0] := by decide +kernel

/-- A call's operands and results, as arrays of numbers. -/
abbrev nums {s : Shape} (f : s.Idx → Elt Ideal .f32) : s.Idx → EReal := f

/-- A staged block that nothing cuts, read at an index. -/
theorem fill_at {G : Idealize.ShloMosaic.Pipeline.Grid} (w : Window sig G) {α : Type} (i : G.Coords) (h : ∀ a, w.clip i a = none) (d : w.block.Idx → α) (g : (w.xblock i).Idx → α) (z : w.block.Idx) :
    ∃ z' : (w.xblock i).Idx, (∀ a, (z' a).val = (z a).val) ∧ w.fill i d g z = g z' := by
  have hz : ∀ a, (z a).val < w.xsize i a := fun a => by have := (z a).isLt; unfold Window.xsize; rw [h a]; exact this
  refine ⟨fun a => ⟨(z a).val, hz a⟩, fun a => rfl, ?_⟩
  have := w.fill_xinj i d g (fun a => ⟨(z a).val, hz a⟩)
  exact this

/-- The first call's operand at its staged block. -/
theorem in1_at (c : Dev nD) (t : Fin cfg1.N) (z : S1024x128.Idx) (w : S100000x128.Idx) (h0 : (w 0).val = t.val * 1024 + (z 0).val) (h1 : (w 1).val = (z 1).val) :
    nums (s := S1024x128) (in1 Vi c 0 t) z = nums (s := S100000x128) (Vi c main_arg0) w := by
  obtain ⟨z', hz, e⟩ := fill_at (cfg1.win 0) (cfg1.grid.coords t) (clip1 t) (fun _ => Classical.arbitrary _) (((cfg1.win 0).blk t).view.read (Elt Ideal) (Vi c (Pipeline.arrRef spec1 0))) z
  refine e.trans ?_
  show nums (s := S100000x128) (Vi c main_arg0) (((cfg1.win 0).blk t).view.emb z') = _
  refine congrArg _ (funext fun a => Fin.ext ?_)
  match a with
  | ⟨0, _⟩ =>
    show ((((cfg1.win 0).blk t).view.emb z') 0).val = (w 0).val
    blk_simp [index1_0, hz]
    exact h0.symm
  | ⟨1, _⟩ =>
    show ((((cfg1.win 0).blk t).view.emb z') 1).val = (w 1).val
    blk_simp [index1_0, hz]
    exact h1.symm

/-- An element of the first call's result: the maximum of its column over its 128-row unit. -/
theorem out1_le (c : Dev nD) (i : S448x128.Idx) (y : EReal) :
    nums (s := S448x128) (out1 Vi c) i ≤ y ↔ ∀ z : S100000x128.Idx, (z 0).val / 128 = (i 0).val → (z 1).val = (i 1).val → nums (s := S100000x128) (Vi c main_arg0) z ≤ y := by
  refine (dat1 Vi c).arrAt_forall_of_covers 1 (fun (i : S448x128.Idx) (v : Elt Ideal .f32) => LE.le (α := EReal) v y ↔ ∀ z : S100000x128.Idx, (z 0).val / 128 = (i 0).val → (z 1).val = (i 1).val → nums (s := S100000x128) (Vi c main_arg0) z ≤ y)
    (by decide +kernel) (fun t hf j => ?_) i
  blk_simp [index1_1]
  refine (blockMax_le (in1 Vi c 0 t) j y).trans ?_
  have ht : t.val < 56 := t.isLt
  have hj : (j 0).val < 8 := (j 0).isLt
  have hj' : (j 1).val < 128 := (j 1).isLt
  constructor
  · intro h z h0 h1
    have := h (ix2 ⟨(z 0).val - t.val * 1024, by simp at h0; omega⟩ (j 1)) (by simp at h0 ⊢; omega) rfl
    refine le_of_eq_of_le (in1_at Vi c t _ z ?_ ?_).symm this
    · simp at h0 ⊢; omega
    · simp at h1 ⊢; omega
  · intro h z h0 h1
    have hz : (z 0).val < 1024 := (z 0).isLt
    refine le_of_eq_of_le (in1_at Vi c t z (ix2 ⟨t.val * 1024 + (z 0).val, by omega⟩ (z 1)) rfl rfl) (h _ ?_ ?_)
    · simp at h0 ⊢; omega
    · simp at h1 ⊢; omega

/-- The second call's mask at its staged block. -/
theorem in2_0_at (c : Dev nD) (t : Fin cfg2.N) (z : S1x448x8.Idx) (w : S16x448x8.Idx) (h0 : (w 0).val = t.val + (z 0).val) (h1 : (w 1).val = (z 1).val) (h2 : (w 2).val = (z 2).val) :
    (in2 Vi c 0 t : S1x448x8.Idx → BitVec 32) z = (Vi c main_v18 : S16x448x8.Idx → BitVec 32) w := by
  obtain ⟨z', hz, e⟩ := fill_at (cfg2.win 0) (cfg2.grid.coords t) (fun _ => rfl) (fun _ => Classical.arbitrary _) (((cfg2.win 0).blk t).view.read (Elt Ideal) (Vi c (Pipeline.arrRef spec2 0))) z
  refine e.trans ?_
  show (Vi c main_v18 : S16x448x8.Idx → BitVec 32) (((cfg2.win 0).blk t).view.emb z') = _
  refine congrArg _ (funext fun a => Fin.ext ?_)
  match a with
  | ⟨0, _⟩ =>
    show ((((cfg2.win 0).blk t).view.emb z') 0).val = (w 0).val
    blk_simp [index2_0, hz]
    have : (z 0).val < 1 := (z 0).isLt
    omega
  | ⟨1, _⟩ =>
    show ((((cfg2.win 0).blk t).view.emb z') 1).val = (w 1).val
    blk_simp [index2_0, hz]
    exact h1.symm
  | ⟨2, _⟩ =>
    show ((((cfg2.win 0).blk t).view.emb z') 2).val = (w 2).val
    blk_simp [index2_0, hz]
    exact h2.symm

/-- The unit maxima at their staged block. -/
theorem in2_1_at (c : Dev nD) (t : Fin cfg2.N) (z : S448x128.Idx) :
    nums (s := S448x128) (in2 Vi c 1 t) z = nums (s := S448x128) (Vi c main_v21) z := by
  obtain ⟨z', hz, e⟩ := fill_at (cfg2.win 1) (cfg2.grid.coords t) (fun _ => rfl) (fun _ => Classical.arbitrary _) (((cfg2.win 1).blk t).view.read (Elt Ideal) (Vi c (Pipeline.arrRef spec2 1))) z
  refine e.trans ?_
  show nums (s := S448x128) (Vi c main_v21) (((cfg2.win 1).blk t).view.emb z') = _
  refine congrArg _ (funext fun a => Fin.ext ?_)
  match a with
  | ⟨0, _⟩ =>
    show ((((cfg2.win 1).blk t).view.emb z') 0).val = (z 0).val
    blk_simp [index2_1, hz]
  | ⟨1, _⟩ =>
    show ((((cfg2.win 1).blk t).view.emb z') 1).val = (z 1).val
    blk_simp [index2_1, hz]

/-- The tiles' partial maxima at their staged block. -/
theorem in2_2_at (c : Dev nD) (t : Fin cfg2.N) (z : S32x8x128.Idx) (w : S32x128x128.Idx) (h0 : (w 0).val = (z 0).val) (h1 : (w 1).val = t.val * 8 + (z 1).val) (h2 : (w 2).val = (z 2).val) :
    nums (s := S32x8x128) (in2 Vi c 2 t) z = nums (s := S32x128x128) (Vi c main_v22) w := by
  obtain ⟨z', hz, e⟩ := fill_at (cfg2.win 2) (cfg2.grid.coords t) (fun _ => rfl) (fun _ => Classical.arbitrary _) (((cfg2.win 2).blk t).view.read (Elt Ideal) (Vi c (Pipeline.arrRef spec2 2))) z
  refine e.trans ?_
  show nums (s := S32x128x128) (Vi c main_v22) (((cfg2.win 2).blk t).view.emb z') = _
  refine congrArg _ (funext fun a => Fin.ext ?_)
  match a with
  | ⟨0, _⟩ =>
    show ((((cfg2.win 2).blk t).view.emb z') 0).val = (w 0).val
    blk_simp [index2_2, hz]
    exact h0.symm
  | ⟨1, _⟩ =>
    show ((((cfg2.win 2).blk t).view.emb z') 1).val = (w 1).val
    blk_simp [index2_2, hz]
    exact h1.symm
  | ⟨2, _⟩ =>
    show ((((cfg2.win 2).blk t).view.emb z') 2).val = (w 2).val
    blk_simp [index2_2, hz]
    exact h2.symm

/-- An element of the second call's result: the maximum of the tiles' partial maxima of its segment and of the unit maxima that the mask gives to it. -/
theorem out2_le (c : Dev nD) (i : S128x128.Idx) (y : EReal) :
    nums (s := S128x128) (out2 Vi c) i ≤ y ↔ (∀ z : S32x128x128.Idx, (z 1).val = (i 0).val → (z 2).val = (i 1).val → nums (s := S32x128x128) (Vi c main_v22) z ≤ y)
      ∧ ∀ (w : S16x448x8.Idx) (z : S448x128.Idx), (w 0).val * 8 + (w 2).val = (i 0).val → (w 1).val = (z 0).val → (z 1).val = (i 1).val →
        (Vi c main_v18 : S16x448x8.Idx → BitVec 32) w ≠ 0#32 → nums (s := S448x128) (Vi c main_v21) z ≤ y := by
  refine (dat2 Vi c).arrAt_forall_of_covers 3 (fun (i : S128x128.Idx) (v : Elt Ideal .f32) => LE.le (α := EReal) v y ↔ (∀ z : S32x128x128.Idx, (z 1).val = (i 0).val → (z 2).val = (i 1).val → nums (s := S32x128x128) (Vi c main_v22) z ≤ y)
      ∧ ∀ (w : S16x448x8.Idx) (z : S448x128.Idx), (w 0).val * 8 + (w 2).val = (i 0).val → (w 1).val = (z 0).val → (z 1).val = (i 1).val →
        (Vi c main_v18 : S16x448x8.Idx → BitVec 32) w ≠ 0#32 → nums (s := S448x128) (Vi c main_v21) z ≤ y)
    (by decide +kernel) (fun t hf j => ?_) i
  blk_simp [index2_3]
  refine (mergeMax_le (in2 Vi c 0 t) (in2 Vi c 1 t) (in2 Vi c 2 t) j y).trans ?_
  have ht : t.val < 16 := t.isLt
  have hj : (j 0).val < 8 := (j 0).isLt
  have hj' : (j 1).val < 128 := (j 1).isLt
  refine and_congr ?_ ?_
  · constructor
    · intro h z h0 h1
      refine le_of_eq_of_le (in2_2_at Vi c t (ix3 (z 0) (j 0) (j 1)) z ?_ ?_ ?_).symm (h _ rfl rfl)
      · rfl
      · simp at h0 ⊢; omega
      · simp at h1 ⊢; omega
    · intro h z h0 h1
      have hz : (z 1).val < 8 := (z 1).isLt
      refine le_of_eq_of_le (in2_2_at Vi c t z (ix3 (z 0) ⟨t.val * 8 + (z 1).val, by omega⟩ (z 2)) rfl rfl rfl) (h _ ?_ ?_)
      · simp at h0 ⊢; omega
      · simp at h1 ⊢; omega
  · constructor
    · intro h w z h0 h1 h2 h3
      have hw : (w 2).val < 8 := (w 2).isLt
      refine le_of_eq_of_le (in2_1_at Vi c t z).symm (h z ?_ ?_)
      · simp at h2 ⊢; omega
      · refine fun h4 => h3 ((in2_0_at Vi c t _ w ?_ ?_ ?_).symm.trans h4)
        · simp at h0 ⊢; omega
        · simp at h1 ⊢; omega
        · show (w 2).val = (j 0).val
          simp at h0 ⊢; omega
    · intro h z h0 h1
      refine le_of_eq_of_le (in2_1_at Vi c t z) (h (ix3 ⟨t.val, ht⟩ (z 0) (j 0)) z ?_ rfl ?_ ?_)
      · simp
      · simp at h0 ⊢; omega
      · exact fun h4 => h1 ((in2_0_at Vi c t _ _ (by simp) rfl rfl).trans h4)

end Cert.Proof.SegMax

end
-- ==== Proof.Mask.lean ====
/-
  What the two TensorCore calls read: the mask of the units that are all one segment's, and the flat table.
-/
module

public import proofs.«01_k».proof.Proof.Outs
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.Frame
public import Idealize.ShloMosaic.Lib.VecWindow
public import Idealize.ShloMosaic.Lib.StableHlo.RunRead
public import Idealize.ShloMosaic.Lib.Pipeline.ValueKit.Geometry
public import Idealize.ShloMosaic.Lib.ValueIdx
public import Idealize.ShloMosaic.PureOps.Ideal.Laws
public import Idealize.ShloMosaic.Lib.Tactic

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type}

local notation "𝕄" => MT nD τ sig (HIx 1) (Elt F) ℕ UU ℕ

open Idealize.ShloMosaic.ValueIdx

/-! ## The mask of the second TensorCore call -/

section Mask
variable (I : S100000.Idx → BitVec 32)

/-- The segment numbers of the first 448 units of 128 rows, -/
def unitIds : S448x128.Idx → BitVec 32 := shapeCast S448x128 (extractStridedSlice S57344 ![0] I slices_S100000_S57344_0) shapeCasts_S57344_S448x128
/-- the first of each unit, -/
def firstIds : S448.Idx → BitVec 32 := shapeCast S448 (extractStridedSlice S448x1 ![0, 0] (unitIds I) slices_S448x128_S448x1_0_0) shapeCasts_S448x1_S448
/-- the last of each unit, -/
def lastIds : S448.Idx → BitVec 32 := shapeCast S448 (extractStridedSlice S448x1 ![0, 127] (unitIds I) slices_S448x128_S448x1_0_127) shapeCasts_S448x1_S448
/-- and for every unit and segment whether the unit is all that segment's. -/
def ownIds : S448x128.Idx → BitVec 32 := extui 32
  (andi
    (cmpi .eq (broadcastInDim S448x128 ![0, 1] bcast_S448x1_S448x128_0_1 (broadcastInDim S448x1 ![0] bcast_S448_S448x1_0 (firstIds I)))
      (broadcastInDim S448x128 ![0, 1] bcast_S1x128_S448x128_0_1 (broadcastInDim S1x128 ![1] bcast_S128_S1x128_1 (iotaInDim S128 32 0))))
    (broadcastInDim S448x128 ![0, 1] bcast_S448x1_S448x128_0_1 (broadcastInDim S448x1 ![0] bcast_S448_S448x1_0 (cmpi .eq (firstIds I) (lastIds I))))) natLt_1_32
/-- The mask as the call reads it. -/
def maskIds : S16x448x8.Idx → BitVec 32 := transpose S16x448x8 [1, 0, 2] (shapeCast S448x16x8 (ownIds I) shapeCasts_S448x128_S448x16x8) transposes_S448x16x8_S16x448x8_1_0_2

theorem unitIds_at (z : S448x128.Idx) : unitIds I z = I (ix 100000 (128 * (z 0).val + (z 1).val)) := by
  have h0 : (z 0).val < 448 := (z 0).isLt
  have h1 : (z 1).val < 128 := (z 1).isLt
  unfold unitIds
  refine (shapeCast_apply (s := S57344) (t := S448x128) _ _ z (ix1 (n := 57344) ⟨128 * (z 0).val + (z 1).val, by omega⟩) ?_).trans ?_
  · exact (Shape.rowMajor_val_one _).trans ((show 128 * (z 0).val + (z 1).val = (z 0).val * 128 + (z 1).val by omega).trans (Shape.rowMajor_val_two z).symm)
  · refine extractStridedSlice_apply (s := S100000) (t := S57344) _ _ _ _ _ fun a => ?_
    match a with
    | ⟨0, _⟩ => exact (ix_val 100000 _ (by omega) _).trans (Nat.zero_add _).symm

theorem firstIds_at (z : S448.Idx) : firstIds I z = I (ix 100000 (128 * (z 0).val)) := by
  unfold firstIds
  refine (shapeCast_apply (s := S448x1) (t := S448) _ _ z (ix2 (n0 := 448) (n1 := 1) (z 0) 0) ?_).trans ?_
  · exact (Shape.rowMajor_val_two _).trans ((show (z 0).val * 1 + 0 = (z 0).val by omega).trans (Shape.rowMajor_val_one z).symm)
  · refine (extractStridedSlice_apply (s := S448x128) (t := S448x1) _ _ _ _ (ix2 (n0 := 448) (n1 := 128) (z 0) 0) fun a => ?_).trans (unitIds_at I _)
    match a with
    | ⟨0, _⟩ => exact (Nat.zero_add _).symm
    | ⟨1, _⟩ => rfl

theorem lastIds_at (z : S448.Idx) : lastIds I z = I (ix 100000 (128 * (z 0).val + 127)) := by
  unfold lastIds
  refine (shapeCast_apply (s := S448x1) (t := S448) _ _ z (ix2 (n0 := 448) (n1 := 1) (z 0) 0) ?_).trans ?_
  · exact (Shape.rowMajor_val_two _).trans ((show (z 0).val * 1 + 0 = (z 0).val by omega).trans (Shape.rowMajor_val_one z).symm)
  · refine (extractStridedSlice_apply (s := S448x128) (t := S448x1) _ _ _ _ (ix2 (n0 := 448) (n1 := 128) (z 0) 127) fun a => ?_).trans (unitIds_at I _)
    match a with
    | ⟨0, _⟩ => exact (Nat.zero_add _).symm
    | ⟨1, _⟩ => rfl

/-- A number for every unit, spread over the segments. -/
theorem spread_at {α : Type} (f : S448.Idx → α) (z : S448x128.Idx) :
    broadcastInDim S448x128 ![0, 1] bcast_S448x1_S448x128_0_1 (broadcastInDim S448x1 ![0] bcast_S448_S448x1_0 f) z = f (ix1 (n := 448) (z 0)) := by
  refine (broadcastInDim_apply (s := S448x1) (t := S448x128) _ _ _ z (ix2 (n0 := 448) (n1 := 1) (z 0) 0) (fun a => match a with | ⟨0, _⟩ => rfl | ⟨1, _⟩ => rfl)).trans ?_
  exact broadcastInDim_apply (s := S448) (t := S448x1) _ _ _ _ (ix1 (n := 448) (z 0)) (fun a => match a with | ⟨0, _⟩ => rfl)

/-- The segments' numbers, spread over the units. -/
theorem iota_at (z : S448x128.Idx) :
    broadcastInDim S448x128 ![0, 1] bcast_S1x128_S448x128_0_1 (broadcastInDim S1x128 ![1] bcast_S128_S1x128_1 (iotaInDim S128 32 0)) z = BitVec.ofNat 32 (z 1).val := by
  refine (broadcastInDim_apply (s := S1x128) (t := S448x128) _ _ _ z (ix2 (n0 := 1) (n1 := 128) 0 (z 1)) (fun a => match a with | ⟨0, _⟩ => rfl | ⟨1, _⟩ => rfl)).trans ?_
  exact broadcastInDim_apply (s := S128) (t := S1x128) _ _ _ _ (ix1 (n := 128) (z 1)) (fun a => match a with | ⟨0, _⟩ => rfl)

theorem cmpi_eq (a b : BitVec 32) : IntOp.cmpi .eq a b = BitVec.ofBool (decide (a = b)) := by
  exact congrArg BitVec.ofBool (Bool.eq_iff_iff.mpr (beq_iff_eq.trans decide_eq_true_iff.symm))

theorem ownIds_ne (z : S448x128.Idx) : ownIds I z ≠ 0#32 ↔ segm I (128 * (z 0).val) = (z 1).val ∧ Uniform I (128 * (z 0).val) := by
  have h1 : (z 1).val < 128 := (z 1).isLt
  have e : ownIds I z = (IntOp.andi (IntOp.cmpi .eq (I (ix 100000 (128 * (z 0).val))) (BitVec.ofNat 32 (z 1).val))
      (IntOp.cmpi .eq (I (ix 100000 (128 * (z 0).val))) (I (ix 100000 (128 * (z 0).val + 127))))).setWidth 32 := by
    refine congrArg (BitVec.setWidth 32) (congrArg₂ IntOp.andi (congrArg₂ (IntOp.cmpi .eq) ((spread_at _ z).trans (firstIds_at I _)) (iota_at z)) ((spread_at _ z).trans ?_))
    exact congrArg₂ (IntOp.cmpi .eq) (firstIds_at I _) (lastIds_at I _)
  have hs : segm I (128 * (z 0).val) = (z 1).val ↔ I (ix 100000 (128 * (z 0).val)) = BitVec.ofNat 32 (z 1).val := by
    constructor
    · intro h; exact BitVec.eq_of_toNat_eq (h.trans ((BitVec.toNat_ofNat _ _).trans (Nat.mod_eq_of_lt (by omega))).symm)
    · intro h; exact (congrArg BitVec.toNat h).trans ((BitVec.toNat_ofNat _ _).trans (Nat.mod_eq_of_lt (by omega)))
  have hu : Uniform I (128 * (z 0).val) ↔ I (ix 100000 (128 * (z 0).val)) = I (ix 100000 (128 * (z 0).val + 127)) :=
    ⟨fun h => BitVec.eq_of_toNat_eq h, fun h => congrArg BitVec.toNat h⟩
  rw [e, hs, hu, cmpi_eq, cmpi_eq]
  by_cases a : I (ix 100000 (128 * (z 0).val)) = BitVec.ofNat 32 (z 1).val <;> by_cases b : I (ix 100000 (128 * (z 0).val)) = I (ix 100000 (128 * (z 0).val + 127))
  · rw [decide_eq_true a, decide_eq_true b]; exact iff_of_true (by decide) ⟨a, b⟩
  · rw [decide_eq_true a, decide_eq_false b]; exact iff_of_false (by decide) fun h => b h.2
  · rw [decide_eq_false a, decide_eq_true b]; exact iff_of_false (by decide) fun h => a h.1
  · rw [decide_eq_false a, decide_eq_false b]; exact iff_of_false (by decide) fun h => a h.1

/-- The mask is set exactly where a unit is all one segment's. -/
theorem maskIds_ne (w : S16x448x8.Idx) : maskIds I w ≠ 0#32 ↔ segm I (128 * (w 1).val) = (w 0).val * 8 + (w 2).val ∧ Uniform I (128 * (w 1).val) := by
  have h0 : (w 0).val < 16 := (w 0).isLt
  have h1 : (w 1).val < 448 := (w 1).isLt
  have h2 : (w 2).val < 8 := (w 2).isLt
  have e : maskIds I w = ownIds I (ix2 (n0 := 448) (n1 := 128) (w 1) ⟨(w 0).val * 8 + (w 2).val, by omega⟩) := by
    unfold maskIds
    refine (transpose_apply (s := S448x16x8) (t := S16x448x8) _ _ _ w (ix3 (n0 := 448) (n1 := 16) (n2 := 8) (w 1) (w 0) (w 2)) (fun b => match b with | ⟨0, _⟩ => rfl | ⟨1, _⟩ => rfl | ⟨2, _⟩ => rfl)).trans ?_
    refine shapeCast_apply (s := S448x128) (t := S448x16x8) _ _ _ _ ?_
    refine (Shape.rowMajor_val_two _).trans (Eq.trans ?_ (Shape.rowMajor_val_three _).symm)
    show (w 1).val * 128 + ((w 0).val * 8 + (w 2).val) = ((w 1).val * 16 + (w 0).val) * 8 + (w 2).val
    omega
  rw [e]
  exact ownIds_ne I _

end Mask

/-! ## The buffers that the calls read -/

section Host
variable (V : Valuation τ sig (Elt Ideal))

/-- The mask's buffer after the host operations. -/
theorem mask_result : StableHlo.after preOps V (Proc.devRef .tc main_v18) = maskIds (V (Proc.devRef .tc main_arg1)) := by
  simp only [preOps]
  after_results
  rfl

/-- The flat table's. -/
theorem flat_result : StableHlo.after preOps V (Proc.devRef .tc main_v19) = shapeCast S12800000 (V (Proc.devRef .tc main_arg0) : S100000x128.Idx → EReal) shapeCasts_S100000x128_S12800000 := by
  simp only [preOps]
  after_results
  rfl

end Host

end Cert.Proof.SegMax

end
-- ==== Proof.Values.lean ====
/-
  The result of the whole kernel, element by element.
-/
module

public import proofs.«01_k».proof.Proof.Mask
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.Frame
public import Idealize.ShloMosaic.Lib.VecWindow
public import Idealize.ShloMosaic.Lib.StableHlo.RunRead
public import Idealize.ShloMosaic.Lib.Pipeline.ValueKit.Geometry
public import Idealize.ShloMosaic.Lib.ValueIdx
public import Idealize.ShloMosaic.PureOps.Ideal.Laws
public import Idealize.ShloMosaic.Lib.Tactic

@[expose] public section

noncomputable section

namespace Cert.Proof.SegMax

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type}

local notation "𝕄" => MT nD τ sig (HIx 1) (Elt F) ℕ UU ℕ

open Idealize.ShloMosaic.ValueIdx

section Values
variable (m : (ℓ : Loc nD τ sig) → Buf (Elt Ideal) ℓ) (d : Dev nD)

/-- The table and the segment numbers at launch. -/
abbrev table : S100000x128.Idx → EReal := m (aLoc d)
abbrev idsOf : S100000.Idx → BitVec 32 := m (iLoc d)

/-- The mask that the second TensorCore call reads. -/
theorem W4_mask : (W4 m d (Proc.devRef .tc main_v18) : S16x448x8.Idx → BitVec 32) = maskIds (idsOf m d) :=
  (StableHlo.after_unwritten [main_v22] rfl (by decide) _).trans <|
    (Function.update_of_ne (StableHlo.devRef_ne_of_ne (by decide)) _ _).trans <|
      (Function.update_of_ne (StableHlo.devRef_ne_of_ne (by decide)) _ _).trans (mask_result (W0 m d))

/-- The unit maxima that it reads. -/
theorem W4_units : W4 m d (Proc.devRef .tc main_v21) = out1 (fun c b => W2 m c (Proc.devRef .tc b)) d :=
  (StableHlo.after_unwritten [main_v22] rfl (by decide) _).trans (Function.update_self _ _ _)

/-- The first TensorCore call reads the table as at launch. -/
theorem W2_table : W2 m d (Proc.devRef .tc main_arg0) = m (aLoc d) :=
  (Function.update_of_ne (StableHlo.devRef_ne_of_ne (by decide)) _ _).trans (preOps_keep (W0 m d) (by decide))

/-- The tiles' partial maxima that the second TensorCore call reads. -/
theorem W4_parts (z : S32x128x128.Idx) (n : ℕ) (hn : n < 524288) (e : ((z 0).val * 128 + (z 1).val) * 128 + (z 2).val = n) :
    nums (s := S32x128x128) (W4 m d (Proc.devRef .tc main_v22)) z = tileAcc (Hv m d) (Iv m d) (tileOf (n / 16384)) (ix 16384 n) := by
  have e1 : W4 m d (Proc.devRef .tc main_v22) = shapeCast S32x128x128 (outC (Hv m d) (Iv m d)) shapeCasts_S524288_S32x128x128 := by
    unfold W4
    after_results
    have : W3 m d (Proc.devRef .tc main_v20) = outC (Hv m d) (Iv m d) := (Function.update_of_ne (StableHlo.devRef_ne_of_ne (by decide)) _ _).trans (Function.update_self _ _ _)
    rw [this]
    rfl
  refine (congrFun e1 z).trans ((shapeCast_apply (s := S524288) (t := S32x128x128) _ _ z (ix1 (n := 524288) ⟨n, hn⟩) ?_).trans rfl)
  exact (Shape.rowMajor_val_one _).trans (e.symm.trans (Shape.rowMajor_val_three z).symm)

/-- The flat table's element is the table's. -/
theorem feat_table (r : S100000x128.Idx) : feat (Hv m d) (r 0).val (r 1).val = table m d r := by
  have h0 : (r 0).val < 100000 := (r 0).isLt
  have h1 : (r 1).val < 128 := (r 1).isLt
  unfold feat
  refine (congrFun (flat_result (W0 m d)) _).trans ?_
  refine shapeCast_apply (s := S100000x128) (t := S12800000) _ _ _ r ?_
  refine (Shape.rowMajor_val_two _).trans (Eq.trans ?_ (Shape.rowMajor_val_one _).symm)
  exact (ix_val 12800000 ((r 0).val * 128 + (r 1).val) (by omega) 0).symm

variable (hS : Sorted (idsOf m d))
include hS

/-- An element of the result is at most `y` exactly when all the rows of its segment are at most `y` in its column. -/
theorem result_le (i : S128x128.Idx) (y : EReal) :
    nums (s := S128x128) (W5 m d (Proc.devRef .tc main_v23)) i ≤ y ↔ ∀ r : S100000x128.Idx, (i 0).val = segm (idsOf m d) (r 0).val → (r 1).val = (i 1).val → table m d r ≤ y := by
  have h0 : (i 0).val < 128 := (i 0).isLt
  have h1 : (i 1).val < 128 := (i 1).isLt
  have hI : Iv m d = idsOf m d := Iv_eq m d
  have hx : ((ix 16384 ((i 0).val * 128 + (i 1).val) : S16384.Idx) 0).val = (i 0).val * 128 + (i 1).val := ix_val 16384 _ (by omega) _
  have hall := all_rows (Hv m d) (I := idsOf m d) hS y (ix 16384 ((i 0).val * 128 + (i 1).val))
  rw [hx, show ((i 0).val * 128 + (i 1).val) / 128 = (i 0).val by omega, show ((i 0).val * 128 + (i 1).val) % 128 = (i 1).val by omega] at hall
  have e5 : W5 m d (Proc.devRef .tc main_v23) = out2 (fun c b => W4 m c (Proc.devRef .tc b)) d := Function.update_self _ _ _
  refine (iff_of_eq (congrArg (fun v : EReal => v ≤ y) (congrFun e5 i))).trans ?_
  refine (out2_le (fun c b => W4 m c (Proc.devRef .tc b)) d i y).trans (Iff.trans (and_congr ?_ ?_) (hall.trans ?_))
  · constructor
    · intro h w hw
      have hz := h (ix3 (n0 := 32) (n1 := 128) (n2 := 128) ⟨w, hw⟩ (i 0) (i 1)) rfl rfl
      rw [W4_parts m d _ (w * 16384 + ((i 0).val * 128 + (i 1).val)) (by omega) (by show (w * 128 + (i 0).val) * 128 + (i 1).val = _; omega), hI] at hz
      rw [show (w * 16384 + ((i 0).val * 128 + (i 1).val)) / 16384 = w by omega] at hz
      have ex : (ix 16384 (w * 16384 + ((i 0).val * 128 + (i 1).val)) : S16384.Idx) = ix 16384 ((i 0).val * 128 + (i 1).val) := funext fun a => Fin.ext (by
        show (w * 16384 + ((i 0).val * 128 + (i 1).val)) % 16384 = ((i 0).val * 128 + (i 1).val) % 16384; omega)
      rw [ex] at hz
      exact hz
    · intro h z e0 e1
      have hw : (z 0).val < 32 := (z 0).isLt
      have hz := h (z 0).val hw
      rw [W4_parts m d z ((z 0).val * 16384 + ((i 0).val * 128 + (i 1).val)) (by omega) (by omega), hI]
      rw [show ((z 0).val * 16384 + ((i 0).val * 128 + (i 1).val)) / 16384 = (z 0).val by omega]
      have ex : (ix 16384 ((z 0).val * 16384 + ((i 0).val * 128 + (i 1).val)) : S16384.Idx) = ix 16384 ((i 0).val * 128 + (i 1).val) := funext fun a => Fin.ext (by
        show ((z 0).val * 16384 + ((i 0).val * 128 + (i 1).val)) % 16384 = ((i 0).val * 128 + (i 1).val) % 16384; omega)
      rw [ex]
      exact hz
  · have hu : ∀ z : S448x128.Idx, nums (s := S448x128) (W4 m d (Proc.devRef .tc main_v21)) z ≤ y ↔ ∀ r : S100000x128.Idx, (r 0).val / 128 = (z 0).val → (r 1).val = (z 1).val → table m d r ≤ y := fun z => by
      refine (iff_of_eq (congrArg (fun v : EReal => v ≤ y) (congrFun (W4_units m d) z))).trans ((out1_le (fun c b => W2 m c (Proc.devRef .tc b)) d z y).trans ?_)
      exact forall_congr' fun r => imp_congr_right fun _ => imp_congr_right fun _ => iff_of_eq (congrArg (fun v : EReal => v ≤ y) (congrFun (W2_table m d) r))
    have hm : ∀ w : S16x448x8.Idx, (W4 m d (Proc.devRef .tc main_v18) : S16x448x8.Idx → BitVec 32) w ≠ 0#32 ↔ segm (idsOf m d) (128 * (w 1).val) = (w 0).val * 8 + (w 2).val ∧ Uniform (idsOf m d) (128 * (w 1).val) := fun w => by
      rw [W4_mask]; exact maskIds_ne _ w
    constructor
    · intro h b hb hsu r hr
      have hz := (hu _).mp (h (ix3 (n0 := 16) (n1 := 448) (n2 := 8) ⟨(i 0).val / 8, by omega⟩ ⟨b, hb⟩ ⟨(i 0).val % 8, by omega⟩) (ix2 (n0 := 448) (n1 := 128) ⟨b, hb⟩ (i 1))
        (by show (i 0).val / 8 * 8 + (i 0).val % 8 = (i 0).val; omega) rfl rfl
        ((hm _).mpr ⟨by show segm _ (128 * b) = (i 0).val / 8 * 8 + (i 0).val % 8; rw [hsu.1]; omega, hsu.2⟩))
        (ix2 (n0 := 100000) (n1 := 128) ⟨128 * b + r, by omega⟩ (i 1)) (by show (128 * b + r) / 128 = b; omega) rfl
      exact le_of_eq_of_le (feat_table m d (ix2 (n0 := 100000) (n1 := 128) ⟨128 * b + r, by omega⟩ (i 1))) hz
    · intro h w z e0 e1 e2 hw
      have hb : (w 1).val < 448 := (w 1).isLt
      obtain ⟨hs, hun⟩ := (hm w).mp hw
      refine (hu z).mpr fun r hr hc => ?_
      have := h (w 1).val hb ⟨hs.trans e0, hun⟩ ((r 0).val - 128 * (w 1).val) (by omega)
      rw [show 128 * (w 1).val + ((r 0).val - 128 * (w 1).val) = (r 0).val by omega, ← e2, ← hc, feat_table] at this
      exact this
  · constructor
    · intro h r e0 e1
      have := h (r 0).val (r 0).isLt e0
      rw [← e1, feat_table] at this
      exact this
    · intro h r hr e0
      exact le_of_eq_of_le (feat_table m d (ix2 (n0 := 100000) (n1 := 128) ⟨r, hr⟩ (i 1))) (h (ix2 (n0 := 100000) (n1 := 128) ⟨r, hr⟩ (i 1)) e0 rfl)

end Values

end Cert.Proof.SegMax

end
-- ==== Proof.Reference.lean ====
/-
  The result of the reference, element by element.
-/
module

public import proofs.«01_k».proof.Proof.Bounds
public import proofs.«01_k».proof.Proof.Blocks
public import proofs.«01_k».proof.Proof.Gen.ReferenceIdeal.Run
public import Idealize.ShloMosaic.Lib.ValueIdx
public import Idealize.ShloMosaic.PureOps.Ideal.Laws

@[expose] public section

noncomputable section

namespace Cert.Proof.SegMax

open Cert.ReferenceIdeal Cert.ReferenceIdeal.Gen Idealize.ShloMosaic Idealize.ShloMosaic.ValueIdx

/-- The table spread over the segments, the rows of other segments masked. -/
def masked (X : S100000x128.Idx → Elt Ideal .f32) (I : S100000.Idx → BitVec 32) : S128x100000x128.Idx → Elt Ideal .f32 :=
  select (broadcastInDim S128x100000x128 ![0, 1, 2] bcast_S128x100000x1_S128x100000x128_0_1_2 (broadcastInDim S128x100000x1 ![0, 1] bcast_S128x100000_S128x100000x1_0_1 (cmpi .eq (broadcastInDim S128x100000 ![0, 1] bcast_S1x100000_S128x100000_0_1 (broadcastInDim S1x100000 ![1] bcast_S100000_S1x100000_1 I)) (broadcastInDim S128x100000 ![0, 1] bcast_S128x1_S128x100000_0_1 (broadcastInDim S128x1 ![0] bcast_S128_S128x1_0 (iotaInDim S128 32 0)))))) (broadcastInDim S128x100000x128 ![0, 1, 2] bcast_S1x100000x128_S128x100000x128_0_1_2 (broadcastInDim S1x100000x128 ![1, 2] bcast_S100000x128_S1x100000x128_1_2 X)) (broadcastInDim S128x100000x128 ![] bcast_S_S128x100000x128 (id (constant (F := Ideal) S_ .f32 0xFF800000#32)))

/-- A selection between a number and −∞ is at most `y` exactly when the number is wherever it is taken. -/
theorem select_le (c : BitVec 1) (P : Prop) (hc : c = 1#1 ↔ P) (a y : EReal) :
    (Scalar.select c a ((FloatOps.ofBits .f32 0xFF800000#32 : Ideal .f32) : EReal) : EReal) ≤ y ↔ (P → a ≤ y) := by
  unfold Scalar.select
  have hc : c = 1 ↔ P := hc
  by_cases h : c = 1
  · rw [if_pos h]; exact ⟨fun e _ => e, fun e => e (hc.mp h)⟩
  · rw [if_neg h, negInf]; exact ⟨fun _ p => absurd (hc.mpr p) h, fun _ => bot_le⟩

/-- The reference's result on a table and its segment numbers: every segment's maximum over all rows, those of other segments masked. -/
def refMax (X : S100000x128.Idx → Elt Ideal .f32) (I : S100000.Idx → BitVec 32) : S128x128.Idx → Elt Ideal .f32 :=
  Host.reduce (FloatOps.maximumf (F := Ideal) (φ := .f32)) (masked X I) (constant (F := Ideal) S_ .f32 0xFF800000#32) reducesTo_S128x100000x128_S128x128_d1 h_S_

theorem drop_ref (i : S128x100000x128.Idx) (j : S128x128.Idx) : reducesTo_S128x100000x128_S128x128_d1.drop i = j ↔ (i 0).val = (j 0).val ∧ (i 2).val = (j 1).val :=
  ⟨fun h => ⟨congrArg Fin.val (congrFun h 0), congrArg Fin.val (congrFun h 1)⟩, fun h => funext fun a => match a with | ⟨0, _⟩ => Fin.ext h.1 | ⟨1, _⟩ => Fin.ext h.2⟩

/-- An element of it is at most `y` exactly when the row is, if the row is of the segment. -/
theorem masked_le (X : S100000x128.Idx → Elt Ideal .f32) (I : S100000.Idx → BitVec 32) (i : S128x100000x128.Idx) (w : S100000x128.Idx)
    (hw0 : (w 0).val = (i 1).val) (hw1 : (w 1).val = (i 2).val) (y : EReal) :
    (masked X I i : EReal) ≤ y ↔ ((i 0).val = segm I (i 1).val → (X w : EReal) ≤ y) := by
  have hc : broadcastInDim S128x100000x128 ![0, 1, 2] bcast_S128x100000x1_S128x100000x128_0_1_2 (broadcastInDim S128x100000x1 ![0, 1] bcast_S128x100000_S128x100000x1_0_1 (cmpi .eq (broadcastInDim S128x100000 ![0, 1] bcast_S1x100000_S128x100000_0_1 (broadcastInDim S1x100000 ![1] bcast_S100000_S1x100000_1 I)) (broadcastInDim S128x100000 ![0, 1] bcast_S128x1_S128x100000_0_1 (broadcastInDim S128x1 ![0] bcast_S128_S128x1_0 (iotaInDim S128 32 0))))) i
      = IntOp.cmpi .eq (I (ix 100000 (i 1).val)) (BitVec.ofNat 32 (i 0).val) := by
    have h1 : (i 1).val < 100000 := (i 1).isLt
    refine (broadcastInDim_apply (s := S128x100000x1) (t := S128x100000x128) _ _ _ i (ix3 (n0 := 128) (n1 := 100000) (n2 := 1) (i 0) (i 1) 0) (fun a => match a with | ⟨0, _⟩ => rfl | ⟨1, _⟩ => rfl | ⟨2, _⟩ => rfl)).trans ?_
    refine (broadcastInDim_apply (s := S128x100000) (t := S128x100000x1) _ _ _ _ (ix2 (n0 := 128) (n1 := 100000) (i 0) (i 1)) (fun a => match a with | ⟨0, _⟩ => rfl | ⟨1, _⟩ => rfl)).trans ?_
    refine congrArg₂ (IntOp.cmpi .eq) ?_ ?_
    · refine (broadcastInDim_apply (s := S1x100000) (t := S128x100000) _ _ _ _ (ix2 (n0 := 1) (n1 := 100000) 0 (i 1)) (fun a => match a with | ⟨0, _⟩ => rfl | ⟨1, _⟩ => rfl)).trans ?_
      exact broadcastInDim_apply (s := S100000) (t := S1x100000) _ _ _ _ (ix 100000 (i 1).val) (fun a => match a with | ⟨0, _⟩ => ix_val 100000 _ h1 _)
    · refine (broadcastInDim_apply (s := S128x1) (t := S128x100000) _ _ _ _ (ix2 (n0 := 128) (n1 := 1) (i 0) 0) (fun a => match a with | ⟨0, _⟩ => rfl | ⟨1, _⟩ => rfl)).trans ?_
      exact broadcastInDim_apply (s := S128) (t := S128x1) _ _ _ _ (ix1 (n := 128) (i 0)) (fun a => match a with | ⟨0, _⟩ => rfl)
  have hX : broadcastInDim S128x100000x128 ![0, 1, 2] bcast_S1x100000x128_S128x100000x128_0_1_2 (broadcastInDim S1x100000x128 ![1, 2] bcast_S100000x128_S1x100000x128_1_2 X) i = X w := by
    refine (broadcastInDim_apply (s := S1x100000x128) (t := S128x100000x128) _ _ _ i (ix3 (n0 := 1) (n1 := 100000) (n2 := 128) 0 (i 1) (i 2)) (fun a => match a with | ⟨0, _⟩ => rfl | ⟨1, _⟩ => rfl | ⟨2, _⟩ => rfl)).trans ?_
    exact broadcastInDim_apply (s := S100000x128) (t := S1x100000x128) _ _ _ _ w (fun a => match a with | ⟨0, _⟩ => hw0 | ⟨1, _⟩ => hw1)
  have hs : (IntOp.cmpi .eq (I (ix 100000 (i 1).val)) (BitVec.ofNat 32 (i 0).val) = 1#1) ↔ (i 0).val = segm I (i 1).val := by
    have h0 : (i 0).val < 128 := (i 0).isLt
    have e0 : (BitVec.ofNat 32 (i 0).val).toNat = (i 0).val := (BitVec.toNat_ofNat _ _).trans (Nat.mod_eq_of_lt (by omega))
    show BitVec.ofBool (I (ix 100000 (i 1).val) == BitVec.ofNat 32 (i 0).val) = 1#1 ↔ _
    constructor
    · intro h
      have : (I (ix 100000 (i 1).val) == BitVec.ofNat 32 (i 0).val) = true := by
        revert h; cases (I (ix 100000 (i 1).val) == BitVec.ofNat 32 (i 0).val) <;> decide
      exact e0.symm.trans (congrArg BitVec.toNat (beq_iff_eq.mp this)).symm
    · intro h
      rw [beq_iff_eq.mpr (BitVec.eq_of_toNat_eq (h.symm.trans e0.symm))]; rfl
  refine (iff_of_eq (congrArg (fun v : EReal => v ≤ y) (congrArg₂ (fun c a => (Scalar.select c a ((FloatOps.ofBits .f32 0xFF800000#32 : Ideal .f32) : EReal) : EReal)) hc hX))).trans ?_
  exact select_le _ _ hs _ y

/-- An element of the reference's result is at most `y` exactly when all the rows of its segment are at most `y` in its column. -/
theorem refMax_le (X : S100000x128.Idx → Elt Ideal .f32) (I : S100000.Idx → BitVec 32) (j : S128x128.Idx) (y : EReal) :
    (refMax X I j : EReal) ≤ y ↔ ∀ r : S100000x128.Idx, (j 0).val = segm I (r 0).val → (r 1).val = (j 1).val → (X r : EReal) ≤ y := by
  unfold refMax
  rw [Host.reduce_eq_fold]
  refine (fold_le _ _ y).trans ?_
  constructor
  · intro h r e0 e1
    obtain ⟨i, i0, i1, i2⟩ : ∃ i : S128x100000x128.Idx, (i 0).val = (j 0).val ∧ (i 1).val = (r 0).val ∧ (i 2).val = (r 1).val :=
      ⟨ix3 (n0 := 128) (n1 := 100000) (n2 := 128) (j 0) (r 0) (r 1), rfl, rfl, rfl⟩
    exact (masked_le X I i r i1.symm i2.symm y).mp (h i (Finset.mem_filter.mpr ⟨Finset.mem_univ _, (drop_ref i j).mpr ⟨i0, i2.trans e1⟩⟩))
      (i0.trans (e0.trans (congrArg (segm I) i1.symm)))
  · intro h i hi
    obtain ⟨e0, e1⟩ := (drop_ref i j).mp (Finset.mem_filter.mp hi).2
    exact (masked_le X I i (ix2 (n0 := 100000) (n1 := 128) (i 1) (i 2)) rfl rfl y).mpr fun hb => h _ (e0.symm.trans hb) e1

end Cert.Proof.SegMax

end
-- ==== Proof.Result.lean ====
/-
  The kernel's result is the reference's.
-/
module

public import proofs.«01_k».proof.Defs
public import proofs.«01_k».proof.Proof.Frames
public import proofs.«01_k».proof.Proof.Values
public import proofs.«01_k».proof.Proof.Reference

@[expose] public section

noncomputable section

namespace Cert.Proof.SegMax

open Cert.KernelIdeal Cert.KernelIdeal.Gen Idealize.ShloMosaic Idealize.SL.Sem

/-- Segment numbers of which none is above the next are sorted. -/
theorem sorted_of_step (I : S100000.Idx → BitVec 32) (h : ∀ x y : S100000.Idx, (x 0).val + 1 = (y 0).val → (I x).toNat ≤ (I y).toNat) : Sorted I := by
  intro i j hij
  induction j, hij using Nat.le_induction with
  | base => exact fun _ => le_rfl
  | succ j _ ih =>
    intro hj
    exact (ih (by omega)).trans (h (ix 100000 j) (ix 100000 (j + 1)) (by rw [ix_val 100000 j (by omega), ix_val 100000 (j + 1) hj]))

/-- From sorted segment numbers the kernel's result is the reference's. -/
theorem result_eq (m : (ℓ : Loc nD τ sig) → Buf (Elt Ideal) ℓ) (d : Dev nD) (hS : Sorted (idsOf m d)) :
    (W5 m d (Proc.devRef .tc main_v23) : S128x128.Idx → EReal) = refMax (table m d) (idsOf m d) :=
  funext fun i => eq_of_forall_ge_iff (α := EReal) fun y => (result_le m d hS i y).trans (refMax_le (table m d) (idsOf m d) i y).symm

/-- The two programs at extended reals end with the same result. -/
theorem algebraic : Cert.algebraic_KernelIdeal_ReferenceIdeal_pre_ids_sorted_in_range := fun m g m' g' hpre hag => by
  refine ⟨fun c => W5 m c (Proc.devRef .tc main_v23), ?_, ?_⟩
  · exact (θ_run Cert.KernelIdeal.defs _ _).mono (fun _ h c => ⟨(h.1 c).2.2, (h.1 c).1, (h.1 c).2.1⟩)
      (run_main (F := Ideal) m g fun d x => (in_range_sorted (F := Ideal) _ _ (hpre d)).1 x)
  · refine (θ_run Cert.ReferenceIdeal.defs _ _).mono (fun _ h c => ⟨(h c).1.trans ?_, (h c).2.1, (h c).2.2⟩) (Cert.ReferenceIdeal.Value.run (F := Ideal) m' g')
    have e := result_eq m c (sorted_of_step _ (in_range_sorted (F := Ideal) _ _ (hpre c)).2)
    refine Eq.trans ?_ e.symm
    rw [(hag c).1, (hag c).2]
    rfl

end Cert.Proof.SegMax

end
-- ==== Proof.lean ====
/-
  The certificate of the segment maximum: its frames, the preservation of the idealized text, and the equation with the reference.
-/
module

public import proofs.«01_k».proof.Defs
public import proofs.«01_k».proof.Proof.Frames
public import proofs.«01_k».proof.Proof.Result
public import proofs.«01_k».proof.Proof.Gen.Kernel
public import proofs.«01_k».proof.Proof.Gen.KernelIdeal
public import proofs.«01_k».proof.Proof.Gen.ReferenceIdeal
public import proofs.«01_k».proof.Proof.Gen.Pre_ids_in_range
public import proofs.«01_k».proof.Proof.Gen.Pre_ids_sorted_in_range

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_ids_in_range.Gen.facts, Cert.Pre_ids_sorted_in_range.Gen.facts,
  SegMax.frame_kernel, SegMax.frame_ideal, SegMax.frame_ideal_sorted, SegMax.frame_reference, SegMax.frame_reference_sorted, trivial, SegMax.algebraic⟩

end Cert.Proof

end
